-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_finite_post [hPre_finite_post : Cert.Pre_finite_post.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_finite_post.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7)) (m ((c.tc : Thread Cert.PostKernelIdeal.nD Cert.PostKernelIdeal.τ).loc Cert.PostKernelIdeal.main_arg8))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_post [hPre_finite_post : Cert.Pre_finite_post.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))) = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_fwd [hPre_finite_fwd : Cert.Pre_finite_fwd.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))) = (fun _ => 1#1)

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostKernelIdeal_pre_finite_post [hPostKernelIdeal : Cert.PostKernelIdeal.Facts] [hPre_finite_post : Cert.Pre_finite_post.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_finite_post m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_PostReferenceIdeal_pre_finite_post [hPostReferenceIdeal : Cert.PostReferenceIdeal.Facts] [hPre_finite_post : Cert.Pre_finite_post.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_post m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdKernelIdeal_pre_finite_fwd [hFwdKernelIdeal : Cert.FwdKernelIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_fwd m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4)
      ∧ r.2.mem ((c.tc : Thread Cert.PreKernel.nD Cert.PreKernel.τ).loc Cert.PreKernel.main_arg5) = m ((c.tc : Thread Cert.PreKernel.nD Cert.PreKernel.τ).loc Cert.PreKernel.main_arg5)
      ∧ r.2.mem ((c.tc : Thread Cert.PreKernel.nD Cert.PreKernel.τ).loc Cert.PreKernel.main_arg6) = m ((c.tc : Thread Cert.PreKernel.nD Cert.PreKernel.τ).loc Cert.PreKernel.main_arg6)
      ∧ r.2.mem ((c.tc : Thread Cert.PreKernel.nD Cert.PreKernel.τ).loc Cert.PreKernel.main_arg7) = m ((c.tc : Thread Cert.PreKernel.nD Cert.PreKernel.τ).loc Cert.PreKernel.main_arg7)
      ∧ r.2.mem ((c.tc : Thread Cert.PreKernel.nD Cert.PreKernel.τ).loc Cert.PreKernel.main_arg8) = m ((c.tc : Thread Cert.PreKernel.nD Cert.PreKernel.τ).loc Cert.PreKernel.main_arg8)
      ∧ r.2.mem ((c.tc : Thread Cert.PreKernel.nD Cert.PreKernel.τ).loc Cert.PreKernel.main_arg9) = m ((c.tc : Thread Cert.PreKernel.nD Cert.PreKernel.τ).loc Cert.PreKernel.main_arg9))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
      ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
      ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8)
      ∧ r.2.mem ((c.tc : Thread Cert.PreKernelIdeal.nD Cert.PreKernelIdeal.τ).loc Cert.PreKernelIdeal.main_arg9) = m ((c.tc : Thread Cert.PreKernelIdeal.nD Cert.PreKernelIdeal.τ).loc Cert.PreKernelIdeal.main_arg9))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6)
      ∧ r.2.mem ((c.tc : Thread Cert.PreReferenceIdeal.nD Cert.PreReferenceIdeal.τ).loc Cert.PreReferenceIdeal.main_arg7) = m ((c.tc : Thread Cert.PreReferenceIdeal.nD Cert.PreReferenceIdeal.τ).loc Cert.PreReferenceIdeal.main_arg7)
      ∧ r.2.mem ((c.tc : Thread Cert.PreReferenceIdeal.nD Cert.PreReferenceIdeal.τ).loc Cert.PreReferenceIdeal.main_arg8) = m ((c.tc : Thread Cert.PreReferenceIdeal.nD Cert.PreReferenceIdeal.τ).loc Cert.PreReferenceIdeal.main_arg8)
      ∧ r.2.mem ((c.tc : Thread Cert.PreReferenceIdeal.nD Cert.PreReferenceIdeal.τ).loc Cert.PreReferenceIdeal.main_arg9) = m ((c.tc : Thread Cert.PreReferenceIdeal.nD Cert.PreReferenceIdeal.τ).loc Cert.PreReferenceIdeal.main_arg9))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v19_0)) (v1 : (c : Dev Cert.InKernelIdeal.nD) → Buf (Elt Ideal) ((c.tc : Thread Cert.InKernelIdeal.nD Cert.InKernelIdeal.τ).loc Cert.InKernelIdeal.main_v19_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v19_0) = v0 c
          ∧ r.2.mem ((c.tc : Thread Cert.InKernelIdeal.nD Cert.InKernelIdeal.τ).loc Cert.InKernelIdeal.main_v19_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v5) = v0 c
          ∧ r.2.mem ((c.tc : Thread Cert.InReferenceIdeal.nD Cert.InReferenceIdeal.τ).loc Cert.InReferenceIdeal.main_v6) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_PostKernel_PostKernelIdeal : Prop :=
  True

def algebraic_PostKernelIdeal_PostReferenceIdeal_pre_finite_post [hPostKernelIdeal : Cert.PostKernelIdeal.Facts] [hPostReferenceIdeal : Cert.PostReferenceIdeal.Facts] [hPre_finite_post : Cert.Pre_finite_post.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_finite_post m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)) →
    ∃ (v0 : (c : Dev Cert.PostKernelIdeal.nD) → Buf (Elt Ideal) ((c.tc : Thread Cert.PostKernelIdeal.nD Cert.PostKernelIdeal.τ).loc Cert.PostKernelIdeal.main_v20_0)) (v1 : (c : Dev Cert.PostKernelIdeal.nD) → Buf (Elt Ideal) ((c.tc : Thread Cert.PostKernelIdeal.nD Cert.PostKernelIdeal.τ).loc Cert.PostKernelIdeal.main_v20_1)) (v2 : (c : Dev Cert.PostKernelIdeal.nD) → Buf (Elt Ideal) ((c.tc : Thread Cert.PostKernelIdeal.nD Cert.PostKernelIdeal.τ).loc Cert.PostKernelIdeal.main_v20_2)) (v3 : (c : Dev Cert.PostKernelIdeal.nD) → Buf (Elt Ideal) ((c.tc : Thread Cert.PostKernelIdeal.nD Cert.PostKernelIdeal.τ).loc Cert.PostKernelIdeal.main_v20_3)) (v4 : (c : Dev Cert.PostKernelIdeal.nD) → Buf (Elt Ideal) ((c.tc : Thread Cert.PostKernelIdeal.nD Cert.PostKernelIdeal.τ).loc Cert.PostKernelIdeal.main_v20_4)) (v5 : (c : Dev Cert.PostKernelIdeal.nD) → Buf (Elt Ideal) ((c.tc : Thread Cert.PostKernelIdeal.nD Cert.PostKernelIdeal.τ).loc Cert.PostKernelIdeal.main_v20_5)) (v6 : (c : Dev Cert.PostKernelIdeal.nD) → Buf (Elt Ideal) ((c.tc : Thread Cert.PostKernelIdeal.nD Cert.PostKernelIdeal.τ).loc Cert.PostKernelIdeal.main_v20_6)) (v7 : (c : Dev Cert.PostKernelIdeal.nD) → Buf (Elt Ideal) ((c.tc : Thread Cert.PostKernelIdeal.nD Cert.PostKernelIdeal.τ).loc Cert.PostKernelIdeal.main_v20_7)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v20_0) = v0 c
          ∧ r.2.mem ((c.tc : Thread Cert.PostKernelIdeal.nD Cert.PostKernelIdeal.τ).loc Cert.PostKernelIdeal.main_v20_1) = v1 c
          ∧ r.2.mem ((c.tc : Thread Cert.PostKernelIdeal.nD Cert.PostKernelIdeal.τ).loc Cert.PostKernelIdeal.main_v20_2) = v2 c
          ∧ r.2.mem ((c.tc : Thread Cert.PostKernelIdeal.nD Cert.PostKernelIdeal.τ).loc Cert.PostKernelIdeal.main_v20_3) = v3 c
          ∧ r.2.mem ((c.tc : Thread Cert.PostKernelIdeal.nD Cert.PostKernelIdeal.τ).loc Cert.PostKernelIdeal.main_v20_4) = v4 c
          ∧ r.2.mem ((c.tc : Thread Cert.PostKernelIdeal.nD Cert.PostKernelIdeal.τ).loc Cert.PostKernelIdeal.main_v20_5) = v5 c
          ∧ r.2.mem ((c.tc : Thread Cert.PostKernelIdeal.nD Cert.PostKernelIdeal.τ).loc Cert.PostKernelIdeal.main_v20_6) = v6 c
          ∧ r.2.mem ((c.tc : Thread Cert.PostKernelIdeal.nD Cert.PostKernelIdeal.τ).loc Cert.PostKernelIdeal.main_v20_7) = v7 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v85) = v0 c
          ∧ r.2.mem ((c.tc : Thread Cert.PostReferenceIdeal.nD Cert.PostReferenceIdeal.τ).loc Cert.PostReferenceIdeal.main_v90) = v1 c
          ∧ r.2.mem ((c.tc : Thread Cert.PostReferenceIdeal.nD Cert.PostReferenceIdeal.τ).loc Cert.PostReferenceIdeal.main_v96) = v2 c
          ∧ r.2.mem ((c.tc : Thread Cert.PostReferenceIdeal.nD Cert.PostReferenceIdeal.τ).loc Cert.PostReferenceIdeal.main_v84) = v3 c
          ∧ r.2.mem ((c.tc : Thread Cert.PostReferenceIdeal.nD Cert.PostReferenceIdeal.τ).loc Cert.PostReferenceIdeal.main_v97) = v4 c
          ∧ r.2.mem ((c.tc : Thread Cert.PostReferenceIdeal.nD Cert.PostReferenceIdeal.τ).loc Cert.PostReferenceIdeal.main_v98) = v5 c
          ∧ r.2.mem ((c.tc : Thread Cert.PostReferenceIdeal.nD Cert.PostReferenceIdeal.τ).loc Cert.PostReferenceIdeal.main_v68) = v6 c
          ∧ r.2.mem ((c.tc : Thread Cert.PostReferenceIdeal.nD Cert.PostReferenceIdeal.τ).loc Cert.PostReferenceIdeal.main_v99) = v7 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def preserves_FwdKernel_FwdKernelIdeal : Prop :=
  IdealRules.named_const.Statement Cert.FwdKernelIdeal.κ "inv_ln2" .f32 0x3FB8AA3B#32 (((Real.log 2)⁻¹ : ℝ) : EReal)

def algebraic_FwdKernelIdeal_FwdReferenceIdeal_pre_finite_fwd [hFwdKernelIdeal : Cert.FwdKernelIdeal.Facts] [hFwdReferenceIdeal : Cert.FwdReferenceIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_fwd m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)) →
    ∃ (v0 : (c : Dev Cert.FwdKernelIdeal.nD) → Buf (Elt Ideal) ((c.tc : Thread Cert.FwdKernelIdeal.nD Cert.FwdKernelIdeal.τ).loc Cert.FwdKernelIdeal.main_v13_0)) (v1 : (c : Dev Cert.FwdKernelIdeal.nD) → Buf (Elt Ideal) ((c.tc : Thread Cert.FwdKernelIdeal.nD Cert.FwdKernelIdeal.τ).loc Cert.FwdKernelIdeal.main_v13_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v13_0) = v0 c
          ∧ r.2.mem ((c.tc : Thread Cert.FwdKernelIdeal.nD Cert.FwdKernelIdeal.τ).loc Cert.FwdKernelIdeal.main_v13_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v41) = v0 c
          ∧ r.2.mem ((c.tc : Thread Cert.FwdReferenceIdeal.nD Cert.FwdReferenceIdeal.τ).loc Cert.FwdReferenceIdeal.main_v42) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_PreKernel_PreKernelIdeal : Prop :=
  IdealRules.named_const.Statement Cert.PreKernelIdeal.κ "q_scale" .f32 0x3E16C740#32 (((Real.log 2)⁻¹ * (Real.sqrt 96)⁻¹ : ℝ) : EReal)
  ∧ IdealRules.named_const.Statement Cert.PreKernelIdeal.κ "swa_scale" .f32 0x3E38AA3B#32 (((Real.log 2)⁻¹ * 8⁻¹ : ℝ) : EReal)

def algebraic_PreKernelIdeal_PreReferenceIdeal [hPreKernelIdeal : Cert.PreKernelIdeal.Facts] [hPreReferenceIdeal : Cert.PreReferenceIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)
      ∧ m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5)
      ∧ m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6)
      ∧ m' ((c.tc : Thread Cert.PreReferenceIdeal.nD Cert.PreReferenceIdeal.τ).loc Cert.PreReferenceIdeal.main_arg7) = m ((c.tc : Thread Cert.PreKernelIdeal.nD Cert.PreKernelIdeal.τ).loc Cert.PreKernelIdeal.main_arg7)
      ∧ m' ((c.tc : Thread Cert.PreReferenceIdeal.nD Cert.PreReferenceIdeal.τ).loc Cert.PreReferenceIdeal.main_arg8) = m ((c.tc : Thread Cert.PreKernelIdeal.nD Cert.PreKernelIdeal.τ).loc Cert.PreKernelIdeal.main_arg8)
      ∧ m' ((c.tc : Thread Cert.PreReferenceIdeal.nD Cert.PreReferenceIdeal.τ).loc Cert.PreReferenceIdeal.main_arg9) = m ((c.tc : Thread Cert.PreKernelIdeal.nD Cert.PreKernelIdeal.τ).loc Cert.PreKernelIdeal.main_arg9)) →
    ∃ (v0 : (c : Dev Cert.PreKernelIdeal.nD) → Buf (Elt Ideal) ((c.tc : Thread Cert.PreKernelIdeal.nD Cert.PreKernelIdeal.τ).loc Cert.PreKernelIdeal.main_v38_0)) (v1 : (c : Dev Cert.PreKernelIdeal.nD) → Buf (Elt Ideal) ((c.tc : Thread Cert.PreKernelIdeal.nD Cert.PreKernelIdeal.τ).loc Cert.PreKernelIdeal.main_v38_1)) (v2 : (c : Dev Cert.PreKernelIdeal.nD) → Buf (Elt Ideal) ((c.tc : Thread Cert.PreKernelIdeal.nD Cert.PreKernelIdeal.τ).loc Cert.PreKernelIdeal.main_v38_2)) (v3 : (c : Dev Cert.PreKernelIdeal.nD) → Buf (Elt Ideal) ((c.tc : Thread Cert.PreKernelIdeal.nD Cert.PreKernelIdeal.τ).loc Cert.PreKernelIdeal.main_v38_3)) (v4 : (c : Dev Cert.PreKernelIdeal.nD) → Buf (Elt Ideal) ((c.tc : Thread Cert.PreKernelIdeal.nD Cert.PreKernelIdeal.τ).loc Cert.PreKernelIdeal.main_v38_4)) (v5 : (c : Dev Cert.PreKernelIdeal.nD) → Buf (Elt Ideal) ((c.tc : Thread Cert.PreKernelIdeal.nD Cert.PreKernelIdeal.τ).loc Cert.PreKernelIdeal.main_v38_5)) (v6 : (c : Dev Cert.PreKernelIdeal.nD) → Buf (Elt Ideal) ((c.tc : Thread Cert.PreKernelIdeal.nD Cert.PreKernelIdeal.τ).loc Cert.PreKernelIdeal.main_v38_6)) (v7 : (c : Dev Cert.PreKernelIdeal.nD) → Buf (Elt Ideal) ((c.tc : Thread Cert.PreKernelIdeal.nD Cert.PreKernelIdeal.τ).loc Cert.PreKernelIdeal.main_v38_7)) (v8 : (c : Dev Cert.PreKernelIdeal.nD) → Buf (Elt Ideal) ((c.tc : Thread Cert.PreKernelIdeal.nD Cert.PreKernelIdeal.τ).loc Cert.PreKernelIdeal.main_v38_8)) (v9 : (c : Dev Cert.PreKernelIdeal.nD) → Buf (Elt Ideal) ((c.tc : Thread Cert.PreKernelIdeal.nD Cert.PreKernelIdeal.τ).loc Cert.PreKernelIdeal.main_v38_9)) (v10 : (c : Dev Cert.PreKernelIdeal.nD) → Buf (Elt Ideal) ((c.tc : Thread Cert.PreKernelIdeal.nD Cert.PreKernelIdeal.τ).loc Cert.PreKernelIdeal.main_v38_10)) (v11 : (c : Dev Cert.PreKernelIdeal.nD) → Buf (Elt Ideal) ((c.tc : Thread Cert.PreKernelIdeal.nD Cert.PreKernelIdeal.τ).loc Cert.PreKernelIdeal.main_v38_11)) (v12 : (c : Dev Cert.PreKernelIdeal.nD) → Buf (Elt Ideal) ((c.tc : Thread Cert.PreKernelIdeal.nD Cert.PreKernelIdeal.τ).loc Cert.PreKernelIdeal.main_v38_12)) (v13 : (c : Dev Cert.PreKernelIdeal.nD) → Buf (Elt Ideal) ((c.tc : Thread Cert.PreKernelIdeal.nD Cert.PreKernelIdeal.τ).loc Cert.PreKernelIdeal.main_v38_13)) (v14 : (c : Dev Cert.PreKernelIdeal.nD) → Buf (Elt Ideal) ((c.tc : Thread Cert.PreKernelIdeal.nD Cert.PreKernelIdeal.τ).loc Cert.PreKernelIdeal.main_v38_14)) (v15 : (c : Dev Cert.PreKernelIdeal.nD) → Buf (Elt Ideal) ((c.tc : Thread Cert.PreKernelIdeal.nD Cert.PreKernelIdeal.τ).loc Cert.PreKernelIdeal.main_v38_15)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v38_0) = v0 c
          ∧ r.2.mem ((c.tc : Thread Cert.PreKernelIdeal.nD Cert.PreKernelIdeal.τ).loc Cert.PreKernelIdeal.main_v38_1) = v1 c
          ∧ r.2.mem ((c.tc : Thread Cert.PreKernelIdeal.nD Cert.PreKernelIdeal.τ).loc Cert.PreKernelIdeal.main_v38_2) = v2 c
          ∧ r.2.mem ((c.tc : Thread Cert.PreKernelIdeal.nD Cert.PreKernelIdeal.τ).loc Cert.PreKernelIdeal.main_v38_3) = v3 c
          ∧ r.2.mem ((c.tc : Thread Cert.PreKernelIdeal.nD Cert.PreKernelIdeal.τ).loc Cert.PreKernelIdeal.main_v38_4) = v4 c
          ∧ r.2.mem ((c.tc : Thread Cert.PreKernelIdeal.nD Cert.PreKernelIdeal.τ).loc Cert.PreKernelIdeal.main_v38_5) = v5 c
          ∧ r.2.mem ((c.tc : Thread Cert.PreKernelIdeal.nD Cert.PreKernelIdeal.τ).loc Cert.PreKernelIdeal.main_v38_6) = v6 c
          ∧ r.2.mem ((c.tc : Thread Cert.PreKernelIdeal.nD Cert.PreKernelIdeal.τ).loc Cert.PreKernelIdeal.main_v38_7) = v7 c
          ∧ r.2.mem ((c.tc : Thread Cert.PreKernelIdeal.nD Cert.PreKernelIdeal.τ).loc Cert.PreKernelIdeal.main_v38_8) = v8 c
          ∧ r.2.mem ((c.tc : Thread Cert.PreKernelIdeal.nD Cert.PreKernelIdeal.τ).loc Cert.PreKernelIdeal.main_v38_9) = v9 c
          ∧ r.2.mem ((c.tc : Thread Cert.PreKernelIdeal.nD Cert.PreKernelIdeal.τ).loc Cert.PreKernelIdeal.main_v38_10) = v10 c
          ∧ r.2.mem ((c.tc : Thread Cert.PreKernelIdeal.nD Cert.PreKernelIdeal.τ).loc Cert.PreKernelIdeal.main_v38_11) = v11 c
          ∧ r.2.mem ((c.tc : Thread Cert.PreKernelIdeal.nD Cert.PreKernelIdeal.τ).loc Cert.PreKernelIdeal.main_v38_12) = v12 c
          ∧ r.2.mem ((c.tc : Thread Cert.PreKernelIdeal.nD Cert.PreKernelIdeal.τ).loc Cert.PreKernelIdeal.main_v38_13) = v13 c
          ∧ r.2.mem ((c.tc : Thread Cert.PreKernelIdeal.nD Cert.PreKernelIdeal.τ).loc Cert.PreKernelIdeal.main_v38_14) = v14 c
          ∧ r.2.mem ((c.tc : Thread Cert.PreKernelIdeal.nD Cert.PreKernelIdeal.τ).loc Cert.PreKernelIdeal.main_v38_15) = v15 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
          ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
          ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
          ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
          ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8)
          ∧ r.2.mem ((c.tc : Thread Cert.PreKernelIdeal.nD Cert.PreKernelIdeal.τ).loc Cert.PreKernelIdeal.main_arg9) = m ((c.tc : Thread Cert.PreKernelIdeal.nD Cert.PreKernelIdeal.τ).loc Cert.PreKernelIdeal.main_arg9))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v129) = v0 c
          ∧ r.2.mem ((c.tc : Thread Cert.PreReferenceIdeal.nD Cert.PreReferenceIdeal.τ).loc Cert.PreReferenceIdeal.main_v130) = v1 c
          ∧ r.2.mem ((c.tc : Thread Cert.PreReferenceIdeal.nD Cert.PreReferenceIdeal.τ).loc Cert.PreReferenceIdeal.main_v131) = v2 c
          ∧ r.2.mem ((c.tc : Thread Cert.PreReferenceIdeal.nD Cert.PreReferenceIdeal.τ).loc Cert.PreReferenceIdeal.main_v133) = v3 c
          ∧ r.2.mem ((c.tc : Thread Cert.PreReferenceIdeal.nD Cert.PreReferenceIdeal.τ).loc Cert.PreReferenceIdeal.main_v135) = v4 c
          ∧ r.2.mem ((c.tc : Thread Cert.PreReferenceIdeal.nD Cert.PreReferenceIdeal.τ).loc Cert.PreReferenceIdeal.main_v142) = v5 c
          ∧ r.2.mem ((c.tc : Thread Cert.PreReferenceIdeal.nD Cert.PreReferenceIdeal.τ).loc Cert.PreReferenceIdeal.main_v145) = v6 c
          ∧ r.2.mem ((c.tc : Thread Cert.PreReferenceIdeal.nD Cert.PreReferenceIdeal.τ).loc Cert.PreReferenceIdeal.main_v148) = v7 c
          ∧ r.2.mem ((c.tc : Thread Cert.PreReferenceIdeal.nD Cert.PreReferenceIdeal.τ).loc Cert.PreReferenceIdeal.main_v155) = v8 c
          ∧ r.2.mem ((c.tc : Thread Cert.PreReferenceIdeal.nD Cert.PreReferenceIdeal.τ).loc Cert.PreReferenceIdeal.main_v157) = v9 c
          ∧ r.2.mem ((c.tc : Thread Cert.PreReferenceIdeal.nD Cert.PreReferenceIdeal.τ).loc Cert.PreReferenceIdeal.main_v159) = v10 c
          ∧ r.2.mem ((c.tc : Thread Cert.PreReferenceIdeal.nD Cert.PreReferenceIdeal.τ).loc Cert.PreReferenceIdeal.main_v164) = v11 c
          ∧ r.2.mem ((c.tc : Thread Cert.PreReferenceIdeal.nD Cert.PreReferenceIdeal.τ).loc Cert.PreReferenceIdeal.main_v165) = v12 c
          ∧ r.2.mem ((c.tc : Thread Cert.PreReferenceIdeal.nD Cert.PreReferenceIdeal.τ).loc Cert.PreReferenceIdeal.main_v169) = v13 c
          ∧ r.2.mem ((c.tc : Thread Cert.PreReferenceIdeal.nD Cert.PreReferenceIdeal.τ).loc Cert.PreReferenceIdeal.main_v173) = v14 c
          ∧ r.2.mem ((c.tc : Thread Cert.PreReferenceIdeal.nD Cert.PreReferenceIdeal.τ).loc Cert.PreReferenceIdeal.main_v176) = v15 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6)
          ∧ r.2.mem ((c.tc : Thread Cert.PreReferenceIdeal.nD Cert.PreReferenceIdeal.τ).loc Cert.PreReferenceIdeal.main_arg7) = m' ((c.tc : Thread Cert.PreReferenceIdeal.nD Cert.PreReferenceIdeal.τ).loc Cert.PreReferenceIdeal.main_arg7)
          ∧ r.2.mem ((c.tc : Thread Cert.PreReferenceIdeal.nD Cert.PreReferenceIdeal.τ).loc Cert.PreReferenceIdeal.main_arg8) = m' ((c.tc : Thread Cert.PreReferenceIdeal.nD Cert.PreReferenceIdeal.τ).loc Cert.PreReferenceIdeal.main_arg8)
          ∧ r.2.mem ((c.tc : Thread Cert.PreReferenceIdeal.nD Cert.PreReferenceIdeal.τ).loc Cert.PreReferenceIdeal.main_arg9) = m' ((c.tc : Thread Cert.PreReferenceIdeal.nD Cert.PreReferenceIdeal.τ).loc Cert.PreReferenceIdeal.main_arg9))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hPostKernel : Cert.PostKernel.Facts) (hPostKernelIdeal : Cert.PostKernelIdeal.Facts) (hPostReferenceIdeal : Cert.PostReferenceIdeal.Facts) (hFwdKernel : Cert.FwdKernel.Facts) (hFwdKernelIdeal : Cert.FwdKernelIdeal.Facts) (hFwdReferenceIdeal : Cert.FwdReferenceIdeal.Facts) (hPreKernel : Cert.PreKernel.Facts) (hPreKernelIdeal : Cert.PreKernelIdeal.Facts) (hPreReferenceIdeal : Cert.PreReferenceIdeal.Facts) (hPre_finite : Cert.Pre_finite.Facts) (hPre_finite_post : Cert.Pre_finite_post.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_PostKernel (hPostKernel := hPostKernel)
    ∧ quiescent_PostKernelIdeal (hPostKernelIdeal := hPostKernelIdeal)
    ∧ quiescent_PostKernelIdeal_pre_finite_post (hPostKernelIdeal := hPostKernelIdeal) (hPre_finite_post := hPre_finite_post)
    ∧ quiescent_PostReferenceIdeal (hPostReferenceIdeal := hPostReferenceIdeal)
    ∧ quiescent_PostReferenceIdeal_pre_finite_post (hPostReferenceIdeal := hPostReferenceIdeal) (hPre_finite_post := hPre_finite_post)
    ∧ quiescent_FwdKernel (hFwdKernel := hFwdKernel)
    ∧ quiescent_FwdKernelIdeal (hFwdKernelIdeal := hFwdKernelIdeal)
    ∧ quiescent_FwdKernelIdeal_pre_finite_fwd (hFwdKernelIdeal := hFwdKernelIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_PreKernel (hPreKernel := hPreKernel)
    ∧ quiescent_PreKernelIdeal (hPreKernelIdeal := hPreKernelIdeal)
    ∧ quiescent_PreReferenceIdeal (hPreReferenceIdeal := hPreReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_PostKernel_PostKernelIdeal
    ∧ algebraic_PostKernelIdeal_PostReferenceIdeal_pre_finite_post (hPostKernelIdeal := hPostKernelIdeal) (hPostReferenceIdeal := hPostReferenceIdeal) (hPre_finite_post := hPre_finite_post)
    ∧ preserves_FwdKernel_FwdKernelIdeal
    ∧ algebraic_FwdKernelIdeal_FwdReferenceIdeal_pre_finite_fwd (hFwdKernelIdeal := hFwdKernelIdeal) (hFwdReferenceIdeal := hFwdReferenceIdeal) (hPre_finite_fwd := hPre_finite_fwd)
    ∧ preserves_PreKernel_PreKernelIdeal
    ∧ algebraic_PreKernelIdeal_PreReferenceIdeal (hPreKernelIdeal := hPreKernelIdeal) (hPreReferenceIdeal := hPreReferenceIdeal)
-- ==== Pre_finite.lean ====
abbrev S4x2048x8x96 : Shape := ⟨4, ![4, 2048, 8, 96]⟩
abbrev S4x2048x8x64 : Shape := ⟨4, ![4, 2048, 8, 64]⟩
abbrev S4x2048x1024 : Shape := ⟨3, ![4, 2048, 1024]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_v13 : IVec S_ 1) (main_v16 : IVec S4x2048x1024 1) : IVec S_ 1 :=
  let main_c_5 : IVec S_ 1 := constantI S_ 1 1#1
  let main_v17 : IVec S_ 1 := (fun x v => Host.reduce IntOp.andi x v reducesTo_S4x2048x1024_S_d0_1_2 h_S_) main_v16 main_c_5
  let main_v18 : IVec S_ 1 := andi main_v13 main_v17
  main_v18

def fn {F : FTy → Type} [FloatOps F] (main_arg0 : FVec F S4x2048x8x96 .f32) (main_arg1 : FVec F S4x2048x8x96 .f32) (main_arg2 : FVec F S4x2048x8x64 .f32) (main_arg3 : FVec F S4x2048x1024 .f32) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  let main_v9 : FVec F S4x2048x8x64 .f32 := Host.absf main_arg2
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_c_3 : IVec S_ 1 := constantI S_ 1 1#1
  let main_v12 : IVec S_ 1 := (fun x v => Host.reduce IntOp.andi x v reducesTo_S4x2048x8x64_S_d0_1_2_3 h_S_) main_v11 main_c_3
  let main_v13 : IVec S_ 1 := andi main_v8 main_v12
  let main_v14 : FVec F S4x2048x1024 .f32 := Host.absf main_arg3
  let main_cst_4 : FVec F S_ .f32 := constant S_ .f32 0x7F800000#32
  let main_v15 : FVec F S4x2048x1024 .f32 := broadcastInDim S4x2048x1024 ![] bcast_S_S4x2048x1024 main_cst_4
  let main_v16 : IVec S4x2048x1024 1 := cmpf .olt main_v14 main_v15
  fn_part1 (F := F) main_v13 main_v16
-- ==== Pre_finite_fwd.lean ====
abbrev S4x2048x8x96 : Shape := ⟨4, ![4, 2048, 8, 96]⟩
abbrev S4x2048x8x64 : Shape := ⟨4, ![4, 2048, 8, 64]⟩
abbrev S_ : Shape := ⟨0, ![]⟩

class Facts : Prop where
  bcast_S_S4x2048x8x96 : S_.BroadcastsInDim S4x2048x8x96 (![] : Fin 0 → Fin S4x2048x8x96.rank)
  reducesTo_S4x2048x8x96_S_d0_1_2_3 : S4x2048x8x96.ReducesTo [0, 1, 2, 3] S_
  h_S_ : 0 < S_.numel

variable [Facts]

def fn {F : FTy → Type} [FloatOps F] (main_arg0 : FVec F S4x2048x8x96 .f32) (main_arg1 : FVec F S4x2048x8x96 .f32) (main_arg2 : FVec F S4x2048x8x64 .f32) : IVec S_ 1 :=
  let main_v0 : FVec F S4x2048x8x96 .f32 := Host.absf main_arg0
  let main_cst : FVec F S_ .f32 := constant S_ .f32 0x7F800000#32
  let main_v1 : FVec F S4x2048x8x96 .f32 := broadcastInDim S4x2048x8x96 ![] bcast_S_S4x2048x8x96 main_cst
  let main_v2 : IVec S4x2048x8x96 1 := cmpf .olt main_v0 main_v1
  let main_c : IVec S_ 1 := constantI S_ 1 1#1
  let main_v3 : IVec S_ 1 := (fun x v => Host.reduce IntOp.andi x v reducesTo_S4x2048x8x96_S_d0_1_2_3 h_S_) main_v2 main_c
  let main_v4 : FVec F S4x2048x8x96 .f32 := Host.absf main_arg1
  let main_cst_0 : FVec F S_ .f32 := constant S_ .f32 0x7F800000#32
  let main_v5 : FVec F S4x2048x8x96 .f32 := broadcastInDim S4x2048x8x96 ![] bcast_S_S4x2048x8x96 main_cst_0
  let main_v6 : IVec S4x2048x8x96 1 := cmpf .olt main_v4 main_v5
  let main_c_1 : IVec S_ 1 := constantI S_ 1 1#1
  let main_v7 : IVec S_ 1 := (fun x v => Host.reduce IntOp.andi x v reducesTo_S4x2048x8x96_S_d0_1_2_3 h_S_) main_v6 main_c_1
  let main_v8 : IVec S_ 1 := andi main_v3 main_v7
  main_v8
-- ==== Pre_finite_post.lean ====
abbrev S4x2048x512 : Shape := ⟨3, ![4, 2048, 512]⟩
abbrev S1024x1024 : Shape := ⟨2, ![1024, 1024]⟩
abbrev S4x2048x1024 : Shape := ⟨3, ![4, 2048, 1024]⟩
abbrev S4x1024 : Shape := ⟨2, ![4, 1024]⟩
abbrev S1024 : Shape := ⟨1, ![1024]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S4x2048x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4x2048x1024 .f32 := Host.absf main_arg8
  let main_cst_14 : FVec F S_ .f32 := constant S_ .f32 0x7F800000#32
  let main_v40 : FVec F S4x2048x1024 .f32 := broadcastInDim S4x2048x1024 ![] bcast_S_S4x2048x1024 main_cst_14
  let main_v41 : IVec S4x2048x1024 1 := cmpf .olt main_v39 main_v40
  let main_c_15 : IVec S_ 1 := constantI S_ 1 1#1
  let main_v42 : IVec S_ 1 := (fun x v => Host.reduce IntOp.andi x v reducesTo_S4x2048x1024_S_d0_1_2 h_S_) main_v41 main_c_15
  let main_v43 : IVec S_ 1 := andi main_v38 main_v42
  main_v43

def fn_part1 {F : FTy → Type} [FloatOps F] (main_arg4 : FVec F S1024x1024 .f32) (main_arg5 : FVec F S4x2048x1024 .f32) (main_arg6 : FVec F S4x1024 .f32) (main_arg7 : FVec F S1024 .f32) (main_arg8 : FVec F S4x2048x1024 .f32) (main_v13 : IVec S_ 1) (main_v16 : IVec S4x2048x512 1) : IVec S_ 1 :=
  let main_c_5 : IVec S_ 1 := constantI S_ 1 1#1
  let main_v17 : IVec S_ 1 := (fun x v => Host.reduce IntOp.andi x v reducesTo_S4x2048x512_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4x2048x1024 .f32 := Host.absf main_arg5
  let main_cst_8 : FVec F S_ .f32 := constant S_ .f32 0x7F800000#32
  let main_v25 : FVec F S4x2048x1024 .f32 := broadcastInDim S4x2048x1024 ![] bcast_S_S4x2048x1024 main_cst_8
  let main_v26 : IVec S4x2048x1024 1 := cmpf .olt main_v24 main_v25
  let main_c_9 : IVec S_ 1 := constantI S_ 1 1#1
  let main_v27 : IVec S_ 1 := (fun x v => Host.reduce IntOp.andi x v reducesTo_S4x2048x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_v33

def fn {F : FTy → Type} [FloatOps F] (main_arg0 : FVec F S4x2048x512 .f32) (main_arg1 : FVec F S4x2048x512 .f32) (main_arg2 : FVec F S4x2048x512 .f32) (main_arg3 : FVec F S4x2048x512 .f32) (main_arg4 : FVec F S1024x1024 .f32) (main_arg5 : FVec F S4x2048x1024 .f32) (main_arg6 : FVec F S4x1024 .f32) (main_arg7 : FVec F S1024 .f32) (main_arg8 : FVec F S4x2048x1024 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S4x2048x512 .f32 := Host.absf main_arg3
  let main_cst_4 : FVec F S_ .f32 := constant S_ .f32 0x7F800000#32
  let main_v15 : FVec F S4x2048x512 .f32 := broadcastInDim S4x2048x512 ![] bcast_S_S4x2048x512 main_cst_4
  let main_v16 : IVec S4x2048x512 1 := cmpf .olt main_v14 main_v15
  fn_part1 (F := F) main_arg4 main_arg5 main_arg6 main_arg7 main_arg8 main_v13 main_v16
-- ==== Kernel.lean ====
abbrev S4x2048x8x96 : Shape := ⟨4, ![4, 2048, 8, 96]⟩
abbrev S4x2048x8x64 : Shape := ⟨4, ![4, 2048, 8, 64]⟩
abbrev S4x2048x1024 : Shape := ⟨3, ![4, 2048, 1024]⟩
abbrev S4x2048x8x32 : Shape := ⟨4, ![4, 2048, 8, 32]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x128 : Shape := ⟨4, ![4, 2048, 8, 128]⟩
abbrev S4x2048x512 : Shape := ⟨3, ![4, 2048, 512]⟩
abbrev S4x8x2048x128 : Shape := ⟨4, ![4, 8, 2048, 128]⟩
abbrev S1x2048x512 : Shape := ⟨3, ![1, 2048, 512]⟩
abbrev S1x2048x256 : Shape := ⟨3, ![1, 2048, 256]⟩
abbrev S1x4x2048x128 : Shape := ⟨4, ![1, 4, 2048, 128]⟩
abbrev S4x4x128x512 : Shape := ⟨4, ![4, 4, 128, 512]⟩
abbrev S2x4x128x512 : Shape := ⟨4, ![2, 4, 128, 512]⟩
abbrev S512x512 : Shape := ⟨2, ![512, 512]⟩
abbrev S512x128 : Shape := ⟨2, ![512, 128]⟩
abbrev S1x512x128 : Shape := ⟨3, ![1, 512, 128]⟩
abbrev S128x512 : Shape := ⟨2, ![128, 512]⟩
abbrev S512 : Shape := ⟨1, ![512]⟩
abbrev S512x1 : Shape := ⟨2, ![512, 1]⟩
abbrev S1x1x512x128 : Shape := ⟨4, ![1, 1, 512, 128]⟩
abbrev S1x1x128x512 : Shape := ⟨4, ![1, 1, 128, 512]⟩

abbrev nBuf : Space → Nat
  | .hbm => 79
  | .vmem => 20
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x1024, .f32⟩
  | .hbm, ⟨4, _⟩ => ⟨S4x2048x8x64, .f32⟩
  | .hbm, ⟨5, _⟩ => ⟨S4x2048x8x32, .f32⟩
  | .hbm, ⟨6, _⟩ => ⟨S4x2048x8x64, .f32⟩
  | .hbm, ⟨7, _⟩ => ⟨S4x2048x8x32, .f32⟩
  | .hbm, ⟨8, _⟩ => ⟨S4x8x2048x2048, .f32⟩
  | .hbm, ⟨9, _⟩ => ⟨S4x8x2048x2048, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S_, .f32⟩
  | .hbm, ⟨28, _⟩ => ⟨S4x8x2048, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x64x2048, .f32⟩
  | .hbm, ⟨40, _⟩ => ⟨S4x2048x8x64, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S_, .f32⟩
  | .hbm, ⟨52, _⟩ => ⟨S4x8x2048, .f32⟩
  | .hbm, ⟨53, _⟩ => ⟨S4x8x2048x1, .f32⟩
  | .hbm, ⟨54, _⟩ => ⟨S4x8x2048x1, .f32⟩
  | .hbm, ⟨55, _⟩ => ⟨S4x8x2048x1, .f32⟩
  | .hbm, ⟨56, _⟩ => ⟨S4x8x2048x1, .f32⟩
  | .hbm, ⟨57, _⟩ => ⟨S4x8x2048x1, .f32⟩
  | .hbm, ⟨58, _⟩ => ⟨S_, .f32⟩
  | .hbm, ⟨59, _⟩ => ⟨S_, .f32⟩
  | .hbm, ⟨60, _⟩ => ⟨S4x2048x8x96, .f32⟩
  | .hbm, ⟨61, _⟩ => ⟨S4x2048x8x96, .f32⟩
  | .hbm, ⟨62, _⟩ => ⟨S_, .i32⟩
  | .hbm, ⟨63, _⟩ => ⟨S_, .f32⟩
  | .hbm, ⟨64, _⟩ => ⟨S4x2048x8x128, .f32⟩
  | .hbm, ⟨65, _⟩ => ⟨S4x2048x1024, .f32⟩
  | .hbm, ⟨66, _⟩ => ⟨S4x2048x1024, .bf16⟩
  | .hbm, ⟨67, _⟩ => ⟨S_, .i32⟩
  | .hbm, ⟨68, _⟩ => ⟨S_, .f32⟩
  | .hbm, ⟨69, _⟩ => ⟨S4x2048x8x128, .f32⟩
  | .hbm, ⟨70, _⟩ => ⟨S4x2048x1024, .f32⟩
  | .hbm, ⟨71, _⟩ => ⟨S4x2048x1024, .bf16⟩
  | .hbm, ⟨72, _⟩ => ⟨S4x2048x512, .f32⟩
  | .hbm, ⟨73, _⟩ => ⟨S4x2048x512, .bf16⟩
  | .hbm, ⟨74, _⟩ => ⟨S4x2048x512, .f32⟩
  | .hbm, ⟨75, _⟩ => ⟨S4x8x2048x128, .f32⟩
  | .hbm, ⟨76, _⟩ => ⟨S4x2048x1024, .bf16⟩
  | .hbm, ⟨77, _⟩ => ⟨S4x2048x1024, .bf16⟩
  | .hbm, ⟨78, _⟩ => ⟨S4x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x4x2048x128, .f32⟩
  | .local _ .vmem, ⟨11, _⟩ => ⟨S1x4x2048x128, .f32⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x256, .bf16⟩
  | .local _ .vmem, ⟨17, _⟩ => ⟨S1x2048x256, .bf16⟩
  | .local _ .vmem, ⟨18, _⟩ => ⟨S4x4x128x512, .f32⟩
  | .local _ .vmem, ⟨19, _⟩ => ⟨S2x4x128x512, .f32⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_call2_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55_0 : Ref sig .tc := ⟨.hbm, 76, rfl⟩
abbrev main_v55_1 : Ref sig .tc := ⟨.hbm, 77, rfl⟩
abbrev main_v55_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  c0_i32
def k0_mult2 : BitVec 32 :=
  let c0_i32_40 : BitVec 32 := 0#32
  c0_i32_40
def k0_mult3 : BitVec 32 :=
  let c512_i32 : BitVec 32 := 512#32
  c512_i32
def k0_mult4 : BitVec 32 :=
  let c0_i32_174 : BitVec 32 := 0#32
  c0_i32_174
def k0_mult5 : BitVec 32 :=
  let c512_i32_259 : BitVec 32 := 512#32
  c512_i32_259
def k0_mult6 : BitVec 32 :=
  let c1024_i32 : BitVec 32 := 1024#32
  c1024_i32
def k0_mult7 : BitVec 32 :=
  let c0_i32_393 : BitVec 32 := 0#32
  c0_i32_393
def k0_mult8 : BitVec 32 :=
  let c512_i32_478 : BitVec 32 := 512#32
  c512_i32_478
def k0_mult9 : BitVec 32 :=
  let c1024_i32_563 : BitVec 32 := 1024#32
  c1024_i32_563
def k0_mult10 : BitVec 32 :=
  let c1536_i32 : BitVec 32 := 1536#32
  c1536_i32
def k0_mult11 : BitVec 32 :=
  let c0_i32_697 : BitVec 32 := 0#32
  c0_i32_697
def k0_mult12 : BitVec 32 :=
  let c512_i32_782 : BitVec 32 := 512#32
  c512_i32_782
def k0_mult13 : BitVec 32 :=
  let c1024_i32_867 : BitVec 32 := 1024#32
  c1024_i32_867
def k0_mult14 : BitVec 32 :=
  let c1536_i32_952 : BitVec 32 := 1536#32
  c1536_i32_952
@[reducible] def k0_t1_loop : Scf.Loop 32 :=
  let c0_i32_1037 : BitVec 32 := 0#32
  let c4_i32 : BitVec 32 := 4#32
  let v1729 : BitVec 32 := Scalar.addi c0_i32_1037 c4_i32
  let c1_i32 : BitVec 32 := 1#32
  ⟨c0_i32_1037, v1729, c1_i32⟩
def k0_mult15 (k0_t1 : Fin k0_t1_loop.trips) : BitVec 32 :=
  let c0_i32_1037 : BitVec 32 := 0#32
  let c1_i32 : BitVec 32 := 1#32
  let arg13 : BitVec 32 := Scf.iv c0_i32_1037 c1_i32 k0_t1
  let c512_i32_1039 : BitVec 32 := 512#32
  let v1730 : BitVec 32 := Scalar.muli arg13 c512_i32_1039
  v1730
def k0_off1 (k0_t1 : Fin k0_t1_loop.trips) : Fin 4 → Nat :=
  let c0_1040 : Index := 0#32
  let c0_i32_1037 : BitVec 32 := 0#32
  let c1_i32 : BitVec 32 := 1#32
  let arg13 : BitVec 32 := Scf.iv c0_i32_1037 c1_i32 k0_t1
  let v1732 : Index := Scalar.indexCast arg13
  let c0_1041 : Index := 0#32
  let c0_1042 : Index := 0#32
  ![0, v1732.toNat, 0, 0]
def k0_off2 (k0_t1 : Fin k0_t1_loop.trips) : Fin 3 → Nat :=
  let c0_1044 : Index := 0#32
  let c0_i32_1037 : BitVec 32 := 0#32
  let c1_i32 : BitVec 32 := 1#32
  let arg13 : BitVec 32 := Scf.iv c0_i32_1037 c1_i32 k0_t1
  let c512_i32_1039 : BitVec 32 := 512#32
  let v1730 : BitVec 32 := Scalar.muli arg13 c512_i32_1039
  let v1731 : BitVec 32 := v1730
  let v1739 : Index := Scalar.indexCast v1731
  let c0_1045 : Index := 0#32
  ![0, v1739.toNat, 0]
def k0_off3 (k0_t1 : Fin k0_t1_loop.trips) : Fin 4 → Nat :=
  let c1_1046 : Index := 1#32
  let c0_i32_1037 : BitVec 32 := 0#32
  let c1_i32 : BitVec 32 := 1#32
  let arg13 : BitVec 32 := Scf.iv c0_i32_1037 c1_i32 k0_t1
  let v1743 : Index := Scalar.indexCast arg13
  let c0_1047 : Index := 0#32
  let c0_1048 : Index := 0#32
  ![1, v1743.toNat, 0, 0]
def k0_off4 (k0_t1 : Fin k0_t1_loop.trips) : Fin 3 → Nat :=
  let c0_1050 : Index := 0#32
  let c0_i32_1037 : BitVec 32 := 0#32
  let c1_i32 : BitVec 32 := 1#32
  let arg13 : BitVec 32 := Scf.iv c0_i32_1037 c1_i32 k0_t1
  let c512_i32_1039 : BitVec 32 := 512#32
  let v1730 : BitVec 32 := Scalar.muli arg13 c512_i32_1039
  let v1731 : BitVec 32 := v1730
  let v1750 : Index := Scalar.indexCast v1731
  let c128_1051 : Index := 128#32
  ![0, v1750.toNat, 128]
def k0_off5 (k0_t1 : Fin k0_t1_loop.trips) : Fin 4 → Nat :=
  let c2_1052 : Index := 2#32
  let c0_i32_1037 : BitVec 32 := 0#32
  let c1_i32 : BitVec 32 := 1#32
  let arg13 : BitVec 32 := Scf.iv c0_i32_1037 c1_i32 k0_t1
  let v1754 : Index := Scalar.indexCast arg13
  let c0_1053 : Index := 0#32
  let c0_1054 : Index := 0#32
  ![2, v1754.toNat, 0, 0]
def k0_off6 (k0_t1 : Fin k0_t1_loop.trips) : Fin 3 → Nat :=
  let c0_1056 : Index := 0#32
  let c0_i32_1037 : BitVec 32 := 0#32
  let c1_i32 : BitVec 32 := 1#32
  let arg13 : BitVec 32 := Scf.iv c0_i32_1037 c1_i32 k0_t1
  let c512_i32_1039 : BitVec 32 := 512#32
  let v1730 : BitVec 32 := Scalar.muli arg13 c512_i32_1039
  let v1731 : BitVec 32 := v1730
  let v1761 : Index := Scalar.indexCast v1731
  let c256_1057 : Index := 256#32
  ![0, v1761.toNat, 256]
def k0_off7 (k0_t1 : Fin k0_t1_loop.trips) : Fin 4 → Nat :=
  let c3_1058 : Index := 3#32
  let c0_i32_1037 : BitVec 32 := 0#32
  let c1_i32 : BitVec 32 := 1#32
  let arg13 : BitVec 32 := Scf.iv c0_i32_1037 c1_i32 k0_t1
  let v1765 : Index := Scalar.indexCast arg13
  let c0_1059 : Index := 0#32
  let c0_1060 : Index := 0#32
  ![3, v1765.toNat, 0, 0]
def k0_off8 (k0_t1 : Fin k0_t1_loop.trips) : Fin 3 → Nat :=
  let c0_1062 : Index := 0#32
  let c0_i32_1037 : BitVec 32 := 0#32
  let c1_i32 : BitVec 32 := 1#32
  let arg13 : BitVec 32 := Scf.iv c0_i32_1037 c1_i32 k0_t1
  let c512_i32_1039 : BitVec 32 := 512#32
  let v1730 : BitVec 32 := Scalar.muli arg13 c512_i32_1039
  let v1731 : BitVec 32 := v1730
  let v1772 : Index := Scalar.indexCast v1731
  let c384_1063 : Index := 384#32
  ![0, v1772.toNat, 384]
def k0_off9 (k0_t1 : Fin k0_t1_loop.trips) : Fin 4 → Nat :=
  let c0_1064 : Index := 0#32
  let c0_i32_1037 : BitVec 32 := 0#32
  let c1_i32 : BitVec 32 := 1#32
  let arg13 : BitVec 32 := Scf.iv c0_i32_1037 c1_i32 k0_t1
  let v1776 : Index := Scalar.indexCast arg13
  let c0_1065 : Index := 0#32
  let c0_1066 : Index := 0#32
  ![0, v1776.toNat, 0, 0]
def k0_off10 (k0_t1 : Fin k0_t1_loop.trips) : Fin 3 → Nat :=
  let c0_1067 : Index := 0#32
  let c0_i32_1037 : BitVec 32 := 0#32
  let c1_i32 : BitVec 32 := 1#32
  let arg13 : BitVec 32 := Scf.iv c0_i32_1037 c1_i32 k0_t1
  let c512_i32_1039 : BitVec 32 := 512#32
  let v1730 : BitVec 32 := Scalar.muli arg13 c512_i32_1039
  let v1731 : BitVec 32 := v1730
  let v1781 : Index := Scalar.indexCast v1731
  let c0_1068 : Index := 0#32
  ![0, v1781.toNat, 0]
def k0_off11 (k0_t1 : Fin k0_t1_loop.trips) : Fin 4 → Nat :=
  let c1_1069 : Index := 1#32
  let c0_i32_1037 : BitVec 32 := 0#32
  let c1_i32 : BitVec 32 := 1#32
  let arg13 : BitVec 32 := Scf.iv c0_i32_1037 c1_i32 k0_t1
  let v1785 : Index := Scalar.indexCast arg13
  let c0_1070 : Index := 0#32
  let c0_1071 : Index := 0#32
  ![1, v1785.toNat, 0, 0]
def k0_off12 (k0_t1 : Fin k0_t1_loop.trips) : Fin 3 → Nat :=
  let c0_1072 : Index := 0#32
  let c0_i32_1037 : BitVec 32 := 0#32
  let c1_i32 : BitVec 32 := 1#32
  let arg13 : BitVec 32 := Scf.iv c0_i32_1037 c1_i32 k0_t1
  let c512_i32_1039 : BitVec 32 := 512#32
  let v1730 : BitVec 32 := Scalar.muli arg13 c512_i32_1039
  let v1731 : BitVec 32 := v1730
  let v1790 : Index := Scalar.indexCast v1731
  let c128_1073 : Index := 128#32
  ![0, v1790.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S4x2048x8x96 : Shape := ⟨4, ![4, 2048, 8, 96]⟩
abbrev S4x2048x8x64 : Shape := ⟨4, ![4, 2048, 8, 64]⟩
abbrev S4x2048x1024 : Shape := ⟨3, ![4, 2048, 1024]⟩
abbrev S4x2048x8x32 : Shape := ⟨4, ![4, 2048, 8, 32]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x512 : Shape := ⟨3, ![4, 2048, 512]⟩
abbrev S4x8x2048x32 : Shape := ⟨4, ![4, 8, 2048, 32]⟩
abbrev S4x8x2048x64 : Shape := ⟨4, ![4, 8, 2048, 64]⟩
abbrev S4x2048x8x128 : Shape := ⟨4, ![4, 2048, 8, 128]⟩

abbrev nBuf : Space → Nat
  | .hbm => 124
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x1024, .f32⟩
  | .hbm, ⟨4, _⟩ => ⟨S4x2048x8x64, .f32⟩
  | .hbm, ⟨5, _⟩ => ⟨S4x2048x8x32, .f32⟩
  | .hbm, ⟨6, _⟩ => ⟨S4x2048x8x64, .f32⟩
  | .hbm, ⟨7, _⟩ => ⟨S4x2048x8x32, .f32⟩
  | .hbm, ⟨8, _⟩ => ⟨S4x8x2048x2048, .f32⟩
  | .hbm, ⟨9, _⟩ => ⟨S4x8x2048x2048, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .i1⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S_, .f32⟩
  | .hbm, ⟨39, _⟩ => ⟨S4x8x2048, .f32⟩
  | .hbm, ⟨40, _⟩ => ⟨S4x8x2048, .i1⟩
  | .hbm, ⟨41, _⟩ => ⟨S_, .f32⟩
  | .hbm, ⟨42, _⟩ => ⟨S4x8x2048, .f32⟩
  | .hbm, ⟨43, _⟩ => ⟨S4x8x2048, .i1⟩
  | .hbm, ⟨44, _⟩ => ⟨S_, .f32⟩
  | .hbm, ⟨45, _⟩ => ⟨S4x8x2048, .f32⟩
  | .hbm, ⟨46, _⟩ => ⟨S_, .f32⟩
  | .hbm, ⟨47, _⟩ => ⟨S4x8x2048, .f32⟩
  | .hbm, ⟨48, _⟩ => ⟨S_, .f32⟩
  | .hbm, ⟨49, _⟩ => ⟨S4x8x2048, .f32⟩
  | .hbm, ⟨50, _⟩ => ⟨S4x8x2048, .f32⟩
  | .hbm, ⟨51, _⟩ => ⟨S4x8x2048, .f32⟩
  | .hbm, ⟨52, _⟩ => ⟨S4x8x2048x1, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S_, .f32⟩
  | .hbm, ⟨57, _⟩ => ⟨S4x8x2048, .f32⟩
  | .hbm, ⟨58, _⟩ => ⟨S4x8x2048x1, .f32⟩
  | .hbm, ⟨59, _⟩ => ⟨S4x8x2048x2048, .f32⟩
  | .hbm, ⟨60, _⟩ => ⟨S4x8x2048x2048, .f32⟩
  | .hbm, ⟨61, _⟩ => ⟨S4x8x2048x1, .f32⟩
  | .hbm, ⟨62, _⟩ => ⟨S_, .f32⟩
  | .hbm, ⟨63, _⟩ => ⟨S4x8x2048x1, .f32⟩
  | .hbm, ⟨64, _⟩ => ⟨S4x8x2048x1, .f32⟩
  | .hbm, ⟨65, _⟩ => ⟨S4x8x64x2048, .f32⟩
  | .hbm, ⟨66, _⟩ => ⟨S4x2048x8x64, .f32⟩
  | .hbm, ⟨67, _⟩ => ⟨S4x2048x512, .f32⟩
  | .hbm, ⟨68, _⟩ => ⟨S4x2048x512, .f32⟩
  | .hbm, ⟨69, _⟩ => ⟨S4x2048x8x64, .f32⟩
  | .hbm, ⟨70, _⟩ => ⟨S4x8x64x2048, .f32⟩
  | .hbm, ⟨71, _⟩ => ⟨S4x8x2048x2048, .f32⟩
  | .hbm, ⟨72, _⟩ => ⟨S4x8x64x2048, .f32⟩
  | .hbm, ⟨73, _⟩ => ⟨S4x2048x8x64, .f32⟩
  | .hbm, ⟨74, _⟩ => ⟨S4x8x2048x2048, .f32⟩
  | .hbm, ⟨75, _⟩ => ⟨S4x8x2048x2048, .f32⟩
  | .hbm, ⟨76, _⟩ => ⟨S4x8x2048x2048, .f32⟩
  | .hbm, ⟨77, _⟩ => ⟨S_, .f32⟩
  | .hbm, ⟨78, _⟩ => ⟨S4x8x2048, .f32⟩
  | .hbm, ⟨79, _⟩ => ⟨S4x8x2048x1, .f32⟩
  | .hbm, ⟨80, _⟩ => ⟨S4x8x2048x1, .f32⟩
  | .hbm, ⟨81, _⟩ => ⟨S4x8x2048x2048, .f32⟩
  | .hbm, ⟨82, _⟩ => ⟨S4x8x2048x2048, .f32⟩
  | .hbm, ⟨83, _⟩ => ⟨S_, .f32⟩
  | .hbm, ⟨84, _⟩ => ⟨S4x8x2048, .f32⟩
  | .hbm, ⟨85, _⟩ => ⟨S4x8x2048x2048, .f32⟩
  | .hbm, ⟨86, _⟩ => ⟨S4x8x2048x2048, .f32⟩
  | .hbm, ⟨87, _⟩ => ⟨S4x8x2048x2048, .f32⟩
  | .hbm, ⟨88, _⟩ => ⟨S_, .f32⟩
  | .hbm, ⟨89, _⟩ => ⟨S4x8x2048x2048, .f32⟩
  | .hbm, ⟨90, _⟩ => ⟨S4x8x2048x2048, .f32⟩
  | .hbm, ⟨91, _⟩ => ⟨S_, .f32⟩
  | .hbm, ⟨92, _⟩ => ⟨S4x8x2048x2048, .f32⟩
  | .hbm, ⟨93, _⟩ => ⟨S4x8x2048x2048, .f32⟩
  | .hbm, ⟨94, _⟩ => ⟨S4x8x2048x32, .f32⟩
  | .hbm, ⟨95, _⟩ => ⟨S4x2048x8x32, .f32⟩
  | .hbm, ⟨96, _⟩ => ⟨S4x8x2048x32, .f32⟩
  | .hbm, ⟨97, _⟩ => ⟨S4x2048x8x32, .f32⟩
  | .hbm, ⟨98, _⟩ => ⟨S4x8x2048x64, .f32⟩
  | .hbm, ⟨99, _⟩ => ⟨S4x2048x8x64, .f32⟩
  | .hbm, ⟨100, _⟩ => ⟨S4x8x2048x64, .f32⟩
  | .hbm, ⟨101, _⟩ => ⟨S4x2048x8x64, .f32⟩
  | .hbm, ⟨102, _⟩ => ⟨S_, .f32⟩
  | .hbm, ⟨103, _⟩ => ⟨S4x2048x8x96, .f32⟩
  | .hbm, ⟨104, _⟩ => ⟨S_, .f32⟩
  | .hbm, ⟨105, _⟩ => ⟨S4x2048x8x96, .f32⟩
  | .hbm, ⟨106, _⟩ => ⟨S4x2048x8x96, .f32⟩
  | .hbm, ⟨107, _⟩ => ⟨S_, .f32⟩
  | .hbm, ⟨108, _⟩ => ⟨S4x2048x8x96, .f32⟩
  | .hbm, ⟨109, _⟩ => ⟨S_, .f32⟩
  | .hbm, ⟨110, _⟩ => ⟨S4x2048x8x96, .f32⟩
  | .hbm, ⟨111, _⟩ => ⟨S4x2048x8x96, .f32⟩
  | .hbm, ⟨112, _⟩ => ⟨S_, .i32⟩
  | .hbm, ⟨113, _⟩ => ⟨S_, .f32⟩
  | .hbm, ⟨114, _⟩ => ⟨S4x2048x8x128, .f32⟩
  | .hbm, ⟨115, _⟩ => ⟨S4x2048x1024, .f32⟩
  | .hbm, ⟨116, _⟩ => ⟨S4x2048x1024, .bf16⟩
  | .hbm, ⟨117, _⟩ => ⟨S_, .i32⟩
  | .hbm, ⟨118, _⟩ => ⟨S_, .f32⟩
  | .hbm, ⟨119, _⟩ => ⟨S4x2048x8x128, .f32⟩
  | .hbm, ⟨120, _⟩ => ⟨S4x2048x1024, .f32⟩
  | .hbm, ⟨121, _⟩ => ⟨S4x2048x1024, .bf16⟩
  | .hbm, ⟨122, _⟩ => ⟨S4x2048x512, .f32⟩
  | .hbm, ⟨123, _⟩ => ⟨S4x2048x512, .bf16⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_c : Ref sig .tc := ⟨.hbm, 112, rfl⟩
abbrev main_call2_v0 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_18 : Ref sig .tc := ⟨.hbm, 117, rfl⟩
abbrev main_call3_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== InKernel.lean ====
abbrev S4x2048x1024 : Shape := ⟨3, ![4, 2048, 1024]⟩
abbrev S1024x2464 : Shape := ⟨2, ![1024, 2464]⟩
abbrev S4x2048x2464 : Shape := ⟨3, ![4, 2048, 2464]⟩
abbrev S8192x2464 : Shape := ⟨2, ![8192, 2464]⟩
abbrev S8192x640 : Shape := ⟨2, ![8192, 640]⟩
abbrev S_ : Shape := ⟨0, ![]⟩
abbrev S8192x64 : Shape := ⟨2, ![8192, 64]⟩
abbrev S8192x32 : Shape := ⟨2, ![8192, 32]⟩
abbrev S8192x512 : Shape := ⟨2, ![8192, 512]⟩
abbrev S8192x2x4x64 : Shape := ⟨4, ![8192, 2, 4, 64]⟩
abbrev S8192x4x2x64 : Shape := ⟨4, ![8192, 4, 2, 64]⟩
abbrev S8192x256 : Shape := ⟨2, ![8192, 256]⟩
abbrev S8192x2560 : Shape := ⟨2, ![8192, 2560]⟩
abbrev S8192x1024 : Shape := ⟨2, ![8192, 1024]⟩
abbrev S8x320x1024 : Shape := ⟨3, ![8, 320, 1024]⟩
abbrev S1024x2560 : Shape := ⟨2, ![1024, 2560]⟩
abbrev S1024x512 : Shape := ⟨2, ![1024, 512]⟩
abbrev S8x320x512 : Shape := ⟨3, ![8, 320, 512]⟩
abbrev S2560x512 : Shape := ⟨2, ![2560, 512]⟩
abbrev S308x512 : Shape := ⟨2, ![308, 512]⟩
abbrev S1x308x512 : Shape := ⟨3, ![1, 308, 512]⟩
abbrev S12x512 : Shape := ⟨2, ![12, 512]⟩
abbrev S1x12x512 : Shape := ⟨3, ![1, 12, 512]⟩
abbrev S24x512 : Shape := ⟨2, ![24, 512]⟩
abbrev S1x24x512 : Shape := ⟨3, ![1, 24, 512]⟩
abbrev S32x512 : Shape := ⟨2, ![32, 512]⟩
abbrev S1x32x512 : Shape := ⟨3, ![1, 32, 512]⟩
abbrev S252x512 : Shape := ⟨2, ![252, 512]⟩
abbrev S1x252x512 : Shape := ⟨3, ![1, 252, 512]⟩
abbrev S260x512 : Shape := ⟨2, ![260, 512]⟩
abbrev S1x260x512 : Shape := ⟨3, ![1, 260, 512]⟩
abbrev S48x512 : Shape := ⟨2, ![48, 512]⟩
abbrev S1x48x512 : Shape := ⟨3, ![1, 48, 512]⟩
abbrev S16x512 : Shape := ⟨2, ![16, 512]⟩
abbrev S1x16x512 : Shape := ⟨3, ![1, 16, 512]⟩
abbrev S64x512 : Shape := ⟨2, ![64, 512]⟩
abbrev S1x64x512 : Shape := ⟨3, ![1, 64, 512]⟩
abbrev S36x512 : Shape := ⟨2, ![36, 512]⟩
abbrev S1x36x512 : Shape := ⟨3, ![1, 36, 512]⟩
abbrev S28x512 : Shape := ⟨2, ![28, 512]⟩
abbrev S1x28x512 : Shape := ⟨3, ![1, 28, 512]⟩
abbrev S152x512 : Shape := ⟨2, ![152, 512]⟩
abbrev S1x152x512 : Shape := ⟨3, ![1, 152, 512]⟩
abbrev S104x512 : Shape := ⟨2, ![104, 512]⟩
abbrev S1x104x512 : Shape := ⟨3, ![1, 104, 512]⟩
abbrev S52x512 : Shape := ⟨2, ![52, 512]⟩
abbrev S1x52x512 : Shape := ⟨3, ![1, 52, 512]⟩

abbrev nBuf : Space → Nat
  | .hbm => 26
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024x2464, .f32⟩
  | .hbm, ⟨2, _⟩ => ⟨S4x2048x2464, .f32⟩
  | .hbm, ⟨3, _⟩ => ⟨S8192x2464, .f32⟩
  | .hbm, ⟨4, _⟩ => ⟨S8192x640, .f32⟩
  | .hbm, ⟨5, _⟩ => ⟨S_, .f32⟩
  | .hbm, ⟨6, _⟩ => ⟨S8192x64, .f32⟩
  | .hbm, ⟨7, _⟩ => ⟨S8192x32, .f32⟩
  | .hbm, ⟨8, _⟩ => ⟨S_, .f32⟩
  | .hbm, ⟨9, _⟩ => ⟨S8192x32, .f32⟩
  | .hbm, ⟨10, _⟩ => ⟨S8192x512, .f32⟩
  | .hbm, ⟨11, _⟩ => ⟨S8192x512, .f32⟩
  | .hbm, ⟨12, _⟩ => ⟨S8192x2x4x64, .f32⟩
  | .hbm, ⟨13, _⟩ => ⟨S8192x4x2x64, .f32⟩
  | .hbm, ⟨14, _⟩ => ⟨S8192x512, .f32⟩
  | .hbm, ⟨15, _⟩ => ⟨S8192x256, .f32⟩
  | .hbm, ⟨16, _⟩ => ⟨S8192x512, .f32⟩
  | .hbm, ⟨17, _⟩ => ⟨S8192x2x4x64, .f32⟩
  | .hbm, ⟨18, _⟩ => ⟨S8192x4x2x64, .f32⟩
  | .hbm, ⟨19, _⟩ => ⟨S8192x512, .f32⟩
  | .hbm, ⟨20, _⟩ => ⟨S8192x2560, .f32⟩
  | .hbm, ⟨21, _⟩ => ⟨S8192x2560, .bf16⟩
  | .hbm, ⟨22, _⟩ => ⟨S8192x1024, .f32⟩
  | .hbm, ⟨23, _⟩ => ⟨S8192x1024, .bf16⟩
  | .hbm, ⟨24, _⟩ => ⟨S8x320x1024, .f32⟩
  | .hbm, ⟨25, _⟩ => ⟨S8x320x1024, .bf16⟩
  | .local _ .vmem, ⟨0, _⟩ => ⟨S1024x2560, .bf16⟩
  | .local _ .vmem, ⟨1, _⟩ => ⟨S1024x2560, .bf16⟩
  | .local _ .vmem, ⟨2, _⟩ => ⟨S1024x512, .bf16⟩
  | .local _ .vmem, ⟨3, _⟩ => ⟨S1024x512, .bf16⟩
  | .local _ .vmem, ⟨4, _⟩ => ⟨S8x320x512, .f32⟩
  | .local _ .vmem, ⟨5, _⟩ => ⟨S8x320x512, .f32⟩
  | .local _ .vmem, ⟨6, _⟩ => ⟨S8x320x512, .bf16⟩
  | .local _ .vmem, ⟨7, _⟩ => ⟨S8x320x512, .bf16⟩
  | .local _ .vmem, ⟨8, _⟩ => ⟨S2560x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InReferenceIdeal.lean ====
abbrev S4x2048x1024 : Shape := ⟨3, ![4, 2048, 1024]⟩
abbrev S1024x2464 : Shape := ⟨2, ![1024, 2464]⟩
abbrev S4x2048x2464 : Shape := ⟨3, ![4, 2048, 2464]⟩
abbrev S2464x1024 : Shape := ⟨2, ![2464, 1024]⟩
abbrev S8x308x1024 : Shape := ⟨3, ![8, 308, 1024]⟩
abbrev S_ : Shape := ⟨0, ![]⟩
abbrev S8x320x1024 : Shape := ⟨3, ![8, 320, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x2464, .f32⟩
  | .hbm, ⟨2, _⟩ => ⟨S4x2048x2464, .f32⟩
  | .hbm, ⟨3, _⟩ => ⟨S4x2048x2464, .f32⟩
  | .hbm, ⟨4, _⟩ => ⟨S2464x1024, .f32⟩
  | .hbm, ⟨5, _⟩ => ⟨S1024x2464, .f32⟩
  | .hbm, ⟨6, _⟩ => ⟨S2464x1024, .f32⟩
  | .hbm, ⟨7, _⟩ => ⟨S8x308x1024, .f32⟩
  | .hbm, ⟨8, _⟩ => ⟨S_, .i32⟩
  | .hbm, ⟨9, _⟩ => ⟨S_, .f32⟩
  | .hbm, ⟨10, _⟩ => ⟨S8x320x1024, .f32⟩
  | .hbm, ⟨11, _⟩ => ⟨S8x320x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== PostKernel.lean ====
abbrev S4x2048x512 : Shape := ⟨3, ![4, 2048, 512]⟩
abbrev S1024x1024 : Shape := ⟨2, ![1024, 1024]⟩
abbrev S4x2048x1024 : Shape := ⟨3, ![4, 2048, 1024]⟩
abbrev S4x1024 : Shape := ⟨2, ![4, 1024]⟩
abbrev S1024 : Shape := ⟨1, ![1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S8192x512 : Shape := ⟨2, ![8192, 512]⟩
abbrev S8192x2x4x64 : Shape := ⟨4, ![8192, 2, 4, 64]⟩
abbrev S8192x4x2x64 : Shape := ⟨4, ![8192, 4, 2, 64]⟩
abbrev S8192x1024 : Shape := ⟨2, ![8192, 1024]⟩
abbrev S4x1x1024 : Shape := ⟨3, ![4, 1, 1024]⟩
abbrev S1x1024 : Shape := ⟨2, ![1, 1024]⟩
abbrev S1x128 : Shape := ⟨2, ![1, 128]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S64x1024 : Shape := ⟨2, ![64, 1024]⟩

abbrev nBuf : Space → Nat
  | .hbm => 37
  | .vmem => 26
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S1024x1024, .f32⟩
  | .hbm, ⟨5, _⟩ => ⟨S4x2048x1024, .f32⟩
  | .hbm, ⟨6, _⟩ => ⟨S4x1024, .f32⟩
  | .hbm, ⟨7, _⟩ => ⟨S1024, .f32⟩
  | .hbm, ⟨8, _⟩ => ⟨S4x2048x1024, .f32⟩
  | .hbm, ⟨9, _⟩ => ⟨S512x1024, .f32⟩
  | .hbm, ⟨10, _⟩ => ⟨S2x4x64x1024, .f32⟩
  | .hbm, ⟨11, _⟩ => ⟨S4x2x64x1024, .f32⟩
  | .hbm, ⟨12, _⟩ => ⟨S512x1024, .f32⟩
  | .hbm, ⟨13, _⟩ => ⟨S8192x512, .f32⟩
  | .hbm, ⟨14, _⟩ => ⟨S8192x2x4x64, .f32⟩
  | .hbm, ⟨15, _⟩ => ⟨S8192x4x2x64, .f32⟩
  | .hbm, ⟨16, _⟩ => ⟨S8192x512, .f32⟩
  | .hbm, ⟨17, _⟩ => ⟨S8192x1024, .f32⟩
  | .hbm, ⟨18, _⟩ => ⟨S8192x512, .f32⟩
  | .hbm, ⟨19, _⟩ => ⟨S8192x2x4x64, .f32⟩
  | .hbm, ⟨20, _⟩ => ⟨S8192x4x2x64, .f32⟩
  | .hbm, ⟨21, _⟩ => ⟨S8192x512, .f32⟩
  | .hbm, ⟨22, _⟩ => ⟨S512x1024, .f32⟩
  | .hbm, ⟨23, _⟩ => ⟨S1024x1024, .f32⟩
  | .hbm, ⟨24, _⟩ => ⟨S1024x1024, .bf16⟩
  | .hbm, ⟨25, _⟩ => ⟨S8192x1024, .f32⟩
  | .hbm, ⟨26, _⟩ => ⟨S4x1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S1x128, .f32⟩
  | .hbm, ⟨33, _⟩ => ⟨S1x1024, .f32⟩
  | .hbm, ⟨34, _⟩ => ⟨S4x1x1024, .f32⟩
  | .hbm, ⟨35, _⟩ => ⟨S1024x1024, .f32⟩
  | .hbm, ⟨36, _⟩ => ⟨S1024x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x128, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1024x1024, .f32⟩
  | .local _ .vmem, ⟨25, _⟩ => ⟨S1024x1024, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v20_6 : Ref sig .tc := ⟨.hbm, 35, rfl⟩
abbrev main_v20_7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v138 : BitVec 1 := Scalar.cmpi .eq arg0 c15_i32
  let v139 : BitVec 32 := Scalar.extui v138
  let c0_i32_66 : BitVec 32 := 0#32
  let v140 : BitVec 1 := Scalar.cmpi .ne v139 c0_i32_66
  v140

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostReferenceIdeal.lean ====
abbrev S4x2048x512 : Shape := ⟨3, ![4, 2048, 512]⟩
abbrev S1024x1024 : Shape := ⟨2, ![1024, 1024]⟩
abbrev S4x2048x1024 : Shape := ⟨3, ![4, 2048, 1024]⟩
abbrev S4x1024 : Shape := ⟨2, ![4, 1024]⟩
abbrev S1024 : Shape := ⟨1, ![1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S65536x128 : Shape := ⟨2, ![65536, 128]⟩
abbrev S128 : Shape := ⟨1, ![128]⟩
abbrev S1x128 : Shape := ⟨2, ![1, 128]⟩
abbrev S8192x1024 : Shape := ⟨2, ![8192, 1024]⟩
abbrev S4x2048x2x4x64 : Shape := ⟨5, ![4, 2048, 2, 4, 64]⟩
abbrev S4x2048x4x2x64 : Shape := ⟨5, ![4, 2048, 4, 2, 64]⟩
abbrev S1x1024 : Shape := ⟨2, ![1, 1024]⟩

abbrev nBuf : Space → Nat
  | .hbm => 161
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x512, .f32⟩
  | 3 => ⟨S4x2048x512, .f32⟩
  | 4 => ⟨S1024x1024, .f32⟩
  | 5 => ⟨S4x2048x1024, .f32⟩
  | 6 => ⟨S4x1024, .f32⟩
  | 7 => ⟨S1024, .f32⟩
  | 8 => ⟨S4x2048x1024, .f32⟩
  | 9 => ⟨S4x2048x512, .f32⟩
  | 10 => ⟨S4x2048x512, .f32⟩
  | 11 => ⟨S_, .f32⟩
  | 12 => ⟨S4x2048x512, .f32⟩
  | 13 => ⟨S4x2048x512, .f32⟩
  | 14 => ⟨S_, .f32⟩
  | 15 => ⟨S4x2048x512, .f32⟩
  | 16 => ⟨S4x2048x512, .f32⟩
  | 17 => ⟨S_, .f32⟩
  | 18 => ⟨S4x2048x512, .f32⟩
  | 19 => ⟨S4x2048x512, .f32⟩
  | 20 => ⟨S4x2048x512, .f32⟩
  | 21 => ⟨S4x2048x512, .f32⟩
  | 22 => ⟨S4x2048x512, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S_, .f32⟩
  | 29 => ⟨S4x2048x512, .f32⟩
  | 30 => ⟨S4x2048x512, .f32⟩
  | 31 => ⟨S_, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x1024, .f32⟩
  | 38 => ⟨S4x2048x1024, .f32⟩
  | 39 => ⟨S4x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S_, .f32⟩
  | 45 => ⟨S4x2048, .f32⟩
  | 46 => ⟨S4x2048x1, .f32⟩
  | 47 => ⟨S_, .f32⟩
  | 48 => ⟨S4x2048x1, .f32⟩
  | 49 => ⟨S4x2048x1, .f32⟩
  | 50 => ⟨S_, .f32⟩
  | 51 => ⟨S4x2048x1, .f32⟩
  | 52 => ⟨S4x2048x1, .f32⟩
  | 53 => ⟨S4x2048x1, .f32⟩
  | 54 => ⟨S4x2048x1, .f32⟩
  | 55 => ⟨S_, .f32⟩
  | 56 => ⟨S4x2048x1, .f32⟩
  | 57 => ⟨S4x2048x1, .f32⟩
  | 58 => ⟨S4x2048x1024, .f32⟩
  | 59 => ⟨S4x2048x1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S4x2048x1024, .f32⟩
  | 67 => ⟨S4x2048x1024, .f32⟩
  | 68 => ⟨S_, .f32⟩
  | 69 => ⟨S4x2048, .f32⟩
  | 70 => ⟨S_, .f32⟩
  | 71 => ⟨S4x2048, .f32⟩
  | 72 => ⟨S4x2048, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4x2048, .f32⟩
  | 81 => ⟨S_, .f32⟩
  | 82 => ⟨S4x2048, .f32⟩
  | 83 => ⟨S4x2048, .f32⟩
  | 84 => ⟨S4x2048x1024, .f32⟩
  | 85 => ⟨S4x2048x1024, .f32⟩
  | 86 => ⟨S4x2048x1024, .f32⟩
  | 87 => ⟨S_, .f32⟩
  | 88 => ⟨S1024, .f32⟩
  | 89 => ⟨S1x1x1024, .f32⟩
  | 90 => ⟨S4x2048x1024, .f32⟩
  | 91 => ⟨S4x2048x1024, .f32⟩
  | 92 => ⟨S_, .f32⟩
  | 93 => ⟨S1024, .f32⟩
  | 94 => ⟨S4x2048x1024, .f32⟩
  | 95 => ⟨S_, .f32⟩
  | 96 => ⟨S4x2048, .f32⟩
  | 97 => ⟨S4x2048x1, .f32⟩
  | 98 => ⟨S4x2048x1024, .f32⟩
  | 99 => ⟨S4x2048x1024, .f32⟩
  | 100 => ⟨S4x2048x1, .f32⟩
  | 101 => ⟨S_, .f32⟩
  | 102 => ⟨S4x2048x1, .f32⟩
  | 103 => ⟨S4x2048x1, .f32⟩
  | 104 => ⟨S_, .f32⟩
  | 105 => ⟨S4x2048, .f32⟩
  | 106 => ⟨S4x2048x1024, .f32⟩
  | 107 => ⟨S4x2048x1024, .f32⟩
  | 108 => ⟨S4x2048x1024, .f32⟩
  | 109 => ⟨S4x2048x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S_, .f32⟩
  | 115 => ⟨S4x1024, .f32⟩
  | 116 => ⟨S4x1x1024, .f32⟩
  | 117 => ⟨S_, .f32⟩
  | 118 => ⟨S4x1024, .f32⟩
  | 119 => ⟨S1024x1024, .f32⟩
  | 120 => ⟨S1024x1024, .f32⟩
  | 121 => ⟨S4x2048x1024, .f32⟩
  | 122 => ⟨S4x2048x512, .f32⟩
  | 123 => ⟨S4x2048x512, .f32⟩
  | 124 => ⟨S4x2048x512, .f32⟩
  | 125 => ⟨S4x2048x512, .f32⟩
  | 126 => ⟨S4x2048x512, .f32⟩
  | 127 => ⟨S4x2048x512, .f32⟩
  | _ => ⟨S4x2048x512, .f32⟩

abbrev hbmTy0_1 (i : Nat) : BufTy := match i % 128 with
  | 0 => ⟨S4x2048x512, .f32⟩
  | 1 => ⟨S4x2048x512, .f32⟩
  | 2 => ⟨S4x2048x512, .f32⟩
  | 3 => ⟨S4x2048x512, .f32⟩
  | 4 => ⟨S4x2048x512, .f32⟩
  | 5 => ⟨S4x2048x512, .f32⟩
  | 6 => ⟨S4x2048x512, .f32⟩
  | 7 => ⟨S4x2048x512, .f32⟩
  | 8 => ⟨S65536x128, .f32⟩
  | 9 => ⟨S_, .f32⟩
  | 10 => ⟨S65536x128, .f32⟩
  | 11 => ⟨S65536x128, .f32⟩
  | 12 => ⟨S_, .f32⟩
  | 13 => ⟨S65536x128, .f32⟩
  | 14 => ⟨S65536x128, .f32⟩
  | 15 => ⟨S_, .f32⟩
  | 16 => ⟨S128, .f32⟩
  | 17 => ⟨S1x128, .f32⟩
  | 18 => ⟨S8192x1024, .f32⟩
  | 19 => ⟨S4x2048x2x4x64, .f32⟩
  | 20 => ⟨S4x2048x4x2x64, .f32⟩
  | 21 => ⟨S4x2048x512, .f32⟩
  | 22 => ⟨S4x2048x1024, .f32⟩
  | 23 => ⟨S8192x1024, .f32⟩
  | 24 => ⟨S4x2048x2x4x64, .f32⟩
  | 25 => ⟨S4x2048x4x2x64, .f32⟩
  | 26 => ⟨S4x2048x512, .f32⟩
  | 27 => ⟨S4x2048x1024, .f32⟩
  | 28 => ⟨S8192x1024, .f32⟩
  | 29 => ⟨S8192x1024, .bf16⟩
  | 30 => ⟨S1x1024, .f32⟩
  | 31 => ⟨S4x1x1024, .f32⟩
  | 32 => ⟨S1024x1024, .bf16⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v0_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v0_1 : Ref sig .tc := ⟨.hbm, 20, rfl⟩
abbrev main_v0_0 : Ref sig .tc := ⟨.hbm, 21, rfl⟩
abbrev main_v1 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_v2_2 : Ref sig .tc := ⟨.hbm, 30, rfl⟩
abbrev main_call1_cst_1 : Ref sig .tc := ⟨.hbm, 31, rfl⟩
abbrev main_call1_v6 : Ref sig .tc := ⟨.hbm, 32, rfl⟩
abbrev main_call1_v7 : Ref sig .tc := ⟨.hbm, 33, rfl⟩
abbrev main_v2_1 : Ref sig .tc := ⟨.hbm, 34, rfl⟩
abbrev main_v2_0 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_cst_0 : Ref sig .tc := ⟨.hbm, 47, rfl⟩
abbrev main_v13 : Ref sig .tc := ⟨.hbm, 48, rfl⟩
abbrev main_v14 : Ref sig .tc := ⟨.hbm, 49, rfl⟩
abbrev main_cst_1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_2 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_3 : Ref sig .tc := ⟨.hbm, 65, rfl⟩
abbrev main_v28 : Ref sig .tc := ⟨.hbm, 66, rfl⟩
abbrev main_v29 : Ref sig .tc := ⟨.hbm, 67, rfl⟩
abbrev main_cst_4 : Ref sig .tc := ⟨.hbm, 68, rfl⟩
abbrev main_v30 : Ref sig .tc := ⟨.hbm, 69, rfl⟩
abbrev main_cst_5 : Ref sig .tc := ⟨.hbm, 70, rfl⟩
abbrev main_v31 : Ref sig .tc := ⟨.hbm, 71, rfl⟩
abbrev main_v32 : Ref sig .tc := ⟨.hbm, 72, rfl⟩
abbrev main_cst_6 : Ref sig .tc := ⟨.hbm, 73, rfl⟩
abbrev main_v33 : Ref sig .tc := ⟨.hbm, 74, rfl⟩
abbrev main_cst_7 : Ref sig .tc := ⟨.hbm, 75, rfl⟩
abbrev main_v34 : Ref sig .tc := ⟨.hbm, 76, rfl⟩
abbrev main_cst_8 : Ref sig .tc := ⟨.hbm, 77, rfl⟩
abbrev main_cst_9 : Ref sig .tc := ⟨.hbm, 78, rfl⟩
abbrev main_v35 : Ref sig .tc := ⟨.hbm, 79, rfl⟩
abbrev main_v36 : Ref sig .tc := ⟨.hbm, 80, rfl⟩
abbrev main_cst_10 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_11 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_12 : Ref sig .tc := ⟨.hbm, 92, rfl⟩
abbrev main_v46 : Ref sig .tc := ⟨.hbm, 93, rfl⟩
abbrev main_v47 : Ref sig .tc := ⟨.hbm, 94, rfl⟩
abbrev main_cst_13 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_14 : Ref sig .tc := ⟨.hbm, 101, rfl⟩
abbrev main_v53 : Ref sig .tc := ⟨.hbm, 102, rfl⟩
abbrev main_v54 : Ref sig .tc := ⟨.hbm, 103, rfl⟩
abbrev main_cst_15 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_16 : Ref sig .tc := ⟨.hbm, 114, rfl⟩
abbrev main_v64 : Ref sig .tc := ⟨.hbm, 115, rfl⟩
abbrev main_v65 : Ref sig .tc := ⟨.hbm, 116, rfl⟩
abbrev main_cst_17 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v77 : Ref sig .tc := ⟨.hbm, 135, rfl⟩
abbrev main_v78 : Ref sig .tc := ⟨.hbm, 136, rfl⟩
abbrev main_cst_18 : Ref sig .tc := ⟨.hbm, 137, rfl⟩
abbrev main_v79 : Ref sig .tc := ⟨.hbm, 138, rfl⟩
abbrev main_v80 : Ref sig .tc := ⟨.hbm, 139, rfl⟩
abbrev main_cst_19 : Ref sig .tc := ⟨.hbm, 140, rfl⟩
abbrev main_v81 : Ref sig .tc := ⟨.hbm, 141, rfl⟩
abbrev main_v82 : Ref sig .tc := ⟨.hbm, 142, rfl⟩
abbrev main_cst_20 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩

abbrev nD : Nat := 1
abbrev τ : Topo := Topo.v7x

variable {F : FTy → Type} [FloatOps F]
-- ==== FwdKernel.lean ====
abbrev S4x2048x8x96 : Shape := ⟨4, ![4, 2048, 8, 96]⟩
abbrev S4x2048x8x64 : Shape := ⟨4, ![4, 2048, 8, 64]⟩
abbrev S_ : Shape := ⟨0, ![]⟩
abbrev S4x2048x8x128 : Shape := ⟨4, ![4, 2048, 8, 128]⟩
abbrev S4x2048x1024 : Shape := ⟨3, ![4, 2048, 1024]⟩
abbrev S4x2048x512 : Shape := ⟨3, ![4, 2048, 512]⟩
abbrev S4x8x2048x128 : Shape := ⟨4, ![4, 8, 2048, 128]⟩
abbrev S1x2048x512 : Shape := ⟨3, ![1, 2048, 512]⟩
abbrev S1x2048x256 : Shape := ⟨3, ![1, 2048, 256]⟩
abbrev S1x4x2048x128 : Shape := ⟨4, ![1, 4, 2048, 128]⟩
abbrev S512x512 : Shape := ⟨2, ![512, 512]⟩
abbrev S512x128 : Shape := ⟨2, ![512, 128]⟩
abbrev S1x512x128 : Shape := ⟨3, ![1, 512, 128]⟩
abbrev S512x1 : Shape := ⟨2, ![512, 1]⟩
abbrev S512 : Shape := ⟨1, ![512]⟩
abbrev S1x1x512x128 : Shape := ⟨4, ![1, 1, 512, 128]⟩

abbrev nBuf : Space → Nat
  | .hbm => 25
  | .vmem => 10
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x2048x8x96, .f32⟩
  | .hbm, ⟨10, _⟩ => ⟨S4x2048x8x96, .f32⟩
  | .hbm, ⟨11, _⟩ => ⟨S_, .i32⟩
  | .hbm, ⟨12, _⟩ => ⟨S_, .f32⟩
  | .hbm, ⟨13, _⟩ => ⟨S4x2048x8x128, .f32⟩
  | .hbm, ⟨14, _⟩ => ⟨S4x2048x1024, .f32⟩
  | .hbm, ⟨15, _⟩ => ⟨S4x2048x1024, .bf16⟩
  | .hbm, ⟨16, _⟩ => ⟨S_, .i32⟩
  | .hbm, ⟨17, _⟩ => ⟨S_, .f32⟩
  | .hbm, ⟨18, _⟩ => ⟨S4x2048x8x128, .f32⟩
  | .hbm, ⟨19, _⟩ => ⟨S4x2048x1024, .f32⟩
  | .hbm, ⟨20, _⟩ => ⟨S4x2048x1024, .bf16⟩
  | .hbm, ⟨21, _⟩ => ⟨S4x2048x512, .f32⟩
  | .hbm, ⟨22, _⟩ => ⟨S4x2048x512, .bf16⟩
  | .hbm, ⟨23, _⟩ => ⟨S4x2048x512, .f32⟩
  | .hbm, ⟨24, _⟩ => ⟨S4x8x2048x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .f32⟩
  | .local _ .vmem, ⟨7, _⟩ => ⟨S1x2048x256, .f32⟩
  | .local _ .vmem, ⟨8, _⟩ => ⟨S1x4x2048x128, .f32⟩
  | .local _ .vmem, ⟨9, _⟩ => ⟨S1x4x2048x128, .f32⟩
  | _, _ => ⟨S4x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdKernelIdeal.lean ====
variable {F : FTy → Type} [FloatOps F] [Named F]
def κ : String → Option EReal := fun
  | "inv_ln2" => some (((Real.log 2)⁻¹ : ℝ) : EReal)
  | _ => none
-- ==== FwdReferenceIdeal.lean ====
abbrev S4x2048x8x96 : Shape := ⟨4, ![4, 2048, 8, 96]⟩
abbrev S4x2048x8x64 : Shape := ⟨4, ![4, 2048, 8, 64]⟩
abbrev S4x2048x8x32 : Shape := ⟨4, ![4, 2048, 8, 32]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x512 : Shape := ⟨3, ![4, 2048, 512]⟩
abbrev S4x8x2048x128 : Shape := ⟨4, ![4, 8, 2048, 128]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x8x96, .f32⟩
  | .hbm, ⟨1, _⟩ => ⟨S4x2048x8x96, .f32⟩
  | .hbm, ⟨2, _⟩ => ⟨S4x2048x8x64, .f32⟩
  | .hbm, ⟨3, _⟩ => ⟨S4x2048x8x64, .f32⟩
  | .hbm, ⟨4, _⟩ => ⟨S4x2048x8x32, .f32⟩
  | .hbm, ⟨5, _⟩ => ⟨S4x2048x8x64, .f32⟩
  | .hbm, ⟨6, _⟩ => ⟨S4x2048x8x32, .f32⟩
  | .hbm, ⟨7, _⟩ => ⟨S4x8x2048x2048, .f32⟩
  | .hbm, ⟨8, _⟩ => ⟨S4x8x2048x2048, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x8x2048x2048, .i1⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048, .f32⟩
  | .hbm, ⟨26, _⟩ => ⟨S_, .f32⟩
  | .hbm, ⟨27, _⟩ => ⟨S4x8x2048, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048x2048, .f32⟩
  | .hbm, ⟨37, _⟩ => ⟨S4x8x2048x2048, .f32⟩
  | .hbm, ⟨38, _⟩ => ⟨S4x8x64x2048, .f32⟩
  | .hbm, ⟨39, _⟩ => ⟨S4x2048x8x64, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x1, .f32⟩
  | .hbm, ⟨50, _⟩ => ⟨S4x8x2048x1, .f32⟩
  | .hbm, ⟨51, _⟩ => ⟨S_, .f32⟩
  | .hbm, ⟨52, _⟩ => ⟨S_, .f32⟩
  | .hbm, ⟨53, _⟩ => ⟨S4x8x2048x1, .f32⟩
  | .hbm, ⟨54, _⟩ => ⟨S4x8x2048x1, .f32⟩
  | .hbm, ⟨55, _⟩ => ⟨S4x2048x512, .f32⟩
  | .hbm, ⟨56, _⟩ => ⟨S4x8x2048x128, .f32⟩
  | _, _ => ⟨S4x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== PreKernel.lean ====
abbrev S4x2048x1024 : Shape := ⟨3, ![4, 2048, 1024]⟩
abbrev S4x2048 : Shape := ⟨2, ![4, 2048]⟩
abbrev S4x1024 : Shape := ⟨2, ![4, 1024]⟩
abbrev S1024 : Shape := ⟨1, ![1024]⟩
abbrev S1024x2464 : Shape := ⟨2, ![1024, 2464]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8192x1024 : Shape := ⟨2, ![8192, 1024]⟩
abbrev S4x1x1024 : Shape := ⟨3, ![4, 1, 1024]⟩
abbrev S1x1024 : Shape := ⟨2, ![1, 1024]⟩
abbrev S2464x1024 : Shape := ⟨2, ![2464, 1024]⟩
abbrev S8x308x1024 : Shape := ⟨3, ![8, 308, 1024]⟩
abbrev S1x384 : Shape := ⟨2, ![1, 384]⟩
abbrev S1x256 : Shape := ⟨2, ![1, 256]⟩
abbrev S384x8x96 : Shape := ⟨3, ![384, 8, 96]⟩
abbrev S8x384x96 : Shape := ⟨3, ![8, 384, 96]⟩
abbrev S256x8x128 : Shape := ⟨3, ![256, 8, 128]⟩
abbrev S8x256x128 : Shape := ⟨3, ![8, 256, 128]⟩
abbrev S16 : Shape := ⟨1, ![16]⟩
abbrev S_ : Shape := ⟨0, ![]⟩
abbrev S1024x8 : Shape := ⟨2, ![1024, 8]⟩
abbrev S1024x8x16 : Shape := ⟨3, ![1024, 8, 16]⟩
abbrev S1024x128 : Shape := ⟨2, ![1024, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S8192x384 : Shape := ⟨2, ![8192, 384]⟩
abbrev S8192x256 : Shape := ⟨2, ![8192, 256]⟩
abbrev S8192x512 : Shape := ⟨2, ![8192, 512]⟩
abbrev S8192x128 : Shape := ⟨2, ![8192, 128]⟩
abbrev S2560x1024 : Shape := ⟨2, ![2560, 1024]⟩
abbrev S384x1024 : Shape := ⟨2, ![384, 1024]⟩
abbrev S256x512 : Shape := ⟨2, ![256, 512]⟩
abbrev S512x1024 : Shape := ⟨2, ![512, 1024]⟩
abbrev S1x1x1024 : Shape := ⟨3, ![1, 1, 1024]⟩
abbrev S64x128 : Shape := ⟨2, ![64, 128]⟩
abbrev S512x384 : Shape := ⟨2, ![512, 384]⟩
abbrev S512x256 : Shape := ⟨2, ![512, 256]⟩
abbrev S512x512 : Shape := ⟨2, ![512, 512]⟩
abbrev S512x128 : Shape := ⟨2, ![512, 128]⟩
abbrev S1x384x96 : Shape := ⟨3, ![1, 384, 96]⟩
abbrev S384x96 : Shape := ⟨2, ![384, 96]⟩
abbrev S384x32 : Shape := ⟨2, ![384, 32]⟩
abbrev S1x256x64 : Shape := ⟨3, ![1, 256, 64]⟩
abbrev S256x64 : Shape := ⟨2, ![256, 64]⟩
abbrev S64x1024 : Shape := ⟨2, ![64, 1024]⟩
abbrev S32x1024 : Shape := ⟨2, ![32, 1024]⟩
abbrev S1x308x1024 : Shape := ⟨3, ![1, 308, 1024]⟩
abbrev S308x1024 : Shape := ⟨2, ![308, 1024]⟩
abbrev S1x24x1024 : Shape := ⟨3, ![1, 24, 1024]⟩
abbrev S24x1024 : Shape := ⟨2, ![24, 1024]⟩
abbrev S1x32x1024 : Shape := ⟨3, ![1, 32, 1024]⟩
abbrev S1x252x1024 : Shape := ⟨3, ![1, 252, 1024]⟩
abbrev S252x1024 : Shape := ⟨2, ![252, 1024]⟩
abbrev S1x260x1024 : Shape := ⟨3, ![1, 260, 1024]⟩
abbrev S260x1024 : Shape := ⟨2, ![260, 1024]⟩
abbrev S1x48x1024 : Shape := ⟨3, ![1, 48, 1024]⟩
abbrev S48x1024 : Shape := ⟨2, ![48, 1024]⟩
abbrev S1x16x1024 : Shape := ⟨3, ![1, 16, 1024]⟩
abbrev S16x1024 : Shape := ⟨2, ![16, 1024]⟩
abbrev S1x64x1024 : Shape := ⟨3, ![1, 64, 1024]⟩
abbrev S1x36x1024 : Shape := ⟨3, ![1, 36, 1024]⟩
abbrev S36x1024 : Shape := ⟨2, ![36, 1024]⟩
abbrev S1x28x1024 : Shape := ⟨3, ![1, 28, 1024]⟩
abbrev S28x1024 : Shape := ⟨2, ![28, 1024]⟩
abbrev S1x152x1024 : Shape := ⟨3, ![1, 152, 1024]⟩
abbrev S152x1024 : Shape := ⟨2, ![152, 1024]⟩
abbrev S1x104x1024 : Shape := ⟨3, ![1, 104, 1024]⟩
abbrev S104x1024 : Shape := ⟨2, ![104, 1024]⟩
abbrev S1x12x1024 : Shape := ⟨3, ![1, 12, 1024]⟩
abbrev S12x1024 : Shape := ⟨2, ![12, 1024]⟩
abbrev S1x52x1024 : Shape := ⟨3, ![1, 52, 1024]⟩
abbrev S52x1024 : Shape := ⟨2, ![52, 1024]⟩
abbrev S512 : Shape := ⟨1, ![512]⟩
abbrev S512x1 : Shape := ⟨2, ![512, 1]⟩
abbrev S64x1x128 : Shape := ⟨3, ![64, 1, 128]⟩
abbrev S64x8x128 : Shape := ⟨3, ![64, 8, 128]⟩
abbrev S128x1024 : Shape := ⟨2, ![128, 1024]⟩

abbrev nBuf : Space → Nat
  | .hbm => 68
  | .vmem => 44
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024x2464, .f32⟩
  | .hbm, ⟨6, _⟩ => ⟨S384, .f32⟩
  | .hbm, ⟨7, _⟩ => ⟨S256, .f32⟩
  | .hbm, ⟨8, _⟩ => ⟨S384x768, .f32⟩
  | .hbm, ⟨9, _⟩ => ⟨S256x1024, .f32⟩
  | .hbm, ⟨10, _⟩ => ⟨S8192x1024, .f32⟩
  | .hbm, ⟨11, _⟩ => ⟨S4x1x1024, .f32⟩
  | .hbm, ⟨12, _⟩ => ⟨S4x1x1024, .f32⟩
  | .hbm, ⟨13, _⟩ => ⟨S1x1024, .f32⟩
  | .hbm, ⟨14, _⟩ => ⟨S2464x1024, .f32⟩
  | .hbm, ⟨15, _⟩ => ⟨S8x308x1024, .f32⟩
  | .hbm, ⟨16, _⟩ => ⟨S8x308x1024, .bf16⟩
  | .hbm, ⟨17, _⟩ => ⟨S1x384, .f32⟩
  | .hbm, ⟨18, _⟩ => ⟨S1x256, .f32⟩
  | .hbm, ⟨19, _⟩ => ⟨S384x8x96, .f32⟩
  | .hbm, ⟨20, _⟩ => ⟨S8x384x96, .f32⟩
  | .hbm, ⟨21, _⟩ => ⟨S8x384x96, .bf16⟩
  | .hbm, ⟨22, _⟩ => ⟨S256x8x128, .f32⟩
  | .hbm, ⟨23, _⟩ => ⟨S8x256x128, .f32⟩
  | .hbm, ⟨24, _⟩ => ⟨S8x256x128, .bf16⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S1024x8, .i32⟩
  | .hbm, ⟨40, _⟩ => ⟨S1024x8, .i32⟩
  | .hbm, ⟨41, _⟩ => ⟨S1024x8, .f32⟩
  | .hbm, ⟨42, _⟩ => ⟨S1024x8x16, .f32⟩
  | .hbm, ⟨43, _⟩ => ⟨S1024x128, .f32⟩
  | .hbm, ⟨44, _⟩ => ⟨S1x16, .f32⟩
  | .hbm, ⟨45, _⟩ => ⟨S8x16, .f32⟩
  | .hbm, ⟨46, _⟩ => ⟨S128, .f32⟩
  | .hbm, ⟨47, _⟩ => ⟨S1x128, .f32⟩
  | .hbm, ⟨48, _⟩ => ⟨S1024x128, .f32⟩
  | .hbm, ⟨49, _⟩ => ⟨S1024x128, .f32⟩
  | .hbm, ⟨50, _⟩ => ⟨S1024x128, .f32⟩
  | .hbm, ⟨51, _⟩ => ⟨S1024x128, .f32⟩
  | .hbm, ⟨52, _⟩ => ⟨S8192x1024, .bf16⟩
  | .hbm, ⟨53, _⟩ => ⟨S8192x384, .f32⟩
  | .hbm, ⟨54, _⟩ => ⟨S8192x256, .f32⟩
  | .hbm, ⟨55, _⟩ => ⟨S8192x384, .bf16⟩
  | .hbm, ⟨56, _⟩ => ⟨S8192x256, .bf16⟩
  | .hbm, ⟨57, _⟩ => ⟨S8192x1024, .bf16⟩
  | .hbm, ⟨58, _⟩ => ⟨S8192x1024, .bf16⟩
  | .hbm, ⟨59, _⟩ => ⟨S8192x512, .bf16⟩
  | .hbm, ⟨60, _⟩ => ⟨S8192x512, .bf16⟩
  | .hbm, ⟨61, _⟩ => ⟨S8192x128, .bf16⟩
  | .hbm, ⟨62, _⟩ => ⟨S8192x128, .bf16⟩
  | .hbm, ⟨63, _⟩ => ⟨S8192x1024, .f32⟩
  | .hbm, ⟨64, _⟩ => ⟨S2560x1024, .bf16⟩
  | .hbm, ⟨65, _⟩ => ⟨S384x1024, .bf16⟩
  | .hbm, ⟨66, _⟩ => ⟨S256x1024, .bf16⟩
  | .hbm, ⟨67, _⟩ => ⟨S256x512, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S8x308x1024, .bf16⟩
  | .local _ .vmem, ⟨8, _⟩ => ⟨S1x384, .f32⟩
  | .local _ .vmem, ⟨9, _⟩ => ⟨S1x256, .f32⟩
  | .local _ .vmem, ⟨10, _⟩ => ⟨S8x384x96, .bf16⟩
  | .local _ .vmem, ⟨11, _⟩ => ⟨S8x256x128, .bf16⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S512x1024, .bf16⟩
  | .local _ .vmem, ⟨17, _⟩ => ⟨S512x1024, .bf16⟩
  | .local _ .vmem, ⟨18, _⟩ => ⟨S512x384, .f32⟩
  | .local _ .vmem, ⟨19, _⟩ => ⟨S512x384, .f32⟩
  | .local _ .vmem, ⟨20, _⟩ => ⟨S512x256, .f32⟩
  | .local _ .vmem, ⟨21, _⟩ => ⟨S512x256, .f32⟩
  | .local _ .vmem, ⟨22, _⟩ => ⟨S512x384, .bf16⟩
  | .local _ .vmem, ⟨23, _⟩ => ⟨S512x384, .bf16⟩
  | .local _ .vmem, ⟨24, _⟩ => ⟨S512x256, .bf16⟩
  | .local _ .vmem, ⟨25, _⟩ => ⟨S512x256, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x128, .bf16⟩
  | .local _ .vmem, ⟨38, _⟩ => ⟨S512x1024, .f32⟩
  | .local _ .vmem, ⟨39, _⟩ => ⟨S512x1024, .f32⟩
  | .local _ .vmem, ⟨40, _⟩ => ⟨S2560x1024, .bf16⟩
  | .local _ .vmem, ⟨41, _⟩ => ⟨S384x1024, .bf16⟩
  | .local _ .vmem, ⟨42, _⟩ => ⟨S256x1024, .bf16⟩
  | .local _ .vmem, ⟨43, _⟩ => ⟨S256x512, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev main_v38_5 : Ref sig .tc := ⟨.hbm, 57, rfl⟩
abbrev main_v38_6 : Ref sig .tc := ⟨.hbm, 58, rfl⟩
abbrev main_v38_7 : Ref sig .tc := ⟨.hbm, 59, rfl⟩
abbrev main_v38_8 : Ref sig .tc := ⟨.hbm, 60, rfl⟩
abbrev main_v38_9 : Ref sig .tc := ⟨.hbm, 61, rfl⟩
abbrev main_v38_10 : Ref sig .tc := ⟨.hbm, 62, rfl⟩
abbrev main_v38_11 : Ref sig .tc := ⟨.hbm, 63, rfl⟩
abbrev main_v38_12 : Ref sig .tc := ⟨.hbm, 64, rfl⟩
abbrev main_v38_13 : Ref sig .tc := ⟨.hbm, 65, rfl⟩
abbrev main_v38_14 : Ref sig .tc := ⟨.hbm, 66, rfl⟩
abbrev main_v38_15 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg25_0 : Ref sig .tc := ⟨.vmem, 42, rfl⟩
abbrev cc0_stg26_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem24_0 : DmaSem sig := 41
abbrev cc0_sem25_0 : DmaSem sig := 42
abbrev cc0_sem26_0 : DmaSem sig := 43

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x308x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x384x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S2560x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S384x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256x512 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== PreKernelIdeal.lean ====
variable {F : FTy → Type} [FloatOps F] [Named F]
def κ : String → Option EReal := fun
  | "q_scale" => some (((Real.log 2)⁻¹ * (Real.sqrt 96)⁻¹ : ℝ) : EReal)
  | "swa_scale" => some (((Real.log 2)⁻¹ * 8⁻¹ : ℝ) : EReal)
  | _ => none
-- ==== PreReferenceIdeal.lean ====
abbrev S4x2048x1024 : Shape := ⟨3, ![4, 2048, 1024]⟩
abbrev S4x2048 : Shape := ⟨2, ![4, 2048]⟩
abbrev S4x1024 : Shape := ⟨2, ![4, 1024]⟩
abbrev S1024 : Shape := ⟨1, ![1024]⟩
abbrev S1024x2464 : Shape := ⟨2, ![1024, 2464]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S4x2048x1 : Shape := ⟨3, ![4, 2048, 1]⟩
abbrev S16 : Shape := ⟨1, ![16]⟩
abbrev S1x1x16 : Shape := ⟨3, ![1, 1, 16]⟩
abbrev S4x2048x16 : Shape := ⟨3, ![4, 2048, 16]⟩
abbrev S1x1x1024 : Shape := ⟨3, ![1, 1, 1024]⟩
abbrev S4x1x1024 : Shape := ⟨3, ![4, 1, 1024]⟩
abbrev S4x2048x2464 : Shape := ⟨3, ![4, 2048, 2464]⟩
abbrev S4x2048x384 : Shape := ⟨3, ![4, 2048, 384]⟩
abbrev S4x2048x256 : Shape := ⟨3, ![4, 2048, 256]⟩
abbrev S4x2048x32 : Shape := ⟨3, ![4, 2048, 32]⟩
abbrev S4x2048x512 : Shape := ⟨3, ![4, 2048, 512]⟩
abbrev S4x2048x128 : Shape := ⟨3, ![4, 2048, 128]⟩
abbrev S1x1x384 : Shape := ⟨3, ![1, 1, 384]⟩
abbrev S4x2048x768 : Shape := ⟨3, ![4, 2048, 768]⟩
abbrev S4x2048x8x96 : Shape := ⟨4, ![4, 2048, 8, 96]⟩
abbrev S4x2048x8x64 : Shape := ⟨4, ![4, 2048, 8, 64]⟩
abbrev S4x2048x8x32 : Shape := ⟨4, ![4, 2048, 8, 32]⟩
abbrev S4x2048x1x16 : Shape := ⟨4, ![4, 2048, 1, 16]⟩
abbrev S4x2048x8x16 : Shape := ⟨4, ![4, 2048, 8, 16]⟩
abbrev S1x1x256 : Shape := ⟨3, ![1, 1, 256]⟩
abbrev S4x2048x8x128 : Shape := ⟨4, ![4, 2048, 8, 128]⟩
abbrev S4x2048x1x32 : Shape := ⟨4, ![4, 2048, 1, 32]⟩
abbrev S2464x1024 : Shape := ⟨2, ![2464, 1024]⟩
abbrev S640x1024 : Shape := ⟨2, ![640, 1024]⟩
abbrev S64x1024 : Shape := ⟨2, ![64, 1024]⟩
abbrev S32x1024 : Shape := ⟨2, ![32, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S2560x1024 : Shape := ⟨2, ![2560, 1024]⟩
abbrev S256x8x128 : Shape := ⟨3, ![256, 8, 128]⟩
abbrev S8192x1024 : Shape := ⟨2, ![8192, 1024]⟩
abbrev S8192x384 : Shape := ⟨2, ![8192, 384]⟩
abbrev S8192x256 : Shape := ⟨2, ![8192, 256]⟩
abbrev S8192x512 : Shape := ⟨2, ![8192, 512]⟩
abbrev S8192x2x4x64 : Shape := ⟨4, ![8192, 2, 4, 64]⟩
abbrev S8192x4x2x64 : Shape := ⟨4, ![8192, 4, 2, 64]⟩
abbrev S8192x128 : Shape := ⟨2, ![8192, 128]⟩
abbrev S384x8x96 : Shape := ⟨3, ![384, 8, 96]⟩
abbrev S384x8x128 : Shape := ⟨3, ![384, 8, 128]⟩
abbrev S384x1024 : Shape := ⟨2, ![384, 1024]⟩
abbrev S256x8x64 : Shape := ⟨3, ![256, 8, 64]⟩
abbrev S256x512 : Shape := ⟨2, ![256, 512]⟩

abbrev nBuf : Space → Nat
  | .hbm => 215
  | .vmem => 0
  | .smem => 0
  | _ => 0

abbrev hbmTy0_0 (i : Nat) : BufTy := match i % 128 with
  | 0 => ⟨S4x2048x1024, .f32⟩
  | 1 => ⟨S4x2048, .i32⟩
  | 2 => ⟨S4x1024, .f32⟩
  | 3 => ⟨S4x1024, .f32⟩
  | 4 => ⟨S1024, .f32⟩
  | 5 => ⟨S1024x2464, .f32⟩
  | 6 => ⟨S384, .f32⟩
  | 7 => ⟨S256, .f32⟩
  | 8 => ⟨S384x768, .f32⟩
  | 9 => ⟨S256x1024, .f32⟩
  | 10 => ⟨S_, .f32⟩
  | 11 => ⟨S_, .f32⟩
  | 12 => ⟨S_, .f32⟩
  | 13 => ⟨S_, .f32⟩
  | 14 => ⟨S4x2048, .f32⟩
  | 15 => ⟨S4x2048x1, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S1x1x16, .f32⟩
  | 31 => ⟨S4x2048x16, .f32⟩
  | 32 => ⟨S4x2048x16, .f32⟩
  | 33 => ⟨S4x2048x16, .f32⟩
  | 34 => ⟨S4x2048x16, .f32⟩
  | 35 => ⟨S4x2048x16, .f32⟩
  | 36 => ⟨S4x2048x1024, .f32⟩
  | 37 => ⟨S_, .f32⟩
  | 38 => ⟨S4x2048, .f32⟩
  | 39 => ⟨S4x2048x1, .f32⟩
  | 40 => ⟨S_, .f32⟩
  | 41 => ⟨S4x2048x1, .f32⟩
  | 42 => ⟨S4x2048x1, .f32⟩
  | 43 => ⟨S_, .f32⟩
  | 44 => ⟨S4x2048x1, .f32⟩
  | 45 => ⟨S4x2048x1, .f32⟩
  | 46 => ⟨S4x2048x1, .f32⟩
  | 47 => ⟨S4x2048x1024, .f32⟩
  | 48 => ⟨S4x2048x1024, .f32⟩
  | 49 => ⟨S1x1x1024, .f32⟩
  | 50 => ⟨S4x2048x1024, .f32⟩
  | 51 => ⟨S4x2048x1024, .f32⟩
  | 52 => ⟨S4x1x1024, .f32⟩
  | 53 => ⟨S_, .f32⟩
  | 54 => ⟨S4x1x1024, .f32⟩
  | 55 => ⟨S4x1x1024, .f32⟩
  | 56 => ⟨S4x2048x1024, .f32⟩
  | 57 => ⟨S4x2048x1024, .f32⟩
  | 58 => ⟨S4x1x1024, .f32⟩
  | 59 => ⟨S4x2048x1024, .f32⟩
  | 60 => ⟨S4x2048x1024, .f32⟩
  | 61 => ⟨S4x2048x2464, .f32⟩
  | 62 => ⟨S4x2048x384, .f32⟩
  | 63 => ⟨S4x2048x256, .f32⟩
  | 64 => ⟨S4x2048x32, .f32⟩
  | 65 => ⟨S4x2048x512, .f32⟩
  | 66 => ⟨S4x2048x512, .f32⟩
  | 67 => ⟨S4x2048x128, .f32⟩
  | 68 => ⟨S4x2048x128, .f32⟩
  | 69 => ⟨S4x2048x512, .f32⟩
  | 70 => ⟨S4x2048x384, .f32⟩
  | 71 => ⟨S_, .f32⟩
  | 72 => ⟨S4x2048, .f32⟩
  | 73 => ⟨S4x2048x1, .f32⟩
  | 74 => ⟨S_, .f32⟩
  | 75 => ⟨S4x2048x1, .f32⟩
  | 76 => ⟨S4x2048x1, .f32⟩
  | 77 => ⟨S_, .f32⟩
  | 78 => ⟨S4x2048x1, .f32⟩
  | 79 => ⟨S4x2048x1, .f32⟩
  | 80 => ⟨S4x2048x1, .f32⟩
  | 81 => ⟨S4x2048x384, .f32⟩
  | 82 => ⟨S4x2048x384, .f32⟩
  | 83 => ⟨S1x1x384, .f32⟩
  | 84 => ⟨S4x2048x384, .f32⟩
  | 85 => ⟨S4x2048x384, .f32⟩
  | 86 => ⟨S4x2048x768, .f32⟩
  | 87 => ⟨S4x2048x8x96, .f32⟩
  | 88 => ⟨S4x2048x8x64, .f32⟩
  | 89 => ⟨S4x2048x8x32, .f32⟩
  | 90 => ⟨S4x2048x1x16, .f32⟩
  | 91 => ⟨S4x2048x1x16, .f32⟩
  | 92 => ⟨S4x2048x8x16, .f32⟩
  | 93 => ⟨S4x2048x8x16, .f32⟩
  | 94 => ⟨S4x2048x8x16, .f32⟩
  | 95 => ⟨S4x2048x8x16, .f32⟩
  | 96 => ⟨S4x2048x8x16, .f32⟩
  | 97 => ⟨S4x2048x8x16, .f32⟩
  | 98 => ⟨S4x2048x8x16, .f32⟩
  | 99 => ⟨S4x2048x8x16, .f32⟩
  | 100 => ⟨S4x2048x8x16, .f32⟩
  | 101 => ⟨S4x2048x8x16, .f32⟩
  | 102 => ⟨S4x2048x8x16, .f32⟩
  | 103 => ⟨S4x2048x8x16, .f32⟩
  | 104 => ⟨S4x2048x8x32, .f32⟩
  | 105 => ⟨S4x2048x8x96, .f32⟩
  | 106 => ⟨S4x2048x256, .f32⟩
  | 107 => ⟨S_, .f32⟩
  | 108 => ⟨S4x2048, .f32⟩
  | 109 => ⟨S4x2048x1, .f32⟩
  | 110 => ⟨S_, .f32⟩
  | 111 => ⟨S4x2048x1, .f32⟩
  | 112 => ⟨S4x2048x1, .f32⟩
  | 113 => ⟨S_, .f32⟩
  | 114 => ⟨S4x2048x1, .f32⟩
  | 115 => ⟨S4x2048x1, .f32⟩
  | 116 => ⟨S4x2048x1, .f32⟩
  | 117 => ⟨S4x2048x256, .f32⟩
  | 118 => ⟨S4x2048x256, .f32⟩
  | 119 => ⟨S1x1x256, .f32⟩
  | 120 => ⟨S4x2048x256, .f32⟩
  | 121 => ⟨S4x2048x256, .f32⟩
  | 122 => ⟨S4x2048x1024, .f32⟩
  | 123 => ⟨S4x2048x8x128, .f32⟩
  | 124 => ⟨S4x2048x16, .f32⟩
  | 125 => ⟨S4x2048x16, .f32⟩
  | 126 => ⟨S4x2048x16, .f32⟩
  | 127 => ⟨S4x2048x16, .f32⟩
  | _ => ⟨S4x2048x1024, .f32⟩

abbrev hbmTy0_1 (i : Nat) : BufTy := match i % 128 with
  | 0 => ⟨S4x2048x16, .f32⟩
  | 1 => ⟨S4x2048x16, .f32⟩
  | 2 => ⟨S4x2048x16, .f32⟩
  | 3 => ⟨S4x2048x16, .f32⟩
  | 4 => ⟨S4x2048x32, .f32⟩
  | 5 => ⟨S4x2048x1x32, .f32⟩
  | 6 => ⟨S4x2048x8x32, .f32⟩
  | 7 => ⟨S4x2048x8x64, .f32⟩
  | 8 => ⟨S4x2048x8x96, .f32⟩
  | 9 => ⟨S2464x1024, .f32⟩
  | 10 => ⟨S640x1024, .f32⟩
  | 11 => ⟨S_, .f32⟩
  | 12 => ⟨S64x1024, .f32⟩
  | 13 => ⟨S32x1024, .f32⟩
  | 14 => ⟨S_, .f32⟩
  | 15 => ⟨S32x1024, .f32⟩
  | 16 => ⟨S512x1024, .f32⟩
  | 17 => ⟨S512x1024, .f32⟩
  | 18 => ⟨S2x4x64x1024, .f32⟩
  | 19 => ⟨S4x2x64x1024, .f32⟩
  | 20 => ⟨S512x1024, .f32⟩
  | 21 => ⟨S256x1024, .f32⟩
  | 22 => ⟨S512x1024, .f32⟩
  | 23 => ⟨S2x4x64x1024, .f32⟩
  | 24 => ⟨S4x2x64x1024, .f32⟩
  | 25 => ⟨S512x1024, .f32⟩
  | 26 => ⟨S2560x1024, .f32⟩
  | 27 => ⟨S256x8x128, .f32⟩
  | 28 => ⟨S8192x1024, .f32⟩
  | 29 => ⟨S8192x1024, .bf16⟩
  | 30 => ⟨S8192x384, .f32⟩
  | 31 => ⟨S8192x256, .f32⟩
  | 32 => ⟨S8192x384, .f32⟩
  | 33 => ⟨S8192x384, .bf16⟩
  | 34 => ⟨S8192x256, .f32⟩
  | 35 => ⟨S8192x256, .bf16⟩
  | 36 => ⟨S_, .f32⟩
  | 37 => ⟨S_, .f32⟩
  | 38 => ⟨S_, .f32⟩
  | 39 => ⟨S4x2048x8x96, .f32⟩
  | 40 => ⟨S4x2048x8x96, .f32⟩
  | 41 => ⟨S_, .i32⟩
  | 42 => ⟨S_, .f32⟩
  | 43 => ⟨S4x2048x8x128, .f32⟩
  | 44 => ⟨S8192x1024, .f32⟩
  | 45 => ⟨S8192x1024, .bf16⟩
  | 46 => ⟨S_, .i32⟩
  | 47 => ⟨S_, .f32⟩
  | 48 => ⟨S4x2048x8x128, .f32⟩
  | 49 => ⟨S8192x1024, .f32⟩
  | 50 => ⟨S8192x1024, .bf16⟩
  | 51 => ⟨S4x2048x8x64, .f32⟩
  | 52 => ⟨S8192x512, .f32⟩
  | 53 => ⟨S8192x512, .bf16⟩
  | 54 => ⟨S8192x2x4x64, .f32⟩
  | 55 => ⟨S8192x4x2x64, .f32⟩
  | 56 => ⟨S8192x512, .f32⟩
  | 57 => ⟨S_, .f32⟩
  | 58 => ⟨S_, .f32⟩
  | 59 => ⟨S8192x512, .f32⟩
  | 60 => ⟨S8192x512, .f32⟩
  | 61 => ⟨S8192x512, .bf16⟩
  | 62 => ⟨S8192x128, .f32⟩
  | 63 => ⟨S8192x128, .bf16⟩
  | 64 => ⟨S8192x128, .f32⟩
  | 65 => ⟨S8192x128, .bf16⟩
  | 66 => ⟨S8192x512, .f32⟩
  | 67 => ⟨S8192x2x4x64, .f32⟩
  | 68 => ⟨S8192x4x2x64, .f32⟩
  | 69 => ⟨S8192x512, .f32⟩
  | 70 => ⟨S8192x1024, .f32⟩
  | 71 => ⟨S2560x1024, .bf16⟩
  | 72 => ⟨S384x8x96, .f32⟩
  | 73 => ⟨S_, .i32⟩
  | 74 => ⟨S_, .f32⟩
  | 75 => ⟨S384x8x128, .f32⟩
  | 76 => ⟨S384x1024, .f32⟩
  | 77 => ⟨S384x1024, .bf16⟩
  | 78 => ⟨S256x8x64, .f32⟩
  | 79 => ⟨S_, .i32⟩
  | 80 => ⟨S_, .f32⟩
  | 81 => ⟨S256x8x128, .f32⟩
  | 82 => ⟨S256x1024, .f32⟩
  | 83 => ⟨S256x1024, .bf16⟩
  | 84 => ⟨S256x8x64, .f32⟩
  | 85 => ⟨S256x512, .f32⟩
  | 86 => ⟨S256x512, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_15 : Ref sig .tc := ⟨.hbm, 139, rfl⟩
abbrev main_v113 : Ref sig .tc := ⟨.hbm, 140, rfl⟩
abbrev main_v114 : Ref sig .tc := ⟨.hbm, 141, rfl⟩
abbrev main_cst_16 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_17 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_c : Ref sig .tc := ⟨.hbm, 169, rfl⟩
abbrev main_call0_v0 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_c_18 : Ref sig .tc := ⟨.hbm, 174, rfl⟩
abbrev main_call1_v0 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_19 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_c_20 : Ref sig .tc := ⟨.hbm, 201, rfl⟩
abbrev main_call2_v0 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_c_21 : Ref sig .tc := ⟨.hbm, 207, rfl⟩
abbrev main_call3_v0 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩

abbrev nD : Nat := 1
abbrev τ : Topo := Topo.v7x

variable {F : FTy → Type} [FloatOps F]
-- ==== Proof.Frames.lean ====
/- What each program does to its arguments and counters, and the named constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Frames

/-- The reference ends with its arguments unchanged and every counter at zero: its run, and it has no semaphore. -/
theorem reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The one constant of the body that is named: the float nearest to log 2 is read as log 2. -/
theorem preserves : Cert.preserves_Kernel_KernelIdeal :=
  IdealRules.named_const.statement Cert.KernelIdeal.κ "ln2" .f32 0x3F317218#32 ((Real.log 2 : ℝ) : EReal) rfl

end Cert.Proof.Frames

end
-- ==== Proof.Stages.lean ====
/- The attention and its gradient as the reference computes them, in named stages. -/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Proof.Stages

open Cert.ReferenceIdeal Cert.ReferenceIdeal.Gen Idealize.ShloMosaic Idealize.ShloMosaic.TcCoe Idealize.ShloMosaic.Tactic Idealize.SL.Sem

variable (A0 A1 : FVec Ideal S4x2048x8x96 .f32) (A2 : FVec Ideal S4x2048x8x64 .f32) (A3 : FVec Ideal S4x2048x1024 .f32)

/-- The lanes without positions. -/
def nope (A : FVec Ideal S4x2048x8x96 .f32) : FVec Ideal S4x2048x8x64 .f32 := extractStridedSlice S4x2048x8x64 ![0, 0, 0, 0] A slices_S4x2048x8x96_S4x2048x8x64_0_0_0_0

/-- The lanes with positions. -/
def rope (A : FVec Ideal S4x2048x8x96 .f32) : FVec Ideal S4x2048x8x32 .f32 := extractStridedSlice S4x2048x8x32 ![0, 0, 0, 64] A slices_S4x2048x8x96_S4x2048x8x32_0_0_0_64

/-- The scores' scale, everywhere. -/
def scale : FVec Ideal S4x8x2048x2048 .f32 := broadcastInDim S4x8x2048x2048 ![] bcast_S_S4x8x2048x2048 (constant (F := Ideal) S_ .f32 0x3DD105EC#32)

/-- The scores. -/
def scores : FVec Ideal S4x8x2048x2048 .f32 :=
  mulf (addf (Host.dotGeneral (F := Ideal) dot_S4x2048x8x64_S4x2048x8x64_S4x8x2048x2048_3_3_1_1_02_02 none (nope A0) (nope A1))
    (Host.dotGeneral (F := Ideal) dot_S4x2048x8x32_S4x2048x8x32_S4x8x2048x2048_3_3_1_1_02_02 none (rope A0) (rope A1))) scale

/-- The keys a query may see. -/
def seen : IVec S4x8x2048x2048 1 := broadcastInDim S4x8x2048x2048 ![2, 3] bcast_S2048x2048_S4x8x2048x2048_2_3
  (cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

/-- Minus infinity. -/
def ninf : FVec Ideal S_ .f32 := constant (F := Ideal) S_ .f32 0xFF800000#32

/-- Zero. -/
def zer : FVec Ideal S_ .f32 := constant (F := Ideal) S_ .f32 0x00000000#32

/-- The scores of the keys seen. -/
def masked : FVec Ideal S4x8x2048x2048 .f32 := select seen (scores A0 A1) (broadcastInDim S4x8x2048x2048 ![] bcast_S_S4x8x2048x2048 ninf)

/-- Each row's greatest score. -/
def rowMax : FVec Ideal S4x8x2048 .f32 := Host.reduce FloatOps.maximumf (masked A0 A1) ninf reducesTo_S4x8x2048x2048_S4x8x2048_d3 h_S_

/-- Each row's shift. -/
def shift : FVec Ideal S4x8x2048 .f32 := maximumf (broadcastInDim S4x8x2048 ![] bcast_S_S4x8x2048 ninf) (rowMax A0 A1)

/-- A column. -/
def col (x : FVec Ideal S4x8x2048 .f32) : FVec Ideal S4x8x2048x1 .f32 := broadcastInDim S4x8x2048x1 ![0, 1, 2] bcast_S4x8x2048_S4x8x2048x1_0_1_2 x

/-- A column along the keys. -/
def wide (x : FVec Ideal S4x8x2048x1 .f32) : FVec Ideal S4x8x2048x2048 .f32 := broadcastInDim S4x8x2048x2048 ![0, 1, 2, 3] bcast_S4x8x2048x1_S4x8x2048x2048_0_1_2_3 x

/-- The exponentials of the shifted scores. -/
def exps (x : FVec Ideal S4x8x2048 .f32) : FVec Ideal S4x8x2048x2048 .f32 := Host.exp (F := Ideal) (subf (masked A0 A1) (wide (col x)))

/-- A row's sum. -/
def rowSum (x : FVec Ideal S4x8x2048x2048 .f32) : FVec Ideal S4x8x2048 .f32 := Host.reduceAdd (F := Ideal) x zer reducesTo_S4x8x2048x2048_S4x8x2048_d3 h_S_

/-- The denominators. -/
def denom : FVec Ideal S4x8x2048x1 .f32 := col (rowSum (exps A0 A1 (shift A0 A1)))

/-- The attention weights. -/
def probs : FVec Ideal S4x8x2048x2048 .f32 := Host.divf (F := Ideal) (exps A0 A1 (shift A0 A1)) (wide (denom A0 A1))

/-- The output's gradient by head. -/
def cot : FVec Ideal S4x8x64x2048 .f32 := transpose S4x8x64x2048 [0, 2, 3, 1]
  (shapeCast S4x2048x8x64 (extractStridedSlice S4x2048x512 ![0, 0, 0] A3 slices_S4x2048x1024_S4x2048x512_0_0_0) shapeCasts_S4x2048x512_S4x2048x8x64)
  transposes_S4x2048x8x64_S4x8x64x2048_0_2_3_1

/-- The gradient of the values. -/
def dv : FVec Ideal S4x2048x512 .bf16 := truncf .bf16 (shapeCast S4x2048x512 (transpose S4x2048x8x64 [0, 3, 1, 2]
  (Host.dotGeneral (F := Ideal) dot_S4x8x64x2048_S4x8x2048x2048_S4x8x64x2048_3_2_2_3_01_01 none (cot A3) (probs A0 A1)) transposes_S4x8x64x2048_S4x2048x8x64_0_3_1_2)
  shapeCasts_S4x2048x8x64_S4x2048x512) bitsLt_bf16_f32

/-- The gradient of the weights. -/
def dprobs : FVec Ideal S4x8x2048x2048 .f32 := Host.dotGeneral (F := Ideal) dot_S4x8x64x2048_S4x2048x8x64_S4x8x2048x2048_2_3_3_1_01_02 none (cot A3) A2

/-- The denominators' inverse squares. -/
def invSq : FVec Ideal S4x8x2048x1 .f32 := Host.divf (F := Ideal) (broadcastInDim S4x8x2048x1 ![] bcast_S_S4x8x2048x1 (constant (F := Ideal) S_ .f32 0x3F800000#32))
  (mulf (denom A0 A1) (denom A0 A1))

/-- The denominators' gradient. -/
def ddenom : FVec Ideal S4x8x2048 .f32 :=
  Host.reduceAdd (F := Ideal) (Host.negf (F := Ideal) (shapeCast S4x8x2048x1 (rowSum (mulf (mulf (dprobs A2 A3) (wide (invSq A0 A1))) (exps A0 A1 (shift A0 A1)))) shapeCasts_S4x8x2048_S4x8x2048x1))
    zer reducesTo_S4x8x2048x1_S4x8x2048_d3 h_S_

/-- The exponentials' gradient times the exponentials. -/
def dexps : FVec Ideal S4x8x2048x2048 .f32 :=
  mulf (addf (Host.divf (F := Ideal) (dprobs A2 A3) (wide (denom A0 A1))) (broadcastInDim S4x8x2048x2048 ![0, 1, 2] bcast_S4x8x2048_S4x8x2048x2048_0_1_2 (ddenom A0 A1 A2 A3)))
    (exps A0 A1 (shift A0 A1))

/-- The scores' gradient. -/
def dscores : FVec Ideal S4x8x2048x2048 .f32 :=
  mulf (select seen (dexps A0 A1 A2 A3) (broadcastInDim S4x8x2048x2048 ![] bcast_S_S4x8x2048x2048 zer)) scale

/-- Both parts of a gradient side by side. -/
def join (x : FVec Ideal S4x2048x8x32 .f32) (y : FVec Ideal S4x2048x8x64 .f32) : FVec Ideal S4x2048x8x96 .f32 :=
  addf (pad S4x2048x8x96 ![0, 0, 0, 64] ![0, 0, 0, 0] ![0, 0, 0, 0] x zer pads_S4x2048x8x32_S4x2048x8x96_000_000_000_6400 h_S_)
    (pad S4x2048x8x96 ![0, 0, 0, 0] ![0, 0, 0, 32] ![0, 0, 0, 0] y zer pads_S4x2048x8x64_S4x2048x8x96_000_000_000_0320 h_S_)

/-- Each head in a slot of its own. -/
def slots (x : FVec Ideal S4x2048x8x96 .f32) : FVec Ideal S4x2048x1024 .bf16 :=
  truncf .bf16 (shapeCast S4x2048x1024 (pad S4x2048x8x128 ![0, 0, 0, 0] ![0, 0, 0, 32] ![0, 0, 0, 0] x (sitofp (F := Ideal) .f32 (constantI S_ 32 0#32))
    pads_S4x2048x8x96_S4x2048x8x128_000_000_000_0320 h_S_) shapeCasts_S4x2048x8x128_S4x2048x1024) bitsLt_bf16_f32

/-- The gradient of the queries. -/
def dq : FVec Ideal S4x2048x1024 .bf16 := slots (join
  (transpose S4x2048x8x32 [0, 2, 1, 3] (Host.dotGeneral (F := Ideal) dot_S4x8x2048x2048_S4x2048x8x32_S4x8x2048x32_3_1_2_3_01_02 none (dscores A0 A1 A2 A3) (rope A1)) transposes_S4x8x2048x32_S4x2048x8x32_0_2_1_3)
  (transpose S4x2048x8x64 [0, 2, 1, 3] (Host.dotGeneral (F := Ideal) dot_S4x8x2048x2048_S4x2048x8x64_S4x8x2048x64_3_1_2_3_01_02 none (dscores A0 A1 A2 A3) (nope A1)) transposes_S4x8x2048x64_S4x2048x8x64_0_2_1_3))

/-- The gradient of the keys. -/
def dk : FVec Ideal S4x2048x1024 .bf16 := slots (join
  (transpose S4x2048x8x32 [0, 2, 1, 3] (Host.dotGeneral (F := Ideal) dot_S4x8x2048x2048_S4x2048x8x32_S4x8x2048x32_2_1_3_3_01_02 none (dscores A0 A1 A2 A3) (rope A0)) transposes_S4x8x2048x32_S4x2048x8x32_0_2_1_3)
  (transpose S4x2048x8x64 [0, 2, 1, 3] (Host.dotGeneral (F := Ideal) dot_S4x8x2048x2048_S4x2048x8x64_S4x8x2048x64_2_1_3_3_01_02 none (dscores A0 A1 A2 A3) (nope A0)) transposes_S4x8x2048x64_S4x2048x8x64_0_2_1_3))

variable (m : (ℓ : Loc nD τ sig) → Buf (Elt Ideal) ℓ) (c : Dev nD)

/-- The reference's first result. -/
theorem ref_dq : Value.res_main_v84 (F := Ideal) m c = dq (m ((c.tc : Thread nD τ).loc main_arg0)) (m ((c.tc : Thread nD τ).loc main_arg1)) (m ((c.tc : Thread nD τ).loc main_arg2)) (m ((c.tc : Thread nD τ).loc main_arg3)) := by
  sl_kernel_rfl

/-- The reference's second result. -/
theorem ref_dk : Value.res_main_v87 (F := Ideal) m c = dk (m ((c.tc : Thread nD τ).loc main_arg0)) (m ((c.tc : Thread nD τ).loc main_arg1)) (m ((c.tc : Thread nD τ).loc main_arg2)) (m ((c.tc : Thread nD τ).loc main_arg3)) := by
  sl_kernel_rfl

/-- The reference's third result. -/
theorem ref_dv : Value.res_main_v89 (F := Ideal) m c = dv (m ((c.tc : Thread nD τ).loc main_arg0)) (m ((c.tc : Thread nD τ).loc main_arg1)) (m ((c.tc : Thread nD τ).loc main_arg3)) := by
  sl_kernel_rfl

end Cert.Proof.Stages
end
-- ==== Proof.Operands.lean ====
/- What the kernel's operands are, in the reference's stages. -/
module

public import proofs.«01_k».proof.Proof.Stages
public import proofs.«01_k».proof.Proof.Gen.KernelIdeal.Value
public import Idealize.ShloMosaic.Lib.Claim

@[expose] public section

set_option maxRecDepth 16384

noncomputable section

namespace Cert.Proof.Stages

section
open Cert.KernelIdeal Cert.KernelIdeal.Gen Idealize.ShloMosaic Idealize.ShloMosaic.TcCoe

variable (A0 A1 : FVec Ideal S4x2048x8x96 .f32) (A2 : FVec Ideal S4x2048x8x64 .f32)

/-- The reciprocal of the logarithm of two. -/
def invLn : FVec Ideal S_ .f32 := Host.divf (F := Ideal) (constant (F := Ideal) S_ .f32 0x3F800000#32) (Host.log (F := Ideal) (constant (F := Ideal) S_ .f32 0x40000000#32))

/-- The queries, scaled. -/
def opScaled : FVec Ideal S4x2048x8x96 .f32 := mulf A0 (broadcastInDim S4x2048x8x96 ![] bcast_S_S4x2048x8x96 (mulf (constant (F := Ideal) S_ .f32 0x3DD105EC#32) invLn))

/-- The values in pairs of heads. -/
def opV : FVec Ideal S4x2048x512 .bf16 := truncf .bf16 (shapeCast S4x2048x512 A2 shapeCasts_S4x2048x8x64_S4x2048x512) bitsLt_bf16_f32

/-- The attention's output. -/
def opO : FVec Ideal S4x2048x512 .f32 := shapeCast S4x2048x512 (transpose S4x2048x8x64 [0, 3, 1, 2]
  (Host.dotGeneral (F := Ideal) dot_S4x2048x8x64_S4x8x2048x2048_S4x8x64x2048_1_3_3_2_02_01 none A2 (probs A0 A1)) transposes_S4x8x64x2048_S4x2048x8x64_0_3_1_2)
  shapeCasts_S4x2048x8x64_S4x2048x512

/-- The rows' log-sums. -/
def opLse : FVec Ideal S4x8x2048x128 .f32 := broadcastInDim S4x8x2048x128 ![0, 1, 2, 3] bcast_S4x8x2048x1_S4x8x2048x128_0_1_2_3
  (mulf (addf (col (rowMax A0 A1)) (Host.log (F := Ideal) (col (rowSum (exps A0 A1 (rowMax A0 A1)))))) (broadcastInDim S4x8x2048x1 ![] bcast_S_S4x8x2048x1 invLn))
end

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

set_option maxHeartbeats 4000000 in
/-- The query operand. -/
theorem V_q : V m c main_v47 = slots (opScaled (m ((c.tc : Thread nD τ).loc main_arg0))) := by
  simp only [V, List.flatten_cons, List.flatten_nil, List.append_nil, hostOps0, hostOps0_1, hostOps0_2, hostOps0_3, hostOps0_4, hostOps0_5, hostOps0_6, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

set_option maxHeartbeats 4000000 in
/-- The key operand. -/
theorem V_k : V m c main_v50 = slots (m ((c.tc : Thread nD τ).loc main_arg1)) := by
  simp only [V, List.flatten_cons, List.flatten_nil, List.append_nil, hostOps0, hostOps0_1, hostOps0_2, hostOps0_3, hostOps0_4, hostOps0_5, hostOps0_6, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

set_option maxHeartbeats 4000000 in
/-- The value operand. -/
theorem V_v : V m c main_v52 = opV (m ((c.tc : Thread nD τ).loc main_arg2)) := by
  simp only [V, List.flatten_cons, List.flatten_nil, List.append_nil, hostOps0, hostOps0_1, hostOps0_2, hostOps0_3, hostOps0_4, hostOps0_5, hostOps0_6, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

set_option maxHeartbeats 4000000 in
/-- The output operand. -/
theorem V_o : V m c main_v53 = opO (m ((c.tc : Thread nD τ).loc main_arg0)) (m ((c.tc : Thread nD τ).loc main_arg1)) (m ((c.tc : Thread nD τ).loc main_arg2)) := by
  simp only [V, List.flatten_cons, List.flatten_nil, List.append_nil, hostOps0, hostOps0_1, hostOps0_2, hostOps0_3, hostOps0_4, hostOps0_5, hostOps0_6, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

set_option maxHeartbeats 4000000 in
/-- The log-sum operand. -/
theorem V_l : V m c main_v54 = opLse (m ((c.tc : Thread nD τ).loc main_arg0)) (m ((c.tc : Thread nD τ).loc main_arg1)) := by
  simp only [V, List.flatten_cons, List.flatten_nil, List.append_nil, hostOps0, hostOps0_1, hostOps0_2, hostOps0_3, hostOps0_4, hostOps0_5, hostOps0_6, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

end Cert.Proof.Stages
end
-- ==== Proof.Tiles.lean ====
/- The kernel's body as tiles: what it computes for query tile `i`, key tile `k` and head `j` of a grid point's block, and
   that the pieces the run finds are these tiles. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Proof.Tiles

open Cert.KernelIdeal Cert.KernelIdeal.Gen Idealize.ShloMosaic Idealize.ShloMosaic.TcCoe Idealize.SL.Sem

/-! ## The rectangles -/

/-- The pair of heads that head `j` of the group belongs to. -/
def pairOf (j : Fin 4) : Fin 2 := ⟨j.val / 2, by omega⟩

/-- Rows of tile `i`, lanes of head `j`. -/
abbrev rHead (i j : Fin 4) : Rect S1x2048x512 :=
  Rect.unit ![0, 512 * i.val, 128 * j.val] S1x512x128.size (by intro a; fin_cases a <;> simp [S1x2048x512, S1x512x128] <;> omega)

/-- Rows of tile `i`, lanes of pair `t`. -/
abbrev rPair (i : Fin 4) (t : Fin 2) : Rect S1x2048x256 :=
  Rect.unit ![0, 512 * i.val, 128 * t.val] S1x512x128.size (by intro a; fin_cases a <;> simp [S1x2048x256, S1x512x128] <;> omega)

/-- Head `j`, rows of tile `i`. -/
abbrev rRow (j i : Fin 4) : Rect S1x4x2048x128 :=
  Rect.unit ![0, j.val, 512 * i.val, 0] S1x1x512x128.size (by intro a; fin_cases a <;> simp [S1x4x2048x128, S1x1x512x128] <;> omega)

/-- The key gradient's scratch tile of head `j` and key tile `k`. -/
abbrev rDk (j k : Fin 4) : Rect S4x4x128x512 :=
  Rect.unit ![j.val, k.val, 0, 0] S1x1x128x512.size (by intro a; fin_cases a <;> simp [S4x4x128x512, S1x1x128x512] <;> omega)

/-- The value gradient's scratch tile of pair `t` and key tile `k`. -/
abbrev rDv (t : Fin 2) (k : Fin 4) : Rect S2x4x128x512 :=
  Rect.unit ![t.val, k.val, 0, 0] S1x1x128x512.size (by intro a; fin_cases a <;> simp [S2x4x128x512, S1x1x128x512] <;> omega)

/-! ## The tiles -/

variable (X0 X1 : Vec Ideal S1x2048x512 .bf16) (X2 : Vec Ideal S1x2048x256 .bf16) (X3 X4 : Vec Ideal S1x2048x256 .f32)
  (X5 : Vec Ideal S1x4x2048x128 .f32)

/-- A zero tile. -/
def zT : FVec Ideal S512x128 .f32 := broadcast S512x128 (Scalar.ofBits (F := Ideal) .f32 0x00000000#32)

/-- The query tile (or, of the key block, the key tile). -/
def qT (i j : Fin 4) : FVec Ideal S512x128 .bf16 :=
  shapeCast S512x128 (show Vec Ideal S1x512x128 .bf16 from View.ld X0 (rHead i j)) shapeCasts_S1x512x128_S512x128

/-- The query tile transposed. -/
def qtT (i j : Fin 4) : FVec Ideal S128x512 .bf16 :=
  truncf .bf16 (transpose S128x512 [1, 0] (extf .f32 (qT X0 i j) bitsLt_bf16_f32) transposes_S512x128_p1_0_S128x512) bitsLt_bf16_f32

/-- The value tile of pair `t`. -/
def vT (k : Fin 4) (t : Fin 2) : FVec Ideal S512x128 .bf16 :=
  shapeCast S512x128 (show Vec Ideal S1x512x128 .bf16 from View.ld X2 (rPair k t)) shapeCasts_S1x512x128_S512x128

/-- A pair's tile of the output (or of its gradient). -/
def oT (i : Fin 4) (t : Fin 2) : FVec Ideal S512x128 .f32 :=
  shapeCast S512x128 (show Vec Ideal S1x512x128 .f32 from View.ld X3 (rPair i t)) shapeCasts_S1x512x128_S512x128

/-- The comparison that keeps head `j`'s half of its pair's lanes. -/
def halfOf (j : Fin 4) : CmpIPredicate := if j.val % 2 = 0 then .slt else .sge

/-- The output gradient's tile, the other head's lanes zero. -/
def doT (i j : Fin 4) : FVec Ideal S512x128 .f32 :=
  select (cmpi (halfOf j) (iota .tc S512x128 32 [1] iota_S512x128_d1_w32) (broadcast S512x128 64#32)) (oT X4 i (pairOf j)) zT

/-- That tile, transposed. -/
def dotT (i j : Fin 4) : FVec Ideal S128x512 .bf16 :=
  truncf .bf16 (transpose S128x512 [1, 0] (doT X4 i j) transposes_S512x128_p1_0_S128x512) bitsLt_bf16_f32

/-- Each row's inner product of output and output gradient. -/
def dcolT (i j : Fin 4) : FVec Ideal S512x1 .f32 :=
  shapeCast S512x1 (multiReduction .add [1] S512 (mulf (doT X4 i j) (oT X3 i (pairOf j))) 0x00000000#32 reduces_S512x128_S512 (.inl rfl) rfl)
    shapeCasts_S512_S512x1

/-- The rows' log-sums. -/
def lseRow (i j : Fin 4) : FVec Ideal S512x128 .f32 :=
  shapeCast S512x128 (show Vec Ideal S1x1x512x128 .f32 from View.ld X5 (rRow j i)) shapeCasts_S1x1x512x128_S512x128

/-- The rows' log-sums, along the keys of a tile. -/
def lseT (i j : Fin 4) : FVec Ideal S512x512 .f32 :=
  concatenate S512x512 1 [⟨S512x128, lseRow X5 i j⟩, ⟨S512x128, lseRow X5 i j⟩, ⟨S512x128, lseRow X5 i j⟩, ⟨S512x128, lseRow X5 i j⟩]
    concatenates_S512x128_S512x128_S512x128_S512x128_S512x512_d1

/-- The scores. -/
def scoreT (i k j : Fin 4) : FVec Ideal S512x512 .f32 :=
  matmul dot_S512x128_S512x128_S512x512_1_1_0_0_n_n none (qT X0 i j) (qT X1 k j) (constant S512x512 .f32 0x00000000#32)

/-- The tile number's rows and lanes counted from the sequence's start, compared. -/
def maskT (i : Fin 4) : IVec S512x512 1 :=
  cmpi .sge (addi (iota .tc S512x512 32 [0] iota_S512x512_d0_w32) (broadcast S512x512 (BitVec.ofNat 32 (512 * i.val))))
    (addi (iota .tc S512x512 32 [1] iota_S512x512_d1_w32) (broadcast S512x512 (BitVec.ofNat 32 (512 * i.val))))

/-- The scores, those of later keys replaced on the diagonal tile. -/
def maskedT (i k j : Fin 4) : FVec Ideal S512x512 .f32 :=
  if k.val = i.val then select (maskT i) (scoreT X0 X1 i k j) (broadcast S512x512 (Scalar.ofBits (F := Ideal) .f32 0xFF800000#32))
  else scoreT X0 X1 i k j

/-- The attention weights. -/
def pT (i k j : Fin 4) : FVec Ideal S512x512 .f32 := exp2 (subf (maskedT X0 X1 i k j) (lseT X5 i j))

/-- The scores' gradient. -/
def dsT (i k j : Fin 4) : FVec Ideal S512x512 .bf16 :=
  truncf .bf16 (mulf (pT X0 X1 X5 i k j) (subf (matmul dot_S512x128_S512x128_S512x512_1_1_0_0_n_n none (truncf .bf16 (doT X4 i j) bitsLt_bf16_f32)
    (vT X2 k (pairOf j)) (constant S512x512 .f32 0x00000000#32)) (broadcastTo S512x512 (dcolT X3 X4 i j) broadcasts_S512x1_S512x512))) bitsLt_bf16_f32

/-- What query tile `i` adds to the key gradient of key tile `k`. -/
def dkT (i k j : Fin 4) : FVec Ideal S128x512 .f32 :=
  matmul dot_S128x512_S512x512_S128x512_1_0_0_1_n_n none (qtT X0 i j) (dsT X0 X1 X2 X3 X4 X5 i k j) (constant S128x512 .f32 0x00000000#32)

/-- What head `j` of query tile `i` adds to the value gradient of key tile `k`. -/
def pvT (i k j : Fin 4) : FVec Ideal S128x512 .f32 :=
  matmul dot_S128x512_S512x512_S128x512_1_0_0_1_n_n none (dotT X4 i j) (truncf .bf16 (pT X0 X1 X5 i k j) bitsLt_bf16_f32) (constant S128x512 .f32 0x00000000#32)

/-- The first and the second head of a pair. -/
def headOf (t : Fin 2) (u : Fin 2) : Fin 4 := ⟨2 * t.val + u.val, by omega⟩

/-- What query tile `i` adds to the value gradient of key tile `k`. -/
def dvT (i k : Fin 4) (t : Fin 2) : FVec Ideal S128x512 .f32 :=
  addf (pvT X0 X1 X4 X5 i k (headOf t 0)) (pvT X0 X1 X4 X5 i k (headOf t 1))

/-- The query gradient of query tile `i`, the key tiles before `n` added up. -/
def dqAcc (i j : Fin 4) : ℕ → FVec Ideal S512x128 .f32
  | 0 => zT
  | n + 1 => if h : n < 4 then addf (dqAcc i j n) (matmul dot_S512x512_S512x128_S512x128_1_0_0_1_n_n none (dsT X0 X1 X2 X3 X4 X5 i ⟨n, h⟩ j) (qT X1 ⟨n, h⟩ j)
      (constant S512x128 .f32 0x00000000#32)) else zT

/-- The tile of the query gradient stored. -/
def dqT (i j : Fin 4) : FVec Ideal S1x512x128 .bf16 :=
  shapeCast S1x512x128 (truncf .bf16 (mulf (broadcast S512x128 (Scalar.ofBits (F := Ideal) .f32 0x3DD105EC#32)) (dqAcc X0 X1 X2 X3 X4 X5 i j (i.val + 1))) bitsLt_bf16_f32)
    shapeCasts_S512x128_S1x512x128

/-- The sixteen stores of the query gradient, the last first. -/
def dqPieces : List (View.Piece (Elt Ideal) S1x2048x512 .bf16) :=
  [⟨rHead 3 3, dqT X0 X1 X2 X3 X4 X5 3 3⟩, ⟨rHead 3 2, dqT X0 X1 X2 X3 X4 X5 3 2⟩, ⟨rHead 3 1, dqT X0 X1 X2 X3 X4 X5 3 1⟩, ⟨rHead 3 0, dqT X0 X1 X2 X3 X4 X5 3 0⟩,
   ⟨rHead 2 3, dqT X0 X1 X2 X3 X4 X5 2 3⟩, ⟨rHead 2 2, dqT X0 X1 X2 X3 X4 X5 2 2⟩, ⟨rHead 2 1, dqT X0 X1 X2 X3 X4 X5 2 1⟩, ⟨rHead 2 0, dqT X0 X1 X2 X3 X4 X5 2 0⟩,
   ⟨rHead 1 3, dqT X0 X1 X2 X3 X4 X5 1 3⟩, ⟨rHead 1 2, dqT X0 X1 X2 X3 X4 X5 1 2⟩, ⟨rHead 1 1, dqT X0 X1 X2 X3 X4 X5 1 1⟩, ⟨rHead 1 0, dqT X0 X1 X2 X3 X4 X5 1 0⟩,
   ⟨rHead 0 3, dqT X0 X1 X2 X3 X4 X5 0 3⟩, ⟨rHead 0 2, dqT X0 X1 X2 X3 X4 X5 0 2⟩, ⟨rHead 0 1, dqT X0 X1 X2 X3 X4 X5 0 1⟩, ⟨rHead 0 0, dqT X0 X1 X2 X3 X4 X5 0 0⟩]

/-! ## The scratch -/

section Scratch
variable (v : View sig .tc .vmem S4x4x128x512 .f32) (w : View sig .tc .vmem S2x4x128x512 .f32)

/-- The store into the key gradient's scratch for query tile `i`, key tile `k`, head `j`, over the stores `L` before it: the
    first at the diagonal, later ones added to what is there. -/
def dkPiece (i k j : Fin 4) (L : List (View.Piece (Elt Ideal) S4x4x128x512 .f32)) : View.Piece (Elt Ideal) S4x4x128x512 .f32 :=
  if k.val = i.val then ⟨rDk j k, show Vec Ideal S1x1x128x512 .f32 from shapeCast S1x1x128x512 (dkT X0 X1 X2 X3 X4 X5 i k j) shapeCasts_S128x512_S1x1x128x512⟩
  else ⟨rDk j k, show Vec Ideal S1x1x128x512 .f32 from shapeCast S1x1x128x512 (addf (shapeCast S128x512 (show Vec Ideal S1x1x128x512 .f32 from v.readCov L (rDk j k).toLoadRect) shapeCasts_S1x1x128x512_S128x512)
    (dkT X0 X1 X2 X3 X4 X5 i k j)) shapeCasts_S128x512_S1x1x128x512⟩

/-- The four heads' stores. -/
def dkHeads (i k : Fin 4) : ℕ → List (View.Piece (Elt Ideal) S4x4x128x512 .f32) → List (View.Piece (Elt Ideal) S4x4x128x512 .f32)
  | 0, L => L
  | n + 1, L => if h : n < 4 then dkPiece X0 X1 X2 X3 X4 X5 v i k ⟨n, h⟩ (dkHeads i k n L) :: dkHeads i k n L else L

/-- The stores of query tile `i` for the key tiles before `n`. -/
def dkKeys (i : Fin 4) : ℕ → List (View.Piece (Elt Ideal) S4x4x128x512 .f32) → List (View.Piece (Elt Ideal) S4x4x128x512 .f32)
  | 0, L => L
  | n + 1, L => if h : n < 4 then dkHeads X0 X1 X2 X3 X4 X5 v i ⟨n, h⟩ 4 (dkKeys i n L) else L

/-- The stores of the query tiles before `n`. -/
def dkAll : ℕ → List (View.Piece (Elt Ideal) S4x4x128x512 .f32)
  | 0 => []
  | n + 1 => if h : n < 4 then dkKeys X0 X1 X2 X3 X4 X5 v ⟨n, h⟩ (n + 1) (dkAll n) else []

/-- The store into the value gradient's scratch. -/
def dvPiece (i k : Fin 4) (t : Fin 2) (L : List (View.Piece (Elt Ideal) S2x4x128x512 .f32)) : View.Piece (Elt Ideal) S2x4x128x512 .f32 :=
  if k.val = i.val then ⟨rDv t k, show Vec Ideal S1x1x128x512 .f32 from shapeCast S1x1x128x512 (dvT X0 X1 X4 X5 i k t) shapeCasts_S128x512_S1x1x128x512⟩
  else ⟨rDv t k, show Vec Ideal S1x1x128x512 .f32 from shapeCast S1x1x128x512 (addf (shapeCast S128x512 (show Vec Ideal S1x1x128x512 .f32 from w.readCov L (rDv t k).toLoadRect) shapeCasts_S1x1x128x512_S128x512)
    (dvT X0 X1 X4 X5 i k t)) shapeCasts_S128x512_S1x1x128x512⟩

/-- The two pairs' stores. -/
def dvPairs (i k : Fin 4) : ℕ → List (View.Piece (Elt Ideal) S2x4x128x512 .f32) → List (View.Piece (Elt Ideal) S2x4x128x512 .f32)
  | 0, L => L
  | n + 1, L => if h : n < 2 then dvPiece X0 X1 X4 X5 w i k ⟨n, h⟩ (dvPairs i k n L) :: dvPairs i k n L else L

/-- The stores of query tile `i` for the key tiles before `n`. -/
def dvKeys (i : Fin 4) : ℕ → List (View.Piece (Elt Ideal) S2x4x128x512 .f32) → List (View.Piece (Elt Ideal) S2x4x128x512 .f32)
  | 0, L => L
  | n + 1, L => if h : n < 4 then dvPairs X0 X1 X4 X5 w i ⟨n, h⟩ 2 (dvKeys i n L) else L

/-- The stores of the query tiles before `n`. -/
def dvAll : ℕ → List (View.Piece (Elt Ideal) S2x4x128x512 .f32)
  | 0 => []
  | n + 1 => if h : n < 4 then dvKeys X0 X1 X4 X5 w ⟨n, h⟩ (n + 1) (dvAll n) else []

end Scratch

/-! ## The stores out of the scratch -/

/-- The stored tile of the key gradient, of what the scratch holds. -/
def outDk (A : Vec Ideal S1x1x128x512 .f32) : FVec Ideal S1x512x128 .bf16 :=
  shapeCast S1x512x128 (truncf .bf16 (mulf (broadcast S512x128 (Named.named (F := Ideal) κ "ln2" 0x3F317218#32))
    (transpose S512x128 [1, 0] (shapeCast S128x512 A shapeCasts_S1x1x128x512_S128x512) transposes_S128x512_p1_0_S512x128)) bitsLt_bf16_f32) shapeCasts_S512x128_S1x512x128

/-- The stored tile of the value gradient, of what the scratch holds. -/
def outDv (A : Vec Ideal S1x1x128x512 .f32) : FVec Ideal S1x512x128 .bf16 :=
  shapeCast S1x512x128 (truncf .bf16
    (transpose S512x128 [1, 0] (shapeCast S128x512 A shapeCasts_S1x1x128x512_S128x512) transposes_S128x512_p1_0_S512x128) bitsLt_bf16_f32) shapeCasts_S512x128_S1x512x128

section Out
variable (v : View sig .tc .vmem S4x4x128x512 .f32) (w : View sig .tc .vmem S2x4x128x512 .f32)
  (L : List (View.Piece (Elt Ideal) S4x4x128x512 .f32)) (M : List (View.Piece (Elt Ideal) S2x4x128x512 .f32))

/-- One store of the key gradient. -/
def dkOutPiece (k j : Fin 4) : View.Piece (Elt Ideal) S1x2048x512 .bf16 := ⟨rHead k j, outDk (v.readCov L (rDk j k).toLoadRect)⟩

/-- The stores of the key gradient for the key tiles before `n`. -/
def dkOut : ℕ → List (View.Piece (Elt Ideal) S1x2048x512 .bf16)
  | 0 => []
  | n + 1 => if h : n < 4 then [dkOutPiece v L ⟨n, h⟩ 3, dkOutPiece v L ⟨n, h⟩ 2, dkOutPiece v L ⟨n, h⟩ 1, dkOutPiece v L ⟨n, h⟩ 0] ++ dkOut n else []

/-- One store of the value gradient. -/
def dvOutPiece (k : Fin 4) (t : Fin 2) : View.Piece (Elt Ideal) S1x2048x256 .bf16 := ⟨rPair k t, outDv (w.readCov M (rDv t k).toLoadRect)⟩

/-- The stores of the value gradient for the key tiles before `n`. -/
def dvOut : ℕ → List (View.Piece (Elt Ideal) S1x2048x256 .bf16)
  | 0 => []
  | n + 1 => if h : n < 4 then [dvOutPiece w M ⟨n, h⟩ 1, dvOutPiece w M ⟨n, h⟩ 0] ++ dvOut n else []

end Out
end Cert.Proof.Tiles
end
-- ==== Proof.TileValues.lean ====
/- The tiles' entries, when the blocks hold real numbers. -/
module

public import proofs.«01_k».proof.Proof.Tiles
public import Idealize.ShloMosaic.Lib.WordCmp

@[expose] public section

set_option maxRecDepth 16384

noncomputable section

namespace Cert.Proof.Tiles

open Cert.KernelIdeal Cert.KernelIdeal.Gen Idealize.ShloMosaic Idealize.ShloMosaic.TcCoe Idealize.SL.Sem

/-! ## Places -/

/-- Row `r` of tile `i`. -/
def row (i : Fin 4) (r : Fin 512) : Fin 2048 := ⟨512 * i.val + r.val, by omega⟩

/-- Lane `d` of head `j`. -/
def lane (j : Fin 4) (d : Fin 128) : Fin 512 := ⟨128 * j.val + d.val, by omega⟩

/-- Lane `d` of pair `t`. -/
def plane (t : Fin 2) (d : Fin 128) : Fin 256 := ⟨128 * t.val + d.val, by omega⟩

/-- A finite sum of real numbers is one. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The named numbers -/

/-- The scores' scale as a real number. -/
def sc : ℝ := (Ideal.ofBits .f32 0x3DD105EC#32).toReal

/-- The scale's pattern is that number. -/
theorem ofBits_sc : Ideal.ofBits .f32 0x3DD105EC#32 = (sc : EReal) := by
  rw [sc, EReal.coe_toReal] <;> simp [Ideal.ofBits, Ideal.ieee] <;> rw [← EReal.coe_mul] <;>
    first | exact EReal.coe_ne_top _ | exact EReal.coe_ne_bot _

/-- The pattern of minus infinity. -/
theorem ofBits_neg_inf : Ideal.ofBits .f32 0xFF800000#32 = (⊥ : EReal) := by
  simp [Ideal.ofBits, Ideal.ieee]

/-- The named constant is the logarithm of two. -/
theorem named_ln2 : Named.named (F := Ideal) κ "ln2" (φ := .f32) 0x3F317218#32 = ((Real.log 2 : ℝ) : EReal) :=
  IdealRules.named_const.ideal_named_scalar _ _ _ _ rfl

/-! ## The tiles at real blocks -/

/-- The blocks' entries are these real numbers, by head (or pair), row and lane. -/
structure Reads (X0 X1 : Vec Ideal S1x2048x512 .bf16) (X2 : Vec Ideal S1x2048x256 .bf16) (X3 X4 : Vec Ideal S1x2048x256 .f32)
    (X5 : Vec Ideal S1x4x2048x128 .f32) (a0 a1 : Fin 4 → Fin 2048 → Fin 128 → ℝ) (a2 a3 a4 : Fin 2 → Fin 2048 → Fin 128 → ℝ)
    (a5 : Fin 4 → Fin 2048 → ℝ) : Prop where
  q : ∀ j s d, X0 (ix3 0 s (lane j d)) = ((a0 j s d : ℝ) : EReal)
  k : ∀ j s d, X1 (ix3 0 s (lane j d)) = ((a1 j s d : ℝ) : EReal)
  v : ∀ t s d, X2 (ix3 0 s (plane t d)) = ((a2 t s d : ℝ) : EReal)
  o : ∀ t s d, X3 (ix3 0 s (plane t d)) = ((a3 t s d : ℝ) : EReal)
  g : ∀ t s d, X4 (ix3 0 s (plane t d)) = ((a4 t s d : ℝ) : EReal)
  l : ∀ j s d, X5 (ix4 0 j s d) = ((a5 j s : ℝ) : EReal)

section
variable (a0 a1 : Fin 4 → Fin 2048 → Fin 128 → ℝ) (a2 a3 a4 : Fin 2 → Fin 2048 → Fin 128 → ℝ) (a5 : Fin 4 → Fin 2048 → ℝ)

/-- The output gradient of head `j`, zero in the other head's lanes. -/
def half (j : Fin 4) (s : Fin 2048) (d : Fin 128) : ℝ := if d.val / 64 = j.val % 2 then a4 (pairOf j) s d else 0

/-- The attention weight of query `s` and key `t`. -/
def weight (j : Fin 4) (s t : Fin 2048) : ℝ := if t ≤ s then Real.rpow 2 (∑ d, a0 j s d * a1 j t d - a5 j s) else 0

/-- The score's gradient. -/
def grad (j : Fin 4) (s t : Fin 2048) : ℝ :=
  weight a0 a1 a5 j s t * (∑ d, half a4 j s d * a2 (pairOf j) t d - ∑ d, half a4 j s d * a3 (pairOf j) s d)
end

section
variable {X0 X1 : Vec Ideal S1x2048x512 .bf16} {X2 : Vec Ideal S1x2048x256 .bf16} {X3 X4 : Vec Ideal S1x2048x256 .f32}
  {X5 : Vec Ideal S1x4x2048x128 .f32}
  {a0 a1 : Fin 4 → Fin 2048 → Fin 128 → ℝ} {a2 a3 a4 : Fin 2 → Fin 2048 → Fin 128 → ℝ} {a5 : Fin 4 → Fin 2048 → ℝ}

/-- The query tile's entry is the block's. -/
theorem qT_at (X0 : Vec Ideal S1x2048x512 .bf16) (i j : Fin 4) (r : Fin 512) (d : Fin 128) : qT X0 i j (ix2 r d) = X0 (ix3 0 (row i r) (lane j d)) := by
  pointwise [qT]
  rfl

/-- The value tile's entry is the block's. -/
theorem vT_at (X2 : Vec Ideal S1x2048x256 .bf16) (k : Fin 4) (t : Fin 2) (r : Fin 512) (d : Fin 128) : vT X2 k t (ix2 r d) = X2 (ix3 0 (row k r) (plane t d)) := by
  pointwise [vT]
  rfl

/-- The output tile's entry is the block's. -/
theorem oT_at (X3 : Vec Ideal S1x2048x256 .f32) (k : Fin 4) (t : Fin 2) (r : Fin 512) (d : Fin 128) : oT X3 k t (ix2 r d) = X3 (ix3 0 (row k r) (plane t d)) := by
  pointwise [oT]
  rfl

/-- The output gradient's tile keeps its head's lanes. -/
theorem doT_at (H : Reads X0 X1 X2 X3 X4 X5 a0 a1 a2 a3 a4 a5) (i j : Fin 4) (r : Fin 512) (d : Fin 128) :
    doT X4 i j (ix2 r d) = ((half a4 j (row i r) d : ℝ) : EReal) := by
  have e : doT X4 i j (ix2 r d) = Scalar.select (IntOp.cmpi (halfOf j) (BitVec.ofNat 32 d.val) 64#32) (oT X4 i (pairOf j) (ix2 r d)) 0 := by
    pointwise [doT, zT]
  rw [e, oT_at, H.g, half, halfOf]
  rcases Nat.mod_two_eq_zero_or_one j.val with hj | hj <;> rw [hj]
  · rw [if_pos rfl]
    have : Scalar.select (IntOp.cmpi .slt (BitVec.ofNat 32 d.val) 64#32) ((a4 (pairOf j) (row i r) d : ℝ) : EReal) 0 = if d.val < 64 then ((a4 (pairOf j) (row i r) d : ℝ) : EReal) else 0 := by word_cmp
    rw [this]
    by_cases hd : d.val < 64
    · rw [if_pos hd, if_pos (by omega)]
    · rw [if_neg hd, if_neg (by omega)]; rfl
  · rw [if_neg (by decide)]
    have : Scalar.select (IntOp.cmpi .sge (BitVec.ofNat 32 d.val) 64#32) ((a4 (pairOf j) (row i r) d : ℝ) : EReal) 0 = if 64 ≤ d.val then ((a4 (pairOf j) (row i r) d : ℝ) : EReal) else 0 := by word_cmp
    rw [this]
    by_cases hd : 64 ≤ d.val
    · rw [if_pos hd, if_pos (by omega)]
    · rw [if_neg hd, if_neg (by omega)]; rfl

/-- The log-sum's tile. -/
theorem lseT_at (H : Reads X0 X1 X2 X3 X4 X5 a0 a1 a2 a3 a4 a5) (i j : Fin 4) (r c : Fin 512) : lseT X5 i j (ix2 r c) = ((a5 j (row i r) : ℝ) : EReal) := by
  have l := fun d : Fin 128 => H.l j (row i r) d
  pointwise [lseT, lseRow]
  by_cases h1 : c.val < 128
  · rw [dif_pos h1]; exact l _
  rw [dif_neg h1]
  by_cases h2 : c.val - 128 < 128
  · rw [dif_pos h2]; exact l _
  rw [dif_neg h2]
  by_cases h3 : c.val - 128 - 128 < 128
  · rw [dif_pos h3]; exact l _
  rw [dif_neg h3]; exact l _

/-- The scores. -/
theorem score_at (H : Reads X0 X1 X2 X3 X4 X5 a0 a1 a2 a3 a4 a5) (i k j : Fin 4) (r c : Fin 512) :
    scoreT X0 X1 i k j (ix2 r c) = ((∑ d, a0 j (row i r) d * a1 j (row k c) d : ℝ) : EReal) := by
  pointwise [scoreT]
  rw [← coe_sum]
  exact Finset.sum_congr rfl fun d _ => by rw [qT_at, qT_at, H.q, H.k, EReal.coe_mul]

/-- The attention weights of a tile at or before the diagonal. -/
theorem pT_at (H : Reads X0 X1 X2 X3 X4 X5 a0 a1 a2 a3 a4 a5) (i k j : Fin 4) (hk : k.val ≤ i.val) (r c : Fin 512) :
    pT X0 X1 X5 i k j (ix2 r c) = ((weight a0 a1 a5 j (row i r) (row k c) : ℝ) : EReal) := by
  have e : pT X0 X1 X5 i k j (ix2 r c) = Ideal.exp2 (maskedT X0 X1 i k j (ix2 r c) - lseT X5 i j (ix2 r c)) := by
    pointwise [pT]; rfl
  rw [e, lseT_at H, weight]
  by_cases hd : k.val = i.val
  · have e2 : maskedT X0 X1 i k j (ix2 r c) = Scalar.select (IntOp.cmpi .sge (IntOp.addi (BitVec.ofNat 32 r.val) (BitVec.ofNat 32 (512 * i.val)))
        (IntOp.addi (BitVec.ofNat 32 c.val) (BitVec.ofNat 32 (512 * i.val)))) (scoreT X0 X1 i k j (ix2 r c)) (Ideal.ofBits .f32 0xFF800000#32) := by
      rw [maskedT, if_pos hd]
      pointwise [maskT]
    have e3 : ∀ a b : EReal, Scalar.select (IntOp.cmpi .sge (IntOp.addi (BitVec.ofNat 32 r.val) (BitVec.ofNat 32 (512 * i.val)))
        (IntOp.addi (BitVec.ofNat 32 c.val) (BitVec.ofNat 32 (512 * i.val)))) a b = if c.val ≤ r.val then a else b := by
      intro a b
      rw [WordCmp.addi_ofNat, WordCmp.addi_ofNat, WordCmp.cmpi_sge_ofNat (by norm_num; omega) (by norm_num; omega), WordCmp.select_decide]
      exact if_congr (by omega) rfl rfl
    rw [e2, e3, score_at H, ofBits_neg_inf]
    by_cases hc : c.val ≤ r.val
    · rw [if_pos hc, if_pos (by simp only [row, Fin.mk_le_mk]; omega), ← EReal.coe_sub, Ideal.exp2_coe]
    · rw [if_neg hc, if_neg (by simp only [row, Fin.mk_le_mk]; omega), EReal.bot_sub, Ideal.exp2_bot]; rfl
  · rw [maskedT, if_neg hd, score_at H, if_pos (by simp only [row, Fin.mk_le_mk]; omega), ← EReal.coe_sub, Ideal.exp2_coe]

/-- Each row's inner product of output and output gradient. -/
theorem dcol_at (H : Reads X0 X1 X2 X3 X4 X5 a0 a1 a2 a3 a4 a5) (i j : Fin 4) (r : Fin 512) :
    dcolT X3 X4 i j (ix2 r 0) = ((∑ d, half a4 j (row i r) d * a3 (pairOf j) (row i r) d : ℝ) : EReal) := by
  pointwise [dcolT]
  rw [← coe_sum]
  exact Finset.sum_congr rfl fun d _ => by rw [doT_at H, oT_at, H.o, EReal.coe_mul]

/-- The scores' gradient. -/
theorem dsT_at (H : Reads X0 X1 X2 X3 X4 X5 a0 a1 a2 a3 a4 a5) (i k j : Fin 4) (hk : k.val ≤ i.val) (r c : Fin 512) :
    dsT X0 X1 X2 X3 X4 X5 i k j (ix2 r c) = ((grad a0 a1 a2 a3 a4 a5 j (row i r) (row k c) : ℝ) : EReal) := by
  pointwise [dsT]
  rw [pT_at H i k j hk, dcol_at H, grad, EReal.coe_mul, EReal.coe_sub, ← coe_sum]
  have e : ∑ x, doT X4 i j (ix2 r x) * vT X2 k (pairOf j) (ix2 c x) = ∑ d, ((half a4 j (row i r) d * a2 (pairOf j) (row k c) d : ℝ) : EReal) :=
    Finset.sum_congr rfl fun d _ => by rw [doT_at H, vT_at, H.v, EReal.coe_mul]
  rw [e, coe_sum]

/-- The key gradient's addend. -/
theorem dkT_at (H : Reads X0 X1 X2 X3 X4 X5 a0 a1 a2 a3 a4 a5) (i k j : Fin 4) (hk : k.val ≤ i.val) (d : Fin 128) (c : Fin 512) :
    dkT X0 X1 X2 X3 X4 X5 i k j (ix2 d c)
      = ((∑ r, a0 j (row i r) d * grad a0 a1 a2 a3 a4 a5 j (row i r) (row k c) : ℝ) : EReal) := by
  pointwise [dkT, qtT]
  rw [← coe_sum]
  exact Finset.sum_congr rfl fun r _ => by rw [qT_at, H.q, dsT_at H i k j hk, EReal.coe_mul]

/-- One head's addend of the value gradient. -/
theorem pvT_at (H : Reads X0 X1 X2 X3 X4 X5 a0 a1 a2 a3 a4 a5) (i k j : Fin 4) (hk : k.val ≤ i.val) (d : Fin 128) (c : Fin 512) :
    pvT X0 X1 X4 X5 i k j (ix2 d c) = ((∑ r, half a4 j (row i r) d * weight a0 a1 a5 j (row i r) (row k c) : ℝ) : EReal) := by
  pointwise [pvT, dotT]
  rw [← coe_sum]
  exact Finset.sum_congr rfl fun r _ => by rw [doT_at H, pT_at H i k j hk, EReal.coe_mul]

/-- The value gradient's addend. -/
theorem dvT_at (H : Reads X0 X1 X2 X3 X4 X5 a0 a1 a2 a3 a4 a5) (i k : Fin 4) (t : Fin 2) (hk : k.val ≤ i.val) (d : Fin 128) (c : Fin 512) :
    dvT X0 X1 X4 X5 i k t (ix2 d c)
      = ((∑ r, (half a4 (headOf t 0) (row i r) d * weight a0 a1 a5 (headOf t 0) (row i r) (row k c)
          + half a4 (headOf t 1) (row i r) d * weight a0 a1 a5 (headOf t 1) (row i r) (row k c)) : ℝ) : EReal) := by
  pointwise [dvT]
  rw [pvT_at H i k _ hk, pvT_at H i k _ hk, ← EReal.coe_add, ← Finset.sum_add_distrib]

/-- The query gradient's sum over the key tiles before `n`. -/
theorem dqAcc_at (H : Reads X0 X1 X2 X3 X4 X5 a0 a1 a2 a3 a4 a5) (i j : Fin 4) (r : Fin 512) (d : Fin 128) : ∀ n, n ≤ i.val + 1 →
    dqAcc X0 X1 X2 X3 X4 X5 i j n (ix2 r d)
      = ((∑ k : Fin 4, if k.val < n then ∑ c, grad a0 a1 a2 a3 a4 a5 j (row i r) (row k c) * a1 j (row k c) d else 0 : ℝ) : EReal)
  | 0, _ => by
    rw [dqAcc]; pointwise [zT]
    simp
  | n + 1, hn => by
    have h4 : n < 4 := by omega
    rw [dqAcc, dif_pos h4]
    pointwise
    rw [dqAcc_at H i j r d n (by omega)]
    have e : ∑ c, dsT X0 X1 X2 X3 X4 X5 i ⟨n, h4⟩ j (ix2 r c) * qT X1 ⟨n, h4⟩ j (ix2 c d)
        = ((∑ c, grad a0 a1 a2 a3 a4 a5 j (row i r) (row ⟨n, h4⟩ c) * a1 j (row ⟨n, h4⟩ c) d : ℝ) : EReal) := by
      rw [← coe_sum]
      exact Finset.sum_congr rfl fun c _ => by rw [qT_at, H.k, dsT_at H i ⟨n, h4⟩ j (by show n ≤ i.val; omega), EReal.coe_mul]
    rw [e, ← EReal.coe_add]
    congr 1
    rw [← Finset.sum_filter, ← Finset.sum_filter]
    have hs : (Finset.univ.filter fun k : Fin 4 => k.val < n + 1) = insert ⟨n, h4⟩ (Finset.univ.filter fun k : Fin 4 => k.val < n) := by
      ext k; simp [Fin.ext_iff]; omega
    rw [hs, Finset.sum_insert (by simp), add_comm]

/-- A sum over the tiles is the sum over the sequence. -/
theorem sum_row (f : Fin 2048 → ℝ) : ∑ k : Fin 4, ∑ c : Fin 512, f (row k c) = ∑ t, f t := by
  rw [Fin.sum_univ_tiles 4 512 rfl f]
  exact Finset.sum_congr rfl fun k _ => Finset.sum_congr rfl fun c _ => congrArg f (Fin.ext (by simp [row]; omega))

/-- A later key has no gradient. -/
theorem grad_later (j : Fin 4) (s t : Fin 2048) (h : s < t) : grad a0 a1 a2 a3 a4 a5 j s t = 0 := by
  rw [grad, weight, if_neg (not_le.2 h), zero_mul]

/-- The stored query gradient. -/
theorem dqT_at (H : Reads X0 X1 X2 X3 X4 X5 a0 a1 a2 a3 a4 a5) (i j : Fin 4) (r : Fin 512) (d : Fin 128) :
    dqT X0 X1 X2 X3 X4 X5 i j (ix3 0 r d) = ((sc * ∑ t, grad a0 a1 a2 a3 a4 a5 j (row i r) t * a1 j t d : ℝ) : EReal) := by
  pointwise [dqT]
  rw [dqAcc_at H i j r d _ le_rfl, ofBits_sc, ← EReal.coe_mul, ← sum_row]
  congr 2
  refine Finset.sum_congr rfl fun k _ => ?_
  by_cases hk : k.val < i.val + 1
  · rw [if_pos hk]
  · rw [if_neg hk]
    refine (Finset.sum_eq_zero fun c _ => ?_).symm
    rw [grad_later j _ _ (by simp only [row, Fin.mk_lt_mk]; omega), zero_mul]

/-- The stored key gradient, of the scratch's tile. -/
theorem outDk_at (A : Vec Ideal S1x1x128x512 .f32) (r : Fin 512) (d : Fin 128) : outDk A (ix3 0 r d) = ((Real.log 2 : ℝ) : EReal) * A (ix4 0 0 d r) := by
  pointwise [outDk]
  rw [named_ln2]

/-- The stored value gradient, of the scratch's tile. -/
theorem outDv_at (A : Vec Ideal S1x1x128x512 .f32) (r : Fin 512) (d : Fin 128) : outDv A (ix3 0 r d) = A (ix4 0 0 d r) := by
  pointwise [outDv]
end

end Cert.Proof.Tiles
end
-- ==== Proof.StageValues.lean ====
/- The stages' entries when the arguments are real numbers. -/
module

public import proofs.«01_k».proof.Proof.Operands
public import proofs.«01_k».proof.Proof.TileValues

@[expose] public section

set_option maxRecDepth 16384

noncomputable section

namespace Cert.Proof.Stages

open Cert.ReferenceIdeal Cert.ReferenceIdeal.Gen Idealize.ShloMosaic Idealize.ShloMosaic.TcCoe Idealize.SL.Sem
open Cert.Proof.Tiles (sc ofBits_sc ofBits_neg_inf coe_sum)

/-! ## Attention and its gradient in real numbers -/

section
variable (q k : Fin 4 → Fin 2048 → Fin 8 → Fin 96 → ℝ) (v : Fin 4 → Fin 2048 → Fin 8 → Fin 64 → ℝ) (g : Fin 4 → Fin 2048 → Fin 1024 → ℝ)

/-- The score of query `s` and key `t`. -/
def rScore (b : Fin 4) (h : Fin 8) (s t : Fin 2048) : ℝ := (∑ d, q b s h d * k b t h d) * sc

/-- Its exponential, if the key is seen. -/
def rExp (b : Fin 4) (h : Fin 8) (s t : Fin 2048) : ℝ := if t ≤ s then Real.exp (rScore q k b h s t) else 0

/-- A row's sum. -/
def rSum (b : Fin 4) (h : Fin 8) (s : Fin 2048) : ℝ := ∑ t, rExp q k b h s t

/-- The attention weight. -/
def rProb (b : Fin 4) (h : Fin 8) (s t : Fin 2048) : ℝ := rExp q k b h s t / rSum q k b h s

/-- The place of head `h`'s lane `d` in the output. -/
def spot (h : Fin 8) (d : Fin 64) : Fin 1024 := ⟨h.val * 64 + d.val, by omega⟩

/-- The weight's gradient. -/
def rDp (b : Fin 4) (h : Fin 8) (s t : Fin 2048) : ℝ := ∑ d, g b s (spot h d) * v b t h d

/-- The score's gradient, before the scale. -/
def rDs (b : Fin 4) (h : Fin 8) (s t : Fin 2048) : ℝ :=
  rProb q k b h s t * (rDp v g b h s t - ∑ u, rProb q k b h s u * rDp v g b h s u)

/-- A row's sum is positive. -/
theorem rSum_pos (b : Fin 4) (h : Fin 8) (s : Fin 2048) : 0 < rSum q k b h s := by
  refine Finset.sum_pos' (fun t _ => ?_) ⟨s, Finset.mem_univ _, ?_⟩
  · unfold rExp; split_ifs
    · exact (Real.exp_pos _).le
    · exact le_rfl
  · unfold rExp; rw [if_pos le_rfl]; exact Real.exp_pos _
end

/-- The greatest of real numbers and minus infinities, one real at least, is a real number. -/
theorem fold_max_real (f : Fin 2048 → EReal) (hf : ∀ t, f t ≠ ⊤) (s : Fin 2048) (hs : f s ≠ ⊥) :
    ∃ M : ℝ, Finset.fold max (⊥ : EReal) f Finset.univ = (M : EReal) := by
  have h1 : Finset.fold max (⊥ : EReal) f Finset.univ < ⊤ :=
    (Finset.fold_max_lt _).2 ⟨bot_lt_top, fun t _ => lt_top_iff_ne_top.2 (hf t)⟩
  have h2 : ⊥ < Finset.fold max (⊥ : EReal) f Finset.univ :=
    (Finset.lt_fold_max _).2 (.inr ⟨s, Finset.mem_univ _, bot_lt_iff_ne_bot.2 hs⟩)
  exact ⟨_, (EReal.coe_toReal h1.ne h2.ne').symm⟩

/-- A sum over a head's lanes is the sum over both parts. -/
theorem sum_parts (f : Fin 96 → ℝ) : ∑ d, f d = ∑ d : Fin 64, f ⟨d.val, by omega⟩ + ∑ d : Fin 32, f ⟨64 + d.val, by omega⟩ :=
  Fin.sum_univ_add (a := 64) (b := 32) f

/-- A quotient of real numbers. -/
theorem div_real (x y : ℝ) (h : y ≠ 0) : Ideal.div (x : EReal) (y : EReal) = ((x / y : ℝ) : EReal) := by
  rw [Ideal.div_coe h, ← EReal.coe_mul, mul_one_div]

section
variable {A0 A1 : FVec Ideal S4x2048x8x96 .f32} {A2 : FVec Ideal S4x2048x8x64 .f32} {A3 : FVec Ideal S4x2048x1024 .f32}
variable {q k : Fin 4 → Fin 2048 → Fin 8 → Fin 96 → ℝ} {v : Fin 4 → Fin 2048 → Fin 8 → Fin 64 → ℝ} {g : Fin 4 → Fin 2048 → Fin 1024 → ℝ}
variable (hq : ∀ b s h d, A0 (ix4 b s h d) = ((q b s h d : ℝ) : EReal)) (hk : ∀ b s h d, A1 (ix4 b s h d) = ((k b s h d : ℝ) : EReal))
  (hv : ∀ b s h d, A2 (ix4 b s h d) = ((v b s h d : ℝ) : EReal)) (hg : ∀ b s l, A3 (ix3 b s l) = ((g b s l : ℝ) : EReal))

include hq hk in
/-- The scores. -/
theorem scores_at (b : Fin 4) (h : Fin 8) (s t : Fin 2048) : scores A0 A1 (ix4 b h s t) = ((rScore q k b h s t : ℝ) : EReal) := by
  have e : scores A0 A1 (ix4 b h s t) = (∑ x : Fin 64, A0 (ix4 b s h ⟨x.val, by omega⟩) * A1 (ix4 b t h ⟨x.val, by omega⟩) +
        ∑ x : Fin 32, A0 (ix4 b s h ⟨64 + x.val, by omega⟩) * A1 (ix4 b t h ⟨64 + x.val, by omega⟩)) * Ideal.ofBits .f32 0x3DD105EC#32 := by
    pointwise [scores, nope, rope, scale]
  rw [e, ofBits_sc, rScore, EReal.coe_mul, sum_parts, EReal.coe_add, ← coe_sum, ← coe_sum]
  simp only [hq, hk, EReal.coe_mul]

/-- A value where the key is seen, another elsewhere. -/
theorem seen_at (s t : Fin 2048) (x y : EReal) :
    Scalar.select (IntOp.cmpi .sle (BitVec.ofNat 32 t.val) (BitVec.ofNat 32 s.val)) x y = if t ≤ s then x else y := by
  rw [WordCmp.cmpi_sle_ofNat (by norm_num; omega) (by norm_num; omega), WordCmp.select_decide]
  exact if_congr Fin.le_def.symm rfl rfl

include hq hk in
/-- The scores of the keys seen. -/
theorem masked_at (b : Fin 4) (h : Fin 8) (s t : Fin 2048) :
    masked A0 A1 (ix4 b h s t) = if t ≤ s then ((rScore q k b h s t : ℝ) : EReal) else ⊥ := by
  have e : masked A0 A1 (ix4 b h s t) = Scalar.select (IntOp.cmpi .sle (BitVec.ofNat 32 t.val) (BitVec.ofNat 32 s.val)) (scores A0 A1 (ix4 b h s t))
      (Ideal.ofBits .f32 0xFF800000#32) := by
    pointwise [masked, seen, ninf]
  rw [e, seen_at, scores_at hq hk, ofBits_neg_inf]

include hq hk in
/-- A row's greatest score is a real number. -/
theorem rowMax_real (b : Fin 4) (h : Fin 8) (s : Fin 2048) : ∃ M : ℝ, rowMax A0 A1 (ix3 b h s) = (M : EReal) := by
  have e : rowMax A0 A1 (ix3 b h s) = Finset.fold max (Ideal.ofBits .f32 0xFF800000#32) (fun t => masked A0 A1 (ix4 b h s t)) Finset.univ := by
    pointwise [rowMax, ninf]
  rw [e, ofBits_neg_inf]
  refine fold_max_real _ (fun t => ?_) s ?_
  · show masked A0 A1 (ix4 b h s t) ≠ ⊤
    rw [masked_at hq hk]; split_ifs
    · exact EReal.coe_ne_top _
    · exact bot_ne_top
  · show masked A0 A1 (ix4 b h s s) ≠ ⊥
    rw [masked_at hq hk, if_pos le_rfl]; exact EReal.coe_ne_bot _

/-- The greater of minus infinity and a row's value. -/
theorem max_ninf_at (x : FVec Ideal S4x8x2048 .f32) (b : Fin 4) (h : Fin 8) (s : Fin 2048) :
    maximumf (broadcastInDim S4x8x2048 ![] bcast_S_S4x8x2048 ninf) x (ix3 b h s) = x (ix3 b h s) := by
  have e : maximumf (broadcastInDim S4x8x2048 ![] bcast_S_S4x8x2048 ninf) x (ix3 b h s) = max (Ideal.ofBits .f32 0xFF800000#32) (x (ix3 b h s)) := by
    pointwise [ninf]
  rw [e, ofBits_neg_inf]; exact max_eq_right bot_le

/-- Each row's shift is its greatest score. -/
theorem shift_at (b : Fin 4) (h : Fin 8) (s : Fin 2048) : shift A0 A1 (ix3 b h s) = rowMax A0 A1 (ix3 b h s) := max_ninf_at _ b h s

include hq hk in
/-- The exponentials under a real shift. -/
theorem exps_at (x : FVec Ideal S4x8x2048 .f32) (b : Fin 4) (h : Fin 8) (s t : Fin 2048) (M : ℝ) (hx : x (ix3 b h s) = (M : EReal)) :
    exps A0 A1 x (ix4 b h s t) = ((rExp q k b h s t * Real.exp (-M) : ℝ) : EReal) := by
  have e : exps A0 A1 x (ix4 b h s t) = Ideal.exp (masked A0 A1 (ix4 b h s t) - x (ix3 b h s)) := by
    pointwise [exps, wide, col]
  rw [e, hx, masked_at hq hk, rExp]
  by_cases hts : t ≤ s
  · rw [if_pos hts, if_pos hts, ← EReal.coe_sub, Ideal.exp_coe, ← Real.exp_add, sub_eq_add_neg]
  · rw [if_neg hts, if_neg hts, EReal.bot_sub, Ideal.exp_bot, zero_mul]; rfl

/-- A row's sum of real numbers. -/
theorem rowSum_at (x : FVec Ideal S4x8x2048x2048 .f32) (b : Fin 4) (h : Fin 8) (s : Fin 2048) (f : Fin 2048 → ℝ) (hx : ∀ t, x (ix4 b h s t) = ((f t : ℝ) : EReal)) :
    rowSum x (ix3 b h s) = ((∑ t, f t : ℝ) : EReal) := by
  have e : rowSum x (ix3 b h s) = ∑ t, x (ix4 b h s t) := by
    pointwise [rowSum, zer]
  rw [e, ← coe_sum]
  exact Finset.sum_congr rfl fun t _ => hx t

include hq hk in
/-- A row's sum of exponentials. -/
theorem sum_exps_at (x : FVec Ideal S4x8x2048 .f32) (b : Fin 4) (h : Fin 8) (s : Fin 2048) (M : ℝ) (hx : x (ix3 b h s) = (M : EReal)) :
    rowSum (exps A0 A1 x) (ix3 b h s) = ((rSum q k b h s * Real.exp (-M) : ℝ) : EReal) := by
  rw [rowSum_at _ b h s _ fun t => exps_at hq hk x b h s t M hx, rSum, Finset.sum_mul]

include hq hk in
/-- The denominators. -/
theorem denom_at (b : Fin 4) (h : Fin 8) (s : Fin 2048) (M : ℝ) (hM : rowMax A0 A1 (ix3 b h s) = (M : EReal)) :
    denom A0 A1 (ix4 b h s 0) = ((rSum q k b h s * Real.exp (-M) : ℝ) : EReal) := by
  have e : denom A0 A1 (ix4 b h s 0) = rowSum (exps A0 A1 (shift A0 A1)) (ix3 b h s) := by
    pointwise [denom, col]
  rw [e, sum_exps_at hq hk _ b h s M ((shift_at b h s).trans hM)]

include hq hk in
/-- The attention weights. -/
theorem probs_at (b : Fin 4) (h : Fin 8) (s t : Fin 2048) : probs A0 A1 (ix4 b h s t) = ((rProb q k b h s t : ℝ) : EReal) := by
  obtain ⟨M, hM⟩ := rowMax_real hq hk b h s
  have e : probs A0 A1 (ix4 b h s t) = Ideal.div (exps A0 A1 (shift A0 A1) (ix4 b h s t)) (denom A0 A1 (ix4 b h s 0)) := by
    pointwise [probs, wide, col]
  have hz := (rSum_pos q k b h s).ne'
  have he := (Real.exp_pos (-M)).ne'
  rw [e, exps_at hq hk _ b h s t M ((shift_at b h s).trans hM), denom_at hq hk b h s M hM, div_real _ _ (mul_ne_zero hz he), mul_div_mul_right _ _ he, rProb]

include hq hk hg in
/-- The gradient of the values. -/
theorem dv_at (b : Fin 4) (t : Fin 2048) (l : Fin 512) :
    dv A0 A1 A3 (ix3 b t l) = ((∑ s, g b s ⟨l.val, by omega⟩ * rProb q k b ⟨l.val / 64, by omega⟩ s t : ℝ) : EReal) := by
  have e : dv A0 A1 A3 (ix3 b t l) = ∑ s, A3 (ix3 b s ⟨l.val, by omega⟩) * probs A0 A1 (ix4 b ⟨l.val / 64, by omega⟩ s t) := by
    pointwise [dv, cot]
  rw [e, ← coe_sum]
  exact Finset.sum_congr rfl fun s _ => by rw [hg, probs_at hq hk, EReal.coe_mul]

include hv hg in
/-- The gradient of the weights. -/
theorem dprobs_at (b : Fin 4) (h : Fin 8) (s t : Fin 2048) : dprobs A2 A3 (ix4 b h s t) = ((rDp v g b h s t : ℝ) : EReal) := by
  have e : dprobs A2 A3 (ix4 b h s t) = ∑ x : Fin 64, A3 (ix3 b s (spot h x)) * A2 (ix4 b t h x) := by
    pointwise [dprobs, cot]; rfl
  rw [e, rDp, ← coe_sum]
  exact Finset.sum_congr rfl fun x _ => by rw [hg, hv, EReal.coe_mul]

include hq hk hv hg in
/-- The exponentials' gradient times the exponentials. -/
theorem dexps_at (b : Fin 4) (h : Fin 8) (s t : Fin 2048) : dexps A0 A1 A2 A3 (ix4 b h s t) = ((rDs q k v g b h s t : ℝ) : EReal) := by
  obtain ⟨M, hM⟩ := rowMax_real hq hk b h s
  have hz := (rSum_pos q k b h s).ne'
  have he := (Real.exp_pos (-M)).ne'
  have hS := (shift_at (A0 := A0) (A1 := A1) b h s).trans hM
  have e1 : dexps A0 A1 A2 A3 (ix4 b h s t) = (Ideal.div (dprobs A2 A3 (ix4 b h s t)) (denom A0 A1 (ix4 b h s 0)) + ddenom A0 A1 A2 A3 (ix3 b h s)) *
      exps A0 A1 (shift A0 A1) (ix4 b h s t) := by
    pointwise [dexps, wide]
  have e2 : ddenom A0 A1 A2 A3 (ix3 b h s) = -rowSum (mulf (mulf (dprobs A2 A3) (wide (invSq A0 A1))) (exps A0 A1 (shift A0 A1))) (ix3 b h s) := by
    pointwise [ddenom, zer]
    rw [Fin.sum_univ_one]
  have e3 : invSq A0 A1 (ix4 b h s 0) = Ideal.div 1 (denom A0 A1 (ix4 b h s 0) * denom A0 A1 (ix4 b h s 0)) := by
    pointwise [invSq]
  have e4 : ∀ u, mulf (mulf (dprobs A2 A3) (wide (invSq A0 A1))) (exps A0 A1 (shift A0 A1)) (ix4 b h s u)
      = ((rDp v g b h s u * (1 / ((rSum q k b h s * Real.exp (-M)) * (rSum q k b h s * Real.exp (-M)))) * (rExp q k b h s u * Real.exp (-M)) : ℝ) : EReal) := by
    intro u
    have e : mulf (mulf (dprobs A2 A3) (wide (invSq A0 A1))) (exps A0 A1 (shift A0 A1)) (ix4 b h s u)
        = dprobs A2 A3 (ix4 b h s u) * invSq A0 A1 (ix4 b h s 0) * exps A0 A1 (shift A0 A1) (ix4 b h s u) := by
      pointwise [wide]
    rw [e, e3, dprobs_at hv hg, denom_at hq hk b h s M hM, exps_at hq hk _ b h s u M hS, ← EReal.coe_mul, ← EReal.coe_one,
      div_real _ _ (mul_ne_zero (mul_ne_zero hz he) (mul_ne_zero hz he)), ← EReal.coe_mul, ← EReal.coe_mul]
  rw [e1, e2, rowSum_at _ b h s _ e4, dprobs_at hv hg, denom_at hq hk b h s M hM, div_real _ _ (mul_ne_zero hz he), exps_at hq hk _ b h s t M hS,
    ← EReal.coe_neg, ← EReal.coe_add, ← EReal.coe_mul, rDs, EReal.coe_eq_coe_iff]
  have e5 : ∑ u, rDp v g b h s u * (1 / ((rSum q k b h s * Real.exp (-M)) * (rSum q k b h s * Real.exp (-M)))) * (rExp q k b h s u * Real.exp (-M))
      = (∑ u, rProb q k b h s u * rDp v g b h s u) / (rSum q k b h s * Real.exp (-M)) := by
    rw [Finset.sum_div]
    refine Finset.sum_congr rfl fun u _ => ?_
    rw [rProb]; field_simp
  rw [e5, rProb]
  field_simp
  ring

include hq hk hv hg in
/-- The scores' gradient. -/
theorem dscores_at (b : Fin 4) (h : Fin 8) (s t : Fin 2048) : dscores A0 A1 A2 A3 (ix4 b h s t) = ((rDs q k v g b h s t * sc : ℝ) : EReal) := by
  have e : dscores A0 A1 A2 A3 (ix4 b h s t) = Scalar.select (IntOp.cmpi .sle (BitVec.ofNat 32 t.val) (BitVec.ofNat 32 s.val))
      (dexps A0 A1 A2 A3 (ix4 b h s t) * Ideal.ofBits .f32 0x3DD105EC#32) 0 := by
    pointwise [dscores, zer, scale, seen]
  rw [e, seen_at, dexps_at hq hk hv hg, ofBits_sc, ← EReal.coe_mul]
  by_cases h : t ≤ s
  · rw [if_pos h]
  · rw [if_neg h, rDs, rProb, rExp, if_neg h]; simp

/-- Both parts of a gradient put together in a head's slot. -/
theorem slots_at (x : FVec Ideal S4x2048x8x96 .f32) (b : Fin 4) (s : Fin 2048) (l : Fin 1024) :
    slots x (ix3 b s l) = if h : l.val % 128 < 96 then x (ix4 b s ⟨l.val / 128, by omega⟩ ⟨l.val % 128, h⟩) else 0 := by
  have e : slots x (ix3 b s l) = if h : l.val / 128 < 8 ∧ l.val % 128 < 96 then x (ix4 b s ⟨l.val / 128, h.1⟩ ⟨l.val % 128, h.2⟩) else FloatOps.sitofp (F := Ideal) .f32 0#32 := by
    pointwise [slots]
  rw [e]
  by_cases h : l.val % 128 < 96
  · rw [dif_pos ⟨by omega, h⟩, dif_pos h]
  · rw [dif_neg (fun e => h e.2), dif_neg h]
    show ((((0#32 : BitVec 32).toInt : ℝ)) : EReal) = 0
    simp

/-- The parts side by side. -/
theorem join_at (x : FVec Ideal S4x2048x8x32 .f32) (y : FVec Ideal S4x2048x8x64 .f32) (b : Fin 4) (s : Fin 2048) (h : Fin 8) (d : Fin 96) (f : ℝ)
    (hx : ∀ e : 64 ≤ d.val, x (ix4 b s h ⟨d.val - 64, by omega⟩) = (f : EReal)) (hy : ∀ e : d.val < 64, y (ix4 b s h ⟨d.val, e⟩) = (f : EReal)) :
    join x y (ix4 b s h d) = (f : EReal) := by
  pointwise [join, zer]
  by_cases hd : d.val < 64
  · rw [dif_neg (by omega), dif_pos hd, hy hd, zero_add]
  · rw [dif_pos (by omega), dif_neg hd, hx (by omega), add_zero]

include hq hk hv hg in
/-- The gradient of the queries. -/
theorem dq_at (b : Fin 4) (s : Fin 2048) (l : Fin 1024) :
    dq A0 A1 A2 A3 (ix3 b s l) = if h : l.val % 128 < 96 then
      ((∑ t, rDs q k v g b ⟨l.val / 128, by omega⟩ s t * sc * k b t ⟨l.val / 128, by omega⟩ ⟨l.val % 128, h⟩ : ℝ) : EReal) else 0 := by
  rw [dq, slots_at]
  refine dite_congr rfl (fun h => ?_) fun _ => rfl
  refine join_at _ _ b s _ _ _ (fun e => ?_) fun e => ?_
  · pointwise [rope]
    rw [← coe_sum]
    refine Finset.sum_congr rfl fun t _ => ?_
    have ed : (⟨64 + (l.val % 128 - 64), by omega⟩ : Fin 96) = ⟨l.val % 128, h⟩ := Fin.ext (by show 64 + (l.val % 128 - 64) = l.val % 128; have : 64 ≤ l.val % 128 := e; omega)
    rw [dscores_at hq hk hv hg, EReal.coe_mul]
    exact congrArg _ ((congrArg (fun d => A1 (ix4 b t ⟨l.val / 128, by omega⟩ d)) ed).trans (hk _ _ _ _))
  · pointwise [nope]
    rw [← coe_sum]
    exact Finset.sum_congr rfl fun t _ => by rw [dscores_at hq hk hv hg, hk, ← EReal.coe_mul]

include hq hk hv hg in
/-- The gradient of the keys. -/
theorem dk_at (b : Fin 4) (t : Fin 2048) (l : Fin 1024) :
    dk A0 A1 A2 A3 (ix3 b t l) = if h : l.val % 128 < 96 then
      ((∑ s, rDs q k v g b ⟨l.val / 128, by omega⟩ s t * sc * q b s ⟨l.val / 128, by omega⟩ ⟨l.val % 128, h⟩ : ℝ) : EReal) else 0 := by
  rw [dk, slots_at]
  refine dite_congr rfl (fun h => ?_) fun _ => rfl
  refine join_at _ _ b t _ _ _ (fun e => ?_) fun e => ?_
  · pointwise [rope]
    rw [← coe_sum]
    refine Finset.sum_congr rfl fun s _ => ?_
    have ed : (⟨64 + (l.val % 128 - 64), by omega⟩ : Fin 96) = ⟨l.val % 128, h⟩ := Fin.ext (by show 64 + (l.val % 128 - 64) = l.val % 128; have : 64 ≤ l.val % 128 := e; omega)
    rw [dscores_at hq hk hv hg, EReal.coe_mul]
    exact congrArg _ ((congrArg (fun d => A0 (ix4 b s ⟨l.val / 128, by omega⟩ d)) ed).trans (hq _ _ _ _))
  · pointwise [nope]
    rw [← coe_sum]
    exact Finset.sum_congr rfl fun s _ => by rw [dscores_at hq hk hv hg, hq, ← EReal.coe_mul]
end

end Cert.Proof.Stages
end
-- ==== Proof.OperandValues.lean ====
/- The operands' entries when the arguments are real numbers. -/
module

public import proofs.«01_k».proof.Proof.StageValues

@[expose] public section

set_option maxRecDepth 16384

noncomputable section

namespace Cert.Proof.Stages

open Cert.KernelIdeal Cert.KernelIdeal.Gen Idealize.ShloMosaic Idealize.ShloMosaic.TcCoe Idealize.SL.Sem
open Cert.Proof.Tiles (sc ofBits_sc ofBits_neg_inf coe_sum)

/-- The logarithm's reciprocal. -/
theorem invLn_at : invLn ix0 = ((1 / Real.log 2 : ℝ) : EReal) := by
  have e : invLn ix0 = Ideal.div 1 (Ideal.log (Ideal.ofBits .f32 0x40000000#32)) := by
    pointwise [invLn]
  have two : Ideal.ofBits .f32 0x40000000#32 = ((2 : ℝ) : EReal) := by
    simp [Ideal.ofBits, Ideal.ieee]; rw [← EReal.coe_mul]; norm_num
  rw [e, two, Ideal.log_coe, if_neg (by norm_num), ← EReal.coe_one, div_real _ _ (Real.log_pos (by norm_num)).ne']

section
variable {A0 A1 : FVec Ideal S4x2048x8x96 .f32} {A2 : FVec Ideal S4x2048x8x64 .f32}
variable {q k : Fin 4 → Fin 2048 → Fin 8 → Fin 96 → ℝ} {v : Fin 4 → Fin 2048 → Fin 8 → Fin 64 → ℝ}
variable (hq : ∀ b s h d, A0 (ix4 b s h d) = ((q b s h d : ℝ) : EReal)) (hk : ∀ b s h d, A1 (ix4 b s h d) = ((k b s h d : ℝ) : EReal))
  (hv : ∀ b s h d, A2 (ix4 b s h d) = ((v b s h d : ℝ) : EReal))

/-- A head's lanes, zero beyond the last. -/
def padded (x : Fin 4 → Fin 2048 → Fin 8 → Fin 96 → ℝ) (b : Fin 4) (s : Fin 2048) (h : Fin 8) (d : Fin 128) : ℝ :=
  if e : d.val < 96 then x b s h ⟨d.val, e⟩ else 0

include hk in
/-- The key operand's entries. -/
theorem slots_real (b : Fin 4) (s : Fin 2048) (l : Fin 1024) :
    slots A1 (ix3 b s l) = ((padded k b s ⟨l.val / 128, by omega⟩ ⟨l.val % 128, by omega⟩ : ℝ) : EReal) := by
  rw [slots_at, padded]
  by_cases h : l.val % 128 < 96
  · rw [dif_pos h, dif_pos h, hk]
  · rw [dif_neg h, dif_neg h]; rfl

include hq in
/-- The scaled queries. -/
theorem opScaled_at (b : Fin 4) (s : Fin 2048) (h : Fin 8) (d : Fin 96) :
    opScaled A0 (ix4 b s h d) = ((q b s h d * (sc * (1 / Real.log 2)) : ℝ) : EReal) := by
  have e : opScaled A0 (ix4 b s h d) = A0 (ix4 b s h d) * (Ideal.ofBits .f32 0x3DD105EC#32 * invLn ix0) := by
    pointwise [opScaled]
  rw [e, hq, ofBits_sc, invLn_at, ← EReal.coe_mul, ← EReal.coe_mul]

include hv in
/-- The value operand's entries. -/
theorem opV_at (b : Fin 4) (s : Fin 2048) (l : Fin 512) :
    opV A2 (ix3 b s l) = ((v b s ⟨l.val / 64, by omega⟩ ⟨l.val % 64, by omega⟩ : ℝ) : EReal) := by
  have e : opV A2 (ix3 b s l) = A2 (ix4 b s ⟨l.val / 64, by omega⟩ ⟨l.val % 64, by omega⟩) := by
    pointwise [opV]
  rw [e, hv]

/-- The attention's output. -/
def rOut (q k : Fin 4 → Fin 2048 → Fin 8 → Fin 96 → ℝ) (v : Fin 4 → Fin 2048 → Fin 8 → Fin 64 → ℝ) (b : Fin 4) (s : Fin 2048) (h : Fin 8) (d : Fin 64) : ℝ :=
  ∑ t, v b t h d * rProb q k b h s t

include hq hk hv in
/-- The output operand's entries. -/
theorem opO_at (b : Fin 4) (s : Fin 2048) (l : Fin 512) :
    opO A0 A1 A2 (ix3 b s l) = ((rOut q k v b s ⟨l.val / 64, by omega⟩ ⟨l.val % 64, by omega⟩ : ℝ) : EReal) := by
  have e : opO A0 A1 A2 (ix3 b s l) = ∑ x, A2 (ix4 b x ⟨l.val / 64, by omega⟩ ⟨l.val % 64, by omega⟩) * probs A0 A1 (ix4 b ⟨l.val / 64, by omega⟩ s x) := by
    pointwise [opO]
  rw [e, rOut, ← coe_sum]
  exact Finset.sum_congr rfl fun x _ => by rw [hv, probs_at hq hk, EReal.coe_mul]

/-- A row's greatest value and sum put together. -/
theorem lse_form (x y : FVec Ideal S4x8x2048 .f32) (b : Fin 4) (h : Fin 8) (s : Fin 2048) (d : Fin 128) :
    broadcastInDim S4x8x2048x128 ![0, 1, 2, 3] bcast_S4x8x2048x1_S4x8x2048x128_0_1_2_3
      (mulf (addf (col x) (Host.log (F := Ideal) (col y))) (broadcastInDim S4x8x2048x1 ![] bcast_S_S4x8x2048x1 invLn)) (ix4 b h s d)
      = (x (ix3 b h s) + Ideal.log (y (ix3 b h s))) * invLn ix0 := by
  pointwise [col]

include hq hk in
/-- The log-sum operand's entries. -/
theorem opLse_at (b : Fin 4) (h : Fin 8) (s : Fin 2048) (d : Fin 128) :
    opLse A0 A1 (ix4 b h s d) = ((Real.log (rSum q k b h s) * (1 / Real.log 2) : ℝ) : EReal) := by
  obtain ⟨M, hM⟩ := rowMax_real hq hk b h s
  have hz := rSum_pos q k b h s
  have he := Real.exp_pos (-M)
  rw [opLse, lse_form, invLn_at, sum_exps_at hq hk _ b h s M hM, hM, Ideal.log_coe, if_neg (not_le.2 (mul_pos hz he)), ← EReal.coe_add, ← EReal.coe_mul,
    Real.log_mul hz.ne' he.ne', Real.log_exp, EReal.coe_eq_coe_iff]
  ring
end

end Cert.Proof.Stages
end
-- ==== Proof.Scratches.lean ====
/- What the two scratch buffers hold when the last query tile is done: each key tile's sum over the query tiles at or after it. -/
module

public import proofs.«01_k».proof.Proof.TileValues

@[expose] public section

set_option maxRecDepth 16384

noncomputable section

namespace Cert.Proof.Tiles

open Cert.KernelIdeal Cert.KernelIdeal.Gen Idealize.ShloMosaic Idealize.ShloMosaic.TcCoe Idealize.SL.Sem

/-- A sum over the tiles from `k` to before `n + 1` is that to before `n` and the last. -/
theorem sum_until (f : Fin 4 → ℝ) (k n : ℕ) (h : n < 4) (hk : k ≤ n) :
    ∑ i : Fin 4, (if i.val < n + 1 ∧ k ≤ i.val then f i else 0) = ∑ i : Fin 4, (if i.val < n ∧ k ≤ i.val then f i else 0) + f ⟨n, h⟩ := by
  rw [← Finset.sum_filter, ← Finset.sum_filter]
  have hs : (Finset.univ.filter fun i : Fin 4 => i.val < n + 1 ∧ k ≤ i.val) = insert ⟨n, h⟩ (Finset.univ.filter fun i : Fin 4 => i.val < n ∧ k ≤ i.val) := by
    ext i; simp [Fin.ext_iff]; omega
  rw [hs, Finset.sum_insert (by simp), add_comm]

/-- A sum over the tiles from `k` to before `k` is empty. -/
theorem sum_until_self (f : Fin 4 → ℝ) (k : ℕ) : ∑ i : Fin 4, (if i.val < k ∧ k ≤ i.val then f i else 0) = 0 :=
  Finset.sum_eq_zero fun i _ => if_neg (by omega)

/-- A later key has no weight. -/
theorem weight_later {a0 a1 : Fin 4 → Fin 2048 → Fin 128 → ℝ} {a5 : Fin 4 → Fin 2048 → ℝ} (j : Fin 4) (s t : Fin 2048) (h : s < t) : weight a0 a1 a5 j s t = 0 := by
  rw [weight, if_neg (not_le.2 h)]

/-! ## The key gradient's scratch -/

section
variable (v : View sig .tc .vmem S4x4x128x512 .f32)

/-- What the scratch holds of head `j` and key tile `k`, after the stores `L`. -/
def getDk (L : List (View.Piece (Elt Ideal) S4x4x128x512 .f32)) (j k : Fin 4) : Vec Ideal S1x1x128x512 .f32 := v.readCov L (rDk j k).toLoadRect

/-- A store into the tile itself is what the tile holds. -/
theorem getDk_same (L : List (View.Piece (Elt Ideal) S4x4x128x512 .f32)) (j k : Fin 4) (w : Vec Ideal S1x1x128x512 .f32) :
    getDk v (⟨rDk j k, w⟩ :: L) j k = w := View.readCov_cons_toLoadRect v _ _ _

/-- A store into another tile leaves it. -/
theorem getDk_other (L : List (View.Piece (Elt Ideal) S4x4x128x512 .f32)) (j k j' k' : Fin 4) (w : Vec Ideal S1x1x128x512 .f32)
    (h : ¬(j' = j ∧ k' = k)) : getDk v (⟨rDk j' k', w⟩ :: L) j k = getDk v L j k := by
  refine View.readCov_cons_of_disjoint v _ _ _ ?_
  show Disjoint (rDk j' k').set (rDk j k).set
  refine Finset.disjoint_left.2 fun y h1 h2 => h ?_
  rw [Rect.mem_set_unit] at h1 h2
  have h10 := h1 0; have h11 := h1 1; have h20 := h2 0; have h21 := h2 1
  simp [S1x1x128x512] at h10 h11 h20 h21
  exact ⟨Fin.ext (by omega), Fin.ext (by omega)⟩

variable (X0 X1 : Vec Ideal S1x2048x512 .bf16) (X2 : Vec Ideal S1x2048x256 .bf16) (X3 X4 : Vec Ideal S1x2048x256 .f32)
  (X5 : Vec Ideal S1x4x2048x128 .f32)

/-- What a store leaves in its tile, of what the tile held. -/
def updDk (i k j : Fin 4) (A : Vec Ideal S1x1x128x512 .f32) : Vec Ideal S1x1x128x512 .f32 :=
  if k.val = i.val then shapeCast S1x1x128x512 (dkT X0 X1 X2 X3 X4 X5 i k j) shapeCasts_S128x512_S1x1x128x512
  else shapeCast S1x1x128x512 (addf (shapeCast S128x512 A shapeCasts_S1x1x128x512_S128x512) (dkT X0 X1 X2 X3 X4 X5 i k j)) shapeCasts_S128x512_S1x1x128x512

/-- A store is one of that value. -/
theorem dkPiece_eq (i k j : Fin 4) (L : List (View.Piece (Elt Ideal) S4x4x128x512 .f32)) :
    dkPiece X0 X1 X2 X3 X4 X5 v i k j L = ⟨rDk j k, updDk X0 X1 X2 X3 X4 X5 i k j (getDk v L j k)⟩ := by
  unfold dkPiece updDk
  by_cases h : k.val = i.val
  · rw [if_pos h, if_pos h]
  · rw [if_neg h, if_neg h]; rfl

/-- The tile after the stores of the heads before `n`. -/
theorem getDk_heads (i k : Fin 4) (L : List (View.Piece (Elt Ideal) S4x4x128x512 .f32)) (j k' : Fin 4) : ∀ n, n ≤ 4 →
    getDk v (dkHeads X0 X1 X2 X3 X4 X5 v i k n L) j k' = if k' = k ∧ j.val < n then updDk X0 X1 X2 X3 X4 X5 i k j (getDk v L j k) else getDk v L j k'
  | 0, _ => by rw [dkHeads, if_neg (by omega)]
  | n + 1, hn => by
    rw [dkHeads, dif_pos (by omega), dkPiece_eq]
    by_cases h : j = ⟨n, by omega⟩ ∧ k' = k
    · obtain ⟨h1, rfl⟩ := h
      have hj : j.val = n := by rw [h1]
      rw [if_pos ⟨rfl, by omega⟩, ← h1, getDk_same, getDk_heads i k' L j k' n (by omega), if_neg (by omega)]
    · rw [getDk_other _ _ _ _ _ _ _ (fun e => h ⟨e.1.symm, e.2.symm⟩), getDk_heads i k L j k' n (by omega)]
      refine if_congr (and_congr_right fun hk => ?_) rfl rfl
      have : j.val ≠ n := fun e => h ⟨Fin.ext e, hk⟩
      omega

/-- The tile after the stores for the key tiles before `n`. -/
theorem getDk_keys (i : Fin 4) (L : List (View.Piece (Elt Ideal) S4x4x128x512 .f32)) (j k : Fin 4) : ∀ n, n ≤ 4 →
    getDk v (dkKeys X0 X1 X2 X3 X4 X5 v i n L) j k = if k.val < n then updDk X0 X1 X2 X3 X4 X5 i k j (getDk v L j k) else getDk v L j k
  | 0, _ => by rw [dkKeys, if_neg (by omega)]
  | n + 1, hn => by
    rw [dkKeys, dif_pos (by omega), getDk_heads v X0 X1 X2 X3 X4 X5 _ _ _ _ _ 4 le_rfl]
    by_cases h : k = ⟨n, by omega⟩
    · have hk : k.val = n := by rw [h]
      rw [if_pos ⟨h, j.isLt⟩, if_pos (by omega), ← h, getDk_keys i L j k n (by omega), if_neg (by omega)]
    · rw [if_neg (fun e => h e.1), getDk_keys i L j k n (by omega)]
      refine if_congr ?_ rfl rfl
      have : k.val ≠ n := fun e => h (Fin.ext e)
      omega

variable {X0 X1 X2 X3 X4 X5}
variable {a0 a1 : Fin 4 → Fin 2048 → Fin 128 → ℝ} {a2 a3 a4 : Fin 2 → Fin 2048 → Fin 128 → ℝ} {a5 : Fin 4 → Fin 2048 → ℝ}

/-- The tile after the query tiles before `n`: the sum over those at or after the key tile. -/
theorem getDk_all (H : Reads X0 X1 X2 X3 X4 X5 a0 a1 a2 a3 a4 a5) (j k : Fin 4) (d : Fin 128) (c : Fin 512) : ∀ n, n ≤ 4 → k.val < n →
    getDk v (dkAll X0 X1 X2 X3 X4 X5 v n) j k (ix4 0 0 d c)
      = ((∑ i : Fin 4, (if i.val < n ∧ k.val ≤ i.val then ∑ r, a0 j (row i r) d * grad a0 a1 a2 a3 a4 a5 j (row i r) (row k c) else 0) : ℝ) : EReal)
  | 0, _, h => absurd h (by omega)
  | n + 1, hn, hk => by
    have h4 : n < 4 := by omega
    rw [dkAll, dif_pos h4, getDk_keys v X0 X1 X2 X3 X4 X5 _ _ _ _ _ hn, if_pos hk, updDk, sum_until _ _ _ h4 (by omega), EReal.coe_add]
    by_cases e : k.val = n
    · rw [if_pos e]
      pointwise
      rw [dkT_at H _ _ _ (by show k.val ≤ n; omega), e, sum_until_self]
      simp
    · rw [if_neg e]
      pointwise
      rw [dkT_at H _ _ _ (by show k.val ≤ n; omega), getDk_all H j k d c n (by omega) (by omega)]

/-- What is stored of the key gradient. -/
theorem outDk_all (H : Reads X0 X1 X2 X3 X4 X5 a0 a1 a2 a3 a4 a5) (j k : Fin 4) (r : Fin 512) (d : Fin 128) :
    outDk (getDk v (dkAll X0 X1 X2 X3 X4 X5 v 4) j k) (ix3 0 r d)
      = ((Real.log 2 * ∑ s, a0 j s d * grad a0 a1 a2 a3 a4 a5 j s (row k r) : ℝ) : EReal) := by
  rw [outDk_at, getDk_all v H j k d r 4 le_rfl k.isLt, ← EReal.coe_mul, ← sum_row]
  congr 2
  refine Finset.sum_congr rfl fun i _ => ?_
  by_cases h : k.val ≤ i.val
  · rw [if_pos ⟨i.isLt, h⟩]
  · rw [if_neg (fun e => h e.2)]
    refine (Finset.sum_eq_zero fun q _ => ?_).symm
    rw [grad_later j _ _ (by simp only [row, Fin.mk_lt_mk]; omega), mul_zero]
end

/-! ## The value gradient's scratch -/

section
variable (v : View sig .tc .vmem S2x4x128x512 .f32)

/-- What the scratch holds of pair `j` and key tile `k`, after the stores `L`. -/
def getDv (L : List (View.Piece (Elt Ideal) S2x4x128x512 .f32)) (j : Fin 2) (k : Fin 4) : Vec Ideal S1x1x128x512 .f32 := v.readCov L (rDv j k).toLoadRect

/-- A store into the tile itself is what the tile holds. -/
theorem getDv_same (L : List (View.Piece (Elt Ideal) S2x4x128x512 .f32)) (j : Fin 2) (k : Fin 4) (w : Vec Ideal S1x1x128x512 .f32) :
    getDv v (⟨rDv j k, w⟩ :: L) j k = w := View.readCov_cons_toLoadRect v _ _ _

/-- A store into another tile leaves it. -/
theorem getDv_other (L : List (View.Piece (Elt Ideal) S2x4x128x512 .f32)) (j : Fin 2) (k : Fin 4) (j' : Fin 2) (k' : Fin 4) (w : Vec Ideal S1x1x128x512 .f32)
    (h : ¬(j' = j ∧ k' = k)) : getDv v (⟨rDv j' k', w⟩ :: L) j k = getDv v L j k := by
  refine View.readCov_cons_of_disjoint v _ _ _ ?_
  show Disjoint (rDv j' k').set (rDv j k).set
  refine Finset.disjoint_left.2 fun y h1 h2 => h ?_
  rw [Rect.mem_set_unit] at h1 h2
  have h10 := h1 0; have h11 := h1 1; have h20 := h2 0; have h21 := h2 1
  simp [S1x1x128x512] at h10 h11 h20 h21
  exact ⟨Fin.ext (by omega), Fin.ext (by omega)⟩

variable (X0 X1 : Vec Ideal S1x2048x512 .bf16) (X4 : Vec Ideal S1x2048x256 .f32)
  (X5 : Vec Ideal S1x4x2048x128 .f32)

/-- What a store leaves in its tile, of what the tile held. -/
def updDv (i k : Fin 4) (j : Fin 2) (A : Vec Ideal S1x1x128x512 .f32) : Vec Ideal S1x1x128x512 .f32 :=
  if k.val = i.val then shapeCast S1x1x128x512 (dvT X0 X1 X4 X5 i k j) shapeCasts_S128x512_S1x1x128x512
  else shapeCast S1x1x128x512 (addf (shapeCast S128x512 A shapeCasts_S1x1x128x512_S128x512) (dvT X0 X1 X4 X5 i k j)) shapeCasts_S128x512_S1x1x128x512

/-- A store is one of that value. -/
theorem dvPiece_eq (i k : Fin 4) (j : Fin 2) (L : List (View.Piece (Elt Ideal) S2x4x128x512 .f32)) :
    dvPiece X0 X1 X4 X5 v i k j L = ⟨rDv j k, updDv X0 X1 X4 X5 i k j (getDv v L j k)⟩ := by
  unfold dvPiece updDv
  by_cases h : k.val = i.val
  · rw [if_pos h, if_pos h]
  · rw [if_neg h, if_neg h]; rfl

/-- The tile after the stores of the pairs before `n`. -/
theorem getDv_heads (i k : Fin 4) (L : List (View.Piece (Elt Ideal) S2x4x128x512 .f32)) (j : Fin 2) (k' : Fin 4) : ∀ n, n ≤ 2 →
    getDv v (dvPairs X0 X1 X4 X5 v i k n L) j k' = if k' = k ∧ j.val < n then updDv X0 X1 X4 X5 i k j (getDv v L j k) else getDv v L j k'
  | 0, _ => by rw [dvPairs, if_neg (by omega)]
  | n + 1, hn => by
    rw [dvPairs, dif_pos (by omega), dvPiece_eq]
    by_cases h : j = ⟨n, by omega⟩ ∧ k' = k
    · obtain ⟨h1, rfl⟩ := h
      have hj : j.val = n := by rw [h1]
      rw [if_pos ⟨rfl, by omega⟩, ← h1, getDv_same, getDv_heads i k' L j k' n (by omega), if_neg (by omega)]
    · rw [getDv_other _ _ _ _ _ _ _ (fun e => h ⟨e.1.symm, e.2.symm⟩), getDv_heads i k L j k' n (by omega)]
      refine if_congr (and_congr_right fun hk => ?_) rfl rfl
      have : j.val ≠ n := fun e => h ⟨Fin.ext e, hk⟩
      omega

/-- The tile after the stores for the key tiles before `n`. -/
theorem getDv_keys (i : Fin 4) (L : List (View.Piece (Elt Ideal) S2x4x128x512 .f32)) (j : Fin 2) (k : Fin 4) : ∀ n, n ≤ 4 →
    getDv v (dvKeys X0 X1 X4 X5 v i n L) j k = if k.val < n then updDv X0 X1 X4 X5 i k j (getDv v L j k) else getDv v L j k
  | 0, _ => by rw [dvKeys, if_neg (by omega)]
  | n + 1, hn => by
    rw [dvKeys, dif_pos (by omega), getDv_heads v X0 X1 X4 X5 _ _ _ _ _ 2 le_rfl]
    by_cases h : k = ⟨n, by omega⟩
    · have hk : k.val = n := by rw [h]
      rw [if_pos ⟨h, j.isLt⟩, if_pos (by omega), ← h, getDv_keys i L j k n (by omega), if_neg (by omega)]
    · rw [if_neg (fun e => h e.1), getDv_keys i L j k n (by omega)]
      refine if_congr ?_ rfl rfl
      have : k.val ≠ n := fun e => h (Fin.ext e)
      omega

variable {X0 X1 X4 X5} {X2 : Vec Ideal S1x2048x256 .bf16} {X3 : Vec Ideal S1x2048x256 .f32}
variable {a0 a1 : Fin 4 → Fin 2048 → Fin 128 → ℝ} {a2 a3 a4 : Fin 2 → Fin 2048 → Fin 128 → ℝ} {a5 : Fin 4 → Fin 2048 → ℝ}

/-- The tile after the query tiles before `n`: the sum over those at or after the key tile. -/
theorem getDv_all (H : Reads X0 X1 X2 X3 X4 X5 a0 a1 a2 a3 a4 a5) (j : Fin 2) (k : Fin 4) (d : Fin 128) (c : Fin 512) : ∀ n, n ≤ 4 → k.val < n →
    getDv v (dvAll X0 X1 X4 X5 v n) j k (ix4 0 0 d c)
      = ((∑ i : Fin 4, (if i.val < n ∧ k.val ≤ i.val then ∑ r, (half a4 (headOf j 0) (row i r) d * weight a0 a1 a5 (headOf j 0) (row i r) (row k c) + half a4 (headOf j 1) (row i r) d * weight a0 a1 a5 (headOf j 1) (row i r) (row k c)) else 0) : ℝ) : EReal)
  | 0, _, h => absurd h (by omega)
  | n + 1, hn, hk => by
    have h4 : n < 4 := by omega
    rw [dvAll, dif_pos h4, getDv_keys v X0 X1 X4 X5 _ _ _ _ _ hn, if_pos hk, updDv, sum_until _ _ _ h4 (by omega), EReal.coe_add]
    by_cases e : k.val = n
    · rw [if_pos e]
      pointwise
      rw [dvT_at H _ _ _ (by show k.val ≤ n; omega), e, sum_until_self]
      simp
    · rw [if_neg e]
      pointwise
      rw [dvT_at H _ _ _ (by show k.val ≤ n; omega), getDv_all H j k d c n (by omega) (by omega)]

/-- What is stored of the value gradient. -/
theorem outDv_all (H : Reads X0 X1 X2 X3 X4 X5 a0 a1 a2 a3 a4 a5) (j : Fin 2) (k : Fin 4) (r : Fin 512) (d : Fin 128) :
    outDv (getDv v (dvAll X0 X1 X4 X5 v 4) j k) (ix3 0 r d)
      = ((∑ s, (half a4 (headOf j 0) s d * weight a0 a1 a5 (headOf j 0) s (row k r) + half a4 (headOf j 1) s d * weight a0 a1 a5 (headOf j 1) s (row k r)) : ℝ) : EReal) := by
  rw [outDv_at, getDv_all v H j k d r 4 le_rfl k.isLt, ← sum_row]
  congr 1
  refine Finset.sum_congr rfl fun i _ => ?_
  by_cases h : k.val ≤ i.val
  · rw [if_pos ⟨i.isLt, h⟩]
  · rw [if_neg (fun e => h e.2)]
    refine (Finset.sum_eq_zero fun q _ => ?_).symm
    have e : row i q < row k r := by simp only [row, Fin.mk_lt_mk]; omega
    rw [weight_later _ _ _ e, weight_later _ _ _ e, mul_zero, mul_zero, add_zero]
end

end Cert.Proof.Tiles
end
-- ==== Proof.Heads.lean ====
/- The tiles' real numbers are attention's. -/
module

public import proofs.«01_k».proof.Proof.OperandValues
public import proofs.«01_k».proof.Proof.Scratches

@[expose] public section

set_option maxRecDepth 16384

noncomputable section

namespace Cert.Proof.Heads

open Cert.KernelIdeal Cert.KernelIdeal.Gen Idealize.ShloMosaic Idealize.ShloMosaic.TcCoe Idealize.SL.Sem
open Cert.Proof.Tiles Cert.Proof.Stages

/-- Head `j` of group `u`. -/
def head (u : Fin 2) (j : Fin 4) : Fin 8 := ⟨4 * u.val + j.val, by omega⟩

/-- The head of lane `d` of pair `t` in group `u`. -/
def pairHead (u : Fin 2) (t : Fin 2) (d : Fin 128) : Fin 8 := ⟨4 * u.val + 2 * t.val + d.val / 64, by omega⟩

/-- Lane `d` of a pair within its head. -/
def low (d : Fin 128) : Fin 64 := ⟨d.val % 64, by omega⟩

/-- The place of lane `d` of pair `t` of group `u` in the output. -/
def place (u : Fin 2) (t : Fin 2) (d : Fin 128) : Fin 512 := ⟨256 * u.val + 128 * t.val + d.val, by omega⟩

/-- A place of the values among the output gradient's. -/
def wide (l : Fin 512) : Fin 1024 := ⟨l.val, by omega⟩

section
variable (q k : Fin 4 → Fin 2048 → Fin 8 → Fin 96 → ℝ) (v : Fin 4 → Fin 2048 → Fin 8 → Fin 64 → ℝ) (g : Fin 4 → Fin 2048 → Fin 1024 → ℝ)
variable (b : Fin 4) (u : Fin 2)

/-- The group's scaled queries. -/
def b0 (j : Fin 4) (s : Fin 2048) (d : Fin 128) : ℝ := padded (fun b s h d => q b s h d * (sc * (1 / Real.log 2))) b s (head u j) d

/-- The group's keys. -/
def b1 (j : Fin 4) (s : Fin 2048) (d : Fin 128) : ℝ := padded k b s (head u j) d

/-- The group's values. -/
def b2 (t : Fin 2) (s : Fin 2048) (d : Fin 128) : ℝ := v b s (pairHead u t d) (low d)

/-- The group's outputs. -/
def b3 (t : Fin 2) (s : Fin 2048) (d : Fin 128) : ℝ := rOut q k v b s (pairHead u t d) (low d)

/-- The group's output gradients. -/
def b4 (t : Fin 2) (s : Fin 2048) (d : Fin 128) : ℝ := g b s (wide (place u t d))

/-- The group's log-sums. -/
def b5 (j : Fin 4) (s : Fin 2048) : ℝ := Real.log (rSum q k b (head u j) s) * (1 / Real.log 2)

/-- A sum over a slot is the sum over its head's lanes. -/
theorem sum_slot (f : Fin 96 → ℝ) : (∑ d : Fin 128, if e : d.val < 96 then f ⟨d.val, e⟩ else 0) = ∑ d, f d := by
  rw [Fin.sum_univ_add (a := 96) (b := 32)]
  have z : ∀ d : Fin 32, (if e : (Fin.natAdd 96 d).val < 96 then f ⟨(Fin.natAdd 96 d).val, e⟩ else 0) = 0 := fun d => dif_neg (by simp)
  rw [Finset.sum_congr rfl fun d _ => z d, Finset.sum_const_zero, add_zero]
  exact Finset.sum_congr rfl fun d _ => dif_pos (by simp)

/-- A sum over one half of a pair. -/
theorem sum_half (p : ℕ) (hp : p < 2) (f : Fin 128 → ℝ) :
    (∑ d : Fin 128, if d.val / 64 = p then f d else 0) = ∑ d : Fin 64, f ⟨64 * p + d.val, by omega⟩ := by
  rw [Fin.sum_univ_add (a := 64) (b := 64)]
  rcases (by omega : p = 0 ∨ p = 1) with rfl | rfl
  · have z : ∀ d : Fin 64, (if (Fin.natAdd 64 d).val / 64 = 0 then f (Fin.natAdd 64 d) else 0) = 0 := fun d => if_neg (by simp)
    rw [Finset.sum_congr rfl fun d _ => z d, Finset.sum_const_zero, add_zero]
    exact Finset.sum_congr rfl fun d _ => (if_pos (by simp)).trans (congrArg f (Fin.ext (by simp [Nat.add_comm])))
  · have z : ∀ d : Fin 64, (if (Fin.castAdd 64 d).val / 64 = 1 then f (Fin.castAdd 64 d) else 0) = 0 := fun d => if_neg (by show ¬d.val / 64 = 1; omega)
    rw [Finset.sum_congr rfl fun d _ => z d, Finset.sum_const_zero, zero_add]
    exact Finset.sum_congr rfl fun d _ => (if_pos (by simp)).trans (congrArg f (Fin.ext (by simp [Nat.add_comm])))

/-- The tile's score. -/
theorem score_eq (j : Fin 4) (s t : Fin 2048) : ∑ d, b0 q b u j s d * b1 k b u j t d = rScore q k b (head u j) s t * (1 / Real.log 2) := by
  rw [rScore, mul_assoc, Finset.sum_mul, ← sum_slot]
  refine Finset.sum_congr rfl fun d _ => ?_
  rw [b0, b1, padded, padded]
  by_cases h : d.val < 96
  · rw [dif_pos h, dif_pos h, dif_pos h]; ring
  · rw [dif_neg h, dif_neg h, dif_neg h, zero_mul]

/-- The tile's weight is attention's. -/
theorem weight_eq (j : Fin 4) (s t : Fin 2048) : weight (b0 q b u) (b1 k b u) (b5 q k b u) j s t = rProb q k b (head u j) s t := by
  rw [weight, rProb, rExp]
  by_cases h : t ≤ s
  · have hl : Real.log 2 ≠ 0 := (Real.log_pos (by norm_num)).ne'
    have hz := rSum_pos q k b (head u j) s
    rw [if_pos h, if_pos h, score_eq, b5, ← sub_mul, Real.rpow_eq_pow, Real.rpow_def_of_pos (by norm_num), mul_comm (Real.log 2), mul_assoc, one_div_mul_cancel hl, mul_one,
      Real.exp_sub, Real.exp_log hz]
  · rw [if_neg h, if_neg h, zero_div]

/-- A head's half of a pair's product. -/
theorem half_eq (j : Fin 4) (s : Fin 2048) (x : Fin 128 → ℝ) (y : Fin 64 → ℝ) (h : ∀ d : Fin 64, x ⟨64 * (j.val % 2) + d.val, by omega⟩ = y d) :
    ∑ d, half (b4 g b u) j s d * x d = ∑ d, g b s (spot (head u j) d) * y d := by
  have e : ∀ d, half (b4 g b u) j s d * x d = if d.val / 64 = j.val % 2 then b4 g b u (pairOf j) s d * x d else 0 := fun d => by
    rw [half, ite_mul, zero_mul]
  rw [Finset.sum_congr rfl fun d _ => e d, sum_half _ (Nat.mod_lt _ (by norm_num)) fun d => b4 g b u (pairOf j) s d * x d]
  refine Finset.sum_congr rfl fun d _ => ?_
  show b4 g b u (pairOf j) s ⟨64 * (j.val % 2) + d.val, _⟩ * x ⟨64 * (j.val % 2) + d.val, _⟩ = _
  rw [h, b4]
  exact congrArg (fun l => g b s l * y d) (Fin.ext (by simp [wide, place, spot, head, pairOf]; omega))

/-- The head of a lane of its half. -/
theorem pairHead_half (j : Fin 4) (d : Fin 64) : pairHead u (pairOf j) ⟨64 * (j.val % 2) + d.val, by omega⟩ = head u j :=
  Fin.ext (by simp [pairHead, head, pairOf]; omega)

/-- The lane of its half. -/
theorem low_half (j : Fin 4) (d : Fin 64) : low ⟨64 * (j.val % 2) + d.val, by omega⟩ = d :=
  Fin.ext (by simp [low])

/-- The tile's score gradient is attention's. -/
theorem grad_eq (j : Fin 4) (s t : Fin 2048) :
    grad (b0 q b u) (b1 k b u) (b2 v b u) (b3 q k v b u) (b4 g b u) (b5 q k b u) j s t = rDs q k v g b (head u j) s t := by
  have e2 : ∑ d, half (b4 g b u) j s d * b2 v b u (pairOf j) t d = rDp v g b (head u j) s t :=
    half_eq g b u j s _ _ fun d => by rw [b2, pairHead_half, low_half]
  have e3 : ∑ d, half (b4 g b u) j s d * b3 q k v b u (pairOf j) s d = ∑ r, rProb q k b (head u j) s r * rDp v g b (head u j) s r := by
    rw [half_eq g b u j s _ (fun d => rOut q k v b s (head u j) d) fun d => by rw [b3, pairHead_half, low_half]]
    simp only [rOut, rDp, Finset.mul_sum]
    rw [Finset.sum_comm]
    exact Finset.sum_congr rfl fun r _ => Finset.sum_congr rfl fun d _ => by ring
  rw [grad, weight_eq, e2, e3, rDs]

/-- The tile's query gradient is attention's. -/
theorem dq_eq (j : Fin 4) (s : Fin 2048) (d : Fin 128) :
    sc * ∑ t, grad (b0 q b u) (b1 k b u) (b2 v b u) (b3 q k v b u) (b4 g b u) (b5 q k b u) j s t * b1 k b u j t d
      = if h : d.val < 96 then ∑ t, rDs q k v g b (head u j) s t * sc * k b t (head u j) ⟨d.val, h⟩ else 0 := by
  simp only [grad_eq, b1, padded]
  by_cases h : d.val < 96
  · simp only [dif_pos h]
    rw [Finset.mul_sum]
    exact Finset.sum_congr rfl fun t _ => by ring
  · simp only [dif_neg h, mul_zero, Finset.sum_const_zero]

/-- The tile's key gradient is attention's. -/
theorem dk_eq (j : Fin 4) (t : Fin 2048) (d : Fin 128) :
    Real.log 2 * ∑ s, b0 q b u j s d * grad (b0 q b u) (b1 k b u) (b2 v b u) (b3 q k v b u) (b4 g b u) (b5 q k b u) j s t
      = if h : d.val < 96 then ∑ s, rDs q k v g b (head u j) s t * sc * q b s (head u j) ⟨d.val, h⟩ else 0 := by
  have hl : Real.log 2 ≠ 0 := (Real.log_pos (by norm_num)).ne'
  simp only [grad_eq, b0, padded]
  by_cases h : d.val < 96
  · simp only [dif_pos h]
    rw [Finset.mul_sum]
    exact Finset.sum_congr rfl fun s _ => by field_simp
  · simp only [dif_neg h, zero_mul, Finset.sum_const_zero, mul_zero]

/-- The tile's value gradient is attention's. -/
theorem dv_eq (t : Fin 2) (r : Fin 2048) (d : Fin 128) :
    ∑ s, (half (b4 g b u) (headOf t 0) s d * weight (b0 q b u) (b1 k b u) (b5 q k b u) (headOf t 0) s r
        + half (b4 g b u) (headOf t 1) s d * weight (b0 q b u) (b1 k b u) (b5 q k b u) (headOf t 1) s r)
      = ∑ s, g b s (wide (place u t d)) * rProb q k b (pairHead u t d) s r := by
  refine Finset.sum_congr rfl fun s _ => ?_
  have hp : ∀ e : Fin 2, pairOf (headOf t e) = t := by revert t; decide
  have h0 : (headOf t 0).val % 2 = 0 := by revert t; decide
  have h1 : (headOf t 1).val % 2 = 1 := by revert t; decide
  have hh : ∀ e : Fin 2, d.val / 64 = e.val → head u (headOf t e) = pairHead u t d := fun e he =>
    Fin.ext (by simp [head, headOf, pairHead]; omega)
  rw [weight_eq, weight_eq, half, half, h0, h1, hp, hp, b4]
  by_cases h : d.val / 64 = 0
  · rw [if_pos h, if_neg (by omega), zero_mul, add_zero, hh 0 h]
  · rw [if_neg h, if_pos (by omega), zero_mul, zero_add, hh 1 (by show d.val / 64 = 1; omega)]
end

end Cert.Proof.Heads
end
-- ==== Proof.Blocks.lean ====
/- The blocks the kernel reads, in real numbers. -/
module

public import proofs.«01_k».proof.Proof.Heads

@[expose] public section

set_option maxRecDepth 16384

noncomputable section

namespace Cert.Proof.Heads

open Cert.KernelIdeal Cert.KernelIdeal.Gen Idealize.ShloMosaic Idealize.ShloMosaic.TcCoe Idealize.SL.Sem
open Cert.Proof.Tiles Cert.Proof.Stages

variable (m : (ℓ : Loc nD τ sig) → Buf (Elt Ideal) ℓ) (c : Dev nD)

/-- Each window's block at each point. -/
theorem idx : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, (grid0.coords t 1).val, 0, 0]
    ∧ win0_6.index t = ![(grid0.coords t 0).val, 0, (grid0.coords t 1).val]
    ∧ win0_7.index t = ![(grid0.coords t 0).val, 0, (grid0.coords t 1).val]
    ∧ win0_8.index t = ![(grid0.coords t 0).val, 0, (grid0.coords t 1).val] :=
  (by decide +kernel : ∀ t : Fin grid0.N, _)

/-- The point's sequence. -/
def seq (t : Fin cfg0.N) : Fin 4 := grid0.coords t 0

/-- The point's group of heads. -/
def group (t : Fin cfg0.N) : Fin 2 := grid0.coords t 1

/-- The place of lane `l` of group `u` among the slots. -/
def slot (u : Fin 2) (l : Fin 512) : Fin 1024 := ⟨512 * u.val + l.val, by omega⟩

/-- The place of lane `l` of group `u` among the values. -/
def pslot (u : Fin 2) (l : Fin 256) : Fin 512 := ⟨256 * u.val + l.val, by omega⟩

/-- The block of the queries. -/
theorem blk_q (A : Buf (Elt Ideal) ((c : Thread nD τ).loc main_v47)) (t : Fin cfg0.N) (s : Fin 2048) (l : Fin 512) :
    ((cfg0.win 0).blk t).view.read (Elt Ideal) A (ix3 0 s l) = A (ix3 (seq t) s (slot (group t) l)) := by
  have e : ((cfg0.win 0).blk t).view.emb (ix3 0 s l) = ix3 (seq t) s (slot (group t) l) := by
    blk_ext [idx t, seq, group, slot, pslot, wide]
  exact congrArg A e

/-- The block of the keys. -/
theorem blk_k (A : Buf (Elt Ideal) ((c : Thread nD τ).loc main_v50)) (t : Fin cfg0.N) (s : Fin 2048) (l : Fin 512) :
    ((cfg0.win 1).blk t).view.read (Elt Ideal) A (ix3 0 s l) = A (ix3 (seq t) s (slot (group t) l)) := by
  have e : ((cfg0.win 1).blk t).view.emb (ix3 0 s l) = ix3 (seq t) s (slot (group t) l) := by
    blk_ext [idx t, seq, group, slot, pslot, wide]
  exact congrArg A e

/-- The block of the values. -/
theorem blk_v (A : Buf (Elt Ideal) ((c : Thread nD τ).loc main_v52)) (t : Fin cfg0.N) (s : Fin 2048) (l : Fin 256) :
    ((cfg0.win 2).blk t).view.read (Elt Ideal) A (ix3 0 s l) = A (ix3 (seq t) s (pslot (group t) l)) := by
  have e : ((cfg0.win 2).blk t).view.emb (ix3 0 s l) = ix3 (seq t) s (pslot (group t) l) := by
    blk_ext [idx t, seq, group, slot, pslot, wide]
  exact congrArg A e

/-- The block of the outputs. -/
theorem blk_o (A : Buf (Elt Ideal) ((c : Thread nD τ).loc main_v53)) (t : Fin cfg0.N) (s : Fin 2048) (l : Fin 256) :
    ((cfg0.win 3).blk t).view.read (Elt Ideal) A (ix3 0 s l) = A (ix3 (seq t) s (pslot (group t) l)) := by
  have e : ((cfg0.win 3).blk t).view.emb (ix3 0 s l) = ix3 (seq t) s (pslot (group t) l) := by
    blk_ext [idx t, seq, group, slot, pslot, wide]
  exact congrArg A e

/-- The block of the output gradients. -/
theorem blk_g (A : Buf (Elt Ideal) ((c : Thread nD τ).loc main_arg3)) (t : Fin cfg0.N) (s : Fin 2048) (l : Fin 256) :
    ((cfg0.win 4).blk t).view.read (Elt Ideal) A (ix3 0 s l) = A (ix3 (seq t) s (wide (pslot (group t) l))) := by
  have e : ((cfg0.win 4).blk t).view.emb (ix3 0 s l) = ix3 (seq t) s (wide (pslot (group t) l)) := by
    blk_ext [idx t, seq, group, slot, pslot, wide]
  exact congrArg A e

/-- The block of the log-sums. -/
theorem blk_l (A : Buf (Elt Ideal) ((c : Thread nD τ).loc main_v54)) (t : Fin cfg0.N) (j : Fin 4) (s : Fin 2048) (d : Fin 128) :
    ((cfg0.win 5).blk t).view.read (Elt Ideal) A (ix4 0 j s d) = A (ix4 (seq t) (head (group t) j) s d) := by
  have e : ((cfg0.win 5).blk t).view.emb (ix4 0 j s d) = ix4 (seq t) (head (group t) j) s d := by
    blk_ext [idx t, seq, group, head]
  exact congrArg A e

section
variable {q k : Fin 4 → Fin 2048 → Fin 8 → Fin 96 → ℝ} {v : Fin 4 → Fin 2048 → Fin 8 → Fin 64 → ℝ} {g : Fin 4 → Fin 2048 → Fin 1024 → ℝ}
variable (hq : ∀ b s h d, (m ((c.tc : Thread nD τ).loc main_arg0) : FVec Ideal S4x2048x8x96 .f32) (ix4 b s h d) = ((q b s h d : ℝ) : EReal))
  (hk : ∀ b s h d, (m ((c.tc : Thread nD τ).loc main_arg1) : FVec Ideal S4x2048x8x96 .f32) (ix4 b s h d) = ((k b s h d : ℝ) : EReal))
  (hv : ∀ b s h d, (m ((c.tc : Thread nD τ).loc main_arg2) : FVec Ideal S4x2048x8x64 .f32) (ix4 b s h d) = ((v b s h d : ℝ) : EReal))
  (hg : ∀ b s l, (m ((c.tc : Thread nD τ).loc main_arg3) : FVec Ideal S4x2048x1024 .f32) (ix3 b s l) = ((g b s l : ℝ) : EReal))

include hq in
/-- The query block's entries. -/
theorem iblk_q (t : Fin cfg0.N) (j : Fin 4) (s : Fin 2048) (d : Fin 128) :
    iblk m c 0 t (ix3 0 s (lane j d)) = ((b0 q (seq t) (group t) j s d : ℝ) : EReal) := by
  unfold iblk
  refine (blk_q c (V m c main_v47) t s (lane j d)).trans ?_
  rw [V_q]
  refine (slots_real (fun b s h d => opScaled_at hq b s h d) _ _ _).trans ?_
  rw [b0]
  congr 2 <;> exact Fin.ext (by simp [slot, lane, head]; omega)

include hk in
/-- The key block's entries. -/
theorem iblk_k (t : Fin cfg0.N) (j : Fin 4) (s : Fin 2048) (d : Fin 128) :
    iblk m c 1 t (ix3 0 s (lane j d)) = ((b1 k (seq t) (group t) j s d : ℝ) : EReal) := by
  unfold iblk
  refine (blk_k c (V m c main_v50) t s (lane j d)).trans ?_
  rw [V_k]
  refine (slots_real hk _ _ _).trans ?_
  rw [b1]
  congr 2 <;> exact Fin.ext (by simp [slot, lane, head]; omega)

include hv in
/-- The value block's entries. -/
theorem iblk_v (t : Fin cfg0.N) (p : Fin 2) (s : Fin 2048) (d : Fin 128) :
    iblk m c 2 t (ix3 0 s (plane p d)) = ((b2 v (seq t) (group t) p s d : ℝ) : EReal) := by
  unfold iblk
  refine (blk_v c (V m c main_v52) t s (plane p d)).trans ?_
  rw [V_v]
  refine (opV_at hv _ _ _).trans ?_
  rw [b2]
  congr 2 <;> exact Fin.ext (by simp [pslot, plane, pairHead, low]; omega)

include hq hk hv in
/-- The output block's entries. -/
theorem iblk_o (t : Fin cfg0.N) (p : Fin 2) (s : Fin 2048) (d : Fin 128) :
    iblk m c 3 t (ix3 0 s (plane p d)) = ((b3 q k v (seq t) (group t) p s d : ℝ) : EReal) := by
  unfold iblk
  refine (blk_o c (V m c main_v53) t s (plane p d)).trans ?_
  rw [V_o]
  refine (opO_at hq hk hv _ _ _).trans ?_
  rw [b3]
  congr 2 <;> exact Fin.ext (by simp [pslot, plane, pairHead, low]; omega)

include hg in
/-- The output gradient block's entries. -/
theorem iblk_g (t : Fin cfg0.N) (p : Fin 2) (s : Fin 2048) (d : Fin 128) :
    iblk m c 4 t (ix3 0 s (plane p d)) = ((b4 g (seq t) (group t) p s d : ℝ) : EReal) := by
  unfold iblk
  refine (blk_g c (V m c main_arg3) t s (plane p d)).trans ?_
  rw [V_main_arg3]
  refine (hg _ _ _).trans ?_
  rw [b4]
  congr 2 <;> exact Fin.ext (by simp [pslot, plane, place, wide]; omega)

include hq hk in
/-- The log-sum block's entries. -/
theorem iblk_l (t : Fin cfg0.N) (j : Fin 4) (s : Fin 2048) (d : Fin 128) :
    iblk m c 5 t (ix4 0 j s d) = ((b5 q k (seq t) (group t) j s : ℝ) : EReal) := by
  unfold iblk
  refine (blk_l c (V m c main_v54) t j s d).trans ?_
  rw [V_l]
  exact opLse_at hq hk _ _ _ _

include hq hk hv hg in
/-- The point's blocks are its sequence's and group's real numbers. -/
theorem reads (t : Fin cfg0.N) : Reads (iblk m c 0 t) (iblk m c 1 t) (iblk m c 2 t) (iblk m c 3 t) (iblk m c 4 t) (iblk m c 5 t)
    (b0 q (seq t) (group t)) (b1 k (seq t) (group t)) (b2 v (seq t) (group t)) (b3 q k v (seq t) (group t)) (b4 g (seq t) (group t)) (b5 q k (seq t) (group t)) :=
  ⟨iblk_q m c hq t, iblk_k m c hk t, iblk_v m c hv t, iblk_o m c hq hk hv t, iblk_g m c hg t, iblk_l m c hq hk t⟩
end

end Cert.Proof.Heads
end
-- ==== Proof.Pieces.lean ====
/- The pieces the kernel's run finds are the tiles' stores. -/
module

public import proofs.«01_k».proof.Proof.Tiles

@[expose] public section

set_option maxRecDepth 16384

noncomputable section

namespace Cert.Proof.Tiles

open Cert.KernelIdeal Cert.KernelIdeal.Gen Idealize.ShloMosaic Idealize.ShloMosaic.TcCoe Idealize.ShloMosaic.Tactic Idealize.SL.Sem

section
variable (c : Dev nD) (i : grid0.Coords) (arg2 : Memref sig .tc .vmem S1x2048x512 .bf16) (harg2 : arg2.IsWhole) (arg3 : Memref sig .tc .vmem S1x2048x512 .bf16) (harg3 : arg3.IsWhole)
  (arg4 : Memref sig .tc .vmem S1x2048x256 .bf16) (harg4 : arg4.IsWhole) (arg5 : Memref sig .tc .vmem S1x2048x256 .f32) (harg5 : arg5.IsWhole)
  (arg6 : Memref sig .tc .vmem S1x2048x256 .f32) (harg6 : arg6.IsWhole) (arg7 : Memref sig .tc .vmem S1x4x2048x128 .f32) (harg7 : arg7.IsWhole)
  (arg8 : Memref sig .tc .vmem S1x2048x512 .bf16) (harg8 : arg8.IsWhole) (arg9 : Memref sig .tc .vmem S1x2048x512 .bf16) (harg9 : arg9.IsWhole)
  (arg10 : Memref sig .tc .vmem S1x2048x256 .bf16) (harg10 : arg10.IsWhole) (arg11 : Memref sig .tc .vmem S4x4x128x512 .f32) (harg11 : arg11.IsWhole)
  (arg12 : Memref sig .tc .vmem S2x4x128x512 .f32) (harg12 : arg12.IsWhole)
  (x0 x1 : Vec Ideal S1x2048x512 .bf16) (x2 : Vec Ideal S1x2048x256 .bf16) (x3 x4 : Vec Ideal S1x2048x256 .f32) (x5 : Vec Ideal S1x4x2048x128 .f32)

/-- The query gradient's pieces. -/
theorem run_dq : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1
    = dqPieces x0 x1 x2 x3 x4 x5 := by
  have e : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1
      = dqPieces (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4)) (arg7.view.read (Elt Ideal) (harg7.unread x5)) := by
    sl_kernel_rfl
  rw [e]; simp only [Memref.IsWhole.read_unread]

/-- The key gradient's pieces. -/
theorem run_dk : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.1
    = dkOut arg11.view (dkAll x0 x1 x2 x3 x4 x5 arg11.view 4) 4 := by
  have e : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.1
      = dkOut arg11.view (dkAll (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4)) (arg7.view.read (Elt Ideal) (harg7.unread x5)) arg11.view 4) 4 := by
    sl_kernel_rfl
  rw [e]; simp only [Memref.IsWhole.read_unread]

/-- The value gradient's pieces. -/
theorem run_dv : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.2.1
    = dvOut arg12.view (dvAll x0 x1 x4 x5 arg12.view 4) 4 := by
  have e : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.2.1
      = dvOut arg12.view (dvAll (arg2.view.read (Elt Ideal) (harg2.unread x0)) (arg3.view.read (Elt Ideal) (harg3.unread x1))
        (arg6.view.read (Elt Ideal) (harg6.unread x4)) (arg7.view.read (Elt Ideal) (harg7.unread x5)) arg12.view 4) 4 := by
    sl_kernel_rfl
  rw [e]; simp only [Memref.IsWhole.read_unread]
end

end Cert.Proof.Tiles
end
-- ==== Proof.Outs.lean ====
/- The three gradients the kernel leaves are the reference's. -/
module

public import proofs.«01_k».proof.Proof.Blocks
public import proofs.«01_k».proof.Proof.Pieces

@[expose] public section

set_option maxRecDepth 16384

noncomputable section

namespace Cert.Proof.Heads

open Cert.KernelIdeal Cert.KernelIdeal.Gen Idealize.ShloMosaic Idealize.ShloMosaic.TcCoe Idealize.SL.Sem
open Cert.Proof.Tiles Cert.Proof.Stages

/-- A block of the group's heads. -/
def blockOf (G : FVec Ideal S4x2048x1024 .bf16) (b : Fin 4) (u : Fin 2) : Vec Ideal S1x2048x512 .bf16 := fun y => G (ix3 b (y 1) (slot u (y 2)))

/-- A block of the group's values. -/
def pblockOf (G : FVec Ideal S4x2048x512 .bf16) (b : Fin 4) (u : Fin 2) : Vec Ideal S1x2048x256 .bf16 := fun y => G (ix3 b (y 1) (pslot u (y 2)))

/-- An index of a tile. -/
theorem tile_idx (x : S1x512x128.Idx) : x = ix3 0 (x 1) (x 2) := by
  funext a; fin_cases a
  · exact Subsingleton.elim (α := Fin 1) _ _
  · rfl
  · rfl

/-- A head's tile lies at its rows and lanes. -/
theorem blockOf_emb (G : FVec Ideal S4x2048x1024 .bf16) (b : Fin 4) (u : Fin 2) (i j : Fin 4) (r : Fin 512) (d : Fin 128) :
    blockOf G b u ((rHead i j).emb (ix3 0 r d)) = G (ix3 b (row i r) (slot u (lane j d))) := by
  have e1 : ((rHead i j).emb (ix3 0 r d)) 1 = row i r := Fin.ext (by blk_simp [row])
  have e2 : ((rHead i j).emb (ix3 0 r d)) 2 = lane j d := Fin.ext (by blk_simp [lane])
  unfold blockOf; rw [e1, e2]

/-- A pair's tile lies at its rows and lanes. -/
theorem pblockOf_emb (G : FVec Ideal S4x2048x512 .bf16) (b : Fin 4) (u : Fin 2) (i : Fin 4) (t : Fin 2) (r : Fin 512) (d : Fin 128) :
    pblockOf G b u ((rPair i t).emb (ix3 0 r d)) = G (ix3 b (row i r) (pslot u (plane t d))) := by
  have e1 : ((rPair i t).emb (ix3 0 r d)) 1 = row i r := Fin.ext (by blk_simp [row])
  have e2 : ((rPair i t).emb (ix3 0 r d)) 2 = plane t d := Fin.ext (by blk_simp [plane])
  unfold pblockOf; rw [e1, e2]

/-! ## Which pieces there are -/

/-- Every store of the query gradient is a head's tile. -/
theorem dqPieces_mem (X0 X1 : Vec Ideal S1x2048x512 .bf16) (X2 : Vec Ideal S1x2048x256 .bf16) (X3 X4 : Vec Ideal S1x2048x256 .f32)
    (X5 : Vec Ideal S1x4x2048x128 .f32) (p) (hp : p ∈ dqPieces X0 X1 X2 X3 X4 X5) : ∃ i j, p = ⟨rHead i j, dqT X0 X1 X2 X3 X4 X5 i j⟩ := by
  simp only [dqPieces, List.mem_cons, List.not_mem_nil, or_false] at hp
  rcases hp with h | h | h | h | h | h | h | h | h | h | h | h | h | h | h | h <;> exact ⟨_, _, h⟩

/-- Every store of the key gradient is a head's tile. -/
theorem dkOut_mem (v : View sig .tc .vmem S4x4x128x512 .f32) (L) (p) : ∀ n, p ∈ dkOut v L n → ∃ k j, p = dkOutPiece v L k j
  | 0, h => absurd h List.not_mem_nil
  | n + 1, h => by
    rw [dkOut] at h
    split_ifs at h with hn
    · rcases List.mem_append.1 h with h | h
      · simp only [List.mem_cons, List.not_mem_nil, or_false] at h
        rcases h with h | h | h | h <;> exact ⟨_, _, h⟩
      · exact dkOut_mem v L p n h
    · exact absurd h List.not_mem_nil

/-- Every store of the value gradient is a pair's tile. -/
theorem dvOut_mem (w : View sig .tc .vmem S2x4x128x512 .f32) (M) (p) : ∀ n, p ∈ dvOut w M n → ∃ k t, p = dvOutPiece w M k t
  | 0, h => absurd h List.not_mem_nil
  | n + 1, h => by
    rw [dvOut] at h
    split_ifs at h with hn
    · rcases List.mem_append.1 h with h | h
      · simp only [List.mem_cons, List.not_mem_nil, or_false] at h
        rcases h with h | h <;> exact ⟨_, _, h⟩
      · exact dvOut_mem w M p n h
    · exact absurd h List.not_mem_nil

/-! ## The tiles are the reference's -/

section
variable {A0 A1 : FVec Ideal S4x2048x8x96 .f32} {A2 : FVec Ideal S4x2048x8x64 .f32} {A3 : FVec Ideal S4x2048x1024 .f32}
variable {q k : Fin 4 → Fin 2048 → Fin 8 → Fin 96 → ℝ} {v : Fin 4 → Fin 2048 → Fin 8 → Fin 64 → ℝ} {g : Fin 4 → Fin 2048 → Fin 1024 → ℝ}
variable (hq : ∀ b s h d, A0 (ix4 b s h d) = ((q b s h d : ℝ) : EReal)) (hk : ∀ b s h d, A1 (ix4 b s h d) = ((k b s h d : ℝ) : EReal))
  (hv : ∀ b s h d, A2 (ix4 b s h d) = ((v b s h d : ℝ) : EReal)) (hg : ∀ b s l, A3 (ix3 b s l) = ((g b s l : ℝ) : EReal))
variable {X0 X1 : Vec Ideal S1x2048x512 .bf16} {X2 : Vec Ideal S1x2048x256 .bf16} {X3 X4 : Vec Ideal S1x2048x256 .f32} {X5 : Vec Ideal S1x4x2048x128 .f32}
variable {b : Fin 4} {u : Fin 2} (H : Reads X0 X1 X2 X3 X4 X5 (b0 q b u) (b1 k b u) (b2 v b u) (b3 q k v b u) (b4 g b u) (b5 q k b u))

/-- The slot's head and lane. -/
theorem slot_div (j : Fin 4) (d : Fin 128) : (slot u (lane j d)).val / 128 = (head u j).val ∧ (slot u (lane j d)).val % 128 = d.val := by
  simp only [slot, lane, head]; omega

include hq hk hv hg H in
/-- The query gradient's stores are the reference's. -/
theorem dq_pieces (p) (hp : p ∈ dqPieces X0 X1 X2 X3 X4 X5) (x : p.1.shape.Idx) : p.2 x = blockOf (dq A0 A1 A2 A3) b u (p.1.emb x) := by
  obtain ⟨i, j, rfl⟩ := dqPieces_mem _ _ _ _ _ _ p hp
  obtain ⟨r, d, rfl⟩ : ∃ (r : Fin 512) (d : Fin 128), x = ix3 0 r d := ⟨_, _, tile_idx x⟩
  refine (dqT_at H i j r d).trans ?_
  rw [blockOf_emb, dq_at hq hk hv hg, dq_eq]
  obtain ⟨e1, e2⟩ := slot_div (u := u) j d
  simp only [e1, e2]
  split_ifs <;> rfl

include hq hk hv hg H in
/-- The key gradient's stores are the reference's. -/
theorem dk_pieces (w : View sig .tc .vmem S4x4x128x512 .f32) (p) (hp : p ∈ dkOut w (dkAll X0 X1 X2 X3 X4 X5 w 4) 4) (x : p.1.shape.Idx) :
    p.2 x = blockOf (dk A0 A1 A2 A3) b u (p.1.emb x) := by
  obtain ⟨i, j, rfl⟩ := dkOut_mem _ _ p _ hp
  obtain ⟨r, d, rfl⟩ : ∃ (r : Fin 512) (d : Fin 128), x = ix3 0 r d := ⟨_, _, tile_idx x⟩
  refine (outDk_all w H j i r d).trans ?_
  show _ = blockOf (dk A0 A1 A2 A3) b u ((rHead i j).emb (ix3 0 r d))
  rw [blockOf_emb, dk_at hq hk hv hg, dk_eq]
  obtain ⟨e1, e2⟩ := slot_div (u := u) j d
  simp only [e1, e2]
  split_ifs <;> rfl

include hq hk hv hg H in
/-- The value gradient's stores are the reference's. -/
theorem dv_pieces (w : View sig .tc .vmem S2x4x128x512 .f32) (p) (hp : p ∈ dvOut w (dvAll X0 X1 X4 X5 w 4) 4) (x : p.1.shape.Idx) :
    p.2 x = pblockOf (dv A0 A1 A3) b u (p.1.emb x) := by
  obtain ⟨i, t, rfl⟩ := dvOut_mem _ _ p _ hp
  obtain ⟨r, d, rfl⟩ : ∃ (r : Fin 512) (d : Fin 128), x = ix3 0 r d := ⟨_, _, tile_idx x⟩
  refine (outDv_all w H t i r d).trans ?_
  show _ = pblockOf (dv A0 A1 A3) b u ((rPair i t).emb (ix3 0 r d))
  rw [pblockOf_emb, dv_at hq hk hg, dv_eq, EReal.coe_eq_coe_iff]
  refine Finset.sum_congr rfl fun s _ => ?_
  congr 2
  · exact Fin.ext (by simp only [wide, place, pslot, plane]; omega)
  · exact Fin.ext (by simp only [pairHead, pslot, plane]; omega)
end

/-! ## The arrays -/

section
variable (m : (ℓ : Loc nD τ sig) → Buf (Elt Ideal) ℓ) (c : Dev nD)
variable {q k : Fin 4 → Fin 2048 → Fin 8 → Fin 96 → ℝ} {v : Fin 4 → Fin 2048 → Fin 8 → Fin 64 → ℝ} {g : Fin 4 → Fin 2048 → Fin 1024 → ℝ}
variable (hq : ∀ b s h d, (m ((c.tc : Thread nD τ).loc main_arg0) : FVec Ideal S4x2048x8x96 .f32) (ix4 b s h d) = ((q b s h d : ℝ) : EReal))
  (hk : ∀ b s h d, (m ((c.tc : Thread nD τ).loc main_arg1) : FVec Ideal S4x2048x8x96 .f32) (ix4 b s h d) = ((k b s h d : ℝ) : EReal))
  (hv : ∀ b s h d, (m ((c.tc : Thread nD τ).loc main_arg2) : FVec Ideal S4x2048x8x64 .f32) (ix4 b s h d) = ((v b s h d : ℝ) : EReal))
  (hg : ∀ b s l, (m ((c.tc : Thread nD τ).loc main_arg3) : FVec Ideal S4x2048x1024 .f32) (ix3 b s l) = ((g b s l : ℝ) : EReal))

include hq hk hv hg in
/-- The query gradient's block at a point. -/
theorem outs_dq (t : Fin cfg0.N) : (outsAt0 m c t).1
    = blockOf (dq (m ((c.tc : Thread nD τ).loc main_arg0)) (m ((c.tc : Thread nD τ).loc main_arg1)) (m ((c.tc : Thread nD τ).loc main_arg2)) (m ((c.tc : Thread nD τ).loc main_arg3))) (seq t) (group t) := by
  unfold outsAt0 out0_A_6
  dsimp only
  funext y
  refine View.read_writes_apply_of_pieces _ _ _ _ ?_ y (cover0_A_6 ..)
  rw [run_dq]
  exact dq_pieces hq hk hv hg (reads m c hq hk hv hg t)

include hq hk hv hg in
/-- The key gradient's block at a point. -/
theorem outs_dk (t : Fin cfg0.N) : (outsAt0 m c t).2.1
    = blockOf (dk (m ((c.tc : Thread nD τ).loc main_arg0)) (m ((c.tc : Thread nD τ).loc main_arg1)) (m ((c.tc : Thread nD τ).loc main_arg2)) (m ((c.tc : Thread nD τ).loc main_arg3))) (seq t) (group t) := by
  unfold outsAt0 out0_A_7
  dsimp only
  funext y
  refine View.read_writes_apply_of_pieces _ _ _ _ ?_ y (cover0_A_7 ..)
  rw [run_dk]
  exact dk_pieces hq hk hv hg (reads m c hq hk hv hg t) _

include hq hk hv hg in
/-- The value gradient's block at a point. -/
theorem outs_dv (t : Fin cfg0.N) : (outsAt0 m c t).2.2
    = pblockOf (dv (m ((c.tc : Thread nD τ).loc main_arg0)) (m ((c.tc : Thread nD τ).loc main_arg1)) (m ((c.tc : Thread nD τ).loc main_arg3))) (seq t) (group t) := by
  unfold outsAt0 out0_A_8
  dsimp only
  funext y
  refine View.read_writes_apply_of_pieces _ _ _ _ ?_ y (cover0_A_8 ..)
  rw [run_dv]
  exact dv_pieces hq hk hv hg (reads m c hq hk hv hg t) _

include hq hk hv hg in
/-- The query gradient. -/
theorem arr_dq : (dats m 0 c).arrAt 6 cfg0.N
    = dq (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp [idx t]
  rw [after0_6, outs_dq m c hq hk hv hg t]
  unfold blockOf
  refine congrArg _ ?_
  blk_ext [idx t, seq, group, slot]

include hq hk hv hg in
/-- The key gradient. -/
theorem arr_dk : (dats m 0 c).arrAt 7 cfg0.N
    = dk (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t _ y => ?_
  blk_simp [idx t]
  rw [after0_7, outs_dk m c hq hk hv hg t]
  unfold blockOf
  refine congrArg _ ?_
  blk_ext [idx t, seq, group, slot]

include hq hk hv hg in
/-- The value gradient. -/
theorem arr_dv : (dats m 0 c).arrAt 8 cfg0.N
    = dv (m ((c.tc : Thread nD τ).loc main_arg0)) (m ((c.tc : Thread nD τ).loc main_arg1)) (m ((c.tc : Thread nD τ).loc main_arg3)) := by
  refine (dats m 0 c).arrAt_eq_of_covers 8 _ (by decide +kernel) fun t _ y => ?_
  blk_simp [idx t]
  rw [after0_8, outs_dv m c hq hk hv hg t]
  unfold pblockOf
  refine congrArg _ ?_
  blk_ext [idx t, seq, group, pslot]
end

end Cert.Proof.Heads
end
-- ==== Proof.Values.lean ====
/- Finite arguments are real numbers, and then the kernel's results are the reference's. -/
module

public import proofs.«01_k».proof.Defs
public import proofs.«01_k».proof.Proof.Outs
public import proofs.«01_k».proof.Proof.Gen.Pre_finite
public import Idealize.ShloMosaic.Lib.ReduceAll
public import Idealize.ShloMosaic.Lib.Affine

@[expose] public section

set_option maxRecDepth 16384

noncomputable section

namespace Cert.Proof.Values

open Idealize.ShloMosaic Idealize.ShloMosaic.TcCoe Idealize.SL.Sem
open Cert.Proof.Stages (ref_dq ref_dk ref_dv)

/-- The pattern of plus infinity. -/
theorem ofBits_inf : Ideal.ofBits .f32 0x7F800000#32 = (⊤ : EReal) := by
  simp [Ideal.ofBits, Ideal.ieee]

/-- An entry whose absolute value is below plus infinity is a real number. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [ofBits_inf] at h
  induction x with
  | bot => exact absurd h (by simp [FloatOps.cmpf, FloatOps.absf, Ideal.cmp])
  | top => exact absurd h (by simp [FloatOps.cmpf, FloatOps.absf, Ideal.cmp])
  | coe r => exact ⟨r, rfl⟩

/-- Arrays that the precondition holds of have real entries. -/
theorem finite_entries (A0 A1 : FVec Ideal Cert.Pre_finite.S4x2048x8x96 .f32) (A2 : FVec Ideal Cert.Pre_finite.S4x2048x8x64 .f32)
    (A3 : FVec Ideal Cert.Pre_finite.S4x2048x1024 .f32) (h : Cert.Pre_finite.fn (F := Ideal) A0 A1 A2 A3 = fun _ => 1#1) :
    (∀ i, ∃ r : ℝ, A0 i = (r : EReal)) ∧ (∀ i, ∃ r : ℝ, A1 i = (r : EReal)) ∧ (∀ i, ∃ r : ℝ, A2 i = (r : EReal)) ∧ (∀ i, ∃ r : ℝ, A3 i = (r : EReal)) := by
  have e := congrFun h ix0
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

/-- At finite arguments the kernel's three gradients are the reference's. -/
theorem algebraic : Cert.algebraic_KernelIdeal_ReferenceIdeal_pre_finite := by
  intro m g m' g' hpre hag
  refine ⟨fun c => Cert.Proof.Stages.dq (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => Cert.Proof.Stages.dk (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => Cert.Proof.Stages.dv (m ((c.tc : Thread _ _).loc Cert.KernelIdeal.main_arg0)) (m ((c.tc : Thread _ _).loc Cert.KernelIdeal.main_arg1))
      (m ((c.tc : Thread _ _).loc Cert.KernelIdeal.main_arg3)), ?_, ?_⟩
  · refine (θ_run Cert.KernelIdeal.defs _ _).mono (fun r h c => ?_) (Cert.KernelIdeal.Value.run_blocks (F := Ideal) m g)
    obtain ⟨h0, h1, h2, h3⟩ := finite_entries _ _ _ _ (hpre c)
    choose q hq using h0
    choose k hk using h1
    choose v hv using h2
    choose w hw using h3
    obtain ⟨r0, r1, r2, ra⟩ := h c
    exact ⟨r0.trans (Cert.Proof.Heads.arr_dq m c (q := fun b s h d => q (ix4 b s h d)) (k := fun b s h d => k (ix4 b s h d)) (v := fun b s h d => v (ix4 b s h d))
        (g := fun b s l => w (ix3 b s l)) (fun _ _ _ _ => hq _) (fun _ _ _ _ => hk _) (fun _ _ _ _ => hv _) (fun _ _ _ => hw _)),
      r1.trans (Cert.Proof.Heads.arr_dk m c (q := fun b s h d => q (ix4 b s h d)) (k := fun b s h d => k (ix4 b s h d)) (v := fun b s h d => v (ix4 b s h d))
        (g := fun b s l => w (ix3 b s l)) (fun _ _ _ _ => hq _) (fun _ _ _ _ => hk _) (fun _ _ _ _ => hv _) (fun _ _ _ => hw _)),
      r2.trans (Cert.Proof.Heads.arr_dv m c (q := fun b s h d => q (ix4 b s h d)) (k := fun b s h d => k (ix4 b s h d)) (v := fun b s h d => v (ix4 b s h d))
        (g := fun b s l => w (ix3 b s l)) (fun _ _ _ _ => hq _) (fun _ _ _ _ => hk _) (fun _ _ _ _ => hv _) (fun _ _ _ => hw _)), ra⟩
  · refine (θ_run Cert.ReferenceIdeal.defs _ _).mono (fun r h c => ?_) (Cert.ReferenceIdeal.Value.run (F := Ideal) m' g')
    obtain ⟨a0, a1, a2, a3⟩ := hag c
    obtain ⟨r0, r1, r2, ra⟩ := h c
    refine ⟨r0.trans ((ref_dq m' c).trans ?_), r1.trans ((ref_dk m' c).trans ?_), r2.trans ((ref_dv m' c).trans ?_), ra⟩
    · rw [a0, a1, a2, a3]
    · rw [a0, a1, a2, a3]
    · rw [a0, a1, a3]

end Cert.Proof.Values

end
-- ==== Proof.InFrames.lean ====
/- What the programs of the input projection's gradient do to their arguments and counters. -/
module

public import proofs.«01_k».proof.Defs
public import proofs.«01_k».proof.Proof.Gen.InKernel.Frame
public import proofs.«01_k».proof.Proof.Gen.InKernelIdeal.Frame
public import proofs.«01_k».proof.Proof.Gen.InKernelIdeal.Value
public import proofs.«01_k».proof.Proof.Gen.InReferenceIdeal.Run
public import Idealize.ShloMosaic.Lib.Quiescent

@[expose] public section

noncomputable section

open Idealize.ShloMosaic Idealize.ShloMosaic.TcCoe Idealize.SL.Sem

namespace Cert.Proof.InFrames

/-- The reference ends with its arguments unchanged and every counter at zero: its run, and it has no semaphore. -/
theorem reference : Cert.quiescent_InReferenceIdeal := fun m ρ _ =>
  (θ_run Cert.InReferenceIdeal.defs _ _).mono (fun r h => ⟨fun c => (h c).2.2,
      Idealize.ShloMosaic.sem_eq_zero_of_no_sems (by decide) r.2⟩)
    (Cert.InReferenceIdeal.Value.run (F := Ideal) m ρ)

end Cert.Proof.InFrames

end
-- ==== Proof.InTiles.lean ====
/- What the accumulator and the outputs of the weights' gradient hold, point by point. -/
module

public import proofs.«01_k».proof.Proof.InFrames
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.InTiles

open Idealize.ShloMosaic.Tactic Idealize.ShloMosaic.View
open Cert.InKernelIdeal Cert.InKernelIdeal.Gen Idealize.ShloMosaic Idealize.ShloMosaic.TcCoe Idealize.SL.Sem

variable (m : (ℓ : Loc nD τ sig) → Buf (Elt Ideal) ℓ) (c : Dev nD)

/-- The accumulator starts from zero. -/
theorem hzero (j) : k0_pay1 (F := Ideal) j = 0 := by pointwise [k0_pay1]

/-- Each point adds the product of its two blocks. -/
theorem hpay (acc x1 x0 j) : k0_pay2 (F := Ideal) acc x1 x0 j = acc j + ∑ k : Fin 1024, x1 (ix2 k (j 0)) * x0 (ix2 k (j 1)) := by
  pointwise [k0_pay2]

/-- The block of gradients a point reads. -/
abbrev blkZ (t : Fin cfg0.N) : FVec Ideal S1024x2560 .bf16 := iblk m c 0 t

/-- The block of inputs a point reads. -/
abbrev blkH (t : Fin cfg0.N) : FVec Ideal S1024x512 .bf16 := iblk m c 1 t

/-- The accumulator after a point. -/
def acc (t : Fin cfg0.N) : Vec Ideal S2560x512 .f32 := (outsAt0 m c t.val t.isLt).2.2

/-- The accumulator at the last point of a run is the sum of the run's products. -/
theorem acc_last (t : Fin cfg0.N) (h : t.val % 8 = 7) (j : S2560x512.Idx) :
    acc m c t j = ∑ s : Fin 8, ∑ k : Fin 1024,
      blkZ m c ⟨8 * (t.val / 8) + s.val, Pipeline.run_point_lt_of_flush t h s⟩ (ix2 k (j 0))
        * blkH m c ⟨8 * (t.val / 8) + s.val, Pipeline.run_point_lt_of_flush t h s⟩ (ix2 k (j 1)) := by
  unfold acc
  rw [Pipeline.eq_sum_fin_of_reset_step_apply_of_flush (fun n h => (outsAt0 m c n h).2.2) 8 (fun _ => 0)
    (fun t j => ∑ k : Fin 1024, blkZ m c t (ix2 k (j 0)) * blkH m c t (ix2 k (j 1)))
    (fun t h j => by
      rw [outsAt0_A m c t h (by omega)]; frame_out
      rw [hpay, hzero])
    (fun t h j => by
      by_cases h1 : t.val % 8 = 7
      · rw [outsAt0_C m c t h h1]; frame_out
        rw [hpay, read_unread_whole]
      · rw [outsAt0_B m c t h h1]; frame_out
        rw [hpay, read_unread_whole])
    t h j, zero_add]

/-! ## The rows of the outputs -/

/-- The row of the accumulator that holds a natural column. -/
def srcRow (r : ℕ) : ℕ :=
  if r < 640 then r else if r < 672 then r + 64 else if r < 1184 then r + 96
  else if r < 1696 then 1280 + 64 * (2 * ((r - 1184) / 64 % 4) + (r - 1184) / 256) + (r - 1184) % 64
  else if r < 1952 then r + 96
  else 2048 + 64 * (2 * ((r - 1952) / 64 % 4) + (r - 1952) / 256) + (r - 1952) % 64

theorem srcRow_lt (r : ℕ) (h : r < 2464) : srcRow r < 2560 := by
  unfold srcRow; split_ifs <;> omega

/-- The slots: eight groups of 308 rows of the accumulator, each followed by twelve rows of zeros. -/
def spread (T : Vec Ideal S2560x512 .f32) : Vec Ideal S8x320x512 .f32 := fun y =>
  if h : (y 1).val < 308 then T (ix2 ⟨srcRow (308 * (y 0).val + (y 1).val), srcRow_lt _ (by have : (y 0).val < 8 := (y 0).isLt; omega)⟩ (y 2)) else 0

/-- A row of a slot below 308. -/
theorem spread_row (T : Vec Ideal S2560x512 .f32) (y : S8x320x512.Idx) (a : ℕ) (ha : a < 2560) (b : Fin 512) (h : (y 1).val < 308)
    (e : a = srcRow (308 * (y 0).val + (y 1).val)) (hb : (y 2).val = b.val) : T (ix2 ⟨a, ha⟩ b) = spread T y := by
  subst e
  have hb : b = y 2 := Fin.ext hb.symm
  subst hb
  unfold spread; rw [dif_pos h]

/-- A row of a slot from 308 on. -/
theorem spread_zero (T : Vec Ideal S2560x512 .f32) (y : S8x320x512.Idx) (h : ¬(y 1).val < 308) : 0 = spread T y := by
  unfold spread; rw [dif_neg h]

/-- The accumulator a run's last point stores. -/
theorem acc_eq (t : Fin cfg0.N) (h0 : ¬t.val % 8 = 0) (h : t.val % 8 = 7) :
    acc m c t = k0_pay2 (F := Ideal) (outsAt0 m c (t.val - 1) (Nat.lt_of_le_of_lt (Nat.sub_le _ _) t.isLt)).2.2 (iblk m c 0 t) (iblk m c 1 t) := by
  unfold acc
  rw [outsAt0_C m c t h0 h]; frame_out
  rw [read_unread_whole]

set_option maxHeartbeats 1600000 in
/-- The first output after a run's last point. -/
theorem out0_last (t : Fin cfg0.N) (h0 : ¬t.val % 8 = 0) (h : t.val % 8 = 7) (y : S8x320x512.Idx) :
    (outsAt0 m c t.val t.isLt).1 y = spread (acc m c t) y := by
  have e := acc_eq m c t h0 h
  rw [outsAt0_C m c t h0 h]; frame_out
  simp only [read_unread_whole]
  rw [← e]
  generalize acc m c t = T
  canon_tiles x h using View.cover_of_tiledBy _ ![1, 4, 512] (by sl_kernel_rfl) y
  all_goals try rw [readCov_fill _ _ _ _ _ (by intro a; fin_cases a <;> rfl)]
  all_goals open_payloads; pointwise
  all_goals first
    | (refine spread_zero T y ?_; omega)
    | (refine spread_row T y _ _ _ (by omega) ?_ h2; unfold srcRow; split_ifs <;> omega)

set_option maxHeartbeats 1600000 in
/-- The second output after a run's last point. -/
theorem out1_last (t : Fin cfg0.N) (h0 : ¬t.val % 8 = 0) (h : t.val % 8 = 7) (y : S8x320x512.Idx) :
    (outsAt0 m c t.val t.isLt).2.1 y = spread (acc m c t) y := by
  have e := acc_eq m c t h0 h
  rw [outsAt0_C m c t h0 h]; frame_out
  simp only [read_unread_whole]
  rw [← e]
  generalize acc m c t = T
  canon_tiles x h using View.cover_of_tiledBy _ ![1, 4, 512] (by sl_kernel_rfl) y
  all_goals try rw [readCov_fill _ _ _ _ _ (by intro a; fin_cases a <;> rfl)]
  all_goals open_payloads; pointwise
  all_goals first
    | (refine spread_zero T y ?_; omega)
    | (refine spread_row T y _ _ _ (by omega) ?_ h2; unfold srcRow; split_ifs <;> omega)

end Cert.Proof.InTiles

end
-- ==== Proof.InValues.lean ====
/- The gradient of the input projection at its weights: the kernel's slots are the reference's. -/
module

public import proofs.«01_k».proof.Proof.InTiles
public import Idealize.ShloMosaic.Lib.Claim

@[expose] public section

set_option maxRecDepth 16384

noncomputable section

namespace Cert.Proof.InValues

open Cert.InKernelIdeal Cert.InKernelIdeal.Gen Idealize.ShloMosaic Idealize.ShloMosaic.TcCoe Idealize.SL.Sem
open Cert.Proof.InTiles

/-! ## The operands the host lays out -/

/-- Pairs of heads: of the two groups of four, one of each in turn. -/
def pairs (z : FVec Ideal S8192x512 .f32) : FVec Ideal S8192x512 .f32 :=
  shapeCast S8192x512 (transpose S8192x4x2x64 [0, 2, 1, 3] (shapeCast S8192x2x4x64 z shapeCasts_S8192x512_S8192x2x4x64) transposes_S8192x2x4x64_S8192x4x2x64_0_2_1_3)
    shapeCasts_S8192x4x2x64_S8192x512

/-- The rows of all sequences. -/
def rows (A : FVec Ideal S4x2048x2464 .f32) : FVec Ideal S8192x2464 .f32 := shapeCast S8192x2464 A shapeCasts_S4x2048x2464_S8192x2464

/-- The gradient's columns among 2560. -/
def opZ (A : FVec Ideal S4x2048x2464 .f32) : FVec Ideal S8192x2560 .bf16 :=
  truncf .bf16 (concatenate S8192x2560 1
    [⟨S8192x640, extractStridedSlice S8192x640 ![0, 0] (rows A) slices_S8192x2464_S8192x640_0_0⟩,
     ⟨S8192x64, broadcastInDim S8192x64 ![] bcast_S_S8192x64 (constant (F := Ideal) S_ .f32 0x00000000#32)⟩,
     ⟨S8192x32, extractStridedSlice S8192x32 ![0, 640] (rows A) slices_S8192x2464_S8192x32_0_640⟩,
     ⟨S8192x32, broadcastInDim S8192x32 ![] bcast_S_S8192x32 (constant (F := Ideal) S_ .f32 0x00000000#32)⟩,
     ⟨S8192x512, extractStridedSlice S8192x512 ![0, 672] (rows A) slices_S8192x2464_S8192x512_0_672⟩,
     ⟨S8192x512, pairs (extractStridedSlice S8192x512 ![0, 1184] (rows A) slices_S8192x2464_S8192x512_0_1184)⟩,
     ⟨S8192x256, extractStridedSlice S8192x256 ![0, 1696] (rows A) slices_S8192x2464_S8192x256_0_1696⟩,
     ⟨S8192x512, pairs (extractStridedSlice S8192x512 ![0, 1952] (rows A) slices_S8192x2464_S8192x512_0_1952)⟩]
    concatenates_S8192x640_S8192x64_S8192x32_S8192x32_S8192x512_S8192x512_S8192x256_S8192x512_S8192x2560_d1) bitsLt_bf16_f32

/-- The inputs' rows. -/
def opH (A : FVec Ideal S4x2048x1024 .f32) : FVec Ideal S8192x1024 .bf16 :=
  truncf .bf16 (shapeCast S8192x1024 A shapeCasts_S4x2048x1024_S8192x1024) bitsLt_bf16_f32

section
variable (m : (ℓ : Loc nD τ sig) → Buf (Elt Ideal) ℓ) (c : Dev nD)

set_option maxHeartbeats 1600000 in
/-- The gradient operand. -/
theorem V_z : V m c main_v16 = opZ (m ((c.tc : Thread nD τ).loc main_arg2)) := by
  simp only [V, List.flatten_cons, List.flatten_nil, List.append_nil, hostOps0, List.cons_append, List.nil_append]
  after_results_simp
  sl_kernel_rfl

/-- The input operand. -/
theorem V_h : V m c main_v18 = opH (m ((c.tc : Thread nD τ).loc main_arg0)) := by
  simp only [V, List.flatten_cons, List.flatten_nil, List.append_nil, hostOps0, List.cons_append, List.nil_append]
  after_results_simp
  sl_kernel_rfl

end

/-- The order of pairs, undone. -/
theorem pairs_inv (w : ℕ) (hw : w < 512) :
    (64 * (2 * (w / 64 % 4) + w / 256) + w % 64) / 64 % 2 * 256 + (64 * (2 * (w / 64 % 4) + w / 256) + w % 64) / 128 * 64
      + (64 * (2 * (w / 64 % 4) + w / 256) + w % 64) % 64 = w :=
  (by decide +kernel : ∀ w : Fin 512, (64 * (2 * (w.val / 64 % 4) + w.val / 256) + w.val % 64) / 64 % 2 * 256
    + (64 * (2 * (w.val / 64 % 4) + w.val / 256) + w.val % 64) / 128 * 64 + (64 * (2 * (w.val / 64 % 4) + w.val / 256) + w.val % 64) % 64 = w.val) ⟨w, hw⟩

set_option maxHeartbeats 1600000 in
/-- A natural column of the gradient operand. -/
theorem opZ_at (A : FVec Ideal S4x2048x2464 .f32) (t : Fin 8192) (x : Fin 2560) (r : ℕ) (hr : r < 2464) (hx : x.val = srcRow r) :
    opZ A (ix2 t x) = A (ix3 ⟨t.val / 2048, by omega⟩ ⟨t.val % 2048, by omega⟩ ⟨r, hr⟩) := by
  pointwise [opZ, pairs, rows]
  simp only [Nat.sub_sub, Nat.reduceAdd]
  unfold srcRow at hx
  split_ifs at hx
  all_goals repeat (first | rw [dif_pos (by omega)] | rw [dif_neg (by omega)])
  all_goals refine congrArg A ?_; refine congrArg (ix3 _ _) (Fin.ext ?_); dsimp only
  · omega
  · omega
  · omega
  · have e := pairs_inv (r - 1184) (by omega)
    rw [show x.val - 1280 = 64 * (2 * ((r - 1184) / 64 % 4) + (r - 1184) / 256) + (r - 1184) % 64 from by rw [hx]; generalize (r - 1184) % 64 = v; generalize (r - 1184) / 64 % 4 = w; omega, e]
    omega
  · omega
  · have e := pairs_inv (r - 1952) (by omega)
    rw [show x.val - 2048 = 64 * (2 * ((r - 1952) / 64 % 4) + (r - 1952) / 256) + (r - 1952) % 64 from by rw [hx]; generalize (r - 1952) % 64 = v; generalize (r - 1952) / 64 % 4 = w; omega, e]
    omega

/-- An entry of the input operand. -/
theorem opH_at (A : FVec Ideal S4x2048x1024 .f32) (t : Fin 8192) (l : Fin 1024) :
    opH A (ix2 t l) = A (ix3 ⟨t.val / 2048, by omega⟩ ⟨t.val % 2048, by omega⟩ l) := by
  pointwise [opH]
  blk_ext

/-! ## The reference -/

/-- The gradient's columns as rows in the devices' slots. -/
def slots (A0 : FVec Ideal S4x2048x1024 .f32) (A2 : FVec Ideal S4x2048x2464 .f32) : FVec Ideal Cert.InReferenceIdeal.S8x320x1024 .f32 :=
  pad Cert.InReferenceIdeal.S8x320x1024 ![0, 0, 0] ![0, 12, 0] ![0, 0, 0] (shapeCast _ (transpose Cert.InReferenceIdeal.S2464x1024 [1, 0] (transpose Cert.InReferenceIdeal.S1024x2464 [1, 0] (Host.dotGeneral Cert.InReferenceIdeal.dot_S4x2048x2464_S4x2048x1024_S2464x1024_01_01_2_2_n_n none A2 A0) Cert.InReferenceIdeal.Facts₀.transposes_S2464x1024_S1024x2464_1_0) Cert.InReferenceIdeal.Facts₀.transposes_S1024x2464_S2464x1024_1_0) Cert.InReferenceIdeal.Facts₀.shapeCasts_S2464x1024_S8x308x1024) (sitofp .f32 (constantI Cert.InReferenceIdeal.S_ 32 0#32)) Cert.InReferenceIdeal.Facts₀.pads_S8x308x1024_S8x320x1024_000_0120_000 Cert.InReferenceIdeal.Facts₀.h_S_

/-- An entry of the slots. -/
theorem slots_at (A0 : FVec Ideal S4x2048x1024 .f32) (A2 : FVec Ideal S4x2048x2464 .f32) (d : Fin 8) (a : Fin 320) (n : Fin 1024) :
    slots A0 A2 (ix3 d a n) = if h : a.val < 308 then ∑ b : Fin 4, ∑ s : Fin 2048, A2 (ix3 b s ⟨308 * d.val + a.val, by omega⟩) * A0 (ix3 b s n) else 0 := by
  pointwise [slots]
  split_ifs with h
  · refine Finset.sum_congr rfl fun b _ => Finset.sum_congr rfl fun s _ => ?_
    rw [show (⟨d.val * 308 + a.val, by omega⟩ : Fin 2464) = ⟨308 * d.val + a.val, by omega⟩ from Fin.ext (by show d.val * 308 + a.val = 308 * d.val + a.val; omega)]
  · show ((((0#32 : BitVec 32).toInt : ℤ) : ℝ) : EReal) = 0
    simp

/-- The second result holds the same numbers. -/
theorem slots_trunc (A0 : FVec Ideal S4x2048x1024 .f32) (A2 : FVec Ideal S4x2048x2464 .f32) (y) : truncf .bf16 (slots A0 A2) Cert.InReferenceIdeal.Facts₀.bitsLt_bf16_f32 y = slots A0 A2 y := rfl

/-! ## The blocks the kernel reads -/

section
variable (m : (ℓ : Loc nD τ sig) → Buf (Elt Ideal) ℓ) (c : Dev nD)

/-- Each window's block at each point. -/
theorem idx : ∀ t : Fin cfg0.N, win0_0.index t = ![t.val % 8, 0] ∧ win0_1.index t = ![t.val % 8, t.val / 8]
    ∧ win0_2.index t = ![0, 0, t.val / 8] ∧ win0_3.index t = ![0, 0, t.val / 8] :=
  (by decide +kernel : ∀ t : Fin grid0.N, _)

/-- The block of the gradients. -/
theorem blk_z (A : Buf (Elt Ideal) ((c : Thread nD τ).loc main_v16)) (t : Fin cfg0.N) (k : Fin 1024) (x : Fin 2560) :
    ((cfg0.win 0).blk t).view.read (Elt Ideal) A (ix2 k x) = A (ix2 ⟨t.val % 8 * 1024 + k.val, by omega⟩ x) := by
  have e : ((cfg0.win 0).blk t).view.emb (ix2 k x) = ix2 ⟨t.val % 8 * 1024 + k.val, by omega⟩ x := by
    blk_ext [idx t]
  exact congrArg A e

/-- The block of the inputs. -/
theorem blk_h (A : Buf (Elt Ideal) ((c : Thread nD τ).loc main_v18)) (t : Fin cfg0.N) (ht : t.val < 16) (k : Fin 1024) (l : Fin 512) :
    ((cfg0.win 1).blk t).view.read (Elt Ideal) A (ix2 k l) = A (ix2 ⟨t.val % 8 * 1024 + k.val, by omega⟩ ⟨t.val / 8 * 512 + l.val, by omega⟩) := by
  have e : ((cfg0.win 1).blk t).view.emb (ix2 k l) = ix2 ⟨t.val % 8 * 1024 + k.val, by omega⟩ ⟨t.val / 8 * 512 + l.val, by omega⟩ := by
    blk_ext [idx t]
  exact congrArg A e

/-- An entry of the block of the gradients. -/
theorem blkZ_at (t : Fin cfg0.N) (k : Fin 1024) (x : Fin 2560) :
    blkZ m c t (ix2 k x) = opZ (m ((c.tc : Thread nD τ).loc main_arg2)) (ix2 ⟨t.val % 8 * 1024 + k.val, by omega⟩ x) := by
  unfold blkZ iblk
  refine (blk_z c (V m c main_v16) t k x).trans ?_
  rw [V_z]

/-- An entry of the block of the inputs. -/
theorem blkH_at (t : Fin cfg0.N) (ht : t.val < 16) (k : Fin 1024) (l : Fin 512) :
    blkH m c t (ix2 k l) = opH (m ((c.tc : Thread nD τ).loc main_arg0)) (ix2 ⟨t.val % 8 * 1024 + k.val, by omega⟩ ⟨t.val / 8 * 512 + l.val, by omega⟩) := by
  unfold blkH iblk
  refine (blk_h c (V m c main_v18) t ht k l).trans ?_
  rw [V_h]

/-- An entry of the slots the accumulator fills. -/
theorem spread_at (T : Vec Ideal S2560x512 .f32) (d : Fin 8) (a : Fin 320) (l : Fin 512) :
    spread T (ix3 d a l) = if h : a.val < 308 then T (ix2 ⟨srcRow (308 * d.val + a.val), srcRow_lt _ (by omega)⟩ l) else 0 := rfl

/-- A term of a contraction over all rows. -/
def prod (A0 : FVec Ideal S4x2048x1024 .f32) (A2 : FVec Ideal S4x2048x2464 .f32) (r : Fin 2464) (n : Fin 1024) (l : Fin 8192) : EReal :=
  A2 (ix3 ⟨l.val / 2048, by omega⟩ ⟨l.val % 2048, by omega⟩ r) * A0 (ix3 ⟨l.val / 2048, by omega⟩ ⟨l.val % 2048, by omega⟩ n)

/-- What a run leaves in the slots is the reference's. -/
theorem spread_acc (t : Fin cfg0.N) (h : t.val % 8 = 7) (ht : t.val < 16) (d : Fin 8) (a : Fin 320) (l : Fin 512) :
    spread (acc m c t) (ix3 d a l) = slots (m ((c.tc : Thread nD τ).loc main_arg0)) (m ((c.tc : Thread nD τ).loc main_arg2))
      (ix3 d a ⟨t.val / 8 * 512 + l.val, by omega⟩) := by
  rw [slots_at, spread_at]
  by_cases hy : a.val < 308
  · rw [dif_pos hy, dif_pos hy, acc_last m c t h]
    generalize hN : (⟨t.val / 8 * 512 + l.val, _⟩ : Fin 1024) = n
    generalize hR : (⟨308 * d.val + a.val, _⟩ : Fin 2464) = r
    have e8 : ∀ s : Fin 8, (8 * (t.val / 8) + s.val) % 8 = s.val ∧ (8 * (t.val / 8) + s.val) / 8 = t.val / 8 ∧ 8 * (t.val / 8) + s.val < 16 := fun s => by omega
    refine (Fin.sum_mul_add_congr (L := 8192) (f := prod (m ((c.tc : Thread nD τ).loc main_arg0)) (m ((c.tc : Thread nD τ).loc main_arg2)) r n) (fun s k hl => ?_)).trans
      (Fin.sum_mul_add_congr (L := 8192) (fun s k hl => ?_)).symm
    · unfold prod
      refine congrArg₂ (· * ·) ((blkZ_at m c ⟨8 * (t.val / 8) + s.val, _⟩ k _).trans ((opZ_at _ _ _ r.val r.isLt ?_).trans ?_))
        ((blkH_at m c ⟨8 * (t.val / 8) + s.val, _⟩ (e8 s).2.2 k _).trans ((opH_at _ _ _).trans ?_))
      · subst hR; rfl
      · simp only [(e8 s).1]
      · subst hN
        simp only [(e8 s).1, (e8 s).2.1]
        rfl
    · unfold prod
      have e1 : (s.val * 2048 + k.val) / 2048 = s.val := by omega
      have e2 : (s.val * 2048 + k.val) % 2048 = k.val := by omega
      simp only [e1, e2]
  · rw [dif_neg hy, dif_neg hy]

/-- The first result is the reference's. -/
theorem arr0 : (dats m 0 c).arrAt 2 cfg0.N = slots (m ((c.tc : Thread nD τ).loc main_arg0)) (m ((c.tc : Thread nD τ).loc main_arg2)) := by
  refine (dats m 0 c).arrAt_eq_of_covers 2 _ (by decide +kernel) fun t hf y => ?_
  have ht : t.val < 16 := lt_of_lt_of_eq t.isLt N_0
  have h := (flush0_2 t).mp hf
  obtain ⟨d, a, l, rfl⟩ : ∃ (d : Fin 8) (a : Fin 320) (l : Fin 512), y = ix3 d a l := ⟨y 0, y 1, y 2, by funext i; fin_cases i <;> rfl⟩
  blk_simp [idx t]
  rw [after0_2]
  refine (out0_last m c t (by omega) h _).trans ((spread_acc m c t h ht d a l).trans ?_)
  refine congrArg _ ?_
  blk_ext [idx t]

/-- The second result is the reference's. -/
theorem arr1 : (dats m 0 c).arrAt 3 cfg0.N = slots (m ((c.tc : Thread nD τ).loc main_arg0)) (m ((c.tc : Thread nD τ).loc main_arg2)) := by
  refine (dats m 0 c).arrAt_eq_of_covers 3 _ (by decide +kernel) fun t hf y => ?_
  have ht : t.val < 16 := lt_of_lt_of_eq t.isLt N_0
  have h := (flush0_3 t).mp hf
  obtain ⟨d, a, l, rfl⟩ : ∃ (d : Fin 8) (a : Fin 320) (l : Fin 512), y = ix3 d a l := ⟨y 0, y 1, y 2, by funext i; fin_cases i <;> rfl⟩
  blk_simp [idx t]
  rw [after0_3]
  refine (out1_last m c t (by omega) h _).trans ((spread_acc m c t h ht d a l).trans ?_)
  refine congrArg _ ?_
  blk_ext [idx t]

end

/-- The kernel's two results are the reference's. -/
theorem algebraic : Cert.algebraic_InKernelIdeal_InReferenceIdeal := by
  intro m g m' g' _ hag
  refine ⟨fun c => slots (m ((c.tc : Thread _ _).loc Cert.InKernelIdeal.main_arg0)) (m ((c.tc : Thread _ _).loc Cert.InKernelIdeal.main_arg2)),
    fun c => slots (m ((c.tc : Thread _ _).loc Cert.InKernelIdeal.main_arg0)) (m ((c.tc : Thread _ _).loc Cert.InKernelIdeal.main_arg2)), ?_, ?_⟩
  · refine (θ_run Cert.InKernelIdeal.defs _ _).mono (fun r h c => ?_) (Cert.InKernelIdeal.Value.run_blocks (F := Ideal) m g)
    obtain ⟨r0, r1, ra⟩ := h c
    exact ⟨r0.trans (arr0 m c), r1.trans (arr1 m c), ra⟩
  · refine (θ_run Cert.InReferenceIdeal.defs _ _).mono (fun r h c => ?_) (Cert.InReferenceIdeal.Value.run (F := Ideal) m' g')
    obtain ⟨a0, a1, a2⟩ := hag c
    obtain ⟨r0, r1, ra⟩ := h c
    refine ⟨r0.trans ?_, r1.trans ?_, ra⟩
    · rw [a0, a2]; rfl
    · rw [a0, a2]; rfl

end Cert.Proof.InValues

end
-- ==== Proof.PostFrames.lean ====
/- What the programs from the attentions to the loss do to their arguments and counters. -/
module

public import proofs.«01_k».proof.Defs
public import proofs.«01_k».proof.Proof.Gen.PostKernel.Frame
public import proofs.«01_k».proof.Proof.Gen.PostKernelIdeal.Frame
public import proofs.«01_k».proof.Proof.Gen.PostKernelIdeal.Value
public import proofs.«01_k».proof.Proof.Gen.PostReferenceIdeal.Run
public import Idealize.ShloMosaic.Lib.Quiescent

@[expose] public section

noncomputable section

open Idealize.ShloMosaic Idealize.ShloMosaic.TcCoe Idealize.SL.Sem

namespace Cert.Proof.PostFrames

/-- The reference ends with its arguments unchanged and every counter at zero: its run, and it has no semaphore. -/
theorem reference : Cert.quiescent_PostReferenceIdeal := fun m ρ _ =>
  (θ_run Cert.PostReferenceIdeal.defs _ _).mono (fun r h => ⟨fun c => (h c).2.2.2.2.2.2.2.2,
      Idealize.ShloMosaic.sem_eq_zero_of_no_sems (by decide) r.2⟩)
    (Cert.PostReferenceIdeal.Value.run (F := Ideal) m ρ)

end Cert.Proof.PostFrames

end
-- ==== Proof.PostRows.lean ====
/- A row of the step from the attentions to the loss, and its gradients, in real numbers. -/
module

public import Idealize.ShloMosaic.Lib.Pipeline.ValueKit
public import Idealize.ShloMosaic.Lib.Pointwise

@[expose] public section

noncomputable section

namespace Cert.Proof.Post

open Idealize.ShloMosaic

/-- The number the mean of squares is moved from zero by. -/
def eps : ℝ := 8796093 * (2 ^ 43)⁻¹

theorem ofBits_eps : Ideal.ofBits .f32 0x358637BD#32 = (eps : EReal) := by
  simp [Ideal.ofBits, Ideal.ieee, eps]

theorem eps_pos : 0 < eps := by unfold eps; positivity

theorem ofBits_1024 : Ideal.ofBits .f32 0x44800000#32 = ((1024 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

theorem ofBits_1024th : Ideal.ofBits .f32 0x3A800000#32 = ((1 / 1024 : ℝ) : EReal) := by
  simp [Ideal.ofBits, Ideal.ieee]; rw [← EReal.coe_mul]; norm_num

theorem ofBits_2048th : Ideal.ofBits .f32 0x3A000000#32 = ((1 / 2048 : ℝ) : EReal) := by
  simp [Ideal.ofBits, Ideal.ieee]; rw [← EReal.coe_mul]; norm_num

/-- A quotient of real numbers. -/
theorem div_real (x y : ℝ) (h : y ≠ 0) : Ideal.div (x : EReal) (y : EReal) = ((x / y : ℝ) : EReal) := by
  rw [Ideal.div_coe h, ← EReal.coe_mul, mul_one_div]

/-- A sum of real numbers. -/
theorem coe_sum {ι : Type*} (s : Finset ι) (f : ι → ℝ) : ∑ i ∈ s, ((f i : ℝ) : EReal) = ((∑ i ∈ s, f i : ℝ) : EReal) := by
  induction s using Finset.cons_induction with
  | empty => simp
  | cons a s h ih => rw [Finset.sum_cons, Finset.sum_cons, ih, EReal.coe_add]

/-- What one row of the step takes: the attentions' outputs and gates, the weights, the row before, its gate, the last
    gain, the row aimed at. -/
structure Row where
  /-- the attentions' outputs -/
  o : Fin 1024 → ℝ
  /-- their gates -/
  g : Fin 1024 → ℝ
  /-- the weights -/
  w : Fin 1024 → Fin 1024 → ℝ
  /-- the row before -/
  x : Fin 1024 → ℝ
  /-- the gate of what is added to it -/
  gate : Fin 1024 → ℝ
  /-- the last gain -/
  f : Fin 1024 → ℝ
  /-- the row aimed at -/
  tgt : Fin 1024 → ℝ

namespace Row

variable (r : Row)

/-- The gate's sigmoid. -/
def sg (k : Fin 1024) : ℝ := 1 / (1 + Real.exp (-r.g k))

/-- The gate. -/
def silu (k : Fin 1024) : ℝ := r.g k * r.sg k

/-- The gated outputs. -/
def a (k : Fin 1024) : ℝ := r.o k * r.silu k

/-- Their projection. -/
def y (n : Fin 1024) : ℝ := ∑ k, r.a k * r.w k n

/-- The row after. -/
def xo (n : Fin 1024) : ℝ := r.x n + r.gate n * r.y n

/-- Its mean square, moved from zero. -/
def ms : ℝ := (∑ n, r.xo n * r.xo n) / 1024 + eps

/-- The inverse root. -/
def inv : ℝ := (Real.sqrt r.ms)⁻¹

/-- The row of mean square one. -/
def xh (n : Fin 1024) : ℝ := r.xo n * r.inv

/-- What the row misses its aim by. -/
def diff (n : Fin 1024) : ℝ := r.xh n * r.f n - r.tgt n

/-- The loss's gradient at the last row. -/
def dout (n : Fin 1024) : ℝ := r.diff n * (1 / 1024)

/-- Its gradient at the row of mean square one. -/
def dxh (n : Fin 1024) : ℝ := r.dout n * r.f n

/-- Its gradient at the row after. -/
def dx (n : Fin 1024) : ℝ := r.inv * (r.dxh n - r.xh n * ((∑ l, r.dxh l * r.xh l) / 1024))

/-- Its gradient at the projection. -/
def dy (n : Fin 1024) : ℝ := r.dx n * r.gate n

/-- Its gradient at the gated outputs. -/
def da (k : Fin 1024) : ℝ := ∑ n, r.dy n * r.w k n

/-- Its gradient at the outputs. -/
def dO (k : Fin 1024) : ℝ := r.da k * r.silu k

/-- Its gradient at the gates. -/
def dg (k : Fin 1024) : ℝ := r.da k * r.o k * (r.sg k * (1 + r.g k * (1 - r.sg k)))

theorem ms_pos : 0 < r.ms :=
  add_pos_of_nonneg_of_pos (div_nonneg (Finset.sum_nonneg fun n _ => mul_self_nonneg _) (by norm_num)) eps_pos

theorem rsqrt_ms : Ideal.rsqrt (r.ms : EReal) = (r.inv : EReal) := by
  rw [Ideal.rsqrt_coe, if_neg (not_lt.2 r.ms_pos.le), if_neg r.ms_pos.ne']; rfl

theorem inv_sq : r.inv * r.inv = 1 / r.ms := by
  rw [inv, ← mul_inv, Real.mul_self_sqrt r.ms_pos.le, one_div]

/-- The sigmoid's denominator is positive. -/
theorem sg_den (k : Fin 1024) : (1 + Real.exp (-r.g k) : ℝ) ≠ 0 := (add_pos one_pos (Real.exp_pos _)).ne'

/-- The gradient at the row after, as the derivative of the quotient by the root gives it. -/
theorem dx_eq (n : Fin 1024) :
    r.dxh n * r.inv + r.xo n * ((∑ l, r.xo l * r.dxh l) * (-(1 / 2) * (r.inv / r.ms)) / 1024)
      + (∑ l, r.xo l * r.dxh l) * (-(1 / 2) * (r.inv / r.ms)) / 1024 * r.xo n = r.dx n := by
  have e : ∑ l, r.dxh l * r.xh l = r.inv * ∑ l, r.xo l * r.dxh l := by
    rw [Finset.mul_sum]; exact Finset.sum_congr rfl fun l _ => by unfold xh; ring
  have h : r.inv / r.ms = r.inv * (r.inv * r.inv) := by rw [inv_sq]; ring
  rw [dx, e, h, xh]; ring

/-- The row with the outputs, their gates and the weights' rows in another order. -/
def perm (σ : Fin 1024 ≃ Fin 1024) : Row := { r with o := fun k => r.o (σ k), g := fun k => r.g (σ k), w := fun k => r.w (σ k) }

variable (σ : Fin 1024 ≃ Fin 1024)

theorem perm_a (k : Fin 1024) : (r.perm σ).a k = r.a (σ k) := rfl

theorem perm_y : (r.perm σ).y = r.y := by
  funext n
  exact Equiv.sum_comp σ fun k => r.a k * r.w k n

theorem perm_xo : (r.perm σ).xo = r.xo := by
  funext n; unfold xo; rw [perm_y]; rfl

theorem perm_inv : (r.perm σ).inv = r.inv := by
  unfold inv ms; rw [perm_xo]

theorem perm_xh : (r.perm σ).xh = r.xh := by
  funext n; unfold xh; rw [perm_xo, perm_inv]

theorem perm_diff : (r.perm σ).diff = r.diff := by
  funext n; unfold diff; rw [perm_xh]; rfl

theorem perm_dout : (r.perm σ).dout = r.dout := by
  funext n; unfold dout; rw [perm_diff]

theorem perm_dx : (r.perm σ).dx = r.dx := by
  funext n; unfold dx dxh; rw [perm_inv, perm_xh, perm_dout]; rfl

theorem perm_dy : (r.perm σ).dy = r.dy := by
  funext n; unfold dy; rw [perm_dx]; rfl

theorem perm_da (k : Fin 1024) : (r.perm σ).da k = r.da (σ k) := by
  unfold da; rw [perm_dy]; rfl

theorem perm_dO (k : Fin 1024) : (r.perm σ).dO k = r.dO (σ k) := by
  unfold dO; rw [perm_da]; rfl

theorem perm_dg (k : Fin 1024) : (r.perm σ).dg k = r.dg (σ k) := by
  unfold dg; rw [perm_da]; rfl

end Row

/-- The column of the outputs a column of the kernel's holds: the second half comes in pairs of heads. -/
def col (k : ℕ) : ℕ := if k < 512 then k else 512 + ((k - 512) / 64 % 2 * 256 + (k - 512) / 128 * 64 + (k - 512) % 64)

/-- The kernel's column that holds a column of the outputs. -/
def uncol (k : ℕ) : ℕ := if k < 512 then k else 512 + (64 * (2 * ((k - 512) / 64 % 4) + (k - 512) / 256) + (k - 512) % 64)

theorem col_lt (k : Fin 1024) : col k.val < 1024 := (by decide +kernel : ∀ k : Fin 1024, col k.val < 1024) k

theorem uncol_lt (k : Fin 1024) : uncol k.val < 1024 := (by decide +kernel : ∀ k : Fin 1024, uncol k.val < 1024) k

theorem uncol_col (k : Fin 1024) : uncol (col k.val) = k.val := (by decide +kernel : ∀ k : Fin 1024, uncol (col k.val) = k.val) k

theorem col_uncol (k : Fin 1024) : col (uncol k.val) = k.val := (by decide +kernel : ∀ k : Fin 1024, col (uncol k.val) = k.val) k

/-- The order of the kernel's columns. -/
def cols : Fin 1024 ≃ Fin 1024 where
  toFun k := ⟨col k.val, col_lt k⟩
  invFun k := ⟨uncol k.val, uncol_lt k⟩
  left_inv k := Fin.ext (uncol_col k)
  right_inv k := Fin.ext (col_uncol k)

/-- The step's arguments as real numbers. -/
structure Data where
  /-- the latent attention's outputs -/
  o0 : Fin 4 → Fin 2048 → Fin 512 → ℝ
  /-- the window attention's outputs -/
  o1 : Fin 4 → Fin 2048 → Fin 512 → ℝ
  /-- the first outputs' gates -/
  g0 : Fin 4 → Fin 2048 → Fin 512 → ℝ
  /-- the second outputs' gates -/
  g1 : Fin 4 → Fin 2048 → Fin 512 → ℝ
  /-- the weights -/
  w : Fin 1024 → Fin 1024 → ℝ
  /-- the rows before -/
  x : Fin 4 → Fin 2048 → Fin 1024 → ℝ
  /-- each sequence's gate -/
  gate : Fin 4 → Fin 1024 → ℝ
  /-- the last gain -/
  f : Fin 1024 → ℝ
  /-- the rows aimed at -/
  tgt : Fin 4 → Fin 2048 → Fin 1024 → ℝ

/-- Two halves side by side. -/
def side (a b : Fin 512 → ℝ) (k : Fin 1024) : ℝ := if h : k.val < 512 then a ⟨k.val, h⟩ else b ⟨k.val - 512, by omega⟩

theorem side_lt (a b : Fin 512 → ℝ) (k : Fin 512) (h : k.val < 1024) : side a b ⟨k.val, h⟩ = a k := dif_pos k.isLt

theorem side_ge (a b : Fin 512 → ℝ) (k : Fin 512) (n : Fin 1024) (h : n.val = k.val + 512) : side a b n = b k := by
  unfold side
  rw [dif_neg (by omega)]
  exact congrArg b (Fin.ext (by dsimp only; omega))

namespace Data

variable (D : Data)

/-- A row of a sequence. -/
def row (b : Fin 4) (s : Fin 2048) : Row where
  o := side (D.o0 b s) (D.o1 b s)
  g := side (D.g0 b s) (D.g1 b s)
  w := D.w
  x := D.x b s
  gate := D.gate b
  f := D.f
  tgt := D.tgt b s

/-- A row among all sequences'. -/
def at' (t : Fin 8192) : Row := D.row ⟨t.val / 2048, by omega⟩ ⟨t.val % 2048, by omega⟩

/-- One of the loss's 128 parts. -/
def loss (l : Fin 128) : ℝ :=
  ∑ t, ∑ j : Fin 8, (D.at' t).diff ⟨128 * j.val + l.val, by omega⟩ * (D.at' t).diff ⟨128 * j.val + l.val, by omega⟩ / 2048

/-- The gradient at the last gain. -/
def dfg (n : Fin 1024) : ℝ := ∑ t, (D.at' t).dout n * (D.at' t).xh n

/-- The gradient at a sequence's gate. -/
def dgate (b : Fin 4) (n : Fin 1024) : ℝ := ∑ s, (D.row b s).dx n * (D.row b s).y n

/-- The gradient at the weights. -/
def dw (k n : Fin 1024) : ℝ := ∑ t, (D.at' t).a k * (D.at' t).dy n

/-- A sum over all rows, sequence by sequence. -/
theorem sum_rows (F : Row → ℝ) : ∑ b, ∑ s, F (D.row b s) = ∑ t, F (D.at' t) := by
  refine Fin.sum_mul_add_congr (L := 8192) (fun b s hl => ?_)
  unfold at'
  have e1 : (b.val * 2048 + s.val) / 2048 = b.val := by omega
  have e2 : (b.val * 2048 + s.val) % 2048 = s.val := by omega
  simp only [e1, e2]

end Data

end Cert.Proof.Post

end
-- ==== Proof.PostTiles.lean ====
/- What each stage of the output projection's step holds at a block whose entries are rows of real numbers. -/
module

public import proofs.«01_k».proof.Proof.Gen.PostKernelIdeal.Skeleton
public import proofs.«01_k».proof.Proof.PostRows
public import Idealize.ShloMosaic.Lib.Pipeline.ValueKit
public import Idealize.ShloMosaic.Lib.Pointwise

@[expose] public section

set_option maxRecDepth 16384

noncomputable section

namespace Cert.Proof.PostTiles

open Idealize.ShloMosaic.Tactic Idealize.ShloMosaic.View
open Cert.PostKernelIdeal Cert.PostKernelIdeal.Gen Idealize.ShloMosaic Idealize.ShloMosaic.TcCoe Idealize.SL.Sem
open Cert.Proof.Post

/-- The blocks of a point hold the rows `R`. -/
structure Holds (R : Fin 512 → Row) (om osw : FVec Ideal S512x512 .f32) (g : FVec Ideal S512x1024 .f32) (w : FVec Ideal S1024x1024 .bf16)
    (x : FVec Ideal S512x1024 .f32) (gate : FVec Ideal S1x1x1024 .f32) (f : FVec Ideal S1x1024 .f32) (tgt : FVec Ideal S512x1024 .f32) : Prop where
  /-- the first half of the outputs -/
  om : ∀ p (k : Fin 512), om (ix2 p k) = ((R p).o ⟨k.val, by omega⟩ : ℝ)
  /-- the second half of the outputs -/
  osw : ∀ p (k : Fin 512), osw (ix2 p k) = ((R p).o ⟨512 + k.val, by omega⟩ : ℝ)
  /-- the gates -/
  g : ∀ p k, g (ix2 p k) = ((R p).g k : ℝ)
  /-- the weights -/
  w : ∀ p k n, w (ix2 k n) = ((R p).w k n : ℝ)
  /-- the rows before -/
  x : ∀ p n, x (ix2 p n) = ((R p).x n : ℝ)
  /-- the gate of what is added -/
  gate : ∀ p n, gate (ix3 0 0 n) = ((R p).gate n : ℝ)
  /-- the last gain -/
  f : ∀ p n, f (ix2 0 n) = ((R p).f n : ℝ)
  /-- the rows aimed at -/
  tgt : ∀ p n, tgt (ix2 p n) = ((R p).tgt n : ℝ)

variable {R : Fin 512 → Row} {om osw : FVec Ideal S512x512 .f32} {g : FVec Ideal S512x1024 .f32} {w : FVec Ideal S1024x1024 .bf16}
  {x : FVec Ideal S512x1024 .f32} {gate : FVec Ideal S1x1x1024 .f32} {f : FVec Ideal S1x1024 .f32} {tgt : FVec Ideal S512x1024 .f32}
  (h : Holds R om osw g w x gate f tgt)

include h

theorem g_at (p : Fin 512) (k : Fin 1024) : k0_pay13 (F := Ideal) g (ix2 p k) = ((R p).g k : ℝ) := by
  refine Eq.trans ?_ (h.g p k)
  pointwise [k0_pay13]

/-- The sigmoids. -/
theorem sg_at (p : Fin 512) (k : Fin 1024) : k0_pay14 (F := Ideal) g (ix2 p k) = ((R p).sg k : ℝ) := by
  have e : k0_pay14 (F := Ideal) g (ix2 p k) = Ideal.div 1 (1 + Ideal.exp (0 - k0_pay13 (F := Ideal) g (ix2 p k))) := by
    pointwise [k0_pay14]
  rw [e, g_at h, zero_sub, ← EReal.coe_neg, Ideal.exp_coe, ← EReal.coe_one, ← EReal.coe_add, div_real _ _ ((R p).sg_den k)]; rfl

/-- The gates. -/
theorem silu_at (p : Fin 512) (k : Fin 1024) : k0_pay15 (F := Ideal) g (ix2 p k) = ((R p).silu k : ℝ) := by
  have e : k0_pay15 (F := Ideal) g (ix2 p k) = k0_pay13 (F := Ideal) g (ix2 p k) * k0_pay14 (F := Ideal) g (ix2 p k) := by
    pointwise [k0_pay15]
  rw [e, g_at h, sg_at h, ← EReal.coe_mul]; rfl

/-- The outputs side by side. -/
theorem o_at (p : Fin 512) (k : Fin 1024) : k0_pay16 (F := Ideal) om osw (ix2 p k) = ((R p).o k : ℝ) := by
  have e : k0_pay16 (F := Ideal) om osw (ix2 p k)
      = if hk : k.val < 512 then om (ix2 p ⟨k.val, hk⟩) else osw (ix2 p ⟨k.val - 512, by omega⟩) := by
    pointwise [k0_pay16]
  rw [e]; split_ifs with hk
  · exact h.om p ⟨k.val, hk⟩
  · refine (h.osw p ⟨k.val - 512, by omega⟩).trans ?_
    congr 2; refine Fin.ext ?_; dsimp only; omega

/-- The gated outputs. -/
theorem a_at (p : Fin 512) (k : Fin 1024) : k0_pay17 (F := Ideal) g om osw (ix2 p k) = ((R p).a k : ℝ) := by
  have e : k0_pay17 (F := Ideal) g om osw (ix2 p k) = k0_pay16 (F := Ideal) om osw (ix2 p k) * k0_pay15 (F := Ideal) g (ix2 p k) := by
    pointwise [k0_pay17]
  rw [e, o_at h, silu_at h, ← EReal.coe_mul]; rfl

/-- The projection. -/
theorem y_at (p : Fin 512) (n : Fin 1024) : k0_pay18 (F := Ideal) g om osw w (ix2 p n) = ((R p).y n : ℝ) := by
  have e : k0_pay18 (F := Ideal) g om osw w (ix2 p n) = ∑ k, k0_pay17 (F := Ideal) g om osw (ix2 p k) * w (ix2 k n) := by
    pointwise [k0_pay18]
  rw [e, Row.y, ← coe_sum]
  exact Finset.sum_congr rfl fun k _ => by rw [a_at h, h.w p, ← EReal.coe_mul]

/-- The rows after. -/
theorem xo_at (p : Fin 512) (n : Fin 1024) : k0_pay20 (F := Ideal) g om osw w gate x (ix2 p n) = ((R p).xo n : ℝ) := by
  have e : k0_pay20 (F := Ideal) g om osw w gate x (ix2 p n)
      = x (ix2 p n) + gate (ix3 0 0 n) * k0_pay18 (F := Ideal) g om osw w (ix2 p n) := by
    pointwise [k0_pay20, k0_pay19]
  rw [e, h.x, h.gate p, y_at h, ← EReal.coe_mul, ← EReal.coe_add]; rfl

/-- The inverse roots. -/
theorem inv_at (p : Fin 512) : k0_pay21 (F := Ideal) g om osw w gate x (ix2 p 0) = ((R p).inv : ℝ) := by
  have e : k0_pay21 (F := Ideal) g om osw w gate x (ix2 p 0)
      = Ideal.rsqrt (Ideal.div (∑ n, k0_pay20 (F := Ideal) g om osw w gate x (ix2 p n) * k0_pay20 (F := Ideal) g om osw w gate x (ix2 p n))
          (Ideal.ofBits .f32 0x44800000#32) + Ideal.ofBits .f32 0x358637BD#32) := by
    pointwise [k0_pay21]
  have es : ∑ n, k0_pay20 (F := Ideal) g om osw w gate x (ix2 p n) * k0_pay20 (F := Ideal) g om osw w gate x (ix2 p n)
      = ((∑ n, (R p).xo n * (R p).xo n : ℝ) : EReal) := by
    rw [← coe_sum]; exact Finset.sum_congr rfl fun n _ => by rw [xo_at h, ← EReal.coe_mul]
  rw [e, es, ofBits_1024, ofBits_eps, div_real _ _ (by norm_num), ← EReal.coe_add]
  exact (R p).rsqrt_ms

/-- The rows of mean square one. -/
theorem xh_at (p : Fin 512) (n : Fin 1024) : k0_pay22 (F := Ideal) g om osw w gate x (ix2 p n) = ((R p).xh n : ℝ) := by
  have e : k0_pay22 (F := Ideal) g om osw w gate x (ix2 p n)
      = k0_pay20 (F := Ideal) g om osw w gate x (ix2 p n) * k0_pay21 (F := Ideal) g om osw w gate x (ix2 p 0) := by
    pointwise [k0_pay22]
  rw [e, xo_at h, inv_at h, ← EReal.coe_mul]; rfl

variable {v34 : FVec Ideal S512x1 .f32} {v36 : FVec Ideal S512x1024 .f32} {v9 v1 v8 v14 v82 : FVec Ideal S512x1024 .f32} {v21 : FVec Ideal S1x1024 .f32}

/-- What is missed. -/
theorem diff_at (h36 : ∀ p n, v36 (ix2 p n) = ((R p).xh n : ℝ)) (p : Fin 512) (n : Fin 1024) :
    k0_pay24 (F := Ideal) v36 f tgt (ix2 p n) = ((R p).diff n : ℝ) := by
  have e : k0_pay24 (F := Ideal) v36 f tgt (ix2 p n) = v36 (ix2 p n) * f (ix2 0 n) - tgt (ix2 p n) := by
    pointwise [k0_pay24, k0_pay23]
  rw [e, h36, h.f p, h.tgt, ← EReal.coe_mul, ← EReal.coe_sub]; rfl

/-- The loss's gradient. -/
theorem dout_at (h36 : ∀ p n, v36 (ix2 p n) = ((R p).xh n : ℝ)) (p : Fin 512) (n : Fin 1024) :
    k0_pay26 (F := Ideal) v36 f tgt (ix2 p n) = ((R p).dout n : ℝ) := by
  have e : k0_pay26 (F := Ideal) v36 f tgt (ix2 p n) = k0_pay24 (F := Ideal) v36 f tgt (ix2 p n) * Ideal.ofBits .f32 0x3A800000#32 := by
    pointwise [k0_pay26]
  rw [e, diff_at h h36, ofBits_1024th, ← EReal.coe_mul]; rfl

/-- The squares of what is missed, eight lanes of a row and the rows of a block summed. -/
theorem part_at (h36 : ∀ p n, v36 (ix2 p n) = ((R p).xh n : ℝ)) (l : Fin 128) :
    k0_pay25 (F := Ideal) v36 f tgt (ix2 0 l)
      = ((∑ j : Fin 8, ∑ p, (R p).diff ⟨128 * j.val + l.val, by omega⟩ * (R p).diff ⟨128 * j.val + l.val, by omega⟩ : ℝ) : EReal) := by
  have e : k0_pay25 (F := Ideal) v36 f tgt (ix2 0 l) = ∑ j : Fin 8, ∑ p : Fin 512,
      k0_pay24 (F := Ideal) v36 f tgt (ix2 p ⟨128 * j.val + l.val, by omega⟩) * k0_pay24 (F := Ideal) v36 f tgt (ix2 p ⟨128 * j.val + l.val, by omega⟩) := by
    rw [Fin.sum_univ_eight]
    pointwise [k0_pay25]
  rw [e, ← coe_sum]
  refine Finset.sum_congr rfl fun j _ => ?_
  rw [← coe_sum]
  exact Finset.sum_congr rfl fun p _ => by rw [diff_at h h36, ← EReal.coe_mul]

/-- The gradient at the rows after. -/
theorem dx_at (h34 : ∀ p, v34 (ix2 p 0) = ((R p).inv : ℝ)) (h36 : ∀ p n, v36 (ix2 p n) = ((R p).xh n : ℝ)) (p : Fin 512) (n : Fin 1024) :
    k0_pay27 (F := Ideal) v34 v36 f tgt (ix2 p n) = ((R p).dx n : ℝ) := by
  have e : k0_pay27 (F := Ideal) v34 v36 f tgt (ix2 p n)
      = v34 (ix2 p 0) * (k0_pay26 (F := Ideal) v36 f tgt (ix2 p n) * f (ix2 0 n)
          - v36 (ix2 p n) * Ideal.div (∑ l, k0_pay26 (F := Ideal) v36 f tgt (ix2 p l) * f (ix2 0 l) * v36 (ix2 p l)) (Ideal.ofBits .f32 0x44800000#32)) := by
    pointwise [k0_pay27, k0_pay23]
  have es : ∑ l, k0_pay26 (F := Ideal) v36 f tgt (ix2 p l) * f (ix2 0 l) * v36 (ix2 p l)
      = ((∑ l, (R p).dxh l * (R p).xh l : ℝ) : EReal) := by
    rw [← coe_sum]
    exact Finset.sum_congr rfl fun l _ => by rw [dout_at h h36, h.f p, h36, ← EReal.coe_mul, ← EReal.coe_mul]; rfl
  rw [e, es, dout_at h h36, h34, h36, h.f p, ofBits_1024, div_real _ _ (by norm_num), ← EReal.coe_mul, ← EReal.coe_mul, ← EReal.coe_sub,
    ← EReal.coe_mul]; rfl

/-- The gradient at the projection. -/
theorem dy_at (h21 : ∀ p n, v21 (ix2 0 n) = ((R p).gate n : ℝ)) (h34 : ∀ p, v34 (ix2 p 0) = ((R p).inv : ℝ))
    (h36 : ∀ p n, v36 (ix2 p n) = ((R p).xh n : ℝ)) (p : Fin 512) (n : Fin 1024) :
    k0_pay28 (F := Ideal) v21 v34 v36 f tgt (ix2 p n) = ((R p).dy n : ℝ) := by
  have e : k0_pay28 (F := Ideal) v21 v34 v36 f tgt (ix2 p n) = k0_pay27 (F := Ideal) v34 v36 f tgt (ix2 p n) * v21 (ix2 0 n) := by
    pointwise [k0_pay28]
  rw [e, dx_at h h34 h36, h21 p, ← EReal.coe_mul]; rfl

/-- The gradient at the gated outputs. -/
theorem da_at (h21 : ∀ p n, v21 (ix2 0 n) = ((R p).gate n : ℝ)) (h34 : ∀ p, v34 (ix2 p 0) = ((R p).inv : ℝ))
    (h36 : ∀ p n, v36 (ix2 p n) = ((R p).xh n : ℝ)) (p : Fin 512) (k : Fin 1024) :
    k0_pay29 (F := Ideal) v21 v34 v36 f tgt w (ix2 p k) = ((R p).da k : ℝ) := by
  have e : k0_pay29 (F := Ideal) v21 v34 v36 f tgt w (ix2 p k) = ∑ n, k0_pay28 (F := Ideal) v21 v34 v36 f tgt (ix2 p n) * w (ix2 k n) := by
    pointwise [k0_pay29]
  rw [e, Row.da, ← coe_sum]
  exact Finset.sum_congr rfl fun n _ => by rw [dy_at h h21 h34 h36, h.w p, ← EReal.coe_mul]

/-- The gradient at the outputs. -/
theorem dO_at (h9 : ∀ p k, v9 (ix2 p k) = ((R p).silu k : ℝ)) (h21 : ∀ p n, v21 (ix2 0 n) = ((R p).gate n : ℝ))
    (h34 : ∀ p, v34 (ix2 p 0) = ((R p).inv : ℝ)) (h36 : ∀ p n, v36 (ix2 p n) = ((R p).xh n : ℝ)) (p : Fin 512) (k : Fin 1024) :
    k0_pay30 (F := Ideal) v9 v21 v34 v36 f tgt w (ix2 p k) = ((R p).dO k : ℝ) := by
  have e : k0_pay30 (F := Ideal) v9 v21 v34 v36 f tgt w (ix2 p k)
      = k0_pay29 (F := Ideal) v21 v34 v36 f tgt w (ix2 p k) * v9 (ix2 p k) := by
    pointwise [k0_pay30]
  rw [e, da_at h h21 h34 h36, h9, ← EReal.coe_mul]; rfl

omit h

/-- The gradient at the gates. -/
theorem dg_at (h1 : ∀ p k, v1 (ix2 p k) = ((R p).g k : ℝ)) (h8 : ∀ p k, v8 (ix2 p k) = ((R p).sg k : ℝ))
    (h14 : ∀ p k, v14 (ix2 p k) = ((R p).o k : ℝ)) (h82 : ∀ p k, v82 (ix2 p k) = ((R p).da k : ℝ)) (p : Fin 512) (k : Fin 1024) :
    k0_pay31 (F := Ideal) v1 v8 v14 v82 (ix2 p k) = ((R p).dg k : ℝ) := by
  have e : k0_pay31 (F := Ideal) v1 v8 v14 v82 (ix2 p k)
      = v82 (ix2 p k) * v14 (ix2 p k) * (v8 (ix2 p k) * (1 + v1 (ix2 p k) * (1 - v8 (ix2 p k)))) := by
    pointwise [k0_pay31]
  rw [e, h1, h8, h14, h82, ← EReal.coe_one]
  simp only [← EReal.coe_mul, ← EReal.coe_sub, ← EReal.coe_add]; rfl

/-- The loss's parts grow by a point's squares. -/
theorem loss_step (v61 acc : FVec Ideal S1x128 .f32) (j) :
    k0_pay36 (F := Ideal) v61 acc j = acc j + Ideal.ofBits .f32 0x3A000000#32 * v61 j := by pointwise [k0_pay36]

/-- The gradient at the last gain grows by a point's rows. -/
theorem dfg_step (v36 v63 : FVec Ideal S512x1024 .f32) (acc : FVec Ideal S1x1024 .f32) (j) :
    k0_pay1 (F := Ideal) v36 v63 acc j = acc j + ∑ p : Fin 512, v63 (ix2 p (j 1)) * v36 (ix2 p (j 1)) := by pointwise [k0_pay1]

/-- The gradient at a sequence's gate grows by a point's rows. -/
theorem dgate_step (v19 v75 : FVec Ideal S512x1024 .f32) (acc : FVec Ideal S1x1x1024 .f32) (j) :
    k0_pay2 (F := Ideal) v19 v75 acc j = acc j + ∑ p : Fin 512, v75 (ix2 p (j 2)) * v19 (ix2 p (j 2)) := by pointwise [k0_pay2]

/-- The gradient at the weights grows by a point's product. -/
theorem dw_step (v16 v79 : FVec Ideal S512x1024 .bf16) (acc : FVec Ideal S1024x1024 .f32) (j) :
    k0_pay3 (F := Ideal) v16 v79 acc j = acc j + ∑ p : Fin 512, v16 (ix2 p (j 0)) * v79 (ix2 p (j 1)) := by pointwise [k0_pay3]

/-- The loss's parts start from zero. -/
theorem loss_zero (j) : k0_pay32 (F := Ideal) j = 0 := by pointwise [k0_pay32]

/-- The gradient at the last gain starts from zero. -/
theorem dfg_zero (j) : k0_pay33 (F := Ideal) j = 0 := by pointwise [k0_pay33]

/-- The gradient at the weights starts from zero. -/
theorem dw_zero (j) : k0_pay34 (F := Ideal) j = 0 := by pointwise [k0_pay34]

/-- The gradient at a sequence's gate starts from zero. -/
theorem dgate_zero (j) : k0_pay35 (F := Ideal) j = 0 := by pointwise [k0_pay35]

end Cert.Proof.PostTiles

end
-- ==== Proof.PostOuts.lean ====
/- What the outputs of the output projection's step hold, point by point. -/
module

public import proofs.«01_k».proof.Proof.PostFrames
public import proofs.«01_k».proof.Proof.PostTiles
public import Idealize.ShloMosaic.Lib.Pipeline.ReadBack

@[expose] public section

set_option maxRecDepth 16384

noncomputable section

namespace Cert.Proof.PostOuts

open Idealize.ShloMosaic.Tactic Idealize.ShloMosaic.View
open Cert.PostKernelIdeal Cert.PostKernelIdeal.Gen Idealize.ShloMosaic Idealize.ShloMosaic.TcCoe Idealize.SL.Sem
open Cert.Proof.Post Cert.Proof.PostTiles

variable (m : (ℓ : Loc nD τ sig) → Buf (Elt Ideal) ℓ) (c : Dev nD) (t : Fin cfg0.N)

/-- the block of the latent attention's outputs -/
abbrev bOm : FVec Ideal S512x512 .f32 := iblk m c 0 t
/-- the block of the window attention's outputs -/
abbrev bOsw : FVec Ideal S512x512 .f32 := iblk m c 1 t
/-- the block of the gates -/
abbrev bG : FVec Ideal S512x1024 .f32 := iblk m c 2 t
/-- the block of the weights -/
abbrev bW : FVec Ideal S1024x1024 .bf16 := iblk m c 3 t
/-- the block of the rows before -/
abbrev bX : FVec Ideal S512x1024 .f32 := iblk m c 4 t
/-- the block of the sequence's gate -/
abbrev bGate : FVec Ideal S1x1x1024 .f32 := iblk m c 5 t
/-- the block of the last gain -/
abbrev bF : FVec Ideal S1x1024 .f32 := iblk m c 6 t
/-- the block of the rows aimed at -/
abbrev bTgt : FVec Ideal S512x1024 .f32 := iblk m c 7 t

/-- the inverse roots of a point -/
abbrev pInv : FVec Ideal S512x1 .f32 := k0_pay21 (F := Ideal) (bG m c t) (bOm m c t) (bOsw m c t) (bW m c t) (bGate m c t) (bX m c t)
/-- the rows of mean square one of a point -/
abbrev pXh : FVec Ideal S512x1024 .f32 := k0_pay22 (F := Ideal) (bG m c t) (bOm m c t) (bOsw m c t) (bW m c t) (bGate m c t) (bX m c t)
/-- the gradient at the rows after of a point -/
abbrev pDx : FVec Ideal S512x1024 .f32 := k0_pay27 (F := Ideal) (pInv m c t) (pXh m c t) (bF m c t) (bTgt m c t)
/-- the gradient at the projection of a point -/
abbrev pDy : FVec Ideal S512x1024 .bf16 := k0_pay28 (F := Ideal) (k0_pay19 (F := Ideal) (bGate m c t)) (pInv m c t) (pXh m c t) (bF m c t) (bTgt m c t)

/-- the gated outputs of a point -/
abbrev pA : FVec Ideal S512x1024 .bf16 := k0_pay17 (F := Ideal) (bG m c t) (bOm m c t) (bOsw m c t)
/-- the projection of a point -/
abbrev pY : FVec Ideal S512x1024 .f32 := k0_pay18 (F := Ideal) (bG m c t) (bOm m c t) (bOsw m c t) (bW m c t)
/-- the gradient at the outputs of a point -/
abbrev pDo : FVec Ideal S512x1024 .f32 :=
  k0_pay30 (F := Ideal) (k0_pay15 (F := Ideal) (bG m c t)) (k0_pay19 (F := Ideal) (bGate m c t)) (pInv m c t) (pXh m c t) (bF m c t) (bTgt m c t) (bW m c t)
/-- the gradient at the gates of a point -/
abbrev pDg : FVec Ideal S512x1024 .bf16 :=
  k0_pay31 (F := Ideal) (k0_pay13 (F := Ideal) (bG m c t)) (k0_pay14 (F := Ideal) (bG m c t)) (k0_pay16 (F := Ideal) (bOm m c t) (bOsw m c t))
    (k0_pay29 (F := Ideal) (k0_pay19 (F := Ideal) (bGate m c t)) (pInv m c t) (pXh m c t) (bF m c t) (bTgt m c t) (bW m c t))
/-- the squares of a point -/
abbrev pPart : FVec Ideal S1x128 .f32 := k0_pay25 (F := Ideal) (pXh m c t) (bF m c t) (bTgt m c t)
/-- the loss's gradient of a point -/
abbrev pDout : FVec Ideal S512x1024 .f32 := k0_pay26 (F := Ideal) (pXh m c t) (bF m c t) (bTgt m c t)

/-- The gradient at the rows after, at each point. -/
theorem out_dx : (outsAt0 m c t.val t.isLt).1 = pDx m c t := by
  have ht : t.val < 16 := lt_of_lt_of_eq t.isLt N_0
  obtain h0 | ⟨h0, h1, h2⟩ | ⟨h0, h1, h2⟩ | ⟨h0, h1, h2⟩ : t.val % 16 = 0 ∨ (¬t.val % 16 = 0 ∧ ¬t.val % 4 = 0 ∧ ¬t.val % 16 = 15)
      ∨ (¬t.val % 16 = 0 ∧ t.val % 4 = 0 ∧ ¬t.val % 16 = 15) ∨ (¬t.val % 16 = 0 ∧ ¬t.val % 4 = 0 ∧ t.val % 16 = 15) := by omega
  · rw [outsAt0_A m c t h0 (by omega) (by omega)]; frame_out
  · rw [outsAt0_B m c t h0 h1 h2]; frame_out
  · rw [outsAt0_C m c t h0 h1 h2]; frame_out
  · rw [outsAt0_D m c t h0 h1 h2]; frame_out

/-- The gradient at the outputs, at each point. -/
theorem out_do : (outsAt0 m c t.val t.isLt).2.1 = pDo m c t := by
  have ht : t.val < 16 := lt_of_lt_of_eq t.isLt N_0
  obtain h0 | ⟨h0, h1, h2⟩ | ⟨h0, h1, h2⟩ | ⟨h0, h1, h2⟩ : t.val % 16 = 0 ∨ (¬t.val % 16 = 0 ∧ ¬t.val % 4 = 0 ∧ ¬t.val % 16 = 15)
      ∨ (¬t.val % 16 = 0 ∧ t.val % 4 = 0 ∧ ¬t.val % 16 = 15) ∨ (¬t.val % 16 = 0 ∧ ¬t.val % 4 = 0 ∧ t.val % 16 = 15) := by omega
  · rw [outsAt0_A m c t h0 (by omega) (by omega)]; frame_out
  · rw [outsAt0_B m c t h0 h1 h2]; frame_out
  · rw [outsAt0_C m c t h0 h1 h2]; frame_out
  · rw [outsAt0_D m c t h0 h1 h2]; frame_out

/-- The gradient at the gates, at each point. -/
theorem out_dg : (outsAt0 m c t.val t.isLt).2.2.1 = pDg m c t := by
  have ht : t.val < 16 := lt_of_lt_of_eq t.isLt N_0
  obtain h0 | ⟨h0, h1, h2⟩ | ⟨h0, h1, h2⟩ | ⟨h0, h1, h2⟩ : t.val % 16 = 0 ∨ (¬t.val % 16 = 0 ∧ ¬t.val % 4 = 0 ∧ ¬t.val % 16 = 15)
      ∨ (¬t.val % 16 = 0 ∧ t.val % 4 = 0 ∧ ¬t.val % 16 = 15) ∨ (¬t.val % 16 = 0 ∧ ¬t.val % 4 = 0 ∧ t.val % 16 = 15) := by omega
  · rw [outsAt0_A m c t h0 (by omega) (by omega)]; frame_out
  · rw [outsAt0_B m c t h0 h1 h2]; frame_out
  · rw [outsAt0_C m c t h0 h1 h2]; frame_out
  · rw [outsAt0_D m c t h0 h1 h2]; frame_out

/-- The loss's parts at the last point. -/
theorem out_loss (hf : t.val % 16 = 15) (j : S1x128.Idx) : (outsAt0 m c t.val t.isLt).2.2.2.1 j
    = ∑ s : Fin 16, Ideal.ofBits .f32 0x3A000000#32 * pPart m c ⟨16 * (t.val / 16) + s.val, Pipeline.run_point_lt_of_flush t hf s⟩ j := by
  rw [Pipeline.eq_sum_fin_of_reset_step_apply_of_flush (fun n h => (outsAt0 m c n h).2.2.2.1) 16 (fun _ => 0)
    (fun t j => Ideal.ofBits .f32 0x3A000000#32 * pPart m c t j)
    (fun t h0 j => by
      rw [outsAt0_A m c t h0 (by omega) (by omega)]; frame_out
      rw [loss_step, loss_zero])
    (fun t h0 j => by
      have ht : t.val < 16 := lt_of_lt_of_eq t.isLt N_0
      by_cases h1 : t.val % 4 = 0
      · rw [outsAt0_C m c t h0 h1 (by omega)]; frame_out
        rw [loss_step]
      · by_cases h2 : t.val % 16 = 15
        · rw [outsAt0_D m c t h0 h1 h2]; frame_out
          rw [loss_step]
        · rw [outsAt0_B m c t h0 h1 h2]; frame_out
          rw [loss_step])
    t hf j, zero_add]

/-- The gradient at the last gain at the last point. -/
theorem out_dfg (hf : t.val % 16 = 15) (j : S1x1024.Idx) : (outsAt0 m c t.val t.isLt).2.2.2.2.1 j
    = ∑ s : Fin 16, ∑ p : Fin 512, pDout m c ⟨16 * (t.val / 16) + s.val, Pipeline.run_point_lt_of_flush t hf s⟩ (ix2 p (j 1))
      * pXh m c ⟨16 * (t.val / 16) + s.val, Pipeline.run_point_lt_of_flush t hf s⟩ (ix2 p (j 1)) := by
  rw [Pipeline.eq_sum_fin_of_reset_step_apply_of_flush (fun n h => (outsAt0 m c n h).2.2.2.2.1) 16 (fun _ => 0)
    (fun t j => ∑ p : Fin 512, pDout m c t (ix2 p (j 1)) * pXh m c t (ix2 p (j 1)))
    (fun t h0 j => by
      rw [outsAt0_A m c t h0 (by omega) (by omega)]; frame_out
      rw [dfg_step, dfg_zero])
    (fun t h0 j => by
      have ht : t.val < 16 := lt_of_lt_of_eq t.isLt N_0
      by_cases h1 : t.val % 4 = 0
      · rw [outsAt0_C m c t h0 h1 (by omega)]; frame_out
        rw [dfg_step]
      · by_cases h2 : t.val % 16 = 15
        · rw [outsAt0_D m c t h0 h1 h2]; frame_out
          rw [dfg_step]
        · rw [outsAt0_B m c t h0 h1 h2]; frame_out
          rw [dfg_step])
    t hf j, zero_add]

/-- The gradient at a sequence's gate at the sequence's last point. -/
theorem out_dgate (hf : t.val % 4 = 3) (j : S1x1x1024.Idx) : (outsAt0 m c t.val t.isLt).2.2.2.2.2.1 j
    = ∑ s : Fin 4, ∑ p : Fin 512, pDx m c ⟨4 * (t.val / 4) + s.val, Pipeline.run_point_lt_of_flush t hf s⟩ (ix2 p (j 2))
      * pY m c ⟨4 * (t.val / 4) + s.val, Pipeline.run_point_lt_of_flush t hf s⟩ (ix2 p (j 2)) := by
  rw [Pipeline.eq_sum_fin_of_reset_step_apply_of_flush (fun n h => (outsAt0 m c n h).2.2.2.2.2.1) 4 (fun _ => 0)
    (fun t j => ∑ p : Fin 512, pDx m c t (ix2 p (j 2)) * pY m c t (ix2 p (j 2)))
    (fun t h1 j => by
      by_cases h0 : t.val % 16 = 0
      · rw [outsAt0_A m c t h0 h1 (by omega)]; frame_out
        rw [dgate_step, dgate_zero]
      · rw [outsAt0_C m c t h0 h1 (by omega)]; frame_out
        rw [dgate_step, dgate_zero])
    (fun t h1 j => by
      by_cases h2 : t.val % 16 = 15
      · rw [outsAt0_D m c t (by omega) h1 h2]; frame_out
        rw [dgate_step]
      · rw [outsAt0_B m c t (by omega) h1 h2]; frame_out
        rw [dgate_step])
    t hf j, zero_add]

/-- What the weights' gradient comes to after a point, before the last point puts its rows in order. -/
def acc (n : ℕ) (h : n < cfg0.N) : FVec Ideal S1024x1024 .f32 :=
  if n % 16 = 15 then k0_pay3 (F := Ideal) (pA m c ⟨n, h⟩) (pDy m c ⟨n, h⟩) (outsAt0 m c (n - 1) (Nat.lt_of_le_of_lt (Nat.sub_le _ _) h)).2.2.2.2.2.2.1
  else (outsAt0 m c n h).2.2.2.2.2.2.1

/-- At the last point it is the sum of all products. -/
theorem acc_last (hf : t.val % 16 = 15) (j : S1024x1024.Idx) : acc m c t.val t.isLt j
    = ∑ s : Fin 16, ∑ p : Fin 512, pA m c ⟨16 * (t.val / 16) + s.val, Pipeline.run_point_lt_of_flush t hf s⟩ (ix2 p (j 0))
      * pDy m c ⟨16 * (t.val / 16) + s.val, Pipeline.run_point_lt_of_flush t hf s⟩ (ix2 p (j 1)) := by
  rw [Pipeline.eq_sum_fin_of_reset_step_apply_of_flush (acc m c) 16 (fun _ => 0)
    (fun t j => ∑ p : Fin 512, pA m c t (ix2 p (j 0)) * pDy m c t (ix2 p (j 1)))
    (fun t h0 j => by
      unfold acc
      rw [if_neg (by omega), outsAt0_A m c t h0 (by omega) (by omega)]; frame_out
      rw [dw_step, dw_zero])
    (fun t h0 j => by
      have ht : t.val < 16 := lt_of_lt_of_eq t.isLt N_0
      have e : acc m c (t.val - 1) (Nat.lt_of_le_of_lt (Nat.sub_le _ _) t.isLt)
          = (outsAt0 m c (t.val - 1) (Nat.lt_of_le_of_lt (Nat.sub_le _ _) t.isLt)).2.2.2.2.2.2.1 := by
        unfold acc; rw [if_neg (by omega)]
      rw [e]
      unfold acc
      by_cases h2 : t.val % 16 = 15
      · rw [if_pos h2, dw_step]
      · rw [if_neg h2]
        by_cases h1 : t.val % 4 = 0
        · rw [outsAt0_C m c t h0 h1 (by omega)]; frame_out
          rw [dw_step]
        · rw [outsAt0_B m c t h0 h1 h2]; frame_out
          rw [dw_step])
    t hf j, zero_add]

/-- A store of sixty-four rows read at an entry: the stored rows where they lie, the earlier stores elsewhere. -/
theorem canon_rows (o : ℕ) (inb : ∀ a, ![o, 0] a + ![64, 1024] a ≤ S1024x1024.size a) (w : S64x1024.Idx → Elt Ideal EltTy.f32)
    (L : List (View.Piece (Elt Ideal) S1024x1024 EltTy.f32)) (y : S1024x1024.Idx) (v : Elt Ideal EltTy.f32)
    (hin : ∀ x : S64x1024.Idx, (y 0).val = o + (x 0).val → (y 1).val = (x 1).val → w x = v)
    (hout : ¬(o ≤ (y 0).val ∧ (y 0).val < o + 64) → View.canon L y = v) :
    View.canon ((⟨Rect.unit ![o, 0] ![64, 1024] inb, w⟩ : View.Piece (Elt Ideal) S1024x1024 EltTy.f32) :: L) y = v := by
  by_cases hm : y ∈ (Rect.unit ![o, 0] ![64, 1024] inb).set
  · obtain ⟨x, hx⟩ := (Rect.unit (s := S1024x1024) ![o, 0] ![64, 1024] inb).exists_idx_of_mem hm
    have e0 : (y 0).val = o + 1 * (x 0).val := by rw [← hx]; rfl
    have e1 : (y 1).val = 0 + 1 * (x 1).val := by rw [← hx]; rfl
    rw [← hx]
    refine (View.canon_cons_emb (Rect.unit (s := S1024x1024) ![o, 0] ![64, 1024] inb) w L x).trans (hin x ?_ ?_)
    · rw [e0, one_mul]
    · rw [e1, one_mul, zero_add]
  · refine (View.canon_cons_of_not_mem ⟨Rect.unit (s := S1024x1024) ![o, 0] ![64, 1024] inb, w⟩ L hm).trans (hout fun hh => hm ?_)
    obtain ⟨hl, hr⟩ := hh
    have hlt : (y 0).val - o < 64 := by omega
    have e : (Rect.unit (s := S1024x1024) ![o, 0] ![64, 1024] inb).emb (ix2 (⟨(y 0).val - o, hlt⟩ : Fin 64) (y 1) : S64x1024.Idx) = y := by
      funext a
      fin_cases a
      · apply Fin.ext; show o + 1 * ((y 0).val - o) = (y 0).val; omega
      · apply Fin.ext; show 0 + 1 * (y 1).val = (y 1).val; omega
    rw [← e]
    exact (Rect.unit (s := S1024x1024) ![o, 0] ![64, 1024] inb).idx_mem _

/-- Sixty-four rows of the sum, taken at one place and put at another. -/
theorem moved (T : FVec Ideal S1024x1024 .f32) (y : S1024x1024.Idx) (x : S64x1024.Idx) (a o : ℕ)
    (inb : ∀ b, ![a, 0] b + ![64, 1024] b ≤ S1024x1024.size b) (h0 : (y 0).val = o + (x 0).val) (h1 : (y 1).val = (x 1).val)
    (e : ∀ i < 64, uncol (o + i) = a + i) :
    View.ld (Val := Elt Ideal) (S := S1024x1024) (e' := EltTy.f32) T (Rect.unit ![a, 0] ![64, 1024] inb) x = T (ix2 (cols.symm (y 0)) (y 1)) := by
  refine congrArg T ?_
  funext b
  fin_cases b
  · apply Fin.ext
    show a + 1 * (x 0).val = uncol (y 0).val
    rw [h0, e _ (x 0).isLt]; omega
  · apply Fin.ext
    show 0 + 1 * (x 1).val = (y 1).val
    omega

set_option maxHeartbeats 1600000 in
/-- The weights' gradient after the last point. -/
theorem out_dw (hf : t.val % 16 = 15) (y : S1024x1024.Idx) :
    (outsAt0 m c t.val t.isLt).2.2.2.2.2.2.1 y = acc m c t.val t.isLt (ix2 (cols.symm (y 0)) (y 1)) := by
  have e : acc m c t.val t.isLt = k0_pay3 (F := Ideal) (pA m c t) (pDy m c t)
      (outsAt0 m c (t.val - 1) (Nat.lt_of_le_of_lt (Nat.sub_le _ _) t.isLt)).2.2.2.2.2.2.1 := if_pos hf
  rw [outsAt0_D m c t (by omega) (by omega) hf]; frame_out
  rw [← e]
  generalize acc m c t.val t.isLt = T
  refine canon_rows 960 _ _ _ y _ (fun x h0 h1 => ?_) fun n1 => ?_
  · unfold k0_pay12; rw [shapeCast_self, View.readCov_fill _ _ _ _ _ (by intro a; fin_cases a <;> rfl)]
    exact moved T y x 960 960 _ h0 h1 (by decide +kernel)
  refine canon_rows 896 _ _ _ y _ (fun x h0 h1 => ?_) fun n2 => ?_
  · unfold k0_pay11; rw [shapeCast_self, View.readCov_fill _ _ _ _ _ (by intro a; fin_cases a <;> rfl)]
    exact moved T y x 832 896 _ h0 h1 (by decide +kernel)
  refine canon_rows 832 _ _ _ y _ (fun x h0 h1 => ?_) fun n3 => ?_
  · unfold k0_pay10; rw [shapeCast_self, View.readCov_fill _ _ _ _ _ (by intro a; fin_cases a <;> rfl)]
    exact moved T y x 704 832 _ h0 h1 (by decide +kernel)
  refine canon_rows 768 _ _ _ y _ (fun x h0 h1 => ?_) fun n4 => ?_
  · unfold k0_pay9; rw [shapeCast_self, View.readCov_fill _ _ _ _ _ (by intro a; fin_cases a <;> rfl)]
    exact moved T y x 576 768 _ h0 h1 (by decide +kernel)
  refine canon_rows 704 _ _ _ y _ (fun x h0 h1 => ?_) fun n5 => ?_
  · unfold k0_pay8; rw [shapeCast_self, View.readCov_fill _ _ _ _ _ (by intro a; fin_cases a <;> rfl)]
    exact moved T y x 896 704 _ h0 h1 (by decide +kernel)
  refine canon_rows 640 _ _ _ y _ (fun x h0 h1 => ?_) fun n6 => ?_
  · unfold k0_pay7; rw [shapeCast_self, View.readCov_fill _ _ _ _ _ (by intro a; fin_cases a <;> rfl)]
    exact moved T y x 768 640 _ h0 h1 (by decide +kernel)
  refine canon_rows 576 _ _ _ y _ (fun x h0 h1 => ?_) fun n7 => ?_
  · unfold k0_pay6; rw [shapeCast_self, View.readCov_fill _ _ _ _ _ (by intro a; fin_cases a <;> rfl)]
    exact moved T y x 640 576 _ h0 h1 (by decide +kernel)
  refine canon_rows 512 _ _ _ y _ (fun x h0 h1 => ?_) fun n8 => ?_
  · unfold k0_pay5; rw [shapeCast_self, View.readCov_fill _ _ _ _ _ (by intro a; fin_cases a <;> rfl)]
    exact moved T y x 512 512 _ h0 h1 (by decide +kernel)
  have hy : (y 0).val < 1024 := (y 0).isLt
  rw [View.canon_cons_unit_lit _ _ _ (by intro a; fin_cases a <;> rfl)]
  refine congrArg T ?_
  funext b
  fin_cases b
  · apply Fin.ext
    show (y 0).val = uncol (y 0).val
    unfold uncol
    rw [if_pos (by omega)]
  · rfl

/-- The whole gradient, read back and narrowed. -/
theorem narrow (L : List (View.Piece (Elt Ideal) S1024x1024 EltTy.f32)) (inb : ∀ a, ![0, 0] a + ![1024, 1024] a ≤ S1024x1024.size a) (y : S1024x1024.Idx) :
    k0_pay4 (F := Ideal) ((ms0_14 t).view.readCov L (Rect.unit (s := S1024x1024) ![0, 0] ![1024, 1024] inb).toLoadRect) y = View.canon (Val := Elt Ideal) L y := by
  rw [View.readCov_eq_canon']
  generalize View.canon (Val := Elt Ideal) L = T
  unfold k0_pay4
  rw [shapeCast_self]
  exact congrFun (View.ld_unit_lit (Val := Elt Ideal) (S := S1024x1024) (e := EltTy.f32) inb T (by intro a; fin_cases a <;> rfl)) y

set_option maxHeartbeats 1600000 in
/-- Its copy in the narrow format. -/
theorem out_dwb (hf : t.val % 16 = 15) (y : S1024x1024.Idx) :
    (outsAt0 m c t.val t.isLt).2.2.2.2.2.2.2 y = (outsAt0 m c t.val t.isLt).2.2.2.2.2.2.1 y := by
  rw [outsAt0_D m c t (by omega) (by omega) hf]; frame_out
  rw [narrow]

end Cert.Proof.PostOuts
end
-- ==== Proof.PostOperands.lean ====
/- The operands the host lays out for the output projection's step, and the blocks each point reads of them. -/
module

public import proofs.«01_k».proof.Proof.PostOuts

@[expose] public section

set_option maxRecDepth 16384

noncomputable section

namespace Cert.Proof.PostOperands

open Idealize.ShloMosaic.Tactic Idealize.ShloMosaic.View
open Cert.PostKernelIdeal Cert.PostKernelIdeal.Gen Idealize.ShloMosaic Idealize.ShloMosaic.TcCoe Idealize.SL.Sem
open Cert.Proof.Post Cert.Proof.PostOuts

/-- The rows of all sequences, half a width. -/
def rows (A : FVec Ideal S4x2048x512 .f32) : FVec Ideal S8192x512 .f32 := shapeCast S8192x512 A shapeCasts_S4x2048x512_S8192x512

/-- Pairs of heads: of the two groups of four, one of each in turn. -/
def pairs (z : FVec Ideal S4x2048x512 .f32) : FVec Ideal S8192x512 .f32 :=
  shapeCast S8192x512 (transpose S8192x4x2x64 [0, 2, 1, 3] (shapeCast S8192x2x4x64 z shapeCasts_S4x2048x512_S8192x2x4x64) transposes_S8192x2x4x64_S8192x4x2x64_0_2_1_3)
    shapeCasts_S8192x4x2x64_S8192x512

/-- The gates side by side. -/
def opG (A B : FVec Ideal S4x2048x512 .f32) : FVec Ideal S8192x1024 .f32 :=
  concatenate S8192x1024 1 [⟨S8192x512, rows A⟩, ⟨S8192x512, pairs B⟩] concatenates_S8192x512_S8192x512_S8192x1024_d1

/-- The weights, the second half of the rows in pairs of heads. -/
def opW (A : FVec Ideal S1024x1024 .f32) : FVec Ideal S1024x1024 .bf16 :=
  truncf .bf16 (concatenate S1024x1024 0 [⟨S512x1024, extractStridedSlice S512x1024 ![0, 0] A slices_S1024x1024_S512x1024_0_0⟩,
    ⟨S512x1024, shapeCast S512x1024 (transpose S4x2x64x1024 [1, 0, 2, 3] (shapeCast S2x4x64x1024
      (extractStridedSlice S512x1024 ![512, 0] A slices_S1024x1024_S512x1024_512_0) shapeCasts_S512x1024_S2x4x64x1024)
      transposes_S2x4x64x1024_S4x2x64x1024_1_0_2_3) shapeCasts_S4x2x64x1024_S512x1024⟩]
    concatenates_S512x1024_S512x1024_S1024x1024_d0) bitsLt_bf16_f32

/-- Rows of the full width. -/
def opX (A : FVec Ideal S4x2048x1024 .f32) : FVec Ideal S8192x1024 .f32 := shapeCast S8192x1024 A shapeCasts_S4x2048x1024_S8192x1024

section
variable (m : (ℓ : Loc nD τ sig) → Buf (Elt Ideal) ℓ) (c : Dev nD)

theorem V_om : V m c main_v9 = rows (m ((c.tc : Thread nD τ).loc main_arg0)) := by
  simp only [V, List.flatten_cons, List.flatten_nil, List.append_nil, hostOps0, List.cons_append, List.nil_append]
  after_results_simp
  sl_kernel_rfl

theorem V_osw : V m c main_v12 = pairs (m ((c.tc : Thread nD τ).loc main_arg1)) := by
  simp only [V, List.flatten_cons, List.flatten_nil, List.append_nil, hostOps0, List.cons_append, List.nil_append]
  after_results_simp
  sl_kernel_rfl

theorem V_g : V m c main_v8 = opG (m ((c.tc : Thread nD τ).loc main_arg2)) (m ((c.tc : Thread nD τ).loc main_arg3)) := by
  simp only [V, List.flatten_cons, List.flatten_nil, List.append_nil, hostOps0, List.cons_append, List.nil_append]
  after_results_simp
  sl_kernel_rfl

theorem V_w : V m c main_v15 = opW (m ((c.tc : Thread nD τ).loc main_arg4)) := by
  simp only [V, List.flatten_cons, List.flatten_nil, List.append_nil, hostOps0, List.cons_append, List.nil_append]
  after_results_simp
  sl_kernel_rfl

theorem V_x : V m c main_v16 = opX (m ((c.tc : Thread nD τ).loc main_arg5)) := by
  simp only [V, List.flatten_cons, List.flatten_nil, List.append_nil, hostOps0, List.cons_append, List.nil_append]
  after_results_simp
  sl_kernel_rfl

theorem V_gate : V m c main_v17 = broadcastInDim S4x1x1024 ![0, 2] bcast_S4x1024_S4x1x1024_0_2 (m ((c.tc : Thread nD τ).loc main_arg6)) := by
  simp only [V, List.flatten_cons, List.flatten_nil, List.append_nil, hostOps0, List.cons_append, List.nil_append]
  after_results_simp

theorem V_f : V m c main_v18 = shapeCast S1x1024 (m ((c.tc : Thread nD τ).loc main_arg7)) shapeCasts_S1024_S1x1024 := by
  simp only [V, List.flatten_cons, List.flatten_nil, List.append_nil, hostOps0, List.cons_append, List.nil_append]
  after_results_simp
  sl_kernel_rfl

theorem V_tgt : V m c main_v19 = opX (m ((c.tc : Thread nD τ).loc main_arg8)) := by
  simp only [V, List.flatten_cons, List.flatten_nil, List.append_nil, hostOps0, List.cons_append, List.nil_append]
  after_results_simp
  sl_kernel_rfl

end

/-! ## Their entries -/

theorem rows_at (A : FVec Ideal S4x2048x512 .f32) (t : Fin 8192) (k : Fin 512) :
    rows A (ix2 t k) = A (ix3 ⟨t.val / 2048, by omega⟩ ⟨t.val % 2048, by omega⟩ k) := by
  pointwise [rows]
  blk_ext

theorem opX_at (A : FVec Ideal S4x2048x1024 .f32) (t : Fin 8192) (k : Fin 1024) :
    opX A (ix2 t k) = A (ix3 ⟨t.val / 2048, by omega⟩ ⟨t.val % 2048, by omega⟩ k) := by
  pointwise [opX]
  blk_ext

theorem gate_at (A : FVec Ideal S4x1024 .f32) (b : Fin 4) (n : Fin 1024) :
    broadcastInDim S4x1x1024 ![0, 2] bcast_S4x1024_S4x1x1024_0_2 A (ix3 b 0 n) = A (ix2 b n) := by
  pointwise

theorem f_at (A : FVec Ideal S1024 .f32) (n : Fin 1024) : shapeCast S1x1024 A shapeCasts_S1024_S1x1024 (ix2 0 n) = A (ix1 n) := by
  pointwise

theorem pairs_at (A : FVec Ideal S4x2048x512 .f32) (t : Fin 8192) (k : Fin 512) (h : (cols ⟨512 + k.val, by omega⟩).val - 512 < 512) :
    pairs A (ix2 t k) = A (ix3 ⟨t.val / 2048, by omega⟩ ⟨t.val % 2048, by omega⟩ ⟨(cols ⟨512 + k.val, by omega⟩).val - 512, h⟩) := by
  pointwise [pairs]
  refine congrArg A (congrArg (ix3 _ _) (Fin.ext ?_))
  show k.val / 64 % 2 * 256 + k.val / 128 * 64 + k.val % 64 = col (512 + k.val) - 512
  unfold col
  rw [if_neg (by omega), Nat.add_sub_cancel_left, Nat.add_sub_cancel_left]

theorem opW_at (A : FVec Ideal S1024x1024 .f32) (k n : Fin 1024) : opW A (ix2 k n) = A (ix2 (cols k) n) := by
  pointwise [opW]
  by_cases h : k.val < 512
  · rw [dif_pos h]
    refine congrArg A (congrArg (ix2 · n) (Fin.ext ?_))
    show k.val = col k.val
    unfold col
    rw [if_pos h]
  · rw [dif_neg h]
    refine congrArg A (congrArg (ix2 · n) (Fin.ext ?_))
    show 512 + ((k.val - 512) / 64 % 2 * 256 + (k.val - 512) / 128 * 64 + (k.val - 512) % 64) = col k.val
    unfold col
    rw [if_neg h]

/-- The column of the second half's gates and outputs. -/
theorem cols_ge (k : Fin 1024) (h : ¬k.val < 512) : 512 ≤ (cols k).val := by
  show 512 ≤ col k.val
  unfold col
  rw [if_neg h]; omega

theorem cols_lt (k : Fin 1024) (h : k.val < 512) : cols k = k := by
  refine Fin.ext ?_
  show col k.val = k.val
  unfold col
  rw [if_pos h]

/-! ## The blocks -/

/-- Each window's block at each point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val / 4, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![t.val / 4, 0, 0] ∧ win0_14.index t = ![0, 0]
    ∧ win0_15.index t = ![0, 0] :=
  (by decide +kernel : ∀ t : Fin grid0.N, _)

/-- A row of a point's blocks among all rows. -/
def rowOf (t : Fin cfg0.N) (p : Fin 512) : Fin 8192 := ⟨t.val * 512 + p.val, by have := lt_of_lt_of_eq t.isLt N_0; omega⟩

/-- A point's sequence. -/
def seqOf (t : Fin cfg0.N) : Fin 4 := ⟨t.val / 4, by have := lt_of_lt_of_eq t.isLt N_0; omega⟩

section
variable (c : Dev nD) (t : Fin cfg0.N)

theorem blk_om (A : Buf (Elt Ideal) ((c : Thread nD τ).loc main_v9)) (p : Fin 512) (k : Fin 512) :
    ((cfg0.win 0).blk t).view.read (Elt Ideal) A (ix2 p k) = A (ix2 (rowOf t p) k) := by
  have e : ((cfg0.win 0).blk t).view.emb (ix2 p k) = ix2 (rowOf t p) k := by blk_ext [idx t, rowOf]
  exact congrArg A e

theorem blk_osw (A : Buf (Elt Ideal) ((c : Thread nD τ).loc main_v12)) (p : Fin 512) (k : Fin 512) :
    ((cfg0.win 1).blk t).view.read (Elt Ideal) A (ix2 p k) = A (ix2 (rowOf t p) k) := by
  have e : ((cfg0.win 1).blk t).view.emb (ix2 p k) = ix2 (rowOf t p) k := by blk_ext [idx t, rowOf]
  exact congrArg A e

theorem blk_g (A : Buf (Elt Ideal) ((c : Thread nD τ).loc main_v8)) (p : Fin 512) (k : Fin 1024) :
    ((cfg0.win 2).blk t).view.read (Elt Ideal) A (ix2 p k) = A (ix2 (rowOf t p) k) := by
  have e : ((cfg0.win 2).blk t).view.emb (ix2 p k) = ix2 (rowOf t p) k := by blk_ext [idx t, rowOf]
  exact congrArg A e

theorem blk_w (A : Buf (Elt Ideal) ((c : Thread nD τ).loc main_v15)) (k n : Fin 1024) :
    ((cfg0.win 3).blk t).view.read (Elt Ideal) A (ix2 k n) = A (ix2 k n) := by
  have e : ((cfg0.win 3).blk t).view.emb (ix2 k n) = ix2 k n := by blk_ext [idx t]
  exact congrArg A e

theorem blk_x (A : Buf (Elt Ideal) ((c : Thread nD τ).loc main_v16)) (p : Fin 512) (k : Fin 1024) :
    ((cfg0.win 4).blk t).view.read (Elt Ideal) A (ix2 p k) = A (ix2 (rowOf t p) k) := by
  have e : ((cfg0.win 4).blk t).view.emb (ix2 p k) = ix2 (rowOf t p) k := by blk_ext [idx t, rowOf]
  exact congrArg A e

theorem blk_gate (A : Buf (Elt Ideal) ((c : Thread nD τ).loc main_v17)) (n : Fin 1024) :
    ((cfg0.win 5).blk t).view.read (Elt Ideal) A (ix3 0 0 n) = A (ix3 (seqOf t) 0 n) := by
  have e : ((cfg0.win 5).blk t).view.emb (ix3 0 0 n) = ix3 (seqOf t) 0 n := by blk_ext [idx t, seqOf]
  exact congrArg A e

theorem blk_f (A : Buf (Elt Ideal) ((c : Thread nD τ).loc main_v18)) (n : Fin 1024) :
    ((cfg0.win 6).blk t).view.read (Elt Ideal) A (ix2 0 n) = A (ix2 0 n) := by
  have e : ((cfg0.win 6).blk t).view.emb (ix2 0 n) = ix2 0 n := by blk_ext [idx t]
  exact congrArg A e

theorem blk_tgt (A : Buf (Elt Ideal) ((c : Thread nD τ).loc main_v19)) (p : Fin 512) (k : Fin 1024) :
    ((cfg0.win 7).blk t).view.read (Elt Ideal) A (ix2 p k) = A (ix2 (rowOf t p) k) := by
  have e : ((cfg0.win 7).blk t).view.emb (ix2 p k) = ix2 (rowOf t p) k := by blk_ext [idx t, rowOf]
  exact congrArg A e

end

/-- Arrays hold the data `D`. -/
structure Arrays (D : Data) (A0 A1 A2 A3 : FVec Ideal S4x2048x512 .f32) (A4 : FVec Ideal S1024x1024 .f32) (A5 : FVec Ideal S4x2048x1024 .f32)
    (A6 : FVec Ideal S4x1024 .f32) (A7 : FVec Ideal S1024 .f32) (A8 : FVec Ideal S4x2048x1024 .f32) : Prop where
  o0 : ∀ b s k, A0 (ix3 b s k) = (D.o0 b s k : ℝ)
  o1 : ∀ b s k, A1 (ix3 b s k) = (D.o1 b s k : ℝ)
  g0 : ∀ b s k, A2 (ix3 b s k) = (D.g0 b s k : ℝ)
  g1 : ∀ b s k, A3 (ix3 b s k) = (D.g1 b s k : ℝ)
  w : ∀ k n, A4 (ix2 k n) = (D.w k n : ℝ)
  x : ∀ b s n, A5 (ix3 b s n) = (D.x b s n : ℝ)
  gate : ∀ b n, A6 (ix2 b n) = (D.gate b n : ℝ)
  f : ∀ n, A7 (ix1 n) = (D.f n : ℝ)
  tgt : ∀ b s n, A8 (ix3 b s n) = (D.tgt b s n : ℝ)

section
variable (m : (ℓ : Loc nD τ sig) → Buf (Elt Ideal) ℓ) (c : Dev nD)

/-- The arguments hold the data `D`. -/
abbrev Args (D : Data) : Prop :=
  Arrays D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

variable {m c} {D : Data} (h : Args m c D) (t : Fin cfg0.N)
include h

omit h in
/-- A row's sequence is its point's. -/
theorem seqOf_eq (p : Fin 512) : seqOf t = ⟨(rowOf t p).val / 2048, by omega⟩ := by
  refine Fin.ext ?_
  show t.val / 4 = (t.val * 512 + p.val) / 2048
  omega

/-- The block of the sequence's gate. -/
theorem bGate_at (n : Fin 1024) : bGate m c t (ix3 0 0 n) = (D.gate (seqOf t) n : ℝ) := by
  unfold bGate iblk
  refine (blk_gate c t (V m c main_v17) n).trans ?_
  rw [V_gate, gate_at]
  exact h.gate _ _

/-- The blocks of a point hold its rows, the second half of the outputs, gates and weights in pairs of heads. -/
theorem holds : PostTiles.Holds (fun p => (D.at' (rowOf t p)).perm cols) (bOm m c t) (bOsw m c t) (bG m c t) (bW m c t) (bX m c t) (bGate m c t)
    (bF m c t) (bTgt m c t) where
  om p k := by
    unfold bOm iblk
    refine (blk_om c t (V m c main_v9) p k).trans ?_
    rw [V_om, rows_at]
    refine (h.o0 _ _ _).trans (congrArg _ ?_)
    show _ = side _ _ (cols _)
    rw [cols_lt _ k.isLt]
    exact (side_lt _ _ k _).symm
  osw p k := by
    unfold bOsw iblk
    have hc := cols_ge ⟨512 + k.val, by omega⟩ (by dsimp only; omega)
    have hl : (cols ⟨512 + k.val, by omega⟩).val - 512 < 512 := by omega
    refine (blk_osw c t (V m c main_v12) p k).trans ?_
    rw [V_osw, pairs_at _ _ _ hl]
    refine (h.o1 _ _ _).trans (congrArg _ ?_)
    show _ = side _ _ (cols _)
    exact (side_ge _ _ ⟨_, hl⟩ _ (by dsimp only; omega)).symm
  g p k := by
    unfold bG iblk
    refine (blk_g c t (V m c main_v8) p k).trans ?_
    rw [V_g]
    have e : opG (m ((c.tc : Thread nD τ).loc main_arg2)) (m ((c.tc : Thread nD τ).loc main_arg3)) (ix2 (rowOf t p) k)
        = if hk : k.val < 512 then rows (m ((c.tc : Thread nD τ).loc main_arg2)) (ix2 (rowOf t p) ⟨k.val, hk⟩)
          else pairs (m ((c.tc : Thread nD τ).loc main_arg3)) (ix2 (rowOf t p) ⟨k.val - 512, by omega⟩) := by
      pointwise [opG]
    rw [e]
    by_cases hk : k.val < 512
    · rw [dif_pos hk, rows_at]
      refine (h.g0 _ _ _).trans (congrArg _ ?_)
      show _ = side _ _ (cols _)
      rw [cols_lt _ hk]
      exact (side_lt _ _ ⟨k.val, hk⟩ _).symm
    · have ek : (⟨512 + (k.val - 512), by omega⟩ : Fin 1024) = k := Fin.ext (by dsimp only; omega)
      have hc := cols_ge k hk
      have hl : (cols ⟨512 + (k.val - 512), by omega⟩).val - 512 < 512 := by rw [ek]; omega
      rw [dif_neg hk, pairs_at _ (rowOf t p) ⟨k.val - 512, by omega⟩ hl]
      refine (h.g1 _ _ _).trans (congrArg _ ?_)
      show _ = side _ _ (cols _)
      exact (side_ge _ _ ⟨_, hl⟩ _ (by dsimp only; rw [ek]; omega)).symm
  w p k n := by
    unfold bW iblk
    refine (blk_w c t (V m c main_v15) k n).trans ?_
    rw [V_w, opW_at]
    exact h.w _ _
  x p n := by
    unfold bX iblk
    refine (blk_x c t (V m c main_v16) p n).trans ?_
    rw [V_x, opX_at]
    exact h.x _ _ _
  gate p n := (bGate_at h t n).trans (by rw [seqOf_eq t p]; rfl)
  f p n := by
    unfold bF iblk
    refine (blk_f c t (V m c main_v18) n).trans ?_
    rw [V_f, f_at]
    exact h.f n
  tgt p n := by
    unfold bTgt iblk
    refine (blk_tgt c t (V m c main_v19) p n).trans ?_
    rw [V_tgt, opX_at]
    exact h.tgt _ _ _

end

end Cert.Proof.PostOperands

end
-- ==== Proof.PostArrays.lean ====
/- What the results of the output projection's step hold after all points, in real numbers. -/
module

public import proofs.«01_k».proof.Proof.PostOperands

@[expose] public section

set_option maxRecDepth 16384

noncomputable section

namespace Cert.Proof.PostArrays

open Idealize.ShloMosaic.Tactic Idealize.ShloMosaic.View
open Cert.PostKernelIdeal Cert.PostKernelIdeal.Gen Cert.PostKernelIdeal.Value Idealize.ShloMosaic Idealize.ShloMosaic.TcCoe Idealize.SL.Sem
open Cert.Proof.Post Cert.Proof.PostOuts Cert.Proof.PostOperands

/-! ## The results as functions of the data -/

section
variable (D : Data)

/-- the gradient at the rows before -/
def gDx : FVec Ideal S8192x1024 .f32 := fun y => (((D.at' (y 0)).dx (y 1) : ℝ) : EReal)
/-- the gradient at the outputs -/
def gDo : FVec Ideal S8192x1024 .f32 := fun y => (((D.at' (y 0)).dO (cols (y 1)) : ℝ) : EReal)
/-- the gradient at the gates -/
def gDg : FVec Ideal S8192x1024 .bf16 := fun y => (((D.at' (y 0)).dg (cols (y 1)) : ℝ) : EReal)
/-- the loss's parts -/
def gLoss : FVec Ideal S1x128 .f32 := fun y => ((D.loss (y 1) : ℝ) : EReal)
/-- the gradient at the last gain -/
def gDfg : FVec Ideal S1x1024 .f32 := fun y => ((D.dfg (y 1) : ℝ) : EReal)
/-- the gradient at the sequences' gates -/
def gDgate : FVec Ideal S4x1x1024 .f32 := fun y => ((D.dgate (y 0) (y 2) : ℝ) : EReal)
/-- the gradient at the weights -/
def gDw : FVec Ideal S1024x1024 .f32 := fun y => ((D.dw (y 0) (y 1) : ℝ) : EReal)
/-- the same, rounded -/
def gDwb : FVec Ideal S1024x1024 .bf16 := fun y => ((D.dw (y 0) (y 1) : ℝ) : EReal)

end

/-! ## A point's entries -/

section
variable {m : (ℓ : Loc nD τ sig) → Buf (Elt Ideal) ℓ} {c : Dev nD} {D : Data} (h : Args m c D) (t : Fin cfg0.N)
include h

theorem pXh_of (p : Fin 512) (n : Fin 1024) : pXh m c t (ix2 p n) = ((((D.at' (rowOf t p)).perm cols).xh n : ℝ) : EReal) :=
  PostTiles.xh_at (holds h t) p n

theorem pInv_of (p : Fin 512) : pInv m c t (ix2 p 0) = ((((D.at' (rowOf t p)).perm cols).inv : ℝ) : EReal) :=
  PostTiles.inv_at (holds h t) p

theorem pGate_of (p : Fin 512) (n : Fin 1024) :
    k0_pay19 (F := Ideal) (bGate m c t) (ix2 0 n) = ((((D.at' (rowOf t p)).perm cols).gate n : ℝ) : EReal) := by
  refine Eq.trans ?_ ((holds h t).gate p n)
  generalize bGate m c t = z
  pointwise [k0_pay19]

theorem pXh_at (p : Fin 512) (n : Fin 1024) : pXh m c t (ix2 p n) = (((D.at' (rowOf t p)).xh n : ℝ) : EReal) := by
  rw [pXh_of h, Row.perm_xh]

theorem pDx_at (p : Fin 512) (n : Fin 1024) : pDx m c t (ix2 p n) = (((D.at' (rowOf t p)).dx n : ℝ) : EReal) :=
  (PostTiles.dx_at (holds h t) (pInv_of h t) (pXh_of h t) p n).trans (by rw [Row.perm_dx])

theorem pDy_at (p : Fin 512) (n : Fin 1024) : pDy m c t (ix2 p n) = (((D.at' (rowOf t p)).dy n : ℝ) : EReal) :=
  (PostTiles.dy_at (holds h t) (pGate_of h t) (pInv_of h t) (pXh_of h t) p n).trans (by rw [Row.perm_dy])

theorem pDout_at (p : Fin 512) (n : Fin 1024) : pDout m c t (ix2 p n) = (((D.at' (rowOf t p)).dout n : ℝ) : EReal) :=
  (PostTiles.dout_at (holds h t) (pXh_of h t) p n).trans (by rw [Row.perm_dout])

theorem pY_at (p : Fin 512) (n : Fin 1024) : pY m c t (ix2 p n) = (((D.at' (rowOf t p)).y n : ℝ) : EReal) :=
  (PostTiles.y_at (holds h t) p n).trans (by rw [Row.perm_y])

theorem pA_at (p : Fin 512) (k : Fin 1024) : pA m c t (ix2 p k) = (((D.at' (rowOf t p)).a (cols k) : ℝ) : EReal) :=
  (PostTiles.a_at (holds h t) p k).trans (by rw [Row.perm_a])

theorem pDo_at (p : Fin 512) (k : Fin 1024) : pDo m c t (ix2 p k) = (((D.at' (rowOf t p)).dO (cols k) : ℝ) : EReal) :=
  (PostTiles.dO_at (holds h t) (PostTiles.silu_at (holds h t)) (pGate_of h t) (pInv_of h t) (pXh_of h t) p k).trans (by rw [Row.perm_dO])

theorem pDg_at (p : Fin 512) (k : Fin 1024) : pDg m c t (ix2 p k) = (((D.at' (rowOf t p)).dg (cols k) : ℝ) : EReal) :=
  (PostTiles.dg_at (R := fun p => (D.at' (rowOf t p)).perm cols) (PostTiles.g_at (holds h t)) (PostTiles.sg_at (holds h t)) (PostTiles.o_at (holds h t))
    (PostTiles.da_at (holds h t) (pGate_of h t) (pInv_of h t) (pXh_of h t)) p k).trans (by rw [Row.perm_dg])

theorem pPart_at (l : Fin 128) : pPart m c t (ix2 0 l)
    = ((∑ j : Fin 8, ∑ p, (D.at' (rowOf t p)).diff ⟨128 * j.val + l.val, by omega⟩ * (D.at' (rowOf t p)).diff ⟨128 * j.val + l.val, by omega⟩ : ℝ) : EReal) :=
  (PostTiles.part_at (holds h t) (pXh_of h t) l).trans (by simp only [Row.perm_diff])

end

/-! ## The arrays -/

/-- A row of a run's point among all rows. -/
theorem rowOf_run (t : Fin cfg0.N) (s : Fin 16) (p : Fin 512) (hs : 16 * (t.val / 16) + s.val < cfg0.N) (hl : s.val * 512 + p.val < 8192) :
    rowOf ⟨16 * (t.val / 16) + s.val, hs⟩ p = ⟨s.val * 512 + p.val, hl⟩ := by
  have ht : t.val < 16 := lt_of_lt_of_eq t.isLt N_0
  refine Fin.ext ?_
  show (16 * (t.val / 16) + s.val) * 512 + p.val = s.val * 512 + p.val
  omega

/-- A row of a sequence's point. -/
theorem rowOf_seq (D : Data) (t : Fin cfg0.N) (s : Fin 4) (p : Fin 512) (hs : 4 * (t.val / 4) + s.val < cfg0.N) (hl : s.val * 512 + p.val < 2048) :
    D.at' (rowOf ⟨4 * (t.val / 4) + s.val, hs⟩ p) = D.row (seqOf t) ⟨s.val * 512 + p.val, hl⟩ := by
  unfold Data.at'
  refine congrArg₂ D.row (Fin.ext ?_) (Fin.ext ?_)
  · show ((4 * (t.val / 4) + s.val) * 512 + p.val) / 2048 = t.val / 4
    omega
  · show ((4 * (t.val / 4) + s.val) * 512 + p.val) % 2048 = s.val * 512 + p.val
    omega

section
variable {m : (ℓ : Loc nD τ sig) → Buf (Elt Ideal) ℓ} {c : Dev nD} {D : Data} (h : Args m c D)
include h

theorem arr_dx : (dats m 0 c).arrAt 8 cfg0.N = gDx D := by
  refine (dats m 0 c).arrAt_eq_of_covers 8 _ (by decide +kernel) fun t hf y => ?_
  obtain ⟨p, n, rfl⟩ : ∃ (p : Fin 512) (n : Fin 1024), y = ix2 p n := ⟨y 0, y 1, by funext i; fin_cases i <;> rfl⟩
  blk_simp [idx t]
  rw [after0_8]
  refine (congrFun (out_dx m c t) _).trans ((pDx_at h t p n).trans (Eq.trans (b := gDx D (ix2 (rowOf t p) n)) rfl (congrArg _ ?_)))
  blk_ext [idx t, rowOf]

theorem arr_do : (dats m 0 c).arrAt 9 cfg0.N = gDo D := by
  refine (dats m 0 c).arrAt_eq_of_covers 9 _ (by decide +kernel) fun t hf y => ?_
  obtain ⟨p, n, rfl⟩ : ∃ (p : Fin 512) (n : Fin 1024), y = ix2 p n := ⟨y 0, y 1, by funext i; fin_cases i <;> rfl⟩
  blk_simp [idx t]
  rw [after0_9]
  refine (congrFun (out_do m c t) _).trans ((pDo_at h t p n).trans (Eq.trans (b := gDo D (ix2 (rowOf t p) n)) rfl (congrArg _ ?_)))
  blk_ext [idx t, rowOf]

theorem arr_dg : (dats m 0 c).arrAt 10 cfg0.N = gDg D := by
  refine (dats m 0 c).arrAt_eq_of_covers 10 _ (by decide +kernel) fun t hf y => ?_
  obtain ⟨p, n, rfl⟩ : ∃ (p : Fin 512) (n : Fin 1024), y = ix2 p n := ⟨y 0, y 1, by funext i; fin_cases i <;> rfl⟩
  blk_simp [idx t]
  rw [after0_10]
  refine (congrFun (out_dg m c t) _).trans ((pDg_at h t p n).trans (Eq.trans (b := gDg D (ix2 (rowOf t p) n)) rfl (congrArg _ ?_)))
  blk_ext [idx t, rowOf]

theorem loss_eq (t : Fin cfg0.N) (hf : t.val % 16 = 15) (l : Fin 128) : (outsAt0 m c t.val t.isLt).2.2.2.1 (ix2 0 l) = ((D.loss l : ℝ) : EReal) := by
  refine (out_loss m c t hf _).trans ?_
  have e : ∀ s : Fin 16, Ideal.ofBits .f32 0x3A000000#32 * pPart m c ⟨16 * (t.val / 16) + s.val, Pipeline.run_point_lt_of_flush t hf s⟩ (ix2 0 l)
      = ((∑ p : Fin 512, ∑ j : Fin 8, (D.at' (rowOf ⟨16 * (t.val / 16) + s.val, Pipeline.run_point_lt_of_flush t hf s⟩ p)).diff ⟨128 * j.val + l.val, by omega⟩
          * (D.at' (rowOf ⟨16 * (t.val / 16) + s.val, Pipeline.run_point_lt_of_flush t hf s⟩ p)).diff ⟨128 * j.val + l.val, by omega⟩ / 2048 : ℝ) : EReal) := by
    intro s
    rw [pPart_at h, ofBits_2048th, ← EReal.coe_mul, Finset.sum_comm, Finset.mul_sum, EReal.coe_eq_coe_iff]
    refine Finset.sum_congr rfl fun p _ => ?_
    rw [Finset.mul_sum]
    refine Finset.sum_congr rfl fun j _ => ?_
    ring
  rw [Finset.sum_congr rfl fun s _ => e s, coe_sum, EReal.coe_eq_coe_iff]
  unfold Data.loss
  refine Fin.sum_mul_add_congr (L := 8192) (fun s p hl => ?_)
  rw [rowOf_run t s p _ hl]

theorem arr_loss : (dats m 0 c).arrAt 11 cfg0.N = gLoss D := by
  refine (dats m 0 c).arrAt_eq_of_covers 11 _ (by decide +kernel) fun t hf y => ?_
  have hf := (flush0_11 t).mp hf
  obtain ⟨l, rfl⟩ : ∃ (l : Fin 128), y = ix2 0 l := ⟨y 1, by funext i; fin_cases i; exact Subsingleton.elim (α := Fin 1) _ _; rfl⟩
  blk_simp [idx t]
  rw [after0_11]
  refine (loss_eq h t hf l).trans (Eq.trans (b := gLoss D (ix2 0 l)) rfl (congrArg _ ?_))
  blk_ext [idx t]

theorem dfg_eq (t : Fin cfg0.N) (hf : t.val % 16 = 15) (n : Fin 1024) : (outsAt0 m c t.val t.isLt).2.2.2.2.1 (ix2 0 n) = ((D.dfg n : ℝ) : EReal) := by
  refine (out_dfg m c t hf _).trans ?_
  unfold Data.dfg
  rw [← coe_sum]
  refine Fin.sum_mul_add_congr (L := 8192) (fun s p hl => ?_)
  refine (congrArg₂ (· * ·) (pDout_at h _ p n) (pXh_at h _ p n)).trans ?_
  rw [rowOf_run t s p _ hl, ← EReal.coe_mul]

theorem arr_dfg : (dats m 0 c).arrAt 12 cfg0.N = gDfg D := by
  refine (dats m 0 c).arrAt_eq_of_covers 12 _ (by decide +kernel) fun t hf y => ?_
  have hf := (flush0_12 t).mp hf
  obtain ⟨l, rfl⟩ : ∃ (l : Fin 1024), y = ix2 0 l := ⟨y 1, by funext i; fin_cases i; exact Subsingleton.elim (α := Fin 1) _ _; rfl⟩
  blk_simp [idx t]
  rw [after0_12]
  refine (dfg_eq h t hf l).trans (Eq.trans (b := gDfg D (ix2 0 l)) rfl (congrArg _ ?_))
  blk_ext [idx t]

theorem dgate_eq (t : Fin cfg0.N) (hf : t.val % 4 = 3) (n : Fin 1024) :
    (outsAt0 m c t.val t.isLt).2.2.2.2.2.1 (ix3 0 0 n) = ((D.dgate (seqOf t) n : ℝ) : EReal) := by
  refine (out_dgate m c t hf _).trans ?_
  unfold Data.dgate
  rw [← coe_sum]
  refine Fin.sum_mul_add_congr (L := 2048) (fun s p hl => ?_)
  refine (congrArg₂ (· * ·) (pDx_at h _ p n) (pY_at h _ p n)).trans ?_
  rw [rowOf_seq D t s p _ hl, ← EReal.coe_mul]

theorem arr_dgate : (dats m 0 c).arrAt 13 cfg0.N = gDgate D := by
  refine (dats m 0 c).arrAt_eq_of_covers 13 _ (by decide +kernel) fun t hf y => ?_
  have hf := (flush0_13 t).mp hf
  obtain ⟨l, rfl⟩ : ∃ (l : Fin 1024), y = ix3 0 0 l :=
    ⟨y 2, by funext i; fin_cases i; exact Subsingleton.elim (α := Fin 1) _ _; exact Subsingleton.elim (α := Fin 1) _ _; rfl⟩
  blk_simp [idx t]
  rw [after0_13]
  refine (dgate_eq h t hf l).trans (Eq.trans (b := gDgate D (ix3 (seqOf t) 0 l)) rfl (congrArg _ ?_))
  blk_ext [idx t, seqOf]

theorem acc_at (t : Fin cfg0.N) (hf : t.val % 16 = 15) (k n : Fin 1024) : acc m c t.val t.isLt (ix2 k n) = ((D.dw (cols k) n : ℝ) : EReal) := by
  refine (acc_last m c t hf _).trans ?_
  unfold Data.dw
  rw [← coe_sum]
  refine Fin.sum_mul_add_congr (L := 8192) (fun s p hl => ?_)
  refine (congrArg₂ (· * ·) (pA_at h _ p k) (pDy_at h _ p n)).trans ?_
  rw [rowOf_run t s p _ hl, ← EReal.coe_mul]

theorem dw_eq (t : Fin cfg0.N) (hf : t.val % 16 = 15) (k n : Fin 1024) :
    (outsAt0 m c t.val t.isLt).2.2.2.2.2.2.1 (ix2 k n) = ((D.dw k n : ℝ) : EReal) := by
  refine (out_dw m c t hf _).trans ((acc_at h t hf _ _).trans ?_)
  exact congrArg (fun x : Fin 1024 => ((D.dw x n : ℝ) : EReal)) (cols.apply_symm_apply k)

theorem arr_dw : (dats m 0 c).arrAt 14 cfg0.N = gDw D := by
  refine (dats m 0 c).arrAt_eq_of_covers 14 _ (by decide +kernel) fun t hf y => ?_
  have hf := (flush0_14 t).mp hf
  obtain ⟨k, n, rfl⟩ : ∃ (k n : Fin 1024), y = ix2 k n := ⟨y 0, y 1, by funext i; fin_cases i <;> rfl⟩
  blk_simp [idx t]
  rw [after0_14]
  refine (dw_eq h t hf k n).trans (Eq.trans (b := gDw D (ix2 k n)) rfl (congrArg _ ?_))
  blk_ext [idx t]

theorem arr_dwb : (dats m 0 c).arrAt 15 cfg0.N = gDwb D := by
  refine (dats m 0 c).arrAt_eq_of_covers 15 _ (by decide +kernel) fun t hf y => ?_
  have hf := (flush0_15 t).mp hf
  obtain ⟨k, n, rfl⟩ : ∃ (k n : Fin 1024), y = ix2 k n := ⟨y 0, y 1, by funext i; fin_cases i <;> rfl⟩
  blk_simp [idx t]
  rw [after0_15]
  refine (out_dwb m c t hf _).trans ((dw_eq h t hf k n).trans (Eq.trans (b := gDwb D (ix2 k n)) rfl (congrArg _ ?_)))
  blk_ext [idx t]

end

end Cert.Proof.PostArrays

end
-- ==== Proof.PostStages.lean ====
/- What the stages of the reference of the output projection's step hold, in real numbers. -/
module

public import proofs.«01_k».proof.Proof.Gen.PostReferenceIdeal.Run
public import proofs.«01_k».proof.Proof.PostRows
public import Idealize.ShloMosaic.Lib.Pipeline.ValueKit
public import Idealize.ShloMosaic.Lib.Pointwise

@[expose] public section

set_option maxRecDepth 16384

noncomputable section

namespace Cert.Proof.PostStages

open Idealize.ShloMosaic.Tactic Idealize.ShloMosaic.View
open Cert.PostReferenceIdeal Cert.PostReferenceIdeal.Gen Cert.PostReferenceIdeal.Value Idealize.ShloMosaic Idealize.ShloMosaic.TcCoe Idealize.SL.Sem
open Idealize.ShloMosaic.StableHlo
open Cert.Proof.Post

section
variable (V0 : Valuation τ sig (Elt Ideal))

/-- the latent attention's outputs -/
abbrev A0 : FVec Ideal S4x2048x512 .f32 := V0 (Proc.devRef .tc main_arg0)
/-- the window attention's outputs -/
abbrev A1 : FVec Ideal S4x2048x512 .f32 := V0 (Proc.devRef .tc main_arg1)
/-- the first outputs' gates -/
abbrev A2 : FVec Ideal S4x2048x512 .f32 := V0 (Proc.devRef .tc main_arg2)
/-- the second outputs' gates -/
abbrev A3 : FVec Ideal S4x2048x512 .f32 := V0 (Proc.devRef .tc main_arg3)
/-- the weights -/
abbrev A4 : FVec Ideal S1024x1024 .f32 := V0 (Proc.devRef .tc main_arg4)
/-- the rows before -/
abbrev A5 : FVec Ideal S4x2048x1024 .f32 := V0 (Proc.devRef .tc main_arg5)
/-- each sequence's gate -/
abbrev A6 : FVec Ideal S4x1024 .f32 := V0 (Proc.devRef .tc main_arg6)
/-- the last gain -/
abbrev A7 : FVec Ideal S1024 .f32 := V0 (Proc.devRef .tc main_arg7)
/-- the rows aimed at -/
abbrev A8 : FVec Ideal S4x2048x1024 .f32 := V0 (Proc.devRef .tc main_arg8)

/-- The arguments hold the data `D`. -/
structure Holds (D : Data) : Prop where
  o0 : ∀ b s k, A0 V0 (ix3 b s k) = (D.o0 b s k : ℝ)
  o1 : ∀ b s k, A1 V0 (ix3 b s k) = (D.o1 b s k : ℝ)
  g0 : ∀ b s k, A2 V0 (ix3 b s k) = (D.g0 b s k : ℝ)
  g1 : ∀ b s k, A3 V0 (ix3 b s k) = (D.g1 b s k : ℝ)
  w : ∀ k n, A4 V0 (ix2 k n) = (D.w k n : ℝ)
  x : ∀ b s n, A5 V0 (ix3 b s n) = (D.x b s n : ℝ)
  gate : ∀ b n, A6 V0 (ix2 b n) = (D.gate b n : ℝ)
  f : ∀ n, A7 V0 (ix1 n) = (D.f n : ℝ)
  tgt : ∀ b s n, A8 V0 (ix3 b s n) = (D.tgt b s n : ℝ)

/-- the first gates' sigmoids -/
abbrev sg0 : FVec Ideal S4x2048x512 .f32 := res_main_v0_2 V0
/-- the first gates -/
abbrev silu0 : FVec Ideal S4x2048x512 .f32 := res_main_v0_0 V0
/-- the second gates' sigmoids -/
abbrev sg1 : FVec Ideal S4x2048x512 .f32 := res_main_v2_2 V0
/-- the second gates -/
abbrev silu1 : FVec Ideal S4x2048x512 .f32 := res_main_v2_0 V0
/-- the gated outputs -/
abbrev ra : FVec Ideal S4x2048x1024 .f32 := res_main_v4 V0
/-- their projection -/
abbrev ry : FVec Ideal S4x2048x1024 .f32 := res_main_v5 V0
/-- the rows after -/
abbrev rxo : FVec Ideal S4x2048x1024 .f32 := res_main_v9 V0
/-- their mean squares -/
abbrev rms : FVec Ideal S4x2048x1 .f32 := res_main_v16 V0
/-- the inverse roots -/
abbrev rinv : FVec Ideal S4x2048x1 .f32 := res_main_v17 V0
/-- the rows of mean square one -/
abbrev rxh : FVec Ideal S4x2048x1024 .f32 := res_main_v22 V0
/-- what is missed -/
abbrev rdiff : FVec Ideal S4x2048x1024 .f32 := res_main_v26 V0
/-- the squares -/
abbrev rsq : FVec Ideal S4x2048x1024 .f32 := res_main_v27 V0
/-- the loss's gradient -/
abbrev rdout : FVec Ideal S4x2048x1024 .f32 := res_main_v40 V0
/-- its gradient at the rows of mean square one -/
abbrev rdxh : FVec Ideal S4x2048x1024 .f32 := res_main_v45 V0
/-- its gradient at each entry's square, through the root -/
abbrev rds : FVec Ideal S4x2048x1024 .f32 := res_main_v56 V0
/-- its gradient at the rows after -/
abbrev rdx : FVec Ideal S4x2048x1024 .f32 := res_main_v60 V0
/-- its gradient at the projection -/
abbrev rdy : FVec Ideal S4x2048x1024 .f32 := res_main_v62 V0
/-- its gradient at the gated outputs -/
abbrev rda : FVec Ideal S4x2048x1024 .f32 := res_main_v69 V0

/-- the gradient at the first gated outputs -/
abbrev rda0 : FVec Ideal S4x2048x512 .f32 := res_main_v70 V0
/-- the gradient at the second gated outputs -/
abbrev rda1 : FVec Ideal S4x2048x512 .f32 := res_main_v71 V0
/-- the gradient at the first gates -/
abbrev roda0 : FVec Ideal S4x2048x512 .f32 := res_main_v75 V0
/-- the gradient at the second gates -/
abbrev roda1 : FVec Ideal S4x2048x512 .f32 := res_main_v72 V0

variable {V0} {D : Data} (h : Holds V0 D)
include h

theorem sg0_at (b : Fin 4) (s : Fin 2048) (k : Fin 512) : sg0 V0 (ix3 b s k) = ((D.row b s).sg ⟨k.val, by omega⟩ : ℝ) := by
  have e : sg0 V0 (ix3 b s k) = Ideal.div 1 (1 + Ideal.exp (-A2 V0 (ix3 b s k))) := by
    pointwise [sg0, res_main_v0_2]
  have eg : (D.row b s).g ⟨k.val, by omega⟩ = D.g0 b s k := side_lt _ _ _ _
  rw [e, h.g0, ← eg, ← EReal.coe_neg, Ideal.exp_coe, ← EReal.coe_one, ← EReal.coe_add, div_real _ _ ((D.row b s).sg_den _)]; rfl

theorem sg1_at (b : Fin 4) (s : Fin 2048) (k : Fin 512) (n : Fin 1024) (hn : n.val = k.val + 512) : sg1 V0 (ix3 b s k) = ((D.row b s).sg n : ℝ) := by
  have e : sg1 V0 (ix3 b s k) = Ideal.div 1 (1 + Ideal.exp (-A3 V0 (ix3 b s k))) := by
    pointwise [sg1, res_main_v2_2]
  have eg : (D.row b s).g n = D.g1 b s k := side_ge _ _ _ _ hn
  rw [e, h.g1, ← eg, ← EReal.coe_neg, Ideal.exp_coe, ← EReal.coe_one, ← EReal.coe_add, div_real _ _ ((D.row b s).sg_den _)]; rfl

theorem silu0_at (b : Fin 4) (s : Fin 2048) (k : Fin 512) : silu0 V0 (ix3 b s k) = ((D.row b s).silu ⟨k.val, by omega⟩ : ℝ) := by
  have e : silu0 V0 (ix3 b s k) = A2 V0 (ix3 b s k) * sg0 V0 (ix3 b s k) := by
    pointwise [silu0, res_main_v0_0]
  have eg : (D.row b s).g ⟨k.val, by omega⟩ = D.g0 b s k := side_lt _ _ _ _
  rw [e, h.g0, ← eg, sg0_at h, ← EReal.coe_mul]; rfl

theorem silu1_at (b : Fin 4) (s : Fin 2048) (k : Fin 512) (n : Fin 1024) (hn : n.val = k.val + 512) : silu1 V0 (ix3 b s k) = ((D.row b s).silu n : ℝ) := by
  have e : silu1 V0 (ix3 b s k) = A3 V0 (ix3 b s k) * sg1 V0 (ix3 b s k) := by
    pointwise [silu1, res_main_v2_0]
  have eg : (D.row b s).g n = D.g1 b s k := side_ge _ _ _ _ hn
  rw [e, h.g1, ← eg, sg1_at h b s k n hn, ← EReal.coe_mul]; rfl

theorem a_at (b : Fin 4) (s : Fin 2048) (k : Fin 1024) : ra V0 (ix3 b s k) = ((D.row b s).a k : ℝ) := by
  have e : ra V0 (ix3 b s k) = if hk : k.val < 512 then A0 V0 (ix3 b s ⟨k.val, hk⟩) * silu0 V0 (ix3 b s ⟨k.val, hk⟩)
      else A1 V0 (ix3 b s ⟨k.val - 512, by omega⟩) * silu1 V0 (ix3 b s ⟨k.val - 512, by omega⟩) := by
    pointwise [ra, res_main_v4]
  rw [e]; split_ifs with hk
  · have eo : (D.row b s).o k = D.o0 b s ⟨k.val, hk⟩ := side_lt _ _ ⟨k.val, hk⟩ _
    rw [h.o0, ← eo, silu0_at h, ← EReal.coe_mul]; rfl
  · have eo : (D.row b s).o k = D.o1 b s ⟨k.val - 512, by omega⟩ := side_ge _ _ _ _ (by dsimp only; omega)
    rw [h.o1, ← eo, silu1_at h b s _ k (by dsimp only; omega), ← EReal.coe_mul]; rfl

theorem y_at (b : Fin 4) (s : Fin 2048) (n : Fin 1024) : ry V0 (ix3 b s n) = ((D.row b s).y n : ℝ) := by
  have e : ry V0 (ix3 b s n) = ∑ k, ra V0 (ix3 b s k) * A4 V0 (ix2 k n) := by
    pointwise [ry, res_main_v5]
  rw [e, Row.y, ← coe_sum]
  exact Finset.sum_congr rfl fun k _ => by rw [a_at h, h.w, ← EReal.coe_mul]; rfl

theorem xo_at (b : Fin 4) (s : Fin 2048) (n : Fin 1024) : rxo V0 (ix3 b s n) = ((D.row b s).xo n : ℝ) := by
  have e : rxo V0 (ix3 b s n) = A5 V0 (ix3 b s n) + A6 V0 (ix2 b n) * ry V0 (ix3 b s n) := by
    pointwise [rxo, res_main_v9, res_main_v6]
  rw [e, h.x, h.gate, y_at h, ← EReal.coe_mul, ← EReal.coe_add]; rfl

theorem ms_at (b : Fin 4) (s : Fin 2048) : rms V0 (ix3 b s 0) = ((D.row b s).ms : ℝ) := by
  have e : rms V0 (ix3 b s 0) = Ideal.div (∑ n, rxo V0 (ix3 b s n) * rxo V0 (ix3 b s n)) (Ideal.ofBits .f32 0x44800000#32)
      + Ideal.ofBits .f32 0x358637BD#32 := by
    pointwise [rms, res_main_v16]
  have es : ∑ n, rxo V0 (ix3 b s n) * rxo V0 (ix3 b s n) = ((∑ n, (D.row b s).xo n * (D.row b s).xo n : ℝ) : EReal) := by
    rw [← coe_sum]; exact Finset.sum_congr rfl fun n _ => by rw [xo_at h, ← EReal.coe_mul]
  rw [e, es, ofBits_1024, ofBits_eps, div_real _ _ (by norm_num), ← EReal.coe_add]; rfl

theorem inv_at (b : Fin 4) (s : Fin 2048) : rinv V0 (ix3 b s 0) = ((D.row b s).inv : ℝ) := by
  have e : rinv V0 (ix3 b s 0) = Ideal.rsqrt (rms V0 (ix3 b s 0)) := by
    pointwise [rinv, res_main_v17]
  rw [e, ms_at h]; exact (D.row b s).rsqrt_ms

theorem xh_at (b : Fin 4) (s : Fin 2048) (n : Fin 1024) : rxh V0 (ix3 b s n) = ((D.row b s).xh n : ℝ) := by
  have e : rxh V0 (ix3 b s n) = rxo V0 (ix3 b s n) * rinv V0 (ix3 b s 0) := by
    pointwise [rxh, res_main_v22]
  rw [e, xo_at h, inv_at h, ← EReal.coe_mul]; rfl

theorem diff_at (b : Fin 4) (s : Fin 2048) (n : Fin 1024) : rdiff V0 (ix3 b s n) = ((D.row b s).diff n : ℝ) := by
  have e : rdiff V0 (ix3 b s n) = rxh V0 (ix3 b s n) * A7 V0 (ix1 n) - A8 V0 (ix3 b s n) := by
    pointwise [rdiff, res_main_v26, res_main_v23]
  rw [e, xh_at h, h.f, h.tgt, ← EReal.coe_mul, ← EReal.coe_sub]; rfl

theorem sq_at (b : Fin 4) (s : Fin 2048) (n : Fin 1024) : rsq V0 (ix3 b s n) = ((D.row b s).diff n * (D.row b s).diff n : ℝ) := by
  have e : rsq V0 (ix3 b s n) = rdiff V0 (ix3 b s n) * rdiff V0 (ix3 b s n) := by
    pointwise [rsq, res_main_v27]
  rw [e, diff_at h, ← EReal.coe_mul]

theorem dout_at (b : Fin 4) (s : Fin 2048) (n : Fin 1024) : rdout V0 (ix3 b s n) = ((D.row b s).dout n : ℝ) := by
  have e : rdout V0 (ix3 b s n) = Ideal.div (Ideal.ofBits .f32 0x3F000000#32 * 1) (Ideal.ofBits .f32 0x44800000#32)
      * (Ideal.ofBits .f32 0x40000000#32 * rdiff V0 (ix3 b s n)) := by
    pointwise [rdout, res_main_v40]
  rw [e, diff_at h, mul_one, ofBits_half, ofBits_1024, ofBits_two, div_real _ _ (by norm_num), ← EReal.coe_mul, ← EReal.coe_mul, EReal.coe_eq_coe_iff,
    Row.dout]
  ring

theorem dxh_at (b : Fin 4) (s : Fin 2048) (n : Fin 1024) : rdxh V0 (ix3 b s n) = ((D.row b s).dxh n : ℝ) := by
  have e : rdxh V0 (ix3 b s n) = rdout V0 (ix3 b s n) * A7 V0 (ix1 n) := by
    pointwise [rdxh, res_main_v45, res_main_v23]
  rw [e, dout_at h, h.f, ← EReal.coe_mul]; rfl

theorem ds_at (b : Fin 4) (s : Fin 2048) (n : Fin 1024) : rds V0 (ix3 b s n)
    = ((∑ l, (D.row b s).xo l * (D.row b s).dxh l) * (-(1 / 2) * ((D.row b s).inv / (D.row b s).ms)) / 1024 : ℝ) := by
  have e : rds V0 (ix3 b s n) = Ideal.div ((∑ l, rxo V0 (ix3 b s l) * rdxh V0 (ix3 b s l))
      * (Ideal.ofBits .f32 0xBF000000#32 * Ideal.div (rinv V0 (ix3 b s 0)) (rms V0 (ix3 b s 0)))) (Ideal.ofBits .f32 0x44800000#32) := by
    pointwise [rds, res_main_v56]
    exact Fin.sum_univ_one _
  have es : ∑ l, rxo V0 (ix3 b s l) * rdxh V0 (ix3 b s l) = ((∑ l, (D.row b s).xo l * (D.row b s).dxh l : ℝ) : EReal) := by
    rw [← coe_sum]; exact Finset.sum_congr rfl fun l _ => by rw [xo_at h, dxh_at h, ← EReal.coe_mul]
  rw [e, es, inv_at h, ms_at h, ofBits_neg_half, ofBits_1024, div_real _ _ (D.row b s).ms_pos.ne', ← EReal.coe_mul, ← EReal.coe_mul, div_real _ _ (by norm_num)]

theorem dx_at (b : Fin 4) (s : Fin 2048) (n : Fin 1024) : rdx V0 (ix3 b s n) = ((D.row b s).dx n : ℝ) := by
  have e : rdx V0 (ix3 b s n) = rdxh V0 (ix3 b s n) * rinv V0 (ix3 b s 0) + rxo V0 (ix3 b s n) * rds V0 (ix3 b s n)
      + rds V0 (ix3 b s n) * rxo V0 (ix3 b s n) := by
    pointwise [rdx, res_main_v60]
  rw [e, dxh_at h, inv_at h, xo_at h, ds_at h, ← Row.dx_eq]
  simp only [← EReal.coe_mul, ← EReal.coe_add]

theorem dy_at (b : Fin 4) (s : Fin 2048) (n : Fin 1024) : rdy V0 (ix3 b s n) = ((D.row b s).dy n : ℝ) := by
  have e : rdy V0 (ix3 b s n) = A6 V0 (ix2 b n) * rdx V0 (ix3 b s n) := by
    pointwise [rdy, res_main_v62, res_main_v6]
  rw [e, h.gate, dx_at h, ← EReal.coe_mul, mul_comm]; rfl

theorem da_at (b : Fin 4) (s : Fin 2048) (k : Fin 1024) : rda V0 (ix3 b s k) = ((D.row b s).da k : ℝ) := by
  have e : rda V0 (ix3 b s k) = ∑ n, rdy V0 (ix3 b s n) * A4 V0 (ix2 k n) := by
    pointwise [rda, res_main_v69]
  rw [e, Row.da, ← coe_sum]
  exact Finset.sum_congr rfl fun n _ => by rw [dy_at h, h.w, ← EReal.coe_mul]; rfl

end

/-- The host's sum over the first two of three axes. -/
theorem sum_first_two {n0 n1 n2 : ℕ} (h : (⟨3, ![n0, n1, n2]⟩ : Shape).ReducesTo [0, 1] ⟨1, ![n2]⟩) (v : (⟨3, ![n0, n1, n2]⟩ : Shape).Idx → EReal)
    (init : EReal) (n : Fin n2) : Ideal.hostReduceAdd h v init (ix1 n) = init + ∑ b : Fin n0, ∑ s : Fin n1, v (ix3 b s n) := by
  refine congrArg (init + ·) ?_
  refine (Finset.sum_filter_eq_sum_of_fiber _ (fun k : Fin n0 × Fin n1 => ix3 k.1 k.2 n)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- the gradient at the rows after, as the reference gives it -/
def outDx (V0 : Valuation τ sig (Elt Ideal)) : FVec Ideal S8192x1024 .f32 :=
  shapeCast _ (res_main_v60 V0) shapeCasts_S4x2048x1024_S8192x1024

/-- the gradient at the outputs, as the reference gives it -/
def outDo (V0 : Valuation τ sig (Elt Ideal)) : FVec Ideal S8192x1024 .f32 :=
  shapeCast S8192x1024 (concatenate S4x2048x1024 2 [⟨S4x2048x512, (mulf (res_main_v70 V0) (res_main_v0_0 V0))⟩, ⟨S4x2048x512, (shapeCast _ (transpose S4x2048x4x2x64 [0, 1, 3, 2, 4] (shapeCast _ (mulf (res_main_v71 V0) (res_main_v2_0 V0)) shapeCasts_S4x2048x512_S4x2048x2x4x64) transposes_S4x2048x2x4x64_S4x2048x4x2x64_0_1_3_2_4) shapeCasts_S4x2048x4x2x64_S4x2048x512)⟩] concatenates_S4x2048x512_S4x2048x512_S4x2048x1024_d2) shapeCasts_S4x2048x1024_S8192x1024

/-- the gradient at the gates, as the reference gives it -/
def outDg (V0 : Valuation τ sig (Elt Ideal)) : FVec Ideal S8192x1024 .bf16 :=
  truncf .bf16 (shapeCast S8192x1024 (concatenate S4x2048x1024 2 [⟨S4x2048x512, (addf (mulf (res_main_v75 V0) (res_main_v0_2 V0)) (mulf (mulf (V0 (Proc.devRef .tc main_arg2)) (res_main_v75 V0)) (mulf (res_main_v0_2 V0) (subf (broadcastInDim S4x2048x512 ![] bcast_S_S4x2048x512 (constant S_ .f32 0x3F800000#32)) (res_main_v0_2 V0)))))⟩, ⟨S4x2048x512, (shapeCast _ (transpose S4x2048x4x2x64 [0, 1, 3, 2, 4] (shapeCast _ (addf (mulf (res_main_v72 V0) (res_main_v2_2 V0)) (mulf (mulf (V0 (Proc.devRef .tc main_arg3)) (res_main_v72 V0)) (mulf (res_main_v2_2 V0) (subf (broadcastInDim S4x2048x512 ![] bcast_S_S4x2048x512 (constant S_ .f32 0x3F800000#32)) (res_main_v2_2 V0))))) shapeCasts_S4x2048x512_S4x2048x2x4x64) transposes_S4x2048x2x4x64_S4x2048x4x2x64_0_1_3_2_4) shapeCasts_S4x2048x4x2x64_S4x2048x512)⟩] concatenates_S4x2048x512_S4x2048x512_S4x2048x1024_d2) shapeCasts_S4x2048x1024_S8192x1024) bitsLt_bf16_f32

/-- the loss's parts, as the reference gives them -/
def outLoss (V0 : Valuation τ sig (Elt Ideal)) : FVec Ideal S1x128 .f32 :=
  broadcastInDim S1x128 ![1] bcast_S128_S1x128_1 (Host.reduceAdd (Host.divf (mulf (broadcastInDim S65536x128 ![] bcast_S_S65536x128 (constant S_ .f32 0x3F000000#32)) (shapeCast _ (res_main_v27 V0) shapeCasts_S4x2048x1024_S65536x128)) (broadcastInDim S65536x128 ![] bcast_S_S65536x128 (constant S_ .f32 0x44800000#32))) (constant S_ .f32 0x00000000#32) reducesTo_S65536x128_S128_d0 h_S_)

/-- the gradient at the last gain, as the reference gives it -/
def outDfg (V0 : Valuation τ sig (Elt Ideal)) : FVec Ideal S1x1024 .f32 :=
  shapeCast _ (Host.reduceAdd (shapeCast _ (Host.reduceAdd (mulf (res_main_v22 V0) (res_main_v40 V0)) (constant S_ .f32 0x00000000#32) reducesTo_S4x2048x1024_S1024_d0_1 h_S_) shapeCasts_S1024_S1x1x1024) (constant S_ .f32 0x00000000#32) reducesTo_S1x1x1024_S1024_d0_1 h_S_) shapeCasts_S1024_S1x1024

/-- the gradient at the sequences' gates, as the reference gives it -/
def outDgate (V0 : Valuation τ sig (Elt Ideal)) : FVec Ideal S4x1x1024 .f32 :=
  shapeCast _ (Host.reduceAdd (shapeCast _ (Host.reduceAdd (mulf (res_main_v60 V0) (res_main_v5 V0)) (constant S_ .f32 0x00000000#32) reducesTo_S4x2048x1024_S4x1024_d1 h_S_) shapeCasts_S4x1024_S4x1x1024) (constant S_ .f32 0x00000000#32) reducesTo_S4x1x1024_S4x1024_d1 h_S_) shapeCasts_S4x1024_S4x1x1024

/-- the gradient at the weights, as the reference gives it -/
def outDw (V0 : Valuation τ sig (Elt Ideal)) : FVec Ideal S1024x1024 .f32 :=
  transpose S1024x1024 [1, 0] (Host.dotGeneral (φ₁ := .f32) (φ₂ := .f32) dot_S4x2048x1024_S4x2048x1024_S1024x1024_01_01_2_2_n_n none (res_main_v62 V0) (res_main_v4 V0)) transposes_S1024x1024_S1024x1024_1_0

/-- the same, rounded -/
def outDwb (V0 : Valuation τ sig (Elt Ideal)) : FVec Ideal S1024x1024 .bf16 := truncf .bf16 (outDw V0) bitsLt_bf16_f32

section
variable {V0 : Valuation τ sig (Elt Ideal)} {D : Data} (h : Holds V0 D)
include h

theorem outDx_at (t : Fin 8192) (n : Fin 1024) : outDx V0 (ix2 t n) = ((D.at' t).dx n : ℝ) := by
  refine Eq.trans ?_ (dx_at h ⟨t.val / 2048, by omega⟩ ⟨t.val % 2048, by omega⟩ n)
  pointwise [outDx]
  blk_ext

/-- The gradient at the first gated outputs. -/
theorem da0_at (b : Fin 4) (s : Fin 2048) (k : Fin 512) (n : Fin 1024) (hn : n.val = k.val) : rda0 V0 (ix3 b s k) = ((D.row b s).da n : ℝ) := by
  refine Eq.trans ?_ (da_at h b s n)
  pointwise [rda0, res_main_v70]
  refine congrArg (rda V0) ?_
  refine congrArg (ix3 _ _) (Fin.ext ?_)
  dsimp only; omega

/-- The gradient at the second gated outputs. -/
theorem da1_at (b : Fin 4) (s : Fin 2048) (k : Fin 512) (n : Fin 1024) (hn : n.val = k.val + 512) : rda1 V0 (ix3 b s k) = ((D.row b s).da n : ℝ) := by
  refine Eq.trans ?_ (da_at h b s n)
  pointwise [rda1, res_main_v71]
  refine congrArg (rda V0) ?_
  refine congrArg (ix3 _ _) (Fin.ext ?_)
  dsimp only; omega

theorem oda0_at (b : Fin 4) (s : Fin 2048) (k : Fin 512) (n : Fin 1024) (hn : n.val = k.val) :
    roda0 V0 (ix3 b s k) = ((D.row b s).o n * (D.row b s).da n : ℝ) := by
  have e : roda0 V0 (ix3 b s k) = A0 V0 (ix3 b s k) * rda0 V0 (ix3 b s k) := by
    pointwise [roda0, res_main_v75]
  have eo : (D.row b s).o n = D.o0 b s k := by
    rw [show n = ⟨k.val, by omega⟩ from Fin.ext hn]; exact side_lt _ _ _ _
  rw [e, h.o0, da0_at h b s k _ hn, ← eo, ← EReal.coe_mul]

theorem oda1_at (b : Fin 4) (s : Fin 2048) (k : Fin 512) (n : Fin 1024) (hn : n.val = k.val + 512) :
    roda1 V0 (ix3 b s k) = ((D.row b s).o n * (D.row b s).da n : ℝ) := by
  have e : roda1 V0 (ix3 b s k) = A1 V0 (ix3 b s k) * rda1 V0 (ix3 b s k) := by
    pointwise [roda1, res_main_v72]
  have eo : (D.row b s).o n = D.o1 b s k := side_ge _ _ _ _ hn
  rw [e, h.o1, da1_at h b s k _ hn, ← eo, ← EReal.coe_mul]

omit h in
theorem cols_lt (k : Fin 1024) (hk : k.val < 512) : cols k = k := Fin.ext (if_pos hk)

omit h in
/-- A column of the second half, in pairs of heads. -/
def pairCol (k : Fin 1024) : Fin 512 := ⟨(k.val - 512) / 64 % 2 * 256 + (k.val - 512) / 128 * 64 + (k.val - 512) % 64, by omega⟩

omit h in
theorem cols_ge (k : Fin 1024) (hk : ¬k.val < 512) : (cols k).val = (pairCol k).val + 512 :=
  (if_neg hk).trans (Nat.add_comm _ _)

theorem outDo_at (t : Fin 8192) (k : Fin 1024) : outDo V0 (ix2 t k) = ((D.at' t).dO (cols k) : ℝ) := by
  pointwise [outDo]
  by_cases hk : k.val < 512
  · rw [dif_pos hk]
    refine (congrArg₂ (· * ·) (da0_at h _ _ ⟨k.val, hk⟩ k rfl) (silu0_at h _ _ ⟨k.val, hk⟩)).trans ?_
    rw [cols_lt k hk, ← EReal.coe_mul]; rfl
  · rw [dif_neg hk]
    refine (congrArg₂ (· * ·) (da1_at h _ _ (pairCol k) (cols k) (cols_ge k hk)) (silu1_at h _ _ (pairCol k) (cols k) (cols_ge k hk))).trans ?_
    rw [← EReal.coe_mul]; rfl

omit h in
/-- The gradient at a gate, as the reference gives it. -/
theorem dg_eq (r : Row) (k : Fin 1024) :
    (((r.o k * r.da k : ℝ) : EReal)) * (r.sg k : ℝ) + (r.g k : ℝ) * ((r.o k * r.da k : ℝ) : EReal) * ((r.sg k : ℝ) * (1 - (r.sg k : ℝ))) = (r.dg k : ℝ) := by
  rw [← EReal.coe_one]
  simp only [← EReal.coe_mul, ← EReal.coe_sub, ← EReal.coe_add]
  rw [EReal.coe_eq_coe_iff, Row.dg]; ring

theorem outDg_at (t : Fin 8192) (k : Fin 1024) : outDg V0 (ix2 t k) = ((D.at' t).dg (cols k) : ℝ) := by
  rw [← dg_eq]
  pointwise [outDg]
  by_cases hk : k.val < 512
  · rw [dif_pos hk]
    have eg : (D.at' t).g k = D.g0 ⟨t.val / 2048, by omega⟩ ⟨t.val % 2048, by omega⟩ ⟨k.val, hk⟩ := side_lt _ _ ⟨k.val, hk⟩ _
    rw [cols_lt k hk, eg]
    exact congrArg₂ (· + ·) (congrArg₂ (· * ·) (oda0_at h _ _ ⟨k.val, hk⟩ k rfl) (sg0_at h _ _ ⟨k.val, hk⟩))
      (congrArg₂ (· * ·) (congrArg₂ (· * ·) (h.g0 _ _ _) (oda0_at h _ _ ⟨k.val, hk⟩ k rfl))
        (congrArg₂ (fun a b : EReal => a * (1 - b)) (sg0_at h _ _ ⟨k.val, hk⟩) (sg0_at h _ _ ⟨k.val, hk⟩)))
  · rw [dif_neg hk]
    have hn := cols_ge k hk
    have eg : (D.at' t).g (cols k) = D.g1 ⟨t.val / 2048, by omega⟩ ⟨t.val % 2048, by omega⟩ (pairCol k) := side_ge _ _ _ _ hn
    rw [eg]
    exact congrArg₂ (· + ·) (congrArg₂ (· * ·) (oda1_at h _ _ (pairCol k) (cols k) hn) (sg1_at h _ _ (pairCol k) (cols k) hn))
      (congrArg₂ (· * ·) (congrArg₂ (· * ·) (h.g1 _ _ (pairCol k)) (oda1_at h _ _ (pairCol k) (cols k) hn))
        (congrArg₂ (fun a b : EReal => a * (1 - b)) (sg1_at h _ _ (pairCol k) (cols k) hn) (sg1_at h _ _ (pairCol k) (cols k) hn)))

/-- A term of one of the loss's parts. -/
def lossTerm (D : Data) (l : Fin 128) (x : Fin 65536) : ℝ :=
  (D.row ⟨x.val / 16384, by omega⟩ ⟨x.val / 8 % 2048, by omega⟩).diff ⟨x.val % 8 * 128 + l.val, by omega⟩
    * (D.row ⟨x.val / 16384, by omega⟩ ⟨x.val / 8 % 2048, by omega⟩).diff ⟨x.val % 8 * 128 + l.val, by omega⟩ / 2048

theorem outLoss_at (l : Fin 128) : outLoss V0 (ix2 0 l) = (D.loss l : ℝ) := by
  have e : outLoss V0 (ix2 0 l) = ∑ x : Fin 65536, Ideal.div (Ideal.ofBits .f32 0x3F000000#32
      * rsq V0 (ix3 ⟨x.val / 16384, by omega⟩ ⟨x.val / 8 % 2048, by omega⟩ ⟨x.val % 8 * 128 + l.val, by omega⟩)) (Ideal.ofBits .f32 0x44800000#32) := by
    pointwise [outLoss]
  have es : D.loss l = ∑ x, lossTerm D l x := by
    refine Fin.sum_mul_add_congr (L := 65536) (fun t j hl => ?_)
    unfold lossTerm Data.at'
    have e1 : (t.val * 8 + j.val) / 16384 = t.val / 2048 := by omega
    have e2 : (t.val * 8 + j.val) / 8 % 2048 = t.val % 2048 := by omega
    have e3 : (t.val * 8 + j.val) % 8 * 128 = 128 * j.val := by omega
    simp only [e1, e2, e3]
  rw [e, es, ← coe_sum]
  refine Finset.sum_congr rfl fun x _ => ?_
  rw [sq_at h, ofBits_half, ofBits_1024, ← EReal.coe_mul, div_real _ _ (by norm_num), EReal.coe_eq_coe_iff, lossTerm]
  ring

theorem outDfg_at (n : Fin 1024) : outDfg V0 (ix2 0 n) = (D.dfg n : ℝ) := by
  have e : outDfg V0 (ix2 0 n) = ∑ b, ∑ s, rxh V0 (ix3 b s n) * rdout V0 (ix3 b s n) := by
    pointwise [outDfg]
    refine (sum_first_two _ _ _ _).trans ?_
    rw [zero_add, Fin.sum_univ_one, Fin.sum_univ_one]
    pointwise []
    refine (sum_first_two _ _ _ _).trans ?_
    rw [zero_add]
    pointwise []
  rw [e, Data.dfg, ← D.sum_rows fun r => r.dout n * r.xh n, ← coe_sum]
  refine Finset.sum_congr rfl fun b _ => ?_
  rw [← coe_sum]
  exact Finset.sum_congr rfl fun s _ => by rw [xh_at h, dout_at h, ← EReal.coe_mul, mul_comm]

theorem outDgate_at (b : Fin 4) (n : Fin 1024) : outDgate V0 (ix3 b 0 n) = (D.dgate b n : ℝ) := by
  have e : outDgate V0 (ix3 b 0 n) = ∑ s, rdx V0 (ix3 b s n) * ry V0 (ix3 b s n) := by
    pointwise [outDgate]
    exact Fin.sum_univ_one _
  rw [e, Data.dgate, ← coe_sum]
  exact Finset.sum_congr rfl fun s _ => by rw [dx_at h, y_at h, ← EReal.coe_mul]

theorem outDw_at (k n : Fin 1024) : outDw V0 (ix2 k n) = (D.dw k n : ℝ) := by
  have e : outDw V0 (ix2 k n) = ∑ b, ∑ s, rdy V0 (ix3 b s n) * ra V0 (ix3 b s k) := by
    pointwise [outDw]
  rw [e, Data.dw, ← D.sum_rows fun r => r.a k * r.dy n, ← coe_sum]
  refine Finset.sum_congr rfl fun b _ => ?_
  rw [← coe_sum]
  exact Finset.sum_congr rfl fun s _ => by rw [dy_at h, a_at h, ← EReal.coe_mul, mul_comm]

theorem outDwb_at (k n : Fin 1024) : outDwb V0 (ix2 k n) = (D.dw k n : ℝ) := outDw_at h k n

end

end Cert.Proof.PostStages

end
-- ==== Proof.PostValues.lean ====
/- The step around the output projection: at finite arguments the kernel's results are the reference's. -/
module

public import proofs.«01_k».proof.Proof.PostArrays
public import proofs.«01_k».proof.Proof.PostStages
public import proofs.«01_k».proof.Proof.Values
public import proofs.«01_k».proof.Defs
public import proofs.«01_k».proof.Proof.Gen.Pre_finite_post
public import Idealize.ShloMosaic.Lib.ReduceAll
public import Idealize.ShloMosaic.Lib.Claim

@[expose] public section

set_option maxRecDepth 16384

noncomputable section

namespace Cert.Proof.PostValues

open Idealize.ShloMosaic Idealize.ShloMosaic.TcCoe Idealize.SL.Sem
open Cert.Proof.Post Cert.Proof.PostOperands Cert.Proof.PostArrays
open Cert.PostKernelIdeal (S4x2048x512 S1024x1024 S4x2048x1024 S4x1024 S1024)
open Idealize.ShloMosaic.StableHlo (launchContents)

/-- Arrays that the precondition holds of have real entries. -/
theorem finite_entries (A0 A1 A2 A3 : FVec Ideal S4x2048x512 .f32) (A4 : FVec Ideal S1024x1024 .f32) (A5 : FVec Ideal S4x2048x1024 .f32)
    (A6 : FVec Ideal S4x1024 .f32) (A7 : FVec Ideal S1024 .f32) (A8 : FVec Ideal S4x2048x1024 .f32)
    (h : Cert.Pre_finite_post.fn (F := Ideal) A0 A1 A2 A3 A4 A5 A6 A7 A8 = fun _ => 1#1) :
    (∀ i, ∃ r : ℝ, A0 i = (r : EReal)) ∧ (∀ i, ∃ r : ℝ, A1 i = (r : EReal)) ∧ (∀ i, ∃ r : ℝ, A2 i = (r : EReal)) ∧ (∀ i, ∃ r : ℝ, A3 i = (r : EReal))
      ∧ (∀ i, ∃ r : ℝ, A4 i = (r : EReal)) ∧ (∀ i, ∃ r : ℝ, A5 i = (r : EReal)) ∧ (∀ i, ∃ r : ℝ, A6 i = (r : EReal)) ∧ (∀ i, ∃ r : ℝ, A7 i = (r : EReal))
      ∧ (∀ i, ∃ r : ℝ, A8 i = (r : EReal)) := by
  have e := congrFun h ix0
  unfold Cert.Pre_finite_post.fn Cert.Pre_finite_post.fn_part1 Cert.Pre_finite_post.fn_part2 at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => Values.real_of_lt _ (Host.reduce_andi_all _ _ _ _ _ e0 i), fun i => Values.real_of_lt _ (Host.reduce_andi_all _ _ _ _ _ e1 i),
    fun i => Values.real_of_lt _ (Host.reduce_andi_all _ _ _ _ _ e2 i), fun i => Values.real_of_lt _ (Host.reduce_andi_all _ _ _ _ _ e3 i),
    fun i => Values.real_of_lt _ (Host.reduce_andi_all _ _ _ _ _ e4 i), fun i => Values.real_of_lt _ (Host.reduce_andi_all _ _ _ _ _ e5 i),
    fun i => Values.real_of_lt _ (Host.reduce_andi_all _ _ _ _ _ e6 i), fun i => Values.real_of_lt _ (Host.reduce_andi_all _ _ _ _ _ e7 i),
    fun i => Values.real_of_lt _ (Host.reduce_andi_all _ _ _ _ _ e8 i)⟩

/-- Such arrays hold data. -/
theorem data (A0 A1 A2 A3 : FVec Ideal S4x2048x512 .f32) (A4 : FVec Ideal S1024x1024 .f32) (A5 : FVec Ideal S4x2048x1024 .f32)
    (A6 : FVec Ideal S4x1024 .f32) (A7 : FVec Ideal S1024 .f32) (A8 : FVec Ideal S4x2048x1024 .f32)
    (h : Cert.Pre_finite_post.fn (F := Ideal) A0 A1 A2 A3 A4 A5 A6 A7 A8 = fun _ => 1#1) : ∃ D, Arrays D A0 A1 A2 A3 A4 A5 A6 A7 A8 := by
  obtain ⟨h0, h1, h2, h3, h4, h5, h6, h7, h8⟩ := finite_entries A0 A1 A2 A3 A4 A5 A6 A7 A8 h
  choose a0 h0 using h0
  choose a1 h1 using h1
  choose a2 h2 using h2
  choose a3 h3 using h3
  choose a4 h4 using h4
  choose a5 h5 using h5
  choose a6 h6 using h6
  choose a7 h7 using h7
  choose a8 h8 using h8
  exact ⟨⟨fun b s k => a0 (ix3 b s k), fun b s k => a1 (ix3 b s k), fun b s k => a2 (ix3 b s k), fun b s k => a3 (ix3 b s k), fun k n => a4 (ix2 k n),
    fun b s n => a5 (ix3 b s n), fun b n => a6 (ix2 b n), fun n => a7 (ix1 n), fun b s n => a8 (ix3 b s n)⟩,
    ⟨fun _ _ _ => h0 _, fun _ _ _ => h1 _, fun _ _ _ => h2 _, fun _ _ _ => h3 _, fun _ _ => h4 _, fun _ _ _ => h5 _, fun _ _ => h6 _, fun _ => h7 _,
      fun _ _ _ => h8 _⟩⟩

section
open Cert.PostReferenceIdeal
variable {V0 : Valuation τ sig (Elt Ideal)} {D : Data} (h : PostStages.Holds V0 D)
include h

theorem ref_dx : PostStages.outDx V0 = gDx D := by
  funext y
  obtain ⟨p, n, rfl⟩ : ∃ (p : Fin 8192) (n : Fin 1024), y = ix2 p n := ⟨y 0, y 1, by funext i; fin_cases i <;> rfl⟩
  exact PostStages.outDx_at h p n

theorem ref_do : PostStages.outDo V0 = gDo D := by
  funext y
  obtain ⟨p, n, rfl⟩ : ∃ (p : Fin 8192) (n : Fin 1024), y = ix2 p n := ⟨y 0, y 1, by funext i; fin_cases i <;> rfl⟩
  exact PostStages.outDo_at h p n

theorem ref_dg : PostStages.outDg V0 = gDg D := by
  funext y
  obtain ⟨p, n, rfl⟩ : ∃ (p : Fin 8192) (n : Fin 1024), y = ix2 p n := ⟨y 0, y 1, by funext i; fin_cases i <;> rfl⟩
  exact PostStages.outDg_at h p n

theorem ref_loss : PostStages.outLoss V0 = gLoss D := by
  funext y
  obtain ⟨l, rfl⟩ : ∃ (l : Fin 128), y = ix2 0 l := ⟨y 1, by funext i; fin_cases i; exact Subsingleton.elim (α := Fin 1) _ _; rfl⟩
  exact PostStages.outLoss_at h l

theorem ref_dfg : PostStages.outDfg V0 = gDfg D := by
  funext y
  obtain ⟨l, rfl⟩ : ∃ (l : Fin 1024), y = ix2 0 l := ⟨y 1, by funext i; fin_cases i; exact Subsingleton.elim (α := Fin 1) _ _; rfl⟩
  exact PostStages.outDfg_at h l

theorem ref_dgate : PostStages.outDgate V0 = gDgate D := by
  funext y
  obtain ⟨b, l, rfl⟩ : ∃ (b : Fin 4) (l : Fin 1024), y = ix3 b 0 l :=
    ⟨y 0, y 2, by funext i; fin_cases i; rfl; exact Subsingleton.elim (α := Fin 1) _ _; rfl⟩
  exact PostStages.outDgate_at h b l

theorem ref_dw : PostStages.outDw V0 = gDw D := by
  funext y
  obtain ⟨k, n, rfl⟩ : ∃ (k n : Fin 1024), y = ix2 k n := ⟨y 0, y 1, by funext i; fin_cases i <;> rfl⟩
  exact PostStages.outDw_at h k n

theorem ref_dwb : PostStages.outDwb V0 = gDwb D := by
  funext y
  obtain ⟨k, n, rfl⟩ : ∃ (k n : Fin 1024), y = ix2 k n := ⟨y 0, y 1, by funext i; fin_cases i <;> rfl⟩
  exact PostStages.outDwb_at h k n

end

/-- The reference's arguments hold the data the kernel's hold. -/
theorem holds_ref (m' : (ℓ : Loc Cert.PostReferenceIdeal.nD Cert.PostReferenceIdeal.τ Cert.PostReferenceIdeal.sig) → Buf (Elt Ideal) ℓ)
    (c : Dev Cert.PostReferenceIdeal.nD) {D : Data}
    (h : Arrays D (PostStages.A0 (launchContents m' c)) (PostStages.A1 (launchContents m' c)) (PostStages.A2 (launchContents m' c))
      (PostStages.A3 (launchContents m' c)) (PostStages.A4 (launchContents m' c)) (PostStages.A5 (launchContents m' c))
      (PostStages.A6 (launchContents m' c)) (PostStages.A7 (launchContents m' c)) (PostStages.A8 (launchContents m' c))) :
    PostStages.Holds (launchContents m' c) D where
  o0 := h.o0
  o1 := h.o1
  g0 := h.g0
  g1 := h.g1
  w := h.w
  x := h.x
  gate := h.gate
  f := h.f
  tgt := h.tgt

/-- At finite arguments the kernel's eight results are the reference's. -/
theorem algebraic : Cert.algebraic_PostKernelIdeal_PostReferenceIdeal_pre_finite_post := by
  intro m g m' g' hpre hag
  have hD : ∀ c, ∃ D, Args m c D := fun c => data _ _ _ _ _ _ _ _ _ (hpre c)
  choose D hD using hD
  refine ⟨fun c => gDx (D c), fun c => gDo (D c), fun c => gDg (D c), fun c => gLoss (D c), fun c => gDfg (D c), fun c => gDgate (D c),
    fun c => gDw (D c), fun c => gDwb (D c), ?_, ?_⟩
  · refine (θ_run Cert.PostKernelIdeal.defs _ _).mono (fun r h c => ?_) (Cert.PostKernelIdeal.Value.run_blocks (F := Ideal) m g)
    obtain ⟨r0, r1, r2, r3, r4, r5, r6, r7, ra⟩ := h c
    exact ⟨r0.trans (arr_dx (hD c)), r1.trans (arr_do (hD c)), r2.trans (arr_dg (hD c)), r3.trans (arr_loss (hD c)), r4.trans (arr_dfg (hD c)),
      r5.trans (arr_dgate (hD c)), r6.trans (arr_dw (hD c)), r7.trans (arr_dwb (hD c)), ra⟩
  · refine (θ_run Cert.PostReferenceIdeal.defs _ _).mono (fun r h c => ?_) (Cert.PostReferenceIdeal.Value.run (F := Ideal) m' g')
    obtain ⟨a0, a1, a2, a3, a4, a5, a6, a7, a8⟩ := hag c
    have hR : PostStages.Holds (launchContents m' c) (D c) := by
      refine holds_ref m' c ?_
      have e := hD c
      unfold Args at e
      rw [← a0, ← a1, ← a2, ← a3, ← a4, ← a5, ← a6, ← a7, ← a8] at e
      exact e
    obtain ⟨r0, r1, r2, r3, r4, r5, r6, r7, ra⟩ := h c
    exact ⟨r0.trans (ref_dx hR), r1.trans (ref_do hR), r2.trans (ref_dg hR), r3.trans (ref_loss hR), r4.trans (ref_dfg hR),
      r5.trans (ref_dgate hR), r6.trans (ref_dw hR), r7.trans (ref_dwb hR), ra⟩

end Cert.Proof.PostValues

end
-- ==== Proof.FwdFrames.lean ====
/- What the programs of the forward attention do to their arguments and counters. -/
module

public import proofs.«01_k».proof.Defs
public import proofs.«01_k».proof.Proof.Gen.FwdKernel.Frame
public import proofs.«01_k».proof.Proof.Gen.FwdKernelIdeal.Frame
public import proofs.«01_k».proof.Proof.Gen.FwdKernelIdeal.Value
public import proofs.«01_k».proof.Proof.Gen.FwdReferenceIdeal.Run
public import Idealize.ShloMosaic.Lib.Quiescent

@[expose] public section

noncomputable section

open Idealize.ShloMosaic Idealize.ShloMosaic.TcCoe Idealize.SL.Sem

namespace Cert.Proof.FwdFrames

/-- The reference ends with its arguments unchanged and every counter at zero: its run, and it has no semaphore. -/
theorem reference : Cert.quiescent_FwdReferenceIdeal := fun m ρ _ =>
  (θ_run Cert.FwdReferenceIdeal.defs _ _).mono (fun r h => ⟨fun c => (h c).2.2,
      Idealize.ShloMosaic.sem_eq_zero_of_no_sems (by decide) r.2⟩)
    (Cert.FwdReferenceIdeal.Value.run (F := Ideal) m ρ)

/-- The one constant of the body that is named: the float nearest to the reciprocal of log 2 is read as that reciprocal. -/
theorem preserves : Cert.preserves_FwdKernel_FwdKernelIdeal :=
  IdealRules.named_const.statement Cert.FwdKernelIdeal.κ "inv_ln2" .f32 0x3FB8AA3B#32 (((Real.log 2)⁻¹ : ℝ) : EReal) rfl

end Cert.Proof.FwdFrames

end
-- ==== Proof.FwdTiles.lean ====
/- The forward attention's body as tiles: the running maximum and the running sum over the key tiles, and that the stores the
   run finds are these tiles. -/
module

public import proofs.«01_k».proof.Proof.Gen.FwdKernelIdeal.Value
public import proofs.«01_k».proof.Proof.Tiles

@[expose] public section

set_option maxRecDepth 16384

noncomputable section

namespace Cert.Proof.FwdTiles

open Cert.FwdKernelIdeal Cert.FwdKernelIdeal.Gen Idealize.ShloMosaic Idealize.ShloMosaic.TcCoe Idealize.SL.Sem
open Cert.Proof.Tiles (rHead rPair rRow vT scoreT pairOf headOf)

variable (X0 X1 : Vec Ideal S1x2048x512 .bf16) (X2 : Vec Ideal S1x2048x256 .bf16)

/-! ## One key tile -/

/-- The lanes of a pair's first head. -/
def lowT : IVec S512x128 1 := cmpi .slt (iota .tc S512x128 32 [1] iota_S512x128_d1_w32) (broadcast S512x128 64#32)

/-- A tile of ones. -/
def oneT : FVec Ideal S512x128 .bf16 := broadcast S512x128 (Scalar.truncf .bf16 bitsLt_bf16_f32 (Scalar.ofBits (F := Ideal) .f32 0x3F800000#32))

/-- Head `j`'s values in its half of the lanes, ones in the other half. -/
def vjT (k j : Fin 4) : FVec Ideal S512x128 .bf16 :=
  if j.val % 2 = 0 then select lowT (vT X2 k (pairOf j)) oneT else select lowT oneT (vT X2 k (pairOf j))

/-- The scores, on the diagonal tile those of later keys replaced by minus infinity. -/
def seenT (i k j : Fin 4) : FVec Ideal S512x512 .f32 :=
  if k.val = i.val then select (cmpi .sge (iota .tc S512x512 32 [0] iota_S512x512_d0_w32) (iota .tc S512x512 32 [1] iota_S512x512_d1_w32))
    (scoreT X0 X1 i k j) (broadcast S512x512 (Scalar.ofBits (F := Ideal) .f32 0xFF800000#32))
  else scoreT X0 X1 i k j

/-- The maximum of `x` and each row's greatest score. -/
def stepM (i k j : Fin 4) (x : FVec Ideal S512x1 .f32) : FVec Ideal S512x1 .f32 :=
  maximumf x (shapeCast S512x1 (multiReduction .maximumf [1] S512 (seenT X0 X1 i k j) 0xFF800000#32 reduces_S512x512_S512 (.inl rfl) rfl) shapeCasts_S512_S512x1)

/-- The sum `a` under the maximum `x`, brought under the maximum `y` and increased by the tile's weighted values. -/
def stepA (i k j : Fin 4) (x y : FVec Ideal S512x1 .f32) (a : FVec Ideal S512x128 .f32) : FVec Ideal S512x128 .f32 :=
  addf (mulf (broadcastTo S512x128 (exp2 (subf x y)) broadcasts_S512x1_S512x128) a)
    (matmul dot_S512x512_S512x128_S512x128_1_0_0_1_n_n none (truncf .bf16 (exp2 (subf (seenT X0 X1 i k j) (broadcastTo S512x512 y broadcasts_S512x1_S512x512))) bitsLt_bf16_f32)
      (vjT X2 k j) (constant S512x128 .f32 0x00000000#32))

/-! ## The key tiles in turn -/

/-- The running maximum after the first `n` key tiles. -/
def mT (i j : Fin 4) : ℕ → FVec Ideal S512x1 .f32
  | 0 => broadcast S512x1 (Scalar.ofBits (F := Ideal) .f32 0xFF800000#32)
  | n + 1 => if h : n < 4 then stepM X0 X1 i ⟨n, h⟩ j (mT i j n) else mT i j n

/-- The running sum after the first `n` key tiles. -/
def accT (i j : Fin 4) : ℕ → FVec Ideal S512x128 .f32
  | 0 => broadcast S512x128 (Scalar.ofBits (F := Ideal) .f32 0x00000000#32)
  | n + 1 => if h : n < 4 then stepA X0 X1 X2 i ⟨n, h⟩ j (mT X0 X1 i j n) (stepM X0 X1 i ⟨n, h⟩ j (mT X0 X1 i j n)) (accT i j n) else accT i j n

/-- The row sums in every lane: those of head `j`'s other half, turned into its own half. -/
def lT (i j : Fin 4) : FVec Ideal S512x128 .f32 :=
  if j.val % 2 = 0 then select lowT (dynamicRotate 1 64#32 none (accT X0 X1 X2 i j (i.val + 1)) rotates_S512x128_d1) (accT X0 X1 X2 i j (i.val + 1))
  else select lowT (accT X0 X1 X2 i j (i.val + 1)) (dynamicRotate 1 64#32 none (accT X0 X1 X2 i j (i.val + 1)) rotates_S512x128_d1)

/-- A pair's outputs. -/
def outT (i : Fin 4) (t : Fin 2) : FVec Ideal S512x128 .f32 :=
  select lowT (divf (accT X0 X1 X2 i (headOf t 0) (i.val + 1)) (lT X0 X1 X2 i (headOf t 0)))
    (divf (accT X0 X1 X2 i (headOf t 1) (i.val + 1)) (lT X0 X1 X2 i (headOf t 1)))

/-- A head's log-sums. -/
def logT (i j : Fin 4) : FVec Ideal S512x128 .f32 :=
  addf (broadcastTo S512x128 (mT X0 X1 i j (i.val + 1)) broadcasts_S512x1_S512x128)
    (mulf (log (lT X0 X1 X2 i j)) (broadcast S512x128 (Named.named (F := Ideal) κ "inv_ln2" 0x3FB8AA3B#32)))

/-! ## The stores -/

/-- A store of outputs. -/
def oPiece (i : Fin 4) (t : Fin 2) : View.Piece (Elt Ideal) S1x2048x256 .f32 :=
  ⟨rPair i t, shapeCast S1x512x128 (outT X0 X1 X2 i t) shapeCasts_S512x128_S1x512x128⟩

/-- A store of log-sums. -/
def logPiece (i j : Fin 4) : View.Piece (Elt Ideal) S1x4x2048x128 .f32 :=
  ⟨rRow j i, shapeCast S1x1x512x128 (logT X0 X1 X2 i j) shapeCasts_S512x128_S1x1x512x128⟩

/-- The stores of outputs, last first. -/
def oPieces : List (View.Piece (Elt Ideal) S1x2048x256 .f32) :=
  [oPiece X0 X1 X2 3 1, oPiece X0 X1 X2 3 0, oPiece X0 X1 X2 2 1, oPiece X0 X1 X2 2 0, oPiece X0 X1 X2 1 1, oPiece X0 X1 X2 1 0, oPiece X0 X1 X2 0 1, oPiece X0 X1 X2 0 0]

/-- The stores of log-sums, last first. -/
def logPieces : List (View.Piece (Elt Ideal) S1x4x2048x128 .f32) :=
  [logPiece X0 X1 X2 3 3, logPiece X0 X1 X2 3 2, logPiece X0 X1 X2 3 1, logPiece X0 X1 X2 3 0, logPiece X0 X1 X2 2 3, logPiece X0 X1 X2 2 2, logPiece X0 X1 X2 2 1, logPiece X0 X1 X2 2 0,
    logPiece X0 X1 X2 1 3, logPiece X0 X1 X2 1 2, logPiece X0 X1 X2 1 1, logPiece X0 X1 X2 1 0, logPiece X0 X1 X2 0 3, logPiece X0 X1 X2 0 2, logPiece X0 X1 X2 0 1, logPiece X0 X1 X2 0 0]

set_option maxHeartbeats 4000000 in
/-- The outputs' block is that of these stores. -/
theorem run_o : out0_3 X0 X1 X2 = View.canon (oPieces X0 X1 X2) := by sl_kernel_rfl

set_option maxHeartbeats 4000000 in
/-- The log-sums' block is that of these stores. -/
theorem run_log : out0_4 X0 X1 X2 = View.canon (logPieces X0 X1 X2) := by sl_kernel_rfl

end Cert.Proof.FwdTiles
end
-- ==== Proof.FwdTileValues.lean ====
/- The forward attention's tiles at real queries and keys, whatever the values are. -/
module

public import proofs.«01_k».proof.Proof.FwdTiles
public import proofs.«01_k».proof.Proof.TileValues

@[expose] public section

set_option maxRecDepth 16384

noncomputable section

namespace Cert.Proof.FwdTiles

open Cert.FwdKernelIdeal Cert.FwdKernelIdeal.Gen Idealize.ShloMosaic Idealize.ShloMosaic.TcCoe Idealize.SL.Sem
open Cert.Proof.Tiles (rHead rPair rRow vT scoreT pairOf headOf row lane plane qT_at vT_at coe_sum ofBits_neg_inf)

/-! ## Sums of extended reals -/

/-- A nonnegative real number times a sum. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, ← ih, EReal.left_distrib_of_nonneg_of_ne_top (EReal.coe_nonneg.2 hc) (EReal.coe_ne_top c)]

/-- The sum over the first `n` tiles. -/
def first (F : Fin 2048 → EReal) : ℕ → EReal
  | 0 => 0
  | n + 1 => if h : n < 4 then first F n + ∑ c, F (row ⟨n, h⟩ c) else first F n

/-- A nonnegative real number times the sum over the first tiles. -/
theorem mul_first (c : ℝ) (hc : 0 ≤ c) (F : Fin 2048 → EReal) : ∀ n, (c : EReal) * first F n = first (fun t => (c : EReal) * F t) n
  | 0 => mul_zero _
  | n + 1 => by
    rw [first, first]
    split_ifs with h
    · rw [EReal.left_distrib_of_nonneg_of_ne_top (EReal.coe_nonneg.2 hc) (EReal.coe_ne_top c), mul_first c hc F n, coe_mul_sum _ c hc]
    · exact mul_first c hc F n

/-- Tiles of zeros add nothing. -/
theorem first_all (F : Fin 2048 → EReal) (m : ℕ) (hF : ∀ t : Fin 2048, 512 * m ≤ t.val → F t = 0) : ∀ d, first F (m + d) = first F m
  | 0 => rfl
  | d + 1 => by
    rw [← first_all F m hF d, ← Nat.add_assoc, first]
    split_ifs with h
    · rw [Finset.sum_eq_zero fun c _ => hF _ (by simp only [row]; omega), add_zero]
    · rfl

/-- The sum over all tiles is the sum over the sequence. -/
theorem first_four (F : Fin 2048 → EReal) : first F 4 = ∑ t, F t := by
  have e : ∑ t, F t = ∑ k : Fin 4, ∑ c : Fin 512, F (row k c) := by
    rw [Fin.sum_univ_tiles 4 512 rfl F]
    exact Finset.sum_congr rfl fun k _ => Finset.sum_congr rfl fun c _ => congrArg F (Fin.ext (by simp [row]; omega))
  rw [e, Fin.sum_univ_four]
  show 0 + ∑ c, F (row 0 c) + ∑ c, F (row 1 c) + ∑ c, F (row 2 c) + ∑ c, F (row 3 c) = _
  rw [zero_add]

/-- The greatest of real numbers and minus infinities, one real at least, is a real number. -/
theorem max_real (f : Fin 512 → EReal) (hf : ∀ t, f t ≠ ⊤) (s : Fin 512) (hs : f s ≠ ⊥) (x : EReal) (hx : x ≠ ⊤) :
    ∃ M : ℝ, max x (Finset.fold max (⊥ : EReal) f Finset.univ) = (M : EReal) := by
  have h1 : max x (Finset.fold max (⊥ : EReal) f Finset.univ) < ⊤ :=
    max_lt (lt_top_iff_ne_top.2 hx) ((Finset.fold_max_lt _).2 ⟨bot_lt_top, fun t _ => lt_top_iff_ne_top.2 (hf t)⟩)
  have h2 : ⊥ < max x (Finset.fold max (⊥ : EReal) f Finset.univ) :=
    lt_max_of_lt_right ((Finset.lt_fold_max _).2 (.inr ⟨s, Finset.mem_univ _, bot_lt_iff_ne_bot.2 hs⟩))
  exact ⟨_, (EReal.coe_toReal h1.ne h2.ne').symm⟩

/-! ## Real blocks -/

/-- The blocks' entries: real queries and keys by head, values by pair. -/
structure Reads (X0 X1 : Vec Ideal S1x2048x512 .bf16) (X2 : Vec Ideal S1x2048x256 .bf16) (a0 a1 : Fin 4 → Fin 2048 → Fin 128 → ℝ)
    (w : Fin 2 → Fin 2048 → Fin 128 → EReal) : Prop where
  q : ∀ j s d, X0 (ix3 0 s (lane j d)) = ((a0 j s d : ℝ) : EReal)
  k : ∀ j s d, X1 (ix3 0 s (lane j d)) = ((a1 j s d : ℝ) : EReal)
  v : ∀ t s d, X2 (ix3 0 s (plane t d)) = w t s d

section
variable (a0 a1 : Fin 4 → Fin 2048 → Fin 128 → ℝ) (w : Fin 2 → Fin 2048 → Fin 128 → EReal)

/-- The score of query `s` and key `t`. -/
def score (j : Fin 4) (s t : Fin 2048) : ℝ := ∑ d, a0 j s d * a1 j t d

/-- Two to the score's power, if the key is seen. -/
def power (j : Fin 4) (s t : Fin 2048) : ℝ := if t ≤ s then Real.rpow 2 (score a0 a1 j s t) else 0

/-- A row's sum of powers. -/
def total (j : Fin 4) (s : Fin 2048) : ℝ := ∑ t, power a0 a1 j s t

/-- Head `j`'s values, ones in its other half. -/
def beside (j : Fin 4) (t : Fin 2048) (d : Fin 128) : EReal := if d.val / 64 = j.val % 2 then w (pairOf j) t d else 1

/-- A power is not negative. -/
theorem power_nonneg (j : Fin 4) (s t : Fin 2048) : 0 ≤ power a0 a1 j s t := by
  rw [power]; split_ifs
  · exact (Real.rpow_pos_of_pos (by norm_num) _).le
  · exact le_rfl

/-- A row's sum is positive. -/
theorem total_pos (j : Fin 4) (s : Fin 2048) : 0 < total a0 a1 j s := by
  refine Finset.sum_pos' (fun t _ => power_nonneg a0 a1 j s t) ⟨s, Finset.mem_univ _, ?_⟩
  rw [power, if_pos le_rfl]; exact Real.rpow_pos_of_pos (by norm_num) _
end

section
variable {X0 X1 : Vec Ideal S1x2048x512 .bf16} {X2 : Vec Ideal S1x2048x256 .bf16}
  {a0 a1 : Fin 4 → Fin 2048 → Fin 128 → ℝ} {w : Fin 2 → Fin 2048 → Fin 128 → EReal}

/-- The pattern of one. -/
theorem ofBits_one : Ideal.ofBits .f32 0x3F800000#32 = (1 : EReal) := by
  simp [Ideal.ofBits, Ideal.ieee]; try (rw [← EReal.coe_mul]; norm_num)

/-- A choice by the half of the lanes. -/
theorem low_at (d : Fin 128) (x y : EReal) : Scalar.select (IntOp.cmpi .slt (BitVec.ofNat 32 d.val) 64#32) x y = if d.val < 64 then x else y := by word_cmp

/-- The values beside ones. -/
theorem vj_at (H : Reads X0 X1 X2 a0 a1 w) (k j : Fin 4) (c : Fin 512) (d : Fin 128) : vjT X2 k j (ix2 c d) = beside w j (row k c) d := by
  rw [beside, vjT]
  rcases Nat.mod_two_eq_zero_or_one j.val with hj | hj <;> rw [hj]
  · rw [if_pos rfl]
    have e : select lowT (vT X2 k (pairOf j)) oneT (ix2 c d) = Scalar.select (IntOp.cmpi .slt (BitVec.ofNat 32 d.val) 64#32) (vT X2 k (pairOf j) (ix2 c d)) (Ideal.ofBits .f32 0x3F800000#32) := by
      pointwise [lowT, oneT]
    rw [e, low_at, vT_at, H.v, ofBits_one]
    exact if_congr (by omega) rfl rfl
  · rw [if_neg (by decide)]
    have e : select lowT oneT (vT X2 k (pairOf j)) (ix2 c d) = Scalar.select (IntOp.cmpi .slt (BitVec.ofNat 32 d.val) 64#32) (Ideal.ofBits .f32 0x3F800000#32) (vT X2 k (pairOf j) (ix2 c d)) := by
      pointwise [lowT, oneT]
    rw [e, low_at, vT_at, H.v, ofBits_one]
    by_cases hd : d.val < 64
    · rw [if_pos hd, if_neg (by omega)]
    · rw [if_neg hd, if_pos (by omega)]

/-- The scores. -/
theorem score_at (H : Reads X0 X1 X2 a0 a1 w) (i k j : Fin 4) (r c : Fin 512) :
    scoreT X0 X1 i k j (ix2 r c) = ((score a0 a1 j (row i r) (row k c) : ℝ) : EReal) := by
  pointwise [scoreT]
  rw [score, ← coe_sum]
  exact Finset.sum_congr rfl fun d _ => by rw [qT_at, qT_at, H.q, H.k, EReal.coe_mul]

/-- The scores of a tile at or before the diagonal, those of later keys minus infinity. -/
theorem seen_at (H : Reads X0 X1 X2 a0 a1 w) (i k j : Fin 4) (hk : k.val ≤ i.val) (r c : Fin 512) :
    seenT X0 X1 i k j (ix2 r c) = if row k c ≤ row i r then ((score a0 a1 j (row i r) (row k c) : ℝ) : EReal) else ⊥ := by
  by_cases hd : k.val = i.val
  · have e : seenT X0 X1 i k j (ix2 r c) = Scalar.select (IntOp.cmpi .sge (BitVec.ofNat 32 r.val) (BitVec.ofNat 32 c.val)) (scoreT X0 X1 i k j (ix2 r c)) (Ideal.ofBits .f32 0xFF800000#32) := by
      rw [seenT, if_pos hd]
      pointwise
    rw [e, WordCmp.cmpi_sge_ofNat (by norm_num; omega) (by norm_num; omega), WordCmp.select_decide, score_at H, ofBits_neg_inf]
    exact if_congr (by simp only [row, Fin.mk_le_mk]; omega) rfl rfl
  · rw [seenT, if_neg hd, score_at H, if_pos (by simp only [row, Fin.mk_le_mk]; omega)]

/-- The new maximum's entry. -/
theorem stepM_at (i k j : Fin 4) (x : FVec Ideal S512x1 .f32) (r : Fin 512) :
    stepM X0 X1 i k j x (ix2 r 0) = max (x (ix2 r 0)) (Finset.fold max (⊥ : EReal) (fun c => seenT X0 X1 i k j (ix2 r c)) Finset.univ) := by
  rw [← ofBits_neg_inf]
  pointwise [stepM]

/-- The new maximum is a real number. -/
theorem stepM_real (H : Reads X0 X1 X2 a0 a1 w) (i k j : Fin 4) (hk : k.val ≤ i.val) (x : FVec Ideal S512x1 .f32) (r : Fin 512) (hx : x (ix2 r 0) ≠ ⊤) :
    ∃ M : ℝ, stepM X0 X1 i k j x (ix2 r 0) = (M : EReal) := by
  rw [stepM_at]
  refine max_real _ (fun c => ?_) r ?_ _ hx
  · show seenT X0 X1 i k j (ix2 r c) ≠ ⊤
    rw [seen_at H i k j hk]; split_ifs
    · exact EReal.coe_ne_top _
    · exact bot_ne_top
  · show seenT X0 X1 i k j (ix2 r r) ≠ ⊥
    rw [seen_at H i k j hk, if_pos (by simp only [row, Fin.mk_le_mk]; omega)]; exact EReal.coe_ne_bot _

/-- A weight under the maximum `M`. -/
theorem weight_at (H : Reads X0 X1 X2 a0 a1 w) (i k j : Fin 4) (hk : k.val ≤ i.val) (r c : Fin 512) (M : ℝ) :
    Ideal.exp2 (seenT X0 X1 i k j (ix2 r c) - (M : EReal)) = ((power a0 a1 j (row i r) (row k c) * Real.rpow 2 (-M) : ℝ) : EReal) := by
  rw [seen_at H i k j hk, power]
  split_ifs
  · rw [← EReal.coe_sub, Ideal.exp2_coe, sub_eq_add_neg]; exact congrArg _ (Real.rpow_add (by norm_num) _ _)
  · rw [EReal.bot_sub, Ideal.exp2_bot, zero_mul]; rfl

/-- The new sum's entry. -/
theorem stepA_at (H : Reads X0 X1 X2 a0 a1 w) (i k j : Fin 4) (hk : k.val ≤ i.val) (x y : FVec Ideal S512x1 .f32) (a : FVec Ideal S512x128 .f32)
    (r : Fin 512) (d : Fin 128) (M : ℝ) (hy : y (ix2 r 0) = (M : EReal)) :
    stepA X0 X1 X2 i k j x y a (ix2 r d) = Ideal.exp2 (x (ix2 r 0) - (M : EReal)) * a (ix2 r d)
      + ∑ c, ((power a0 a1 j (row i r) (row k c) * Real.rpow 2 (-M) : ℝ) : EReal) * beside w j (row k c) d := by
  have e : stepA X0 X1 X2 i k j x y a (ix2 r d) = Ideal.exp2 (x (ix2 r 0) - y (ix2 r 0)) * a (ix2 r d)
      + ∑ c, Ideal.exp2 (seenT X0 X1 i k j (ix2 r c) - y (ix2 r 0)) * vjT X2 k j (ix2 c d) := by
    pointwise [stepA]; rfl
  rw [e, hy]
  exact congrArg _ (Finset.sum_congr rfl fun c _ => by rw [weight_at H i k j hk, vj_at H])

/-- After the first key tiles the maximum is a real number `M`, and the sum is that of the values seen so far, weighted under `M`. -/
theorem acc_at (H : Reads X0 X1 X2 a0 a1 w) (i j : Fin 4) (r : Fin 512) : ∀ n, n ≤ i.val →
    ∃ M : ℝ, mT X0 X1 i j (n + 1) (ix2 r 0) = (M : EReal) ∧ ∀ d, accT X0 X1 X2 i j (n + 1) (ix2 r d)
      = first (fun t => ((power a0 a1 j (row i r) t * Real.rpow 2 (-M) : ℝ) : EReal) * beside w j t d) (n + 1)
  | 0, hn => by
    have m0 : mT X0 X1 i j 0 (ix2 r 0) = ⊥ := by rw [← ofBits_neg_inf]; pointwise [mT]
    obtain ⟨M, hM⟩ := stepM_real H i ⟨0, by norm_num⟩ j (Nat.zero_le _) (mT X0 X1 i j 0) r (by rw [m0]; exact bot_ne_top)
    have h4 : 0 < 4 := by norm_num
    refine ⟨M, by rw [mT, dif_pos h4]; exact hM, fun d => ?_⟩
    have a0' : accT X0 X1 X2 i j 0 (ix2 r d) = 0 := by pointwise [accT]
    rw [accT, dif_pos h4, stepA_at H i ⟨0, h4⟩ j (Nat.zero_le _) _ _ _ r d M hM, m0, a0', mul_zero, first, dif_pos h4, first]
  | n + 1, hn => by
    obtain ⟨L, hL, hA⟩ := acc_at H i j r n (by omega)
    have h4 : n + 1 < 4 := by omega
    obtain ⟨M, hM⟩ := stepM_real H i ⟨n + 1, h4⟩ j hn (mT X0 X1 i j (n + 1)) r (by rw [hL]; exact EReal.coe_ne_top _)
    refine ⟨M, by rw [mT, dif_pos h4]; exact hM, fun d => ?_⟩
    have hp : 0 ≤ Real.rpow 2 (L - M) := (Real.rpow_pos_of_pos (by norm_num) _).le
    have hm : Real.rpow 2 (L - M) * Real.rpow 2 (-L) = Real.rpow 2 (-M) := by
      rw [Real.rpow_eq_pow, Real.rpow_eq_pow, Real.rpow_eq_pow, ← Real.rpow_add (by norm_num)]; congr 1; ring
    rw [accT, dif_pos h4, stepA_at H i ⟨n + 1, h4⟩ j hn _ _ _ r d M hM, hL, hA, ← EReal.coe_sub, Ideal.exp2_coe, mul_first _ hp, first.eq_2 _ (n + 1), dif_pos h4]
    refine congrArg (· + _) (congrArg (first · (n + 1)) (funext fun t => ?_))
    rw [← mul_assoc, ← EReal.coe_mul, ← hm]
    congr 2; ring

/-- The whole sums. -/
theorem sum_at (H : Reads X0 X1 X2 a0 a1 w) (i j : Fin 4) (r : Fin 512) :
    ∃ M : ℝ, mT X0 X1 i j (i.val + 1) (ix2 r 0) = (M : EReal) ∧ ∀ d, accT X0 X1 X2 i j (i.val + 1) (ix2 r d)
      = ∑ t, ((power a0 a1 j (row i r) t * Real.rpow 2 (-M) : ℝ) : EReal) * beside w j t d := by
  obtain ⟨M, hM, hA⟩ := acc_at H i j r i.val le_rfl
  refine ⟨M, hM, fun d => ?_⟩
  have e := first_all (fun t => ((power a0 a1 j (row i r) t * Real.rpow 2 (-M) : ℝ) : EReal) * beside w j t d) (i.val + 1) (fun t ht => ?_) (3 - i.val)
  · rw [hA, ← e, ← first_four]
    exact congrArg _ (by omega)
  have hz : power a0 a1 j (row i r) t = 0 := if_neg (by simp only [row, Fin.le_def]; omega)
  simp only [hz, zero_mul, EReal.coe_zero, zero_mul]
end

end Cert.Proof.FwdTiles
end
-- ==== Proof.FwdRows.lean ====
/- What the forward attention's body stores, at real queries and keys. -/
module

public import proofs.«01_k».proof.Proof.FwdTileValues

@[expose] public section

set_option maxRecDepth 16384

noncomputable section

namespace Cert.Proof.FwdTiles

open Cert.FwdKernelIdeal Cert.FwdKernelIdeal.Gen Idealize.ShloMosaic Idealize.ShloMosaic.TcCoe Idealize.SL.Sem
open Cert.Proof.Tiles (rHead rPair rRow vT scoreT pairOf headOf row lane plane coe_sum)

variable {X0 X1 : Vec Ideal S1x2048x512 .bf16} {X2 : Vec Ideal S1x2048x256 .bf16}
  {a0 a1 : Fin 4 → Fin 2048 → Fin 128 → ℝ} {w : Fin 2 → Fin 2048 → Fin 128 → EReal}

/-- The named constant is the reciprocal of the logarithm of two. -/
theorem named_inv_ln2 : Named.named (F := Ideal) κ "inv_ln2" (φ := .f32) 0x3FB8AA3B#32 = (((Real.log 2)⁻¹ : ℝ) : EReal) :=
  IdealRules.named_const.ideal_named_scalar _ _ _ _ rfl

/-- The first half of the lanes turned, the second kept. -/
theorem turn_low (A : FVec Ideal S512x128 .f32) (r : Fin 512) (d : Fin 128) :
    select lowT (dynamicRotate 1 64#32 none A rotates_S512x128_d1) A (ix2 r d)
      = if d.val < 64 then A (ix2 r ⟨(d.val + 64) % 128, Nat.mod_lt _ (by norm_num)⟩) else A (ix2 r d) := by
  have e : select lowT (dynamicRotate 1 64#32 none A rotates_S512x128_d1) A (ix2 r d)
      = Scalar.select (IntOp.cmpi .slt (BitVec.ofNat 32 d.val) 64#32) (A (ix2 r ⟨(d.val + 64) % 128, Nat.mod_lt _ (by norm_num)⟩)) (A (ix2 r d)) := by
    pointwise [lowT]
    simp only [show d.val + 128 - 64 = d.val + 64 by omega]
  rw [e, low_at]

/-- The first half of the lanes kept, the second turned. -/
theorem turn_high (A : FVec Ideal S512x128 .f32) (r : Fin 512) (d : Fin 128) :
    select lowT A (dynamicRotate 1 64#32 none A rotates_S512x128_d1) (ix2 r d)
      = if d.val < 64 then A (ix2 r d) else A (ix2 r ⟨(d.val + 64) % 128, Nat.mod_lt _ (by norm_num)⟩) := by
  have e : select lowT A (dynamicRotate 1 64#32 none A rotates_S512x128_d1) (ix2 r d)
      = Scalar.select (IntOp.cmpi .slt (BitVec.ofNat 32 d.val) 64#32) (A (ix2 r d)) (A (ix2 r ⟨(d.val + 64) % 128, Nat.mod_lt _ (by norm_num)⟩)) := by
    pointwise [lowT]
    simp only [show d.val + 128 - 64 = d.val + 64 by omega]
  rw [e, low_at]

/-- A row's sum stands in every lane if it stands in the head's other half. -/
theorem lT_of (i j : Fin 4) (r : Fin 512) (z : EReal)
    (hz : ∀ d : Fin 128, d.val / 64 ≠ j.val % 2 → accT X0 X1 X2 i j (i.val + 1) (ix2 r d) = z) (d : Fin 128) : lT X0 X1 X2 i j (ix2 r d) = z := by
  rw [lT]
  rcases Nat.mod_two_eq_zero_or_one j.val with hj | hj
  · rw [if_pos hj, turn_low]
    split_ifs with hd
    · exact hz _ (by rw [hj]; show (d.val + 64) % 128 / 64 ≠ 0; omega)
    · exact hz _ (by rw [hj]; omega)
  · rw [if_neg (by omega), turn_high]
    split_ifs with hd
    · exact hz _ (by rw [hj]; omega)
    · exact hz _ (by rw [hj]; show (d.val + 64) % 128 / 64 ≠ 1; omega)

/-- Each row's maximum `M`, its sum in every lane, and its weighted values. -/
theorem row_at (H : Reads X0 X1 X2 a0 a1 w) (i j : Fin 4) (r : Fin 512) :
    ∃ M : ℝ, mT X0 X1 i j (i.val + 1) (ix2 r 0) = (M : EReal)
      ∧ (∀ d, lT X0 X1 X2 i j (ix2 r d) = ((total a0 a1 j (row i r) * Real.rpow 2 (-M) : ℝ) : EReal))
      ∧ ∀ d, accT X0 X1 X2 i j (i.val + 1) (ix2 r d) = ∑ t, ((power a0 a1 j (row i r) t * Real.rpow 2 (-M) : ℝ) : EReal) * beside w j t d := by
  obtain ⟨M, hM, hA⟩ := sum_at H i j r
  refine ⟨M, hM, lT_of i j r _ fun d hd => ?_, hA⟩
  rw [hA, total, Finset.sum_mul, ← coe_sum]
  exact Finset.sum_congr rfl fun t _ => by rw [beside, if_neg hd, mul_one]

/-- A head's quotient. -/
theorem quot_at (H : Reads X0 X1 X2 a0 a1 w) (i j : Fin 4) (r : Fin 512) (d : Fin 128) :
    Ideal.div (accT X0 X1 X2 i j (i.val + 1) (ix2 r d)) (lT X0 X1 X2 i j (ix2 r d))
      = ∑ t, ((power a0 a1 j (row i r) t / total a0 a1 j (row i r) : ℝ) : EReal) * beside w j t d := by
  obtain ⟨M, hM, hL, hA⟩ := row_at H i j r
  have hp : 0 < Real.rpow 2 (-M) := Real.rpow_pos_of_pos (by norm_num) _
  have ht := total_pos a0 a1 j (row i r)
  have hz := mul_pos ht hp
  rw [hL, hA, Ideal.div_coe hz.ne', mul_comm, coe_mul_sum _ _ (one_div_pos.2 hz).le]
  refine Finset.sum_congr rfl fun t _ => ?_
  rw [← mul_assoc, ← EReal.coe_mul]
  congr 2
  field_simp

/-- The stored outputs. -/
theorem outT_at (H : Reads X0 X1 X2 a0 a1 w) (i : Fin 4) (t : Fin 2) (r : Fin 512) (d : Fin 128) :
    outT X0 X1 X2 i t (ix2 r d) = ∑ s, ((power a0 a1 (headOf t ⟨d.val / 64, by omega⟩) (row i r) s / total a0 a1 (headOf t ⟨d.val / 64, by omega⟩) (row i r) : ℝ) : EReal) * w t s d := by
  have e : outT X0 X1 X2 i t (ix2 r d) = Scalar.select (IntOp.cmpi .slt (BitVec.ofNat 32 d.val) 64#32)
      (Ideal.div (accT X0 X1 X2 i (headOf t 0) (i.val + 1) (ix2 r d)) (lT X0 X1 X2 i (headOf t 0) (ix2 r d)))
      (Ideal.div (accT X0 X1 X2 i (headOf t 1) (i.val + 1) (ix2 r d)) (lT X0 X1 X2 i (headOf t 1) (ix2 r d))) := by
    pointwise [outT, lowT]
  have hp : ∀ e : Fin 2, pairOf (headOf t e) = t := fun e => (by decide : ∀ t e : Fin 2, pairOf (headOf t e) = t) t e
  have h2 : ∀ e : Fin 2, (headOf t e).val % 2 = e.val := fun e => (by decide : ∀ t e : Fin 2, (headOf t e).val % 2 = e.val) t e
  have hb : ∀ (e : Fin 2) (s : Fin 2048), d.val / 64 = e.val → beside w (headOf t e) s d = w t s d := fun e s he => by
    rw [beside, if_pos (by rw [h2, he]), hp]
  rw [e, low_at, quot_at H, quot_at H]
  split_ifs with hd
  · have h0 : (⟨d.val / 64, by omega⟩ : Fin 2) = 0 := Fin.ext (by show d.val / 64 = 0; omega)
    rw [h0]
    exact Finset.sum_congr rfl fun s _ => by rw [hb 0 s (by show d.val / 64 = 0; omega)]
  · have h1 : (⟨d.val / 64, by omega⟩ : Fin 2) = 1 := Fin.ext (by show d.val / 64 = 1; omega)
    rw [h1]
    exact Finset.sum_congr rfl fun s _ => by rw [hb 1 s (by show d.val / 64 = 1; omega)]

/-- The stored log-sums. -/
theorem logT_at (H : Reads X0 X1 X2 a0 a1 w) (i j : Fin 4) (r : Fin 512) (d : Fin 128) :
    logT X0 X1 X2 i j (ix2 r d) = ((Real.log (total a0 a1 j (row i r)) * (1 / Real.log 2) : ℝ) : EReal) := by
  obtain ⟨M, hM, hL, hA⟩ := row_at H i j r
  have e : logT X0 X1 X2 i j (ix2 r d) = mT X0 X1 i j (i.val + 1) (ix2 r 0)
      + Ideal.log (lT X0 X1 X2 i j (ix2 r d)) * Named.named (F := Ideal) κ "inv_ln2" (φ := .f32) 0x3FB8AA3B#32 := by
    pointwise [logT]
  have hp : 0 < Real.rpow 2 (-M) := Real.rpow_pos_of_pos (by norm_num) _
  have ht := total_pos a0 a1 j (row i r)
  have hl : Real.log 2 ≠ 0 := (Real.log_pos (by norm_num)).ne'
  have hlog : Real.log (Real.rpow 2 (-M)) = -M * Real.log 2 := Real.log_rpow (by norm_num) _
  rw [e, hM, hL, named_inv_ln2, Ideal.log_coe, if_neg (not_le.2 (mul_pos ht hp)), ← EReal.coe_mul, ← EReal.coe_add, Real.log_mul ht.ne' hp.ne', hlog, EReal.coe_eq_coe_iff]
  field_simp
  ring

/-! ## The two blocks -/

/-- The index of a row and a lane. -/
theorem tile_idx (x : S1x512x128.Idx) : x = ix3 0 (x 1) (x 2) := by
  funext a; fin_cases a
  · exact Subsingleton.elim (α := Fin 1) _ _
  · rfl
  · rfl

/-- The index of a head's row and lane. -/
theorem plane_idx (x : S1x1x512x128.Idx) : x = ix4 0 0 (x 2) (x 3) := by
  funext a; fin_cases a
  · exact Subsingleton.elim (α := Fin 1) _ _
  · exact Subsingleton.elim (α := Fin 1) _ _
  · rfl
  · rfl

/-- Every store of outputs is a pair's tile. -/
theorem oPieces_mem (p) (hp : p ∈ oPieces X0 X1 X2) : ∃ i t, p = oPiece X0 X1 X2 i t := by
  simp only [oPieces, List.mem_cons, List.not_mem_nil, or_false] at hp
  rcases hp with h | h | h | h | h | h | h | h <;> exact ⟨_, _, h⟩

/-- Every store of log-sums is a head's tile. -/
theorem logPieces_mem (p) (hp : p ∈ logPieces X0 X1 X2) : ∃ i j, p = logPiece X0 X1 X2 i j := by
  simp only [logPieces, List.mem_cons, List.not_mem_nil, or_false] at hp
  rcases hp with h | h | h | h | h | h | h | h | h | h | h | h | h | h | h | h <;> exact ⟨_, _, h⟩

/-- The outputs' block, if the tiles' entries are those of `G`. -/
theorem out_of (G : Fin 2 → Fin 2048 → Fin 128 → EReal) (h : ∀ i t r d, outT X0 X1 X2 i t (ix2 r d) = G t (row i r) d) (y : S1x2048x256.Idx) :
    out0_3 X0 X1 X2 y = G ⟨(y 2).val / 128, by have h : (y 2).val < 256 := (y 2).isLt; omega⟩ (y 1) ⟨(y 2).val % 128, Nat.mod_lt _ (by norm_num)⟩ := by
  have hc := cover0_3 (F := Ideal) (oPiece X0 X1 X2 3 1).2 (oPiece X0 X1 X2 3 0).2 (oPiece X0 X1 X2 2 1).2 (oPiece X0 X1 X2 2 0).2 (oPiece X0 X1 X2 1 1).2 (oPiece X0 X1 X2 1 0).2
    (oPiece X0 X1 X2 0 1).2 (oPiece X0 X1 X2 0 0).2 y
  rw [run_o]
  refine View.canon_apply_of_pieces (fun y : S1x2048x256.Idx => G ⟨(y 2).val / 128, by have h : (y 2).val < 256 := (y 2).isLt; omega⟩ (y 1) ⟨(y 2).val % 128, Nat.mod_lt _ (by norm_num)⟩) _ ?_ y hc
  intro p hp x
  obtain ⟨i, t, rfl⟩ := oPieces_mem p hp
  obtain ⟨r, d, rfl⟩ : ∃ (r : Fin 512) (d : Fin 128), x = ix3 0 r d := ⟨_, _, tile_idx x⟩
  have e : shapeCast S1x512x128 (outT X0 X1 X2 i t) shapeCasts_S512x128_S1x512x128 (ix3 0 r d) = outT X0 X1 X2 i t (ix2 r d) := by pointwise
  refine e.trans ((h i t r d).trans ?_)
  show _ = G ⟨((rPair i t).emb (ix3 0 r d) 2).val / 128, _⟩ ((rPair i t).emb (ix3 0 r d) 1) ⟨((rPair i t).emb (ix3 0 r d) 2).val % 128, _⟩
  have e1 : ((rPair i t).emb (ix3 0 r d)) 1 = row i r := Fin.ext (by blk_simp [row])
  have e2 : ((rPair i t).emb (ix3 0 r d)) 2 = plane t d := Fin.ext (by blk_simp [plane])
  simp only [e1, e2]
  congr 1 <;> exact Fin.ext (by simp only [plane]; omega)

/-- The log-sums' block, if the tiles' entries are those of `G`. -/
theorem log_of (G : Fin 4 → Fin 2048 → Fin 128 → EReal) (h : ∀ i j r d, logT X0 X1 X2 i j (ix2 r d) = G j (row i r) d) (y : S1x4x2048x128.Idx) :
    out0_4 X0 X1 X2 y = G (y 1) (y 2) (y 3) := by
  have hc := cover0_4 (F := Ideal) (logPiece X0 X1 X2 3 3).2 (logPiece X0 X1 X2 3 2).2 (logPiece X0 X1 X2 3 1).2 (logPiece X0 X1 X2 3 0).2
    (logPiece X0 X1 X2 2 3).2 (logPiece X0 X1 X2 2 2).2 (logPiece X0 X1 X2 2 1).2 (logPiece X0 X1 X2 2 0).2
    (logPiece X0 X1 X2 1 3).2 (logPiece X0 X1 X2 1 2).2 (logPiece X0 X1 X2 1 1).2 (logPiece X0 X1 X2 1 0).2
    (logPiece X0 X1 X2 0 3).2 (logPiece X0 X1 X2 0 2).2 (logPiece X0 X1 X2 0 1).2 (logPiece X0 X1 X2 0 0).2 y
  rw [run_log]
  refine View.canon_apply_of_pieces (fun y : S1x4x2048x128.Idx => G (y 1) (y 2) (y 3)) _ ?_ y hc
  intro p hp x
  obtain ⟨i, j, rfl⟩ := logPieces_mem p hp
  obtain ⟨r, d, rfl⟩ : ∃ (r : Fin 512) (d : Fin 128), x = ix4 0 0 r d := ⟨_, _, plane_idx x⟩
  have e : shapeCast S1x1x512x128 (logT X0 X1 X2 i j) shapeCasts_S512x128_S1x1x512x128 (ix4 0 0 r d) = logT X0 X1 X2 i j (ix2 r d) := by pointwise
  refine e.trans ((h i j r d).trans ?_)
  show _ = G ((rRow j i).emb (ix4 0 0 r d) 1) ((rRow j i).emb (ix4 0 0 r d) 2) ((rRow j i).emb (ix4 0 0 r d) 3)
  have e1 : ((rRow j i).emb (ix4 0 0 r d)) 1 = j := Fin.ext (by blk_simp; rfl)
  have e2 : ((rRow j i).emb (ix4 0 0 r d)) 2 = row i r := Fin.ext (by blk_simp [row])
  have e3 : ((rRow j i).emb (ix4 0 0 r d)) 3 = d := Fin.ext (by blk_simp)
  rw [e1, e2, e3]

end Cert.Proof.FwdTiles
end
-- ==== Proof.FwdOuts.lean ====
/- The forward attention's two results are the reference's. -/
module

public import proofs.«01_k».proof.Proof.FwdRows
public import proofs.«01_k».proof.Proof.Heads
public import proofs.«01_k».proof.Proof.Gen.FwdReferenceIdeal.Run

@[expose] public section

set_option maxRecDepth 16384

noncomputable section

namespace Cert.Proof.FwdOuts

open Cert.FwdKernelIdeal Cert.FwdKernelIdeal.Gen Idealize.ShloMosaic Idealize.ShloMosaic.TcCoe Idealize.ShloMosaic.Tactic Idealize.SL.Sem
open Cert.Proof.Stages Cert.Proof.Heads
open Cert.Proof.Tiles (sc pairOf headOf row lane plane coe_sum)
open Cert.Proof.FwdTiles (Reads power total power_nonneg outT_at logT_at out_of log_of)

/-! ## The reference -/

/-- The log-sums. -/
def lse (A0 A1 : FVec Ideal S4x2048x8x96 .f32) : FVec Ideal S4x8x2048x128 .f32 :=
  broadcastInDim Cert.FwdReferenceIdeal.S4x8x2048x128 ![0, 1, 2, 3] Cert.FwdReferenceIdeal.Gen.bcast_S4x8x2048x1_S4x8x2048x128_0_1_2_3
    (Host.divf (F := Ideal) (addf (col (rowMax A0 A1)) (Host.log (F := Ideal) (col (rowSum (exps A0 A1 (rowMax A0 A1))))))
      (broadcastInDim Cert.FwdReferenceIdeal.S4x8x2048x1 ![] Cert.FwdReferenceIdeal.Gen.bcast_S_S4x8x2048x1 (Host.log (F := Ideal) (constant (F := Ideal) Cert.FwdReferenceIdeal.S_ .f32 0x40000000#32))))

section
variable (m : (ℓ : Loc Cert.FwdReferenceIdeal.nD Cert.FwdReferenceIdeal.τ Cert.FwdReferenceIdeal.sig) → Buf (Elt Ideal) ℓ) (c : Dev Cert.FwdReferenceIdeal.nD)

/-- The reference's first result. -/
theorem ref_o : Cert.FwdReferenceIdeal.Value.res_main_v41 (F := Ideal) m c = opO (m ((c.tc : Thread _ _).loc Cert.FwdReferenceIdeal.main_arg0))
    (m ((c.tc : Thread _ _).loc Cert.FwdReferenceIdeal.main_arg1)) (m ((c.tc : Thread _ _).loc Cert.FwdReferenceIdeal.main_arg2)) := by
  sl_kernel_rfl

/-- The reference's second result. -/
theorem ref_lse : Cert.FwdReferenceIdeal.Value.res_main_v42 (F := Ideal) m c = lse (m ((c.tc : Thread _ _).loc Cert.FwdReferenceIdeal.main_arg0))
    (m ((c.tc : Thread _ _).loc Cert.FwdReferenceIdeal.main_arg1)) := by
  sl_kernel_rfl
end

section
variable {A0 A1 : FVec Ideal S4x2048x8x96 .f32} {A2 : FVec Ideal S4x2048x8x64 .f32}
variable {q k : Fin 4 → Fin 2048 → Fin 8 → Fin 96 → ℝ}
variable (hq : ∀ b s h d, A0 (ix4 b s h d) = ((q b s h d : ℝ) : EReal)) (hk : ∀ b s h d, A1 (ix4 b s h d) = ((k b s h d : ℝ) : EReal))

include hq hk in
/-- The outputs' entries. -/
theorem o_at (b : Fin 4) (s : Fin 2048) (l : Fin 512) :
    opO A0 A1 A2 (ix3 b s l) = ∑ x, ((rProb q k b ⟨l.val / 64, by omega⟩ s x : ℝ) : EReal) * A2 (ix4 b x ⟨l.val / 64, by omega⟩ ⟨l.val % 64, by omega⟩) := by
  have e : opO A0 A1 A2 (ix3 b s l) = ∑ x, A2 (ix4 b x ⟨l.val / 64, by omega⟩ ⟨l.val % 64, by omega⟩) * probs A0 A1 (ix4 b ⟨l.val / 64, by omega⟩ s x) := by
    pointwise [opO]
  rw [e]
  exact Finset.sum_congr rfl fun x _ => by rw [probs_at hq hk, mul_comm]

include hq hk in
/-- The log-sums' entries. -/
theorem lse_at (b : Fin 4) (h : Fin 8) (s : Fin 2048) (d : Fin 128) :
    lse A0 A1 (ix4 b h s d) = ((Real.log (rSum q k b h s) * (1 / Real.log 2) : ℝ) : EReal) := by
  have e : ∀ x y : FVec Ideal Cert.FwdReferenceIdeal.S4x8x2048 .f32, broadcastInDim Cert.FwdReferenceIdeal.S4x8x2048x128 ![0, 1, 2, 3] Cert.FwdReferenceIdeal.Gen.bcast_S4x8x2048x1_S4x8x2048x128_0_1_2_3
      (Host.divf (F := Ideal) (addf (col x) (Host.log (F := Ideal) (col y)))
        (broadcastInDim Cert.FwdReferenceIdeal.S4x8x2048x1 ![] Cert.FwdReferenceIdeal.Gen.bcast_S_S4x8x2048x1 (Host.log (F := Ideal) (constant (F := Ideal) Cert.FwdReferenceIdeal.S_ .f32 0x40000000#32)))) (ix4 b h s d)
      = Ideal.div (x (ix3 b h s) + Ideal.log (y (ix3 b h s))) (Ideal.log (Ideal.ofBits .f32 0x40000000#32)) := fun x y => by
    pointwise [col]
  have two : Ideal.ofBits .f32 0x40000000#32 = ((2 : ℝ) : EReal) := by
    simp [Ideal.ofBits, Ideal.ieee]; rw [← EReal.coe_mul]; norm_num
  obtain ⟨M, hM⟩ := rowMax_real hq hk b h s
  have hz := rSum_pos q k b h s
  have he := Real.exp_pos (-M)
  have hl : Real.log 2 ≠ 0 := (Real.log_pos (by norm_num)).ne'
  rw [lse, e, two, sum_exps_at hq hk _ b h s M hM, hM, Ideal.log_coe, if_neg (not_le.2 (mul_pos hz he)), Ideal.log_coe, if_neg (by norm_num), ← EReal.coe_add, div_real _ _ hl,
    Real.log_mul hz.ne' he.ne', Real.log_exp, EReal.coe_eq_coe_iff]
  ring
end

/-! ## The operands and their blocks -/

variable (m : (ℓ : Loc nD τ sig) → Buf (Elt Ideal) ℓ) (c : Dev nD)

set_option maxHeartbeats 4000000 in
/-- The query operand. -/
theorem V_q : V m c main_v7 = slots (opScaled (m ((c.tc : Thread nD τ).loc main_arg0))) := by
  simp only [V, List.flatten_cons, List.flatten_nil, List.append_nil, hostOps0, hostOps0_1, hostOps0_2, hostOps0_3, hostOps0_4, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

set_option maxHeartbeats 4000000 in
/-- The key operand. -/
theorem V_k : V m c main_v10 = slots (m ((c.tc : Thread nD τ).loc main_arg1)) := by
  simp only [V, List.flatten_cons, List.flatten_nil, List.append_nil, hostOps0, hostOps0_1, hostOps0_2, hostOps0_3, hostOps0_4, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

set_option maxHeartbeats 4000000 in
/-- The value operand. -/
theorem V_v : V m c main_v12 = opV (m ((c.tc : Thread nD τ).loc main_arg2)) := by
  simp only [V, List.flatten_cons, List.flatten_nil, List.append_nil, hostOps0, hostOps0_1, hostOps0_2, hostOps0_3, hostOps0_4, List.cons_append, List.nil_append,
    StableHlo.TRef.binary, StableHlo.TRef.nullary, StableHlo.TRef.ternary, StableHlo.TRef.unary, StableHlo.TRef.toBuf, StableHlo.TRef.ofBuf, cast_eq]
  after_results_simp
  sl_kernel_rfl

/-- Each window's block at each point. -/
theorem idx : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, (grid0.coords t 1).val, 0, 0] :=
  (by decide +kernel : ∀ t : Fin grid0.N, _)

/-- The point's sequence. -/
def batch (t : Fin cfg0.N) : Fin 4 := grid0.coords t 0

/-- The point's group of heads. -/
def part (t : Fin cfg0.N) : Fin 2 := grid0.coords t 1

/-- Lane `l` of group `u` among the slots. -/
def at1024 (u : Fin 2) (l : Fin 512) : Fin 1024 := ⟨512 * u.val + l.val, by omega⟩

/-- Lane `l` of group `u` among the values. -/
def at512 (u : Fin 2) (l : Fin 256) : Fin 512 := ⟨256 * u.val + l.val, by omega⟩

/-- The block of the queries. -/
theorem blk_q (A : Buf (Elt Ideal) ((c : Thread nD τ).loc main_v7)) (t : Fin cfg0.N) (s : Fin 2048) (l : Fin 512) :
    ((cfg0.win 0).blk t).view.read (Elt Ideal) A (ix3 0 s l) = A (ix3 (batch t) s (at1024 (part t) l)) := by
  have e : ((cfg0.win 0).blk t).view.emb (ix3 0 s l) = ix3 (batch t) s (at1024 (part t) l) := by
    blk_ext [idx t, batch, part, at1024]
  exact congrArg A e

/-- The block of the keys. -/
theorem blk_k (A : Buf (Elt Ideal) ((c : Thread nD τ).loc main_v10)) (t : Fin cfg0.N) (s : Fin 2048) (l : Fin 512) :
    ((cfg0.win 1).blk t).view.read (Elt Ideal) A (ix3 0 s l) = A (ix3 (batch t) s (at1024 (part t) l)) := by
  have e : ((cfg0.win 1).blk t).view.emb (ix3 0 s l) = ix3 (batch t) s (at1024 (part t) l) := by
    blk_ext [idx t, batch, part, at1024]
  exact congrArg A e

/-- The block of the values. -/
theorem blk_v (A : Buf (Elt Ideal) ((c : Thread nD τ).loc main_v12)) (t : Fin cfg0.N) (s : Fin 2048) (l : Fin 256) :
    ((cfg0.win 2).blk t).view.read (Elt Ideal) A (ix3 0 s l) = A (ix3 (batch t) s (at512 (part t) l)) := by
  have e : ((cfg0.win 2).blk t).view.emb (ix3 0 s l) = ix3 (batch t) s (at512 (part t) l) := by
    blk_ext [idx t, batch, part, at512]
  exact congrArg A e

/-- The group's values. -/
def values (A2 : FVec Ideal S4x2048x8x64 .f32) (b : Fin 4) (u : Fin 2) (t : Fin 2) (s : Fin 2048) (d : Fin 128) : EReal := A2 (ix4 b s (pairHead u t d) (low d))

/-- A block of the outputs. -/
def oBlock (G : FVec Ideal S4x2048x512 .f32) (b : Fin 4) (u : Fin 2) : Vec Ideal S1x2048x256 .f32 := fun y => G (ix3 b (y 1) (at512 u (y 2)))

/-- A block of the log-sums. -/
def lseBlock (G : FVec Ideal S4x8x2048x128 .f32) (b : Fin 4) (u : Fin 2) : Vec Ideal S1x4x2048x128 .f32 := fun y => G (ix4 b (head u (y 1)) (y 2) (y 3))

/-- A power is attention's exponential. -/
theorem power_eq (q k : Fin 4 → Fin 2048 → Fin 8 → Fin 96 → ℝ) (b : Fin 4) (u : Fin 2) (j : Fin 4) (s t : Fin 2048) :
    power (b0 q b u) (b1 k b u) j s t = rExp q k b (head u j) s t := by
  have hl : Real.log 2 ≠ 0 := (Real.log_pos (by norm_num)).ne'
  rw [power, rExp, FwdTiles.score, score_eq, Real.rpow_eq_pow, Real.rpow_def_of_pos (by norm_num), mul_comm (Real.log 2), mul_assoc, one_div_mul_cancel hl, mul_one]

/-- A row's sum of powers is attention's. -/
theorem total_eq (q k : Fin 4 → Fin 2048 → Fin 8 → Fin 96 → ℝ) (b : Fin 4) (u : Fin 2) (j : Fin 4) (s : Fin 2048) :
    total (b0 q b u) (b1 k b u) j s = rSum q k b (head u j) s := by
  rw [total, rSum]
  exact Finset.sum_congr rfl fun t _ => power_eq q k b u j s t

section
variable {q k : Fin 4 → Fin 2048 → Fin 8 → Fin 96 → ℝ}
variable (hq : ∀ b s h d, (m ((c.tc : Thread nD τ).loc main_arg0) : FVec Ideal S4x2048x8x96 .f32) (ix4 b s h d) = ((q b s h d : ℝ) : EReal))
  (hk : ∀ b s h d, (m ((c.tc : Thread nD τ).loc main_arg1) : FVec Ideal S4x2048x8x96 .f32) (ix4 b s h d) = ((k b s h d : ℝ) : EReal))

include hq hk in
/-- The three blocks' entries. -/
theorem reads (t : Fin cfg0.N) : Reads (iblk m c 0 t) (iblk m c 1 t) (iblk m c 2 t) (b0 q (batch t) (part t)) (b1 k (batch t) (part t))
    (values (m ((c.tc : Thread nD τ).loc main_arg2)) (batch t) (part t)) where
  q j s d := by
    unfold iblk
    refine (blk_q c (V m c main_v7) t s (lane j d)).trans ?_
    rw [V_q]
    refine (slots_real (fun b s h d => opScaled_at hq b s h d) _ _ _).trans ?_
    rw [b0]
    congr 2 <;> exact Fin.ext (by simp [at1024, lane, head]; omega)
  k j s d := by
    unfold iblk
    refine (blk_k c (V m c main_v10) t s (lane j d)).trans ?_
    rw [V_k]
    refine (slots_real hk _ _ _).trans ?_
    rw [b1]
    congr 2 <;> exact Fin.ext (by simp [at1024, lane, head]; omega)
  v p s d := by
    unfold iblk
    refine (blk_v c (V m c main_v12) t s (plane p d)).trans ?_
    rw [V_v]
    have e : ∀ (A2 : FVec Ideal S4x2048x8x64 .f32) (b : Fin 4) (s : Fin 2048) (l : Fin 512), opV A2 (ix3 b s l) = A2 (ix4 b s ⟨l.val / 64, by omega⟩ ⟨l.val % 64, by omega⟩) := fun A2 b s l => by
      pointwise [opV]
    refine (e _ _ _ _).trans ?_
    rw [values]
    congr 2 <;> exact Fin.ext (by simp [at512, plane, pairHead, low]; omega)

/-! ## The two results -/

include hq hk in
/-- The outputs' block at a point. -/
theorem block_o (t : Fin cfg0.N) : out0_3 (iblk m c 0 t) (iblk m c 1 t) (iblk m c 2 t)
    = oBlock (opO (m ((c.tc : Thread nD τ).loc main_arg0)) (m ((c.tc : Thread nD τ).loc main_arg1)) (m ((c.tc : Thread nD τ).loc main_arg2))) (batch t) (part t) := by
  funext y
  have hy : (y 2).val < 256 := (y 2).isLt
  have H := reads m c hq hk t
  refine (out_of (fun p s d => ∑ x, ((power (b0 q (batch t) (part t)) (b1 k (batch t) (part t)) (headOf p ⟨d.val / 64, by omega⟩) s x
    / total (b0 q (batch t) (part t)) (b1 k (batch t) (part t)) (headOf p ⟨d.val / 64, by omega⟩) s : ℝ) : EReal) * values (m ((c.tc : Thread nD τ).loc main_arg2)) (batch t) (part t) p x d)
    (fun i p r d => outT_at H i p r d) y).trans ?_
  refine Eq.trans ?_ (o_at hq hk (batch t) (y 1) (at512 (part t) (y 2))).symm
  refine Finset.sum_congr rfl fun x _ => ?_
  refine (congrArg₂ (fun a b : ℝ => ((a / b : ℝ) : EReal) * values (m ((c.tc : Thread nD τ).loc main_arg2)) (batch t) (part t) ⟨(y 2).val / 128, by omega⟩ x ⟨(y 2).val % 128, by omega⟩)
    (power_eq q k (batch t) (part t) (headOf ⟨(y 2).val / 128, by omega⟩ ⟨(y 2).val % 128 / 64, by omega⟩) (y 1) x)
    (total_eq q k (batch t) (part t) (headOf ⟨(y 2).val / 128, by omega⟩ ⟨(y 2).val % 128 / 64, by omega⟩) (y 1))).trans ?_
  have key : ∀ (h h' g : Fin 8) (z z' : Fin 64) (r : Fin 2048), h = g → h' = g → z = z' →
      ((rExp q k (batch t) h r x / rSum q k (batch t) h r : ℝ) : EReal) * (m ((c.tc : Thread nD τ).loc main_arg2) : FVec Ideal S4x2048x8x64 .f32) (ix4 (batch t) x h' z)
        = ((rProb q k (batch t) g r x : ℝ) : EReal) * (m ((c.tc : Thread nD τ).loc main_arg2) : FVec Ideal S4x2048x8x64 .f32) (ix4 (batch t) x g z') := by
    rintro _ _ _ _ _ r rfl rfl rfl
    rfl
  have e1 : head (part t) (headOf ⟨(y 2).val / 128, by omega⟩ ⟨(y 2).val % 128 / 64, by omega⟩) = ⟨(at512 (part t) (y 2)).val / 64, by omega⟩ :=
    Fin.ext (by simp only [head, headOf, at512]; omega)
  have e2 : pairHead (part t) ⟨(y 2).val / 128, by omega⟩ ⟨(y 2).val % 128, by omega⟩ = ⟨(at512 (part t) (y 2)).val / 64, by omega⟩ :=
    Fin.ext (by simp only [pairHead, at512]; omega)
  have e3 : low ⟨(y 2).val % 128, by omega⟩ = ⟨(at512 (part t) (y 2)).val % 64, by omega⟩ := Fin.ext (by simp only [low, at512]; omega)
  exact key _ _ _ _ _ (y 1) e1 e2 e3

include hq hk in
/-- The log-sums' block at a point. -/
theorem block_lse (t : Fin cfg0.N) : out0_4 (iblk m c 0 t) (iblk m c 1 t) (iblk m c 2 t)
    = lseBlock (lse (m ((c.tc : Thread nD τ).loc main_arg0)) (m ((c.tc : Thread nD τ).loc main_arg1))) (batch t) (part t) := by
  funext y
  have H := reads m c hq hk t
  refine (log_of (fun j s d => ((Real.log (total (b0 q (batch t) (part t)) (b1 k (batch t) (part t)) j s) * (1 / Real.log 2) : ℝ) : EReal)) (fun i j r d => logT_at H i j r d) y).trans ?_
  refine Eq.trans ?_ (lse_at hq hk (batch t) (head (part t) (y 1)) (y 2) (y 3)).symm
  exact congrArg (fun z : ℝ => ((Real.log z * (1 / Real.log 2) : ℝ) : EReal)) (total_eq q k (batch t) (part t) (y 1) (y 2))

include hq hk in
/-- The outputs. -/
theorem arr_o : (dats m 0 c).arrAt 3 cfg0.N
    = opO (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp [idx t]
  rw [after0_3, block_o m c hq hk t]
  unfold oBlock
  refine congrArg _ ?_
  blk_ext [idx t, batch, part, at512]

include hq hk in
/-- The log-sums. -/
theorem arr_lse : (dats m 0 c).arrAt 4 cfg0.N = lse (m ((c.tc : Thread nD τ).loc main_arg0)) (m ((c.tc : Thread nD τ).loc main_arg1)) := by
  refine (dats m 0 c).arrAt_eq_of_covers 4 _ (by decide +kernel) fun t _ y => ?_
  blk_simp [idx t]
  rw [after0_4, block_lse m c hq hk t]
  unfold lseBlock
  refine congrArg _ ?_
  blk_ext [idx t, batch, part, head]
end

end Cert.Proof.FwdOuts
end
-- ==== Proof.FwdValues.lean ====
/- At finite queries and keys the forward attention's two results are the reference's. -/
module

public import proofs.«01_k».proof.Defs
public import proofs.«01_k».proof.Proof.FwdFrames
public import proofs.«01_k».proof.Proof.FwdOuts
public import proofs.«01_k».proof.Proof.Values
public import proofs.«01_k».proof.Proof.Gen.FwdKernelIdeal.Value
public import proofs.«01_k».proof.Proof.Gen.Pre_finite_fwd

@[expose] public section

set_option maxRecDepth 16384

noncomputable section

namespace Cert.Proof.FwdValues

open Idealize.ShloMosaic Idealize.ShloMosaic.TcCoe Idealize.SL.Sem
open Cert.Proof.FwdOuts (lse ref_o ref_lse arr_o arr_lse)

/-- Queries and keys that the precondition holds of have real entries. -/
theorem finite_entries (A0 A1 : FVec Ideal Cert.Pre_finite_fwd.S4x2048x8x96 .f32) (A2 : FVec Ideal Cert.Pre_finite_fwd.S4x2048x8x64 .f32)
    (h : Cert.Pre_finite_fwd.fn (F := Ideal) A0 A1 A2 = fun _ => 1#1) :
    (∀ i, ∃ r : ℝ, A0 i = (r : EReal)) ∧ (∀ i, ∃ r : ℝ, A1 i = (r : EReal)) := by
  have e := congrFun h ix0
  unfold Cert.Pre_finite_fwd.fn at e
  obtain ⟨e0, e1⟩ := IntOp.andi_eq_one.1 e
  exact ⟨fun i => Values.real_of_lt _ (Host.reduce_andi_all _ _ _ _ _ e0 i), fun i => Values.real_of_lt _ (Host.reduce_andi_all _ _ _ _ _ e1 i)⟩

/-- At finite queries and keys the kernel's outputs and log-sums are the reference's. -/
theorem algebraic : Cert.algebraic_FwdKernelIdeal_FwdReferenceIdeal_pre_finite_fwd := by
  intro m g m' g' hpre hag
  refine ⟨fun c => Cert.Proof.Stages.opO (m ((c.tc : Thread _ _).loc Cert.FwdKernelIdeal.main_arg0)) (m ((c.tc : Thread _ _).loc Cert.FwdKernelIdeal.main_arg1))
      (m ((c.tc : Thread _ _).loc Cert.FwdKernelIdeal.main_arg2)),
    fun c => lse (m ((c.tc : Thread _ _).loc Cert.FwdKernelIdeal.main_arg0)) (m ((c.tc : Thread _ _).loc Cert.FwdKernelIdeal.main_arg1)), ?_, ?_⟩
  · refine (θ_run Cert.FwdKernelIdeal.defs _ _).mono (fun r h c => ?_) (Cert.FwdKernelIdeal.Value.run_blocks (F := Ideal) m g)
    obtain ⟨h0, h1⟩ := finite_entries _ _ _ (hpre c)
    choose q hq using h0
    choose k hk using h1
    obtain ⟨r0, r1, ra⟩ := h c
    exact ⟨r0.trans (arr_o m c (q := fun b s h d => q (ix4 b s h d)) (k := fun b s h d => k (ix4 b s h d)) (fun _ _ _ _ => hq _) (fun _ _ _ _ => hk _)),
      r1.trans (arr_lse m c (q := fun b s h d => q (ix4 b s h d)) (k := fun b s h d => k (ix4 b s h d)) (fun _ _ _ _ => hq _) (fun _ _ _ _ => hk _)), ra⟩
  · refine (θ_run Cert.FwdReferenceIdeal.defs _ _).mono (fun r h c => ?_) (Cert.FwdReferenceIdeal.Value.run (F := Ideal) m' g')
    obtain ⟨a0, a1, a2⟩ := hag c
    obtain ⟨r0, r1, ra⟩ := h c
    refine ⟨r0.trans ((ref_o m' c).trans ?_), r1.trans ((ref_lse m' c).trans ?_), ra⟩
    · rw [a0, a1, a2]
    · rw [a0, a1]

end Cert.Proof.FwdValues

end
-- ==== Proof.PreBody.lean ====
/- The input projections: the body, split where it builds the weights. At the first point it lays the weights out in the last four windows' buffers; at
   every point it then reads those buffers. The two halves' effects on the buffers are stated here. -/
module

public import proofs.«01_k».proof.Proof.Gen.PreKernelIdeal.Frame
public import proofs.«01_k».proof.Proof.Gen.PreKernelIdeal.Skeleton

@[expose] public section

set_option maxRecDepth 16384

noncomputable section

namespace Cert.Proof.PreBody

open Cert.PreKernelIdeal Cert.PreKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-! ## The weights as built -/

/-- The stores that build the weights of the projections of the normalised stream, last first. -/
def w_in_pieces (x4 : Vec F S8x308x1024 .bf16) : List (View.Piece (Elt F) S2560x1024 .bf16) :=
  [⟨(Rect.unit (s := S2560x1024) ![2496, 0] S64x1024.size inb_S2560x1024_S64x1024_2496_0), (k0_pay69 (View.ld x4 (Rect.unit (s := S8x308x1024) ![7, 244, 0] S1x64x1024.size inb_S8x308x1024_S1x64x1024_7_244_0)))⟩,
    ⟨(Rect.unit (s := S2560x1024) ![2368, 0] S64x1024.size inb_S2560x1024_S64x1024_2368_0), (k0_pay68 (View.ld x4 (Rect.unit (s := S8x308x1024) ![7, 180, 0] S1x64x1024.size inb_S8x308x1024_S1x64x1024_7_180_0)))⟩,
    ⟨(Rect.unit (s := S2560x1024) ![2240, 0] S64x1024.size inb_S2560x1024_S64x1024_2240_0), (k0_pay67 (View.ld x4 (Rect.unit (s := S8x308x1024) ![7, 116, 0] S1x64x1024.size inb_S8x308x1024_S1x64x1024_7_116_0)))⟩,
    ⟨(Rect.unit (s := S2560x1024) ![2112, 0] S64x1024.size inb_S2560x1024_S64x1024_2112_0), (k0_pay66 (View.ld x4 (Rect.unit (s := S8x308x1024) ![7, 52, 0] S1x64x1024.size inb_S8x308x1024_S1x64x1024_7_52_0)))⟩,
    ⟨(Rect.unit (s := S2560x1024) ![2444, 0] S52x1024.size inb_S2560x1024_S52x1024_2444_0), (k0_pay65 (View.ld x4 (Rect.unit (s := S8x308x1024) ![7, 0, 0] S1x52x1024.size inb_S8x308x1024_S1x52x1024_7_0_0)))⟩,
    ⟨(Rect.unit (s := S2560x1024) ![2432, 0] S12x1024.size inb_S2560x1024_S12x1024_2432_0), (k0_pay64 (View.ld x4 (Rect.unit (s := S8x308x1024) ![6, 296, 0] S1x12x1024.size inb_S8x308x1024_S1x12x1024_6_296_0)))⟩,
    ⟨(Rect.unit (s := S2560x1024) ![2304, 0] S64x1024.size inb_S2560x1024_S64x1024_2304_0), (k0_pay63 (View.ld x4 (Rect.unit (s := S8x308x1024) ![6, 232, 0] S1x64x1024.size inb_S8x308x1024_S1x64x1024_6_232_0)))⟩,
    ⟨(Rect.unit (s := S2560x1024) ![2176, 0] S64x1024.size inb_S2560x1024_S64x1024_2176_0), (k0_pay62 (View.ld x4 (Rect.unit (s := S8x308x1024) ![6, 168, 0] S1x64x1024.size inb_S8x308x1024_S1x64x1024_6_168_0)))⟩,
    ⟨(Rect.unit (s := S2560x1024) ![2048, 0] S64x1024.size inb_S2560x1024_S64x1024_2048_0), (k0_pay61 (View.ld x4 (Rect.unit (s := S8x308x1024) ![6, 104, 0] S1x64x1024.size inb_S8x308x1024_S1x64x1024_6_104_0)))⟩,
    ⟨(Rect.unit (s := S2560x1024) ![1944, 0] S104x1024.size inb_S2560x1024_S104x1024_1944_0), (k0_pay60 (View.ld x4 (Rect.unit (s := S8x308x1024) ![6, 0, 0] S1x104x1024.size inb_S8x308x1024_S1x104x1024_6_0_0)))⟩,
    ⟨(Rect.unit (s := S2560x1024) ![1792, 0] S152x1024.size inb_S2560x1024_S152x1024_1792_0), (k0_pay59 (View.ld x4 (Rect.unit (s := S8x308x1024) ![5, 156, 0] S1x152x1024.size inb_S8x308x1024_S1x152x1024_5_156_0)))⟩,
    ⟨(Rect.unit (s := S2560x1024) ![1728, 0] S64x1024.size inb_S2560x1024_S64x1024_1728_0), (k0_pay58 (View.ld x4 (Rect.unit (s := S8x308x1024) ![5, 92, 0] S1x64x1024.size inb_S8x308x1024_S1x64x1024_5_92_0)))⟩,
    ⟨(Rect.unit (s := S2560x1024) ![1600, 0] S64x1024.size inb_S2560x1024_S64x1024_1600_0), (k0_pay57 (View.ld x4 (Rect.unit (s := S8x308x1024) ![5, 28, 0] S1x64x1024.size inb_S8x308x1024_S1x64x1024_5_28_0)))⟩,
    ⟨(Rect.unit (s := S2560x1024) ![1508, 0] S28x1024.size inb_S2560x1024_S28x1024_1508_0), (k0_pay56 (View.ld x4 (Rect.unit (s := S8x308x1024) ![5, 0, 0] S1x28x1024.size inb_S8x308x1024_S1x28x1024_5_0_0)))⟩,
    ⟨(Rect.unit (s := S2560x1024) ![1472, 0] S36x1024.size inb_S2560x1024_S36x1024_1472_0), (k0_pay55 (View.ld x4 (Rect.unit (s := S8x308x1024) ![4, 272, 0] S1x36x1024.size inb_S8x308x1024_S1x36x1024_4_272_0)))⟩,
    ⟨(Rect.unit (s := S2560x1024) ![1344, 0] S64x1024.size inb_S2560x1024_S64x1024_1344_0), (k0_pay54 (View.ld x4 (Rect.unit (s := S8x308x1024) ![4, 208, 0] S1x64x1024.size inb_S8x308x1024_S1x64x1024_4_208_0)))⟩,
    ⟨(Rect.unit (s := S2560x1024) ![1664, 0] S64x1024.size inb_S2560x1024_S64x1024_1664_0), (k0_pay53 (View.ld x4 (Rect.unit (s := S8x308x1024) ![4, 144, 0] S1x64x1024.size inb_S8x308x1024_S1x64x1024_4_144_0)))⟩,
    ⟨(Rect.unit (s := S2560x1024) ![1536, 0] S64x1024.size inb_S2560x1024_S64x1024_1536_0), (k0_pay52 (View.ld x4 (Rect.unit (s := S8x308x1024) ![4, 80, 0] S1x64x1024.size inb_S8x308x1024_S1x64x1024_4_80_0)))⟩,
    ⟨(Rect.unit (s := S2560x1024) ![1408, 0] S64x1024.size inb_S2560x1024_S64x1024_1408_0), (k0_pay51 (View.ld x4 (Rect.unit (s := S8x308x1024) ![4, 16, 0] S1x64x1024.size inb_S8x308x1024_S1x64x1024_4_16_0)))⟩,
    ⟨(Rect.unit (s := S2560x1024) ![1328, 0] S16x1024.size inb_S2560x1024_S16x1024_1328_0), (k0_pay50 (View.ld x4 (Rect.unit (s := S8x308x1024) ![4, 0, 0] S1x16x1024.size inb_S8x308x1024_S1x16x1024_4_0_0)))⟩,
    ⟨(Rect.unit (s := S2560x1024) ![1280, 0] S48x1024.size inb_S2560x1024_S48x1024_1280_0), (k0_pay49 (View.ld x4 (Rect.unit (s := S8x308x1024) ![3, 260, 0] S1x48x1024.size inb_S8x308x1024_S1x48x1024_3_260_0)))⟩,
    ⟨(Rect.unit (s := S2560x1024) ![1020, 0] S260x1024.size inb_S2560x1024_S260x1024_1020_0), (k0_pay48 (View.ld x4 (Rect.unit (s := S8x308x1024) ![3, 0, 0] S1x260x1024.size inb_S8x308x1024_S1x260x1024_3_0_0)))⟩,
    ⟨(Rect.unit (s := S2560x1024) ![768, 0] S252x1024.size inb_S2560x1024_S252x1024_768_0), (k0_pay47 (View.ld x4 (Rect.unit (s := S8x308x1024) ![2, 56, 0] S1x252x1024.size inb_S8x308x1024_S1x252x1024_2_56_0)))⟩,
    ⟨(Rect.unit (s := S2560x1024) ![704, 0] S32x1024.size inb_S2560x1024_S32x1024_704_0), (k0_pay46 (View.ld x4 (Rect.unit (s := S8x308x1024) ![2, 24, 0] S1x32x1024.size inb_S8x308x1024_S1x32x1024_2_24_0)))⟩,
    ⟨(Rect.unit (s := S2560x1024) ![616, 0] S24x1024.size inb_S2560x1024_S24x1024_616_0), (k0_pay45 (View.ld x4 (Rect.unit (s := S8x308x1024) ![2, 0, 0] S1x24x1024.size inb_S8x308x1024_S1x24x1024_2_0_0)))⟩,
    ⟨(Rect.unit (s := S2560x1024) ![308, 0] S308x1024.size inb_S2560x1024_S308x1024_308_0), (k0_pay44 (View.ld x4 (Rect.unit (s := S8x308x1024) ![1, 0, 0] S1x308x1024.size inb_S8x308x1024_S1x308x1024_1_0_0)))⟩,
    ⟨(Rect.unit (s := S2560x1024) ![0, 0] S308x1024.size inb_S2560x1024_S308x1024_0_0), (k0_pay43 (View.ld x4 (Rect.unit (s := S8x308x1024) ![0, 0, 0] S1x308x1024.size inb_S8x308x1024_S1x308x1024_0_0_0)))⟩,
    ⟨(Rect.unit (s := S2560x1024) ![736, 0] S32x1024.size inb_S2560x1024_S32x1024_736_0), (k0_pay42 (F := F))⟩,
    ⟨(Rect.unit (s := S2560x1024) ![640, 0] S64x1024.size inb_S2560x1024_S64x1024_640_0), (k0_pay41 (F := F))⟩]

/-- They cover the buffer. -/
theorem w_in_cover (x4 : Vec F S8x308x1024 .bf16) (y : S2560x1024.Idx) : ∃ pc ∈ w_in_pieces x4, y ∈ pc.1.set :=
  View.cover_of_tiledBy (w_in_pieces x4) ![4, 1024] (by sl_kernel_rfl) y

/-- The weights of the projections of the normalised stream in the body's layout. -/
def w_in (x4 : Vec F S8x308x1024 .bf16) : Vec F S2560x1024 .bf16 := View.canon (w_in_pieces x4)

/-- The stores that build the weights of the queries' heads, last first. -/
def w_q_pieces (x7 : Vec F S8x384x96 .bf16) : List (View.Piece (Elt F) S384x1024 .bf16) :=
  [⟨(Rect.unit (s := S384x1024) ![0, 992] S384x32.size inb_S384x1024_S384x32_0_992), (k0_pay37 (F := F))⟩,
    ⟨(Rect.unit (s := S384x1024) ![0, 896] S384x96.size inb_S384x1024_S384x96_0_896), (k0_pay36 (View.ld x7 (Rect.unit (s := S8x384x96) ![7, 0, 0] S1x384x96.size inb_S8x384x96_S1x384x96_7_0_0)))⟩,
    ⟨(Rect.unit (s := S384x1024) ![0, 864] S384x32.size inb_S384x1024_S384x32_0_864), (k0_pay32 (F := F))⟩,
    ⟨(Rect.unit (s := S384x1024) ![0, 768] S384x96.size inb_S384x1024_S384x96_0_768), (k0_pay31 (View.ld x7 (Rect.unit (s := S8x384x96) ![6, 0, 0] S1x384x96.size inb_S8x384x96_S1x384x96_6_0_0)))⟩,
    ⟨(Rect.unit (s := S384x1024) ![0, 736] S384x32.size inb_S384x1024_S384x32_0_736), (k0_pay27 (F := F))⟩,
    ⟨(Rect.unit (s := S384x1024) ![0, 640] S384x96.size inb_S384x1024_S384x96_0_640), (k0_pay26 (View.ld x7 (Rect.unit (s := S8x384x96) ![5, 0, 0] S1x384x96.size inb_S8x384x96_S1x384x96_5_0_0)))⟩,
    ⟨(Rect.unit (s := S384x1024) ![0, 608] S384x32.size inb_S384x1024_S384x32_0_608), (k0_pay22 (F := F))⟩,
    ⟨(Rect.unit (s := S384x1024) ![0, 512] S384x96.size inb_S384x1024_S384x96_0_512), (k0_pay21 (View.ld x7 (Rect.unit (s := S8x384x96) ![4, 0, 0] S1x384x96.size inb_S8x384x96_S1x384x96_4_0_0)))⟩,
    ⟨(Rect.unit (s := S384x1024) ![0, 480] S384x32.size inb_S384x1024_S384x32_0_480), (k0_pay17 (F := F))⟩,
    ⟨(Rect.unit (s := S384x1024) ![0, 384] S384x96.size inb_S384x1024_S384x96_0_384), (k0_pay16 (View.ld x7 (Rect.unit (s := S8x384x96) ![3, 0, 0] S1x384x96.size inb_S8x384x96_S1x384x96_3_0_0)))⟩,
    ⟨(Rect.unit (s := S384x1024) ![0, 352] S384x32.size inb_S384x1024_S384x32_0_352), (k0_pay12 (F := F))⟩,
    ⟨(Rect.unit (s := S384x1024) ![0, 256] S384x96.size inb_S384x1024_S384x96_0_256), (k0_pay11 (View.ld x7 (Rect.unit (s := S8x384x96) ![2, 0, 0] S1x384x96.size inb_S8x384x96_S1x384x96_2_0_0)))⟩,
    ⟨(Rect.unit (s := S384x1024) ![0, 224] S384x32.size inb_S384x1024_S384x32_0_224), (k0_pay7 (F := F))⟩,
    ⟨(Rect.unit (s := S384x1024) ![0, 128] S384x96.size inb_S384x1024_S384x96_0_128), (k0_pay6 (View.ld x7 (Rect.unit (s := S8x384x96) ![1, 0, 0] S1x384x96.size inb_S8x384x96_S1x384x96_1_0_0)))⟩,
    ⟨(Rect.unit (s := S384x1024) ![0, 96] S384x32.size inb_S384x1024_S384x32_0_96), (k0_pay2 (F := F))⟩,
    ⟨(Rect.unit (s := S384x1024) ![0, 0] S384x96.size inb_S384x1024_S384x96_0_0), (k0_pay1 (View.ld x7 (Rect.unit (s := S8x384x96) ![0, 0, 0] S1x384x96.size inb_S8x384x96_S1x384x96_0_0_0)))⟩]

/-- They cover the buffer. -/
theorem w_q_cover (x7 : Vec F S8x384x96 .bf16) (y : S384x1024.Idx) : ∃ pc ∈ w_q_pieces x7, y ∈ pc.1.set :=
  View.cover_of_tiledBy (w_q_pieces x7) ![384, 32] (by sl_kernel_rfl) y

/-- The weights of the queries' heads in the body's layout. -/
def w_q (x7 : Vec F S8x384x96 .bf16) : Vec F S384x1024 .bf16 := View.canon (w_q_pieces x7)

/-- The stores that build the weights of the keys' heads, last first. -/
def w_k_pieces (x8 : Vec F S8x256x128 .bf16) : List (View.Piece (Elt F) S256x1024 .bf16) :=
  [⟨(Rect.unit (s := S256x1024) ![0, 960] S256x64.size inb_S256x1024_S256x64_0_960), (k0_pay39 (F := F))⟩,
    ⟨(Rect.unit (s := S256x1024) ![0, 896] S256x64.size inb_S256x1024_S256x64_0_896), (k0_pay38 (View.ld x8 (Rect.unit (s := S8x256x128) ![7, 0, 0] S1x256x64.size inb_S8x256x128_S1x256x64_7_0_0)))⟩,
    ⟨(Rect.unit (s := S256x1024) ![0, 832] S256x64.size inb_S256x1024_S256x64_0_832), (k0_pay34 (F := F))⟩,
    ⟨(Rect.unit (s := S256x1024) ![0, 768] S256x64.size inb_S256x1024_S256x64_0_768), (k0_pay33 (View.ld x8 (Rect.unit (s := S8x256x128) ![6, 0, 0] S1x256x64.size inb_S8x256x128_S1x256x64_6_0_0)))⟩,
    ⟨(Rect.unit (s := S256x1024) ![0, 704] S256x64.size inb_S256x1024_S256x64_0_704), (k0_pay29 (F := F))⟩,
    ⟨(Rect.unit (s := S256x1024) ![0, 640] S256x64.size inb_S256x1024_S256x64_0_640), (k0_pay28 (View.ld x8 (Rect.unit (s := S8x256x128) ![5, 0, 0] S1x256x64.size inb_S8x256x128_S1x256x64_5_0_0)))⟩,
    ⟨(Rect.unit (s := S256x1024) ![0, 576] S256x64.size inb_S256x1024_S256x64_0_576), (k0_pay24 (F := F))⟩,
    ⟨(Rect.unit (s := S256x1024) ![0, 512] S256x64.size inb_S256x1024_S256x64_0_512), (k0_pay23 (View.ld x8 (Rect.unit (s := S8x256x128) ![4, 0, 0] S1x256x64.size inb_S8x256x128_S1x256x64_4_0_0)))⟩,
    ⟨(Rect.unit (s := S256x1024) ![0, 448] S256x64.size inb_S256x1024_S256x64_0_448), (k0_pay19 (F := F))⟩,
    ⟨(Rect.unit (s := S256x1024) ![0, 384] S256x64.size inb_S256x1024_S256x64_0_384), (k0_pay18 (View.ld x8 (Rect.unit (s := S8x256x128) ![3, 0, 0] S1x256x64.size inb_S8x256x128_S1x256x64_3_0_0)))⟩,
    ⟨(Rect.unit (s := S256x1024) ![0, 320] S256x64.size inb_S256x1024_S256x64_0_320), (k0_pay14 (F := F))⟩,
    ⟨(Rect.unit (s := S256x1024) ![0, 256] S256x64.size inb_S256x1024_S256x64_0_256), (k0_pay13 (View.ld x8 (Rect.unit (s := S8x256x128) ![2, 0, 0] S1x256x64.size inb_S8x256x128_S1x256x64_2_0_0)))⟩,
    ⟨(Rect.unit (s := S256x1024) ![0, 192] S256x64.size inb_S256x1024_S256x64_0_192), (k0_pay9 (F := F))⟩,
    ⟨(Rect.unit (s := S256x1024) ![0, 128] S256x64.size inb_S256x1024_S256x64_0_128), (k0_pay8 (View.ld x8 (Rect.unit (s := S8x256x128) ![1, 0, 0] S1x256x64.size inb_S8x256x128_S1x256x64_1_0_0)))⟩,
    ⟨(Rect.unit (s := S256x1024) ![0, 64] S256x64.size inb_S256x1024_S256x64_0_64), (k0_pay4 (F := F))⟩,
    ⟨(Rect.unit (s := S256x1024) ![0, 0] S256x64.size inb_S256x1024_S256x64_0_0), (k0_pay3 (View.ld x8 (Rect.unit (s := S8x256x128) ![0, 0, 0] S1x256x64.size inb_S8x256x128_S1x256x64_0_0_0)))⟩]

/-- They cover the buffer. -/
theorem w_k_cover (x8 : Vec F S8x256x128 .bf16) (y : S256x1024.Idx) : ∃ pc ∈ w_k_pieces x8, y ∈ pc.1.set :=
  View.cover_of_tiledBy (w_k_pieces x8) ![256, 64] (by sl_kernel_rfl) y

/-- The weights of the keys' heads in the body's layout. -/
def w_k (x8 : Vec F S8x256x128 .bf16) : Vec F S256x1024 .bf16 := View.canon (w_k_pieces x8)

/-- The stores that build the weights of the values' heads, last first. -/
def w_v_pieces (x8 : Vec F S8x256x128 .bf16) : List (View.Piece (Elt F) S256x512 .bf16) :=
  [⟨(Rect.unit (s := S256x512) ![0, 448] S256x64.size inb_S256x512_S256x64_0_448), (k0_pay40 (View.ld x8 (Rect.unit (s := S8x256x128) ![7, 0, 64] S1x256x64.size inb_S8x256x128_S1x256x64_7_0_64)))⟩,
    ⟨(Rect.unit (s := S256x512) ![0, 384] S256x64.size inb_S256x512_S256x64_0_384), (k0_pay35 (View.ld x8 (Rect.unit (s := S8x256x128) ![6, 0, 64] S1x256x64.size inb_S8x256x128_S1x256x64_6_0_64)))⟩,
    ⟨(Rect.unit (s := S256x512) ![0, 320] S256x64.size inb_S256x512_S256x64_0_320), (k0_pay30 (View.ld x8 (Rect.unit (s := S8x256x128) ![5, 0, 64] S1x256x64.size inb_S8x256x128_S1x256x64_5_0_64)))⟩,
    ⟨(Rect.unit (s := S256x512) ![0, 256] S256x64.size inb_S256x512_S256x64_0_256), (k0_pay25 (View.ld x8 (Rect.unit (s := S8x256x128) ![4, 0, 64] S1x256x64.size inb_S8x256x128_S1x256x64_4_0_64)))⟩,
    ⟨(Rect.unit (s := S256x512) ![0, 192] S256x64.size inb_S256x512_S256x64_0_192), (k0_pay20 (View.ld x8 (Rect.unit (s := S8x256x128) ![3, 0, 64] S1x256x64.size inb_S8x256x128_S1x256x64_3_0_64)))⟩,
    ⟨(Rect.unit (s := S256x512) ![0, 128] S256x64.size inb_S256x512_S256x64_0_128), (k0_pay15 (View.ld x8 (Rect.unit (s := S8x256x128) ![2, 0, 64] S1x256x64.size inb_S8x256x128_S1x256x64_2_0_64)))⟩,
    ⟨(Rect.unit (s := S256x512) ![0, 64] S256x64.size inb_S256x512_S256x64_0_64), (k0_pay10 (View.ld x8 (Rect.unit (s := S8x256x128) ![1, 0, 64] S1x256x64.size inb_S8x256x128_S1x256x64_1_0_64)))⟩,
    ⟨(Rect.unit (s := S256x512) ![0, 0] S256x64.size inb_S256x512_S256x64_0_0), (k0_pay5 (View.ld x8 (Rect.unit (s := S8x256x128) ![0, 0, 64] S1x256x64.size inb_S8x256x128_S1x256x64_0_0_64)))⟩]

/-- They cover the buffer. -/
theorem w_v_cover (x8 : Vec F S8x256x128 .bf16) (y : S256x512.Idx) : ∃ pc ∈ w_v_pieces x8, y ∈ pc.1.set :=
  View.cover_of_tiledBy (w_v_pieces x8) ![256, 64] (by sl_kernel_rfl) y

/-- The weights of the values' heads in the body's layout. -/
def w_v (x8 : Vec F S8x256x128 .bf16) : Vec F S256x512 .bf16 := View.canon (w_v_pieces x8)

/-! ## What the body computes of its blocks and the weights -/

section
variable (x0 : Vec F S512x1024 .f32) (x1 : Vec F S1x1x1024 .f32) (x2 : Vec F S1x1x1024 .f32) (x3 : Vec F S1x1024 .f32) (x5 : Vec F S1x384 .f32) (x6 : Vec F S1x256 .f32) (x9 : Vec F S64x128 .f32) (x10 : Vec F S64x128 .f32) (w0 : Vec F S2560x1024 .bf16) (w1 : Vec F S384x1024 .bf16) (w2 : Vec F S256x1024 .bf16) (w3 : Vec F S256x512 .bf16)

/-- The normalised stream, scaled and shifted. -/
def h : FVec F S512x1024 .bf16 :=
  k0_pay70 (View.ld x0 (Rect.unit (s := S512x1024) ![0, 0] S512x1024.size inb_S512x1024_S512x1024_0_0)) (View.ld x3 (Rect.unit (s := S1x1024) ![0, 0] S1x1024.size inb_S1x1024_S1x1024_0_0)) (View.ld x2 (Rect.unit (s := S1x1x1024) ![0, 0, 0] S1x1x1024.size inb_S1x1x1024_S1x1x1024_0_0_0)) (View.ld x1 (Rect.unit (s := S1x1x1024) ![0, 0, 0] S1x1x1024.size inb_S1x1x1024_S1x1x1024_0_0_0))

/-- The queries' latent before its norm. -/
def zq : FVec F S512x384 .f32 :=
  k0_pay71 (View.ld x0 (Rect.unit (s := S512x1024) ![0, 0] S512x1024.size inb_S512x1024_S512x1024_0_0)) (View.ld x3 (Rect.unit (s := S1x1024) ![0, 0] S1x1024.size inb_S1x1024_S1x1024_0_0)) (View.ld x2 (Rect.unit (s := S1x1x1024) ![0, 0, 0] S1x1x1024.size inb_S1x1x1024_S1x1x1024_0_0_0)) (View.ld x1 (Rect.unit (s := S1x1x1024) ![0, 0, 0] S1x1x1024.size inb_S1x1x1024_S1x1x1024_0_0_0)) (View.ld w0 (Rect.unit (s := S2560x1024) ![0, 0] S384x1024.size inb_S2560x1024_S384x1024_0_0))

/-- The queries' latent. -/
def ql : FVec F S512x384 .bf16 :=
  k0_pay72 (zq x0 x1 x2 x3 w0) (View.ld x5 (Rect.unit (s := S1x384) ![0, 0] S1x384.size inb_S1x384_S1x384_0_0))

/-- The queries, rotated and scaled. -/
def q : FVec F S512x1024 .bf16 :=
  k0_pay81 (k0_pay73 (zq x0 x1 x2 x3 w0) (View.ld x5 (Rect.unit (s := S1x384) ![0, 0] S1x384.size inb_S1x384_S1x384_0_0)) (View.ld w1 (Rect.unit (s := S384x1024) ![0, 0] S384x1024.size inb_S384x1024_S384x1024_0_0))) (k0_pay74 (View.ld x9 (Rect.unit (s := S64x128) ![0, 0] S64x128.size inb_S64x128_S64x128_0_0))) (k0_pay75 (View.ld x10 (Rect.unit (s := S64x128) ![0, 0] S64x128.size inb_S64x128_S64x128_0_0))) (iota .tc S512x128 32 [1] iota_S512x128_d1_w32) k0_pay76

/-- The keys' and values' latent before its norm. -/
def zkv : FVec F S512x256 .f32 :=
  k0_pay82 (h x0 x1 x2 x3) (View.ld w0 (Rect.unit (s := S2560x1024) ![384, 0] S256x1024.size inb_S2560x1024_S256x1024_384_0))

/-- The keys' and values' latent. -/
def kvl : FVec F S512x256 .bf16 :=
  k0_pay83 (zkv x0 x1 x2 x3 w0) (View.ld x6 (Rect.unit (s := S1x256) ![0, 0] S1x256.size inb_S1x256_S1x256_0_0))

/-- The keys: every head beside the rotated shared part. -/
def k : FVec F S512x1024 .bf16 :=
  k0_pay84 (h x0 x1 x2 x3) (k0_pay78 (k0_pay74 (View.ld x9 (Rect.unit (s := S64x128) ![0, 0] S64x128.size inb_S64x128_S64x128_0_0))) (iota .tc S512x128 32 [1] iota_S512x128_d1_w32) k0_pay76) (k0_pay79 (k0_pay75 (View.ld x10 (Rect.unit (s := S64x128) ![0, 0] S64x128.size inb_S64x128_S64x128_0_0))) k0_pay76) (k0_pay80 (k0_pay75 (View.ld x10 (Rect.unit (s := S64x128) ![0, 0] S64x128.size inb_S64x128_S64x128_0_0))) (iota .tc S512x128 32 [1] iota_S512x128_d1_w32)) (zkv x0 x1 x2 x3 w0) (View.ld x6 (Rect.unit (s := S1x256) ![0, 0] S1x256.size inb_S1x256_S1x256_0_0)) (View.ld w0 (Rect.unit (s := S2560x1024) ![640, 0] S128x1024.size inb_S2560x1024_S128x1024_640_0)) (View.ld w2 (Rect.unit (s := S256x1024) ![0, 0] S256x1024.size inb_S256x1024_S256x1024_0_0))

/-- The values. -/
def v : FVec F S512x512 .bf16 :=
  k0_pay86 (kvl x0 x1 x2 x3 x6 w0) (k0_pay85 (View.ld w3 (Rect.unit (s := S256x512) ![0, 0] S256x512.size inb_S256x512_S256x512_0_0)))

/-- The windowed attention's queries, scaled. -/
def qs : FVec F S512x512 .bf16 :=
  k0_pay88 (h x0 x1 x2 x3) (View.ld w0 (Rect.unit (s := S2560x1024) ![1280, 0] S512x1024.size inb_S2560x1024_S512x1024_1280_0))

/-- The windowed attention's keys. -/
def ks : FVec F S512x128 .bf16 :=
  k0_pay89 (h x0 x1 x2 x3) (View.ld w0 (Rect.unit (s := S2560x1024) ![1792, 0] S128x1024.size inb_S2560x1024_S128x1024_1792_0))

/-- The windowed attention's values. -/
def vs : FVec F S512x128 .bf16 :=
  k0_pay90 (h x0 x1 x2 x3) (View.ld w0 (Rect.unit (s := S2560x1024) ![1920, 0] S128x1024.size inb_S2560x1024_S128x1024_1920_0))

/-- The first attention's gate. -/
def g0 : FVec F S512x512 .f32 :=
  k0_pay87 (h x0 x1 x2 x3) (View.ld w0 (Rect.unit (s := S2560x1024) ![768, 0] S512x1024.size inb_S2560x1024_S512x1024_768_0))

/-- The windowed attention's gate. -/
def g1 : FVec F S512x512 .f32 :=
  k0_pay91 (h x0 x1 x2 x3) (View.ld w0 (Rect.unit (s := S2560x1024) ![2048, 0] S512x1024.size inb_S2560x1024_S512x1024_2048_0))

/-- The body's store of it, as a piece of the window's block. -/
def h_pieces : List (View.Piece (Elt F) S512x1024 .bf16) := [⟨(Rect.unit (s := S512x1024) ![0, 0] S512x1024.size inb_S512x1024_S512x1024_0_0), h x0 x1 x2 x3⟩]

/-- It covers the block. -/
theorem h_cover (y : S512x1024.Idx) : ∃ pc ∈ h_pieces x0 x1 x2 x3, y ∈ pc.1.set :=
  View.cover_of_tiledBy (h_pieces x0 x1 x2 x3) ![512, 1024] (by sl_kernel_rfl) y

/-- The block after the body. -/
def h_block : Vec F S512x1024 .bf16 := View.canon (h_pieces x0 x1 x2 x3)

/-- The body's store of it, as a piece of the window's block. -/
def zq_pieces : List (View.Piece (Elt F) S512x384 .f32) := [⟨(Rect.unit (s := S512x384) ![0, 0] S512x384.size inb_S512x384_S512x384_0_0), zq x0 x1 x2 x3 w0⟩]

/-- It covers the block. -/
theorem zq_cover (y : S512x384.Idx) : ∃ pc ∈ zq_pieces x0 x1 x2 x3 w0, y ∈ pc.1.set :=
  View.cover_of_tiledBy (zq_pieces x0 x1 x2 x3 w0) ![512, 384] (by sl_kernel_rfl) y

/-- The block after the body. -/
def zq_block : Vec F S512x384 .f32 := View.canon (zq_pieces x0 x1 x2 x3 w0)

/-- The body's store of it, as a piece of the window's block. -/
def zkv_pieces : List (View.Piece (Elt F) S512x256 .f32) := [⟨(Rect.unit (s := S512x256) ![0, 0] S512x256.size inb_S512x256_S512x256_0_0), zkv x0 x1 x2 x3 w0⟩]

/-- It covers the block. -/
theorem zkv_cover (y : S512x256.Idx) : ∃ pc ∈ zkv_pieces x0 x1 x2 x3 w0, y ∈ pc.1.set :=
  View.cover_of_tiledBy (zkv_pieces x0 x1 x2 x3 w0) ![512, 256] (by sl_kernel_rfl) y

/-- The block after the body. -/
def zkv_block : Vec F S512x256 .f32 := View.canon (zkv_pieces x0 x1 x2 x3 w0)

/-- The body's store of it, as a piece of the window's block. -/
def ql_pieces : List (View.Piece (Elt F) S512x384 .bf16) := [⟨(Rect.unit (s := S512x384) ![0, 0] S512x384.size inb_S512x384_S512x384_0_0), ql x0 x1 x2 x3 x5 w0⟩]

/-- It covers the block. -/
theorem ql_cover (y : S512x384.Idx) : ∃ pc ∈ ql_pieces x0 x1 x2 x3 x5 w0, y ∈ pc.1.set :=
  View.cover_of_tiledBy (ql_pieces x0 x1 x2 x3 x5 w0) ![512, 384] (by sl_kernel_rfl) y

/-- The block after the body. -/
def ql_block : Vec F S512x384 .bf16 := View.canon (ql_pieces x0 x1 x2 x3 x5 w0)

/-- The body's store of it, as a piece of the window's block. -/
def kvl_pieces : List (View.Piece (Elt F) S512x256 .bf16) := [⟨(Rect.unit (s := S512x256) ![0, 0] S512x256.size inb_S512x256_S512x256_0_0), kvl x0 x1 x2 x3 x6 w0⟩]

/-- It covers the block. -/
theorem kvl_cover (y : S512x256.Idx) : ∃ pc ∈ kvl_pieces x0 x1 x2 x3 x6 w0, y ∈ pc.1.set :=
  View.cover_of_tiledBy (kvl_pieces x0 x1 x2 x3 x6 w0) ![512, 256] (by sl_kernel_rfl) y

/-- The block after the body. -/
def kvl_block : Vec F S512x256 .bf16 := View.canon (kvl_pieces x0 x1 x2 x3 x6 w0)

/-- The body's store of it, as a piece of the window's block. -/
def q_pieces : List (View.Piece (Elt F) S512x1024 .bf16) := [⟨(Rect.unit (s := S512x1024) ![0, 0] S512x1024.size inb_S512x1024_S512x1024_0_0), q x0 x1 x2 x3 x5 x9 x10 w0 w1⟩]

/-- It covers the block. -/
theorem q_cover (y : S512x1024.Idx) : ∃ pc ∈ q_pieces x0 x1 x2 x3 x5 x9 x10 w0 w1, y ∈ pc.1.set :=
  View.cover_of_tiledBy (q_pieces x0 x1 x2 x3 x5 x9 x10 w0 w1) ![512, 1024] (by sl_kernel_rfl) y

/-- The block after the body. -/
def q_block : Vec F S512x1024 .bf16 := View.canon (q_pieces x0 x1 x2 x3 x5 x9 x10 w0 w1)

/-- The body's store of it, as a piece of the window's block. -/
def k_pieces : List (View.Piece (Elt F) S512x1024 .bf16) := [⟨(Rect.unit (s := S512x1024) ![0, 0] S512x1024.size inb_S512x1024_S512x1024_0_0), k x0 x1 x2 x3 x6 x9 x10 w0 w2⟩]

/-- It covers the block. -/
theorem k_cover (y : S512x1024.Idx) : ∃ pc ∈ k_pieces x0 x1 x2 x3 x6 x9 x10 w0 w2, y ∈ pc.1.set :=
  View.cover_of_tiledBy (k_pieces x0 x1 x2 x3 x6 x9 x10 w0 w2) ![512, 1024] (by sl_kernel_rfl) y

/-- The block after the body. -/
def k_block : Vec F S512x1024 .bf16 := View.canon (k_pieces x0 x1 x2 x3 x6 x9 x10 w0 w2)

/-- The body's store of it, as a piece of the window's block. -/
def v_pieces : List (View.Piece (Elt F) S512x512 .bf16) := [⟨(Rect.unit (s := S512x512) ![0, 0] S512x512.size inb_S512x512_S512x512_0_0), v x0 x1 x2 x3 x6 w0 w3⟩]

/-- It covers the block. -/
theorem v_cover (y : S512x512.Idx) : ∃ pc ∈ v_pieces x0 x1 x2 x3 x6 w0 w3, y ∈ pc.1.set :=
  View.cover_of_tiledBy (v_pieces x0 x1 x2 x3 x6 w0 w3) ![512, 512] (by sl_kernel_rfl) y

/-- The block after the body. -/
def v_block : Vec F S512x512 .bf16 := View.canon (v_pieces x0 x1 x2 x3 x6 w0 w3)

/-- The body's store of it, as a piece of the window's block. -/
def qs_pieces : List (View.Piece (Elt F) S512x512 .bf16) := [⟨(Rect.unit (s := S512x512) ![0, 0] S512x512.size inb_S512x512_S512x512_0_0), qs x0 x1 x2 x3 w0⟩]

/-- It covers the block. -/
theorem qs_cover (y : S512x512.Idx) : ∃ pc ∈ qs_pieces x0 x1 x2 x3 w0, y ∈ pc.1.set :=
  View.cover_of_tiledBy (qs_pieces x0 x1 x2 x3 w0) ![512, 512] (by sl_kernel_rfl) y

/-- The block after the body. -/
def qs_block : Vec F S512x512 .bf16 := View.canon (qs_pieces x0 x1 x2 x3 w0)

/-- The body's store of it, as a piece of the window's block. -/
def ks_pieces : List (View.Piece (Elt F) S512x128 .bf16) := [⟨(Rect.unit (s := S512x128) ![0, 0] S512x128.size inb_S512x128_S512x128_0_0), ks x0 x1 x2 x3 w0⟩]

/-- It covers the block. -/
theorem ks_cover (y : S512x128.Idx) : ∃ pc ∈ ks_pieces x0 x1 x2 x3 w0, y ∈ pc.1.set :=
  View.cover_of_tiledBy (ks_pieces x0 x1 x2 x3 w0) ![512, 128] (by sl_kernel_rfl) y

/-- The block after the body. -/
def ks_block : Vec F S512x128 .bf16 := View.canon (ks_pieces x0 x1 x2 x3 w0)

/-- The body's store of it, as a piece of the window's block. -/
def vs_pieces : List (View.Piece (Elt F) S512x128 .bf16) := [⟨(Rect.unit (s := S512x128) ![0, 0] S512x128.size inb_S512x128_S512x128_0_0), vs x0 x1 x2 x3 w0⟩]

/-- It covers the block. -/
theorem vs_cover (y : S512x128.Idx) : ∃ pc ∈ vs_pieces x0 x1 x2 x3 w0, y ∈ pc.1.set :=
  View.cover_of_tiledBy (vs_pieces x0 x1 x2 x3 w0) ![512, 128] (by sl_kernel_rfl) y

/-- The block after the body. -/
def vs_block : Vec F S512x128 .bf16 := View.canon (vs_pieces x0 x1 x2 x3 w0)

/-- The body's store of it, as a piece of the window's block. -/
def g_pieces : List (View.Piece (Elt F) S512x1024 .f32) := [⟨(Rect.unit (s := S512x1024) ![0, 512] S512x512.size inb_S512x1024_S512x512_0_512), g1 x0 x1 x2 x3 w0⟩, ⟨(Rect.unit (s := S512x1024) ![0, 0] S512x512.size inb_S512x1024_S512x512_0_0), g0 x0 x1 x2 x3 w0⟩]

/-- It covers the block. -/
theorem g_cover (y : S512x1024.Idx) : ∃ pc ∈ g_pieces x0 x1 x2 x3 w0, y ∈ pc.1.set :=
  View.cover_of_tiledBy (g_pieces x0 x1 x2 x3 w0) ![512, 512] (by sl_kernel_rfl) y

/-- The block after the body. -/
def g_block : Vec F S512x1024 .f32 := View.canon (g_pieces x0 x1 x2 x3 w0)

end

/-! ## The two halves of the body -/

/-- The first half, run at the first point only: the weights copied into the last four buffers. -/
noncomputable def build (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S8x308x1024 .bf16) (harg5 : arg5.IsWhole) (arg6 : Memref sig .tc .vmem S1x384 .f32) (harg6 : arg6.IsWhole) (arg7 : Memref sig .tc .vmem S1x256 .f32) (harg7 : arg7.IsWhole) (arg8 : Memref sig .tc .vmem S8x384x96 .bf16) (harg8 : arg8.IsWhole) (arg9 : Memref sig .tc .vmem S8x256x128 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S512x1024 .bf16) (harg12 : arg12.IsWhole) (arg13 : Memref sig .tc .vmem S512x384 .f32) (harg13 : arg13.IsWhole) (arg14 : Memref sig .tc .vmem S512x256 .f32) (harg14 : arg14.IsWhole) (arg15 : Memref sig .tc .vmem S512x384 .bf16) (harg15 : arg15.IsWhole) (arg16 : Memref sig .tc .vmem S512x256 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x128 .bf16) (harg21 : arg21.IsWhole) (arg22 : Memref sig .tc .vmem S512x128 .bf16) (harg22 : arg22.IsWhole) (arg23 : Memref sig .tc .vmem S512x1024 .f32) (harg23 : arg23.IsWhole) (arg24 : Memref sig .tc .vmem S2560x1024 .bf16) (harg24 : arg24.IsWhole) (arg25 : Memref sig .tc .vmem S384x1024 .bf16) (harg25 : arg25.IsWhole) (arg26 : Memref sig .tc .vmem S256x1024 .bf16) (harg26 : arg26.IsWhole) (arg27 : Memref sig .tc .vmem S256x512 .bf16) (harg27 : arg27.IsWhole) : Prog (TpuEff nD τ sig (Elt F) Λ₀ .tc) PUnit := do
  let v196 : FVec F S256x64 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v196
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  let v256 : FVec F S384x96 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  let v276 : FVec F S256x64 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v256
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v276
  let v316 : FVec F S64x1024 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v316
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  let v357 : Vec F S1x64x1024 .bf16 ← Prog.lift (.load arg5 (Rect.unit (s := S8x308x1024) ![7, 116, 0] S1x64x1024.size inb_S8x308x1024_S1x64x1024_7_116_0).toLoadRect (View.loadsAt_vmem h_S1x64x1024))
  let v359 : Vec F S64x1024 .bf16 ← Prog.lift (.load arg24 (Rect.unit (s := S2560x1024) ![2240, 0] S64x1024.size inb_S2560x1024_S64x1024_2240_0).toLoadRect (View.loadsAt_vmem h_S64x1024))
  Prog.lift (.store arg24 (Rect.unit (s := S2560x1024) ![2240, 0] S64x1024.size inb_S2560x1024_S64x1024_2240_0) (k0_pay67 v357) Finset.univ (View.stores_vmem h_S64x1024 (harg24.storeExact_slice rfl _ packedbf16_S2560x1024_S64x1024_2240_0) (fun _ => rfl)) (.inl rfl))
  let v360 : Vec F S1x64x1024 .bf16 ← Prog.lift (.load arg5 (Rect.unit (s := S8x308x1024) ![7, 180, 0] S1x64x1024.size inb_S8x308x1024_S1x64x1024_7_180_0).toLoadRect (View.loadsAt_vmem h_S1x64x1024))
  let v362 : Vec F S64x1024 .bf16 ← Prog.lift (.load arg24 (Rect.unit (s := S2560x1024) ![2368, 0] S64x1024.size inb_S2560x1024_S64x1024_2368_0).toLoadRect (View.loadsAt_vmem h_S64x1024))
  Prog.lift (.store arg24 (Rect.unit (s := S2560x1024) ![2368, 0] S64x1024.size inb_S2560x1024_S64x1024_2368_0) (k0_pay68 v360) Finset.univ (View.stores_vmem h_S64x1024 (harg24.storeExact_slice rfl _ packedbf16_S2560x1024_S64x1024_2368_0) (fun _ => rfl)) (.inl rfl))
  let v363 : Vec F S1x64x1024 .bf16 ← Prog.lift (.load arg5 (Rect.unit (s := S8x308x1024) ![7, 244, 0] S1x64x1024.size inb_S8x308x1024_S1x64x1024_7_244_0).toLoadRect (View.loadsAt_vmem h_S1x64x1024))
  let v365 : Vec F S64x1024 .bf16 ← Prog.lift (.load arg24 (Rect.unit (s := S2560x1024) ![2496, 0] S64x1024.size inb_S2560x1024_S64x1024_2496_0).toLoadRect (View.loadsAt_vmem h_S64x1024))
  Prog.lift (.store arg24 (Rect.unit (s := S2560x1024) ![2496, 0] S64x1024.size inb_S2560x1024_S64x1024_2496_0) (k0_pay69 v363) Finset.univ (View.stores_vmem h_S64x1024 (harg24.storeExact_slice rfl _ packedbf16_S2560x1024_S64x1024_2496_0) (fun _ => rfl)) (.inl rfl))
  pure ⟨⟩

/-- The second half. -/
noncomputable def rest (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S8x308x1024 .bf16) (harg5 : arg5.IsWhole) (arg6 : Memref sig .tc .vmem S1x384 .f32) (harg6 : arg6.IsWhole) (arg7 : Memref sig .tc .vmem S1x256 .f32) (harg7 : arg7.IsWhole) (arg8 : Memref sig .tc .vmem S8x384x96 .bf16) (harg8 : arg8.IsWhole) (arg9 : Memref sig .tc .vmem S8x256x128 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S512x1024 .bf16) (harg12 : arg12.IsWhole) (arg13 : Memref sig .tc .vmem S512x384 .f32) (harg13 : arg13.IsWhole) (arg14 : Memref sig .tc .vmem S512x256 .f32) (harg14 : arg14.IsWhole) (arg15 : Memref sig .tc .vmem S512x384 .bf16) (harg15 : arg15.IsWhole) (arg16 : Memref sig .tc .vmem S512x256 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x128 .bf16) (harg21 : arg21.IsWhole) (arg22 : Memref sig .tc .vmem S512x128 .bf16) (harg22 : arg22.IsWhole) (arg23 : Memref sig .tc .vmem S512x1024 .f32) (harg23 : arg23.IsWhole) (arg24 : Memref sig .tc .vmem S2560x1024 .bf16) (harg24 : arg24.IsWhole) (arg25 : Memref sig .tc .vmem S384x1024 .bf16) (harg25 : arg25.IsWhole) (arg26 : Memref sig .tc .vmem S256x1024 .bf16) (harg26 : arg26.IsWhole) (arg27 : Memref sig .tc .vmem S256x512 .bf16) (harg27 : arg27.IsWhole) : Prog (TpuEff nD τ sig (Elt F) Λ₀ .tc) PUnit := do
  let v3 : Vec F S512x1024 .f32 ← Prog.lift (.load arg1 (Rect.unit (s := S512x1024) ![0, 0] S512x1024.size inb_S512x1024_S512x1024_0_0).toLoadRect (View.loadsAt_vmem h_S512x1024))
  let v15 : Vec F S1x1024 .f32 ← Prog.lift (.load arg4 (Rect.unit (s := S1x1024) ![0, 0] S1x1024.size inb_S1x1024_S1x1024_0_0).toLoadRect (View.loadsAt_vmem h_S1x1024))
  let v19 : Vec F S1x1x1024 .f32 ← Prog.lift (.load arg3 (Rect.unit (s := S1x1x1024) ![0, 0, 0] S1x1x1024.size inb_S1x1x1024_S1x1x1024_0_0_0).toLoadRect (View.loadsAt_vmem h_S1x1x1024))
  let v25 : Vec F S1x1x1024 .f32 ← Prog.lift (.load arg2 (Rect.unit (s := S1x1x1024) ![0, 0, 0] S1x1x1024.size inb_S1x1x1024_S1x1x1024_0_0_0).toLoadRect (View.loadsAt_vmem h_S1x1x1024))
  let v30 : Vec F S512x1024 .bf16 ← Prog.lift (.load arg12 (Rect.unit (s := S512x1024) ![0, 0] S512x1024.size inb_S512x1024_S512x1024_0_0).toLoadRect (View.loadsAt_vmem h_S512x1024))
  Prog.lift (.store arg12 (Rect.unit (s := S512x1024) ![0, 0] S512x1024.size inb_S512x1024_S512x1024_0_0) (k0_pay70 v3 v15 v19 v25) Finset.univ (View.stores_vmem h_S512x1024 (harg12.storeExact_slice rfl _ packedbf16_S512x1024_S512x1024_0_0) (fun _ => rfl)) (.inl rfl))
  let v31 : Vec F S384x1024 .bf16 ← Prog.lift (.load arg24 (Rect.unit (s := S2560x1024) ![0, 0] S384x1024.size inb_S2560x1024_S384x1024_0_0).toLoadRect (View.loadsAt_vmem h_S384x1024))
  let ⟨v53, v62, v67, v68, v73⟩ : Σ' (v53 : FVec F S512x1024 .f32) (v62 : FVec F S512x128 .f32) (v67 : FVec F S512x128 .f32) (v68 : IVec S512x128 32), IVec S512x128 1 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k0_pay71 v3 v15 v19 v25 v31)
  let ⟨v83, v92, v95, v112⟩ : Σ' (v83 : FVec F S512x128 .f32) (v92 : FVec F S512x128 .f32) (v95 : FVec F S512x128 .f32), FVec F S512x256 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k0_pay70 v3 v15 v19 v25) v53 v62 v67 v68 v73
  let ⟨v128, v148⟩ : Σ' (v128 : FVec F S512x256 .bf16), FVec F S256x512 .bf16 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k0_pay70 v3 v15 v19 v25) v83 v92 v95 v112
  let v175 : FVec F S512x512 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k0_pay70 v3 v15 v19 v25) v128 v148
  let v176 : Vec F S512x512 .f32 ← Prog.lift (.load arg23 (Rect.unit (s := S512x1024) ![0, 512] S512x512.size inb_S512x1024_S512x512_0_512).toLoadRect (View.loadsAt_vmem h_S512x512))
  Prog.lift (.store arg23 (Rect.unit (s := S512x1024) ![0, 512] S512x512.size inb_S512x1024_S512x512_0_512) v175 Finset.univ (View.stores_vmem_bits_univ h_S512x512 rfl) (.inl rfl))
  pure ⟨⟩

/-- The body is the first half, under its condition, then the second. -/
theorem body_eq (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S8x308x1024 .bf16) (harg5 : arg5.IsWhole) (arg6 : Memref sig .tc .vmem S1x384 .f32) (harg6 : arg6.IsWhole) (arg7 : Memref sig .tc .vmem S1x256 .f32) (harg7 : arg7.IsWhole) (arg8 : Memref sig .tc .vmem S8x384x96 .bf16) (harg8 : arg8.IsWhole) (arg9 : Memref sig .tc .vmem S8x256x128 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S512x1024 .bf16) (harg12 : arg12.IsWhole) (arg13 : Memref sig .tc .vmem S512x384 .f32) (harg13 : arg13.IsWhole) (arg14 : Memref sig .tc .vmem S512x256 .f32) (harg14 : arg14.IsWhole) (arg15 : Memref sig .tc .vmem S512x384 .bf16) (harg15 : arg15.IsWhole) (arg16 : Memref sig .tc .vmem S512x256 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x128 .bf16) (harg21 : arg21.IsWhole) (arg22 : Memref sig .tc .vmem S512x128 .bf16) (harg22 : arg22.IsWhole) (arg23 : Memref sig .tc .vmem S512x1024 .f32) (harg23 : arg23.IsWhole) (arg24 : Memref sig .tc .vmem S2560x1024 .bf16) (harg24 : arg24.IsWhole) (arg25 : Memref sig .tc .vmem S384x1024 .bf16) (harg25 : arg25.IsWhole) (arg26 : Memref sig .tc .vmem S256x1024 .bf16) (harg26 : arg26.IsWhole) (arg27 : Memref sig .tc .vmem S256x512 .bf16) (harg27 : arg27.IsWhole) :
    cc0_pre_fwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = (if k0_cond1 i = 1#1 then build i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 else pure ⟨⟩) >>= fun _ => rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 := by
  rw [cc0_pre_fwd_eq_skeleton]; unfold cc0_pre_fwd_skel
  rw [k0_part10_eq_skeleton]; unfold k0_part10_skel
  by_cases hc : k0_cond1 i = 1#1
  · rw [dif_pos hc, if_pos hc]; simp only [bind_assoc, pure_bind]; rfl
  · rw [dif_neg hc, if_neg hc]; simp only [bind_assoc, pure_bind]; rfl

set_option maxHeartbeats 4000000 in
/-- The first half leaves the built weights in the last four buffers. -/
theorem build_triple (c : Dev nD) (E : Set ℕ) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S8x308x1024 .bf16) (harg5 : arg5.IsWhole) (arg6 : Memref sig .tc .vmem S1x384 .f32) (harg6 : arg6.IsWhole) (arg7 : Memref sig .tc .vmem S1x256 .f32) (harg7 : arg7.IsWhole) (arg8 : Memref sig .tc .vmem S8x384x96 .bf16) (harg8 : arg8.IsWhole) (arg9 : Memref sig .tc .vmem S8x256x128 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S512x1024 .bf16) (harg12 : arg12.IsWhole) (arg13 : Memref sig .tc .vmem S512x384 .f32) (harg13 : arg13.IsWhole) (arg14 : Memref sig .tc .vmem S512x256 .f32) (harg14 : arg14.IsWhole) (arg15 : Memref sig .tc .vmem S512x384 .bf16) (harg15 : arg15.IsWhole) (arg16 : Memref sig .tc .vmem S512x256 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x128 .bf16) (harg21 : arg21.IsWhole) (arg22 : Memref sig .tc .vmem S512x128 .bf16) (harg22 : arg22.IsWhole) (arg23 : Memref sig .tc .vmem S512x1024 .f32) (harg23 : arg23.IsWhole) (arg24 : Memref sig .tc .vmem S2560x1024 .bf16) (harg24 : arg24.IsWhole) (arg25 : Memref sig .tc .vmem S384x1024 .bf16) (harg25 : arg25.IsWhole) (arg26 : Memref sig .tc .vmem S256x1024 .bf16) (harg26 : arg26.IsWhole) (arg27 : Memref sig .tc .vmem S256x512 .bf16) (harg27 : arg27.IsWhole)
    (x4 : Vec F S8x308x1024 .bf16) (x7 : Vec F S8x384x96 .bf16) (x8 : Vec F S8x256x128 .bf16) (K : PUnit → sProp 𝕄) :
    iprop(owns (c : Thread nD τ) arg5 fullShare x4 ∗ owns (c : Thread nD τ) arg8 fullShare x7 ∗ owns (c : Thread nD τ) arg9 fullShare x8 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (iprop(owns (c : Thread nD τ) arg5 fullShare x4 ∗ owns (c : Thread nD τ) arg8 fullShare x7 ∗ owns (c : Thread nD τ) arg9 fullShare x8 ∗ owns (c : Thread nD τ) arg24 fullShare (w_in x4) ∗ owns (c : Thread nD τ) arg25 fullShare (w_q x7) ∗ owns (c : Thread nD τ) arg26 fullShare (w_k x8) ∗ owns (c : Thread nD τ) arg27 fullShare (w_v x8)) -∗ K ⟨⟩))
      ⊢ wp frame (wpE (defs₀ (F := F)) Variants.none c none) E (build i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold build
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (w_in_cover _)
  isplitl [H4]
  · iexists _; isplitr
    swap; · iexact H4
    ipureintro
    exact View.read_writes_eq_canon _ _ _ (w_q_cover _)
  isplitl [H5]
  · iexists _; isplitr
    swap; · iexact H5
    ipureintro
    exact View.read_writes_eq_canon _ _ _ (w_k_cover _)
  iexists _; isplitr
  swap; · iexact H6
  ipureintro
  exact View.read_writes_eq_canon _ _ _ (w_v_cover _)

set_option maxHeartbeats 4000000 in
/-- The second half leaves its inputs and the weights as they were, and each output's block in its buffer. -/
theorem rest_triple (c : Dev nD) (E : Set ℕ) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S8x308x1024 .bf16) (harg5 : arg5.IsWhole) (arg6 : Memref sig .tc .vmem S1x384 .f32) (harg6 : arg6.IsWhole) (arg7 : Memref sig .tc .vmem S1x256 .f32) (harg7 : arg7.IsWhole) (arg8 : Memref sig .tc .vmem S8x384x96 .bf16) (harg8 : arg8.IsWhole) (arg9 : Memref sig .tc .vmem S8x256x128 .bf16) (harg9 : arg9.IsWhole) (arg10 : Memref sig .tc .vmem S64x128 .f32) (harg10 : arg10.IsWhole) (arg11 : Memref sig .tc .vmem S64x128 .f32) (harg11 : arg11.IsWhole) (arg12 : Memref sig .tc .vmem S512x1024 .bf16) (harg12 : arg12.IsWhole) (arg13 : Memref sig .tc .vmem S512x384 .f32) (harg13 : arg13.IsWhole) (arg14 : Memref sig .tc .vmem S512x256 .f32) (harg14 : arg14.IsWhole) (arg15 : Memref sig .tc .vmem S512x384 .bf16) (harg15 : arg15.IsWhole) (arg16 : Memref sig .tc .vmem S512x256 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x128 .bf16) (harg21 : arg21.IsWhole) (arg22 : Memref sig .tc .vmem S512x128 .bf16) (harg22 : arg22.IsWhole) (arg23 : Memref sig .tc .vmem S512x1024 .f32) (harg23 : arg23.IsWhole) (arg24 : Memref sig .tc .vmem S2560x1024 .bf16) (harg24 : arg24.IsWhole) (arg25 : Memref sig .tc .vmem S384x1024 .bf16) (harg25 : arg25.IsWhole) (arg26 : Memref sig .tc .vmem S256x1024 .bf16) (harg26 : arg26.IsWhole) (arg27 : Memref sig .tc .vmem S256x512 .bf16) (harg27 : arg27.IsWhole)
    (x0 : Vec F S512x1024 .f32) (x1 : Vec F S1x1x1024 .f32) (x2 : Vec F S1x1x1024 .f32) (x3 : Vec F S1x1024 .f32) (x4 : Vec F S8x308x1024 .bf16) (x5 : Vec F S1x384 .f32) (x6 : Vec F S1x256 .f32) (x7 : Vec F S8x384x96 .bf16) (x8 : Vec F S8x256x128 .bf16) (x9 : Vec F S64x128 .f32) (x10 : Vec F S64x128 .f32) (w0 : Vec F S2560x1024 .bf16) (w1 : Vec F S384x1024 .bf16) (w2 : Vec F S256x1024 .bf16) (w3 : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg24 fullShare w0 ∗ owns (c : Thread nD τ) arg25 fullShare w1 ∗ owns (c : Thread nD τ) arg26 fullShare w2 ∗ owns (c : Thread nD τ) arg27 fullShare w3 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg24 fullShare w0 ∗ owns (c : Thread nD τ) arg25 fullShare w1 ∗ owns (c : Thread nD τ) arg26 fullShare w2 ∗ owns (c : Thread nD τ) arg27 fullShare w3 ∗ owns (c : Thread nD τ) arg12 fullShare (h_block x0 x1 x2 x3) ∗ owns (c : Thread nD τ) arg13 fullShare (zq_block x0 x1 x2 x3 w0) ∗ owns (c : Thread nD τ) arg14 fullShare (zkv_block x0 x1 x2 x3 w0) ∗ owns (c : Thread nD τ) arg15 fullShare (ql_block x0 x1 x2 x3 x5 w0) ∗ owns (c : Thread nD τ) arg16 fullShare (kvl_block x0 x1 x2 x3 x6 w0) ∗ owns (c : Thread nD τ) arg17 fullShare (q_block x0 x1 x2 x3 x5 x9 x10 w0 w1) ∗ owns (c : Thread nD τ) arg18 fullShare (k_block x0 x1 x2 x3 x6 x9 x10 w0 w2) ∗ owns (c : Thread nD τ) arg19 fullShare (v_block x0 x1 x2 x3 x6 w0 w3) ∗ owns (c : Thread nD τ) arg20 fullShare (qs_block x0 x1 x2 x3 w0) ∗ owns (c : Thread nD τ) arg21 fullShare (ks_block x0 x1 x2 x3 w0) ∗ owns (c : Thread nD τ) arg22 fullShare (vs_block x0 x1 x2 x3 w0) ∗ owns (c : Thread nD τ) arg23 fullShare (g_block x0 x1 x2 x3 w0)) -∗ K ⟨⟩))
      ⊢ wp frame (wpE (defs₀ (F := F)) Variants.none c none) E (rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold rest
  simp only [k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (h_cover _ _ _ _)
  isplitl [H16]
  · iexists _; isplitr
    swap; · iexact H16
    ipureintro
    exact View.read_writes_eq_canon _ _ _ (zq_cover _ _ _ _ _)
  isplitl [H17]
  · iexists _; isplitr
    swap; · iexact H17
    ipureintro
    exact View.read_writes_eq_canon _ _ _ (zkv_cover _ _ _ _ _)
  isplitl [H18]
  · iexists _; isplitr
    swap; · iexact H18
    ipureintro
    exact View.read_writes_eq_canon _ _ _ (ql_cover _ _ _ _ _ _)
  isplitl [H19]
  · iexists _; isplitr
    swap; · iexact H19
    ipureintro
    exact View.read_writes_eq_canon _ _ _ (kvl_cover _ _ _ _ _ _)
  isplitl [H20]
  · iexists _; isplitr
    swap; · iexact H20
    ipureintro
    exact View.read_writes_eq_canon _ _ _ (q_cover _ _ _ _ _ _ _ _ _)
  isplitl [H21]
  · iexists _; isplitr
    swap; · iexact H21
    ipureintro
    exact View.read_writes_eq_canon _ _ _ (k_cover _ _ _ _ _ _ _ _ _)
  isplitl [H22]
  · iexists _; isplitr
    swap; · iexact H22
    ipureintro
    exact View.read_writes_eq_canon _ _ _ (v_cover _ _ _ _ _ _ _)
  isplitl [H23]
  · iexists _; isplitr
    swap; · iexact H23
    ipureintro
    exact View.read_writes_eq_canon _ _ _ (qs_cover _ _ _ _ _)
  isplitl [H24]
  · iexists _; isplitr
    swap; · iexact H24
    ipureintro
    exact View.read_writes_eq_canon _ _ _ (ks_cover _ _ _ _ _)
  isplitl [H25]
  · iexists _; isplitr
    swap; · iexact H25
    ipureintro
    exact View.read_writes_eq_canon _ _ _ (vs_cover _ _ _ _ _)
  iexists _; isplitr
  swap; · iexact H26
  ipureintro
  exact View.read_writes_eq_canon _ _ _ (g_cover _ _ _ _ _)

end Cert.Proof.PreBody

end
-- ==== Proof.PreRun.lean ====
/- The input projections: the run. The proof data say what each window's buffer holds after each point; the last four windows hold the weights built
   at the first point until the last point writes them back. -/
module

public import proofs.«01_k».proof.Proof.PreBody
public import Idealize.ShloMosaic.Lib.Quiescent
public import Idealize.ShloMosaic.Lib.Claim
public import Idealize.ShloMosaic.Lib.Pipeline.TableIdle

@[expose] public section

set_option maxRecDepth 16384

noncomputable section

namespace Cert.Proof.PreBody

open Cert.PreKernelIdeal Cert.PreKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point. -/
abbrev p0 : Fin cfg0.N := ⟨0, by decide⟩

/-- The proof data: after the body each input's buffer holds its block, each output's the block computed from the point's blocks and the built
    weights, and the last four windows' the built weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => PreBody.h_block (iblk m c 0 t) (iblk m c 1 t) (iblk m c 2 t) (iblk m c 3 t)
    | ⟨12, _⟩ => PreBody.zq_block (iblk m c 0 t) (iblk m c 1 t) (iblk m c 2 t) (iblk m c 3 t) (w_in (iblk m c 4 p0))
    | ⟨13, _⟩ => PreBody.zkv_block (iblk m c 0 t) (iblk m c 1 t) (iblk m c 2 t) (iblk m c 3 t) (w_in (iblk m c 4 p0))
    | ⟨14, _⟩ => PreBody.ql_block (iblk m c 0 t) (iblk m c 1 t) (iblk m c 2 t) (iblk m c 3 t) (iblk m c 5 t) (w_in (iblk m c 4 p0))
    | ⟨15, _⟩ => PreBody.kvl_block (iblk m c 0 t) (iblk m c 1 t) (iblk m c 2 t) (iblk m c 3 t) (iblk m c 6 t) (w_in (iblk m c 4 p0))
    | ⟨16, _⟩ => PreBody.q_block (iblk m c 0 t) (iblk m c 1 t) (iblk m c 2 t) (iblk m c 3 t) (iblk m c 5 t) (iblk m c 9 t) (iblk m c 10 t) (w_in (iblk m c 4 p0)) (w_q (iblk m c 7 p0))
    | ⟨17, _⟩ => PreBody.k_block (iblk m c 0 t) (iblk m c 1 t) (iblk m c 2 t) (iblk m c 3 t) (iblk m c 6 t) (iblk m c 9 t) (iblk m c 10 t) (w_in (iblk m c 4 p0)) (w_k (iblk m c 8 p0))
    | ⟨18, _⟩ => PreBody.v_block (iblk m c 0 t) (iblk m c 1 t) (iblk m c 2 t) (iblk m c 3 t) (iblk m c 6 t) (w_in (iblk m c 4 p0)) (w_v (iblk m c 8 p0))
    | ⟨19, _⟩ => PreBody.qs_block (iblk m c 0 t) (iblk m c 1 t) (iblk m c 2 t) (iblk m c 3 t) (w_in (iblk m c 4 p0))
    | ⟨20, _⟩ => PreBody.ks_block (iblk m c 0 t) (iblk m c 1 t) (iblk m c 2 t) (iblk m c 3 t) (w_in (iblk m c 4 p0))
    | ⟨21, _⟩ => PreBody.vs_block (iblk m c 0 t) (iblk m c 1 t) (iblk m c 2 t) (iblk m c 3 t) (w_in (iblk m c 4 p0))
    | ⟨22, _⟩ => PreBody.g_block (iblk m c 0 t) (iblk m c 1 t) (iblk m c 2 t) (iblk m c 3 t) (w_in (iblk m c 4 p0))
    | ⟨23, _⟩ => w_in (iblk m c 4 p0)
    | ⟨24, _⟩ => w_q (iblk m c 7 p0)
    | ⟨25, _⟩ => w_k (iblk m c 8 p0)
    | ⟨26, _⟩ => w_v (iblk m c 8 p0)
    | ⟨_ + 27, h⟩ => absurd h (Nat.not_lt.2 (Nat.le_add_left _ _))
  Φ _ := Pipeline.ΦA spec0 c
  q _ := fullShare
  owed _ := 0

/-- The data's arrays are what the launch finds. -/
theorem A_eq (c : Dev nD) (w : Fin cfg0.W) : (dats m 0 c).A w = V m c (Pipeline.arrRef spec0 w) := by
  dsimp only [dats]

/-- What window 0 holds after the body. -/
theorem after_0 (c : Dev nD) (t : Fin cfg0.N) : (dats m 0 c).after 0 t = iblk m c 0 t := by
  dsimp only [dats]

/-- What window 1 holds after the body. -/
theorem after_1 (c : Dev nD) (t : Fin cfg0.N) : (dats m 0 c).after 1 t = iblk m c 1 t := by
  dsimp only [dats]

/-- What window 2 holds after the body. -/
theorem after_2 (c : Dev nD) (t : Fin cfg0.N) : (dats m 0 c).after 2 t = iblk m c 2 t := by
  dsimp only [dats]

/-- What window 3 holds after the body. -/
theorem after_3 (c : Dev nD) (t : Fin cfg0.N) : (dats m 0 c).after 3 t = iblk m c 3 t := by
  dsimp only [dats]

/-- What window 4 holds after the body. -/
theorem after_4 (c : Dev nD) (t : Fin cfg0.N) : (dats m 0 c).after 4 t = iblk m c 4 t := by
  dsimp only [dats]

/-- What window 5 holds after the body. -/
theorem after_5 (c : Dev nD) (t : Fin cfg0.N) : (dats m 0 c).after 5 t = iblk m c 5 t := by
  dsimp only [dats]

/-- What window 6 holds after the body. -/
theorem after_6 (c : Dev nD) (t : Fin cfg0.N) : (dats m 0 c).after 6 t = iblk m c 6 t := by
  dsimp only [dats]

/-- What window 7 holds after the body. -/
theorem after_7 (c : Dev nD) (t : Fin cfg0.N) : (dats m 0 c).after 7 t = iblk m c 7 t := by
  dsimp only [dats]

/-- What window 8 holds after the body. -/
theorem after_8 (c : Dev nD) (t : Fin cfg0.N) : (dats m 0 c).after 8 t = iblk m c 8 t := by
  dsimp only [dats]

/-- What window 9 holds after the body. -/
theorem after_9 (c : Dev nD) (t : Fin cfg0.N) : (dats m 0 c).after 9 t = iblk m c 9 t := by
  dsimp only [dats]

/-- What window 10 holds after the body. -/
theorem after_10 (c : Dev nD) (t : Fin cfg0.N) : (dats m 0 c).after 10 t = iblk m c 10 t := by
  dsimp only [dats]

/-- What window 11 holds after the body. -/
theorem after_11 (c : Dev nD) (t : Fin cfg0.N) : (dats m 0 c).after 11 t = PreBody.h_block (iblk m c 0 t) (iblk m c 1 t) (iblk m c 2 t) (iblk m c 3 t) := by
  dsimp only [dats]

/-- What window 12 holds after the body. -/
theorem after_12 (c : Dev nD) (t : Fin cfg0.N) : (dats m 0 c).after 12 t = PreBody.zq_block (iblk m c 0 t) (iblk m c 1 t) (iblk m c 2 t) (iblk m c 3 t) (w_in (iblk m c 4 p0)) := by
  dsimp only [dats]

/-- What window 13 holds after the body. -/
theorem after_13 (c : Dev nD) (t : Fin cfg0.N) : (dats m 0 c).after 13 t = PreBody.zkv_block (iblk m c 0 t) (iblk m c 1 t) (iblk m c 2 t) (iblk m c 3 t) (w_in (iblk m c 4 p0)) := by
  dsimp only [dats]

/-- What window 14 holds after the body. -/
theorem after_14 (c : Dev nD) (t : Fin cfg0.N) : (dats m 0 c).after 14 t = PreBody.ql_block (iblk m c 0 t) (iblk m c 1 t) (iblk m c 2 t) (iblk m c 3 t) (iblk m c 5 t) (w_in (iblk m c 4 p0)) := by
  dsimp only [dats]

/-- What window 15 holds after the body. -/
theorem after_15 (c : Dev nD) (t : Fin cfg0.N) : (dats m 0 c).after 15 t = PreBody.kvl_block (iblk m c 0 t) (iblk m c 1 t) (iblk m c 2 t) (iblk m c 3 t) (iblk m c 6 t) (w_in (iblk m c 4 p0)) := by
  dsimp only [dats]

/-- What window 16 holds after the body. -/
theorem after_16 (c : Dev nD) (t : Fin cfg0.N) : (dats m 0 c).after 16 t = PreBody.q_block (iblk m c 0 t) (iblk m c 1 t) (iblk m c 2 t) (iblk m c 3 t) (iblk m c 5 t) (iblk m c 9 t) (iblk m c 10 t) (w_in (iblk m c 4 p0)) (w_q (iblk m c 7 p0)) := by
  dsimp only [dats]

/-- What window 17 holds after the body. -/
theorem after_17 (c : Dev nD) (t : Fin cfg0.N) : (dats m 0 c).after 17 t = PreBody.k_block (iblk m c 0 t) (iblk m c 1 t) (iblk m c 2 t) (iblk m c 3 t) (iblk m c 6 t) (iblk m c 9 t) (iblk m c 10 t) (w_in (iblk m c 4 p0)) (w_k (iblk m c 8 p0)) := by
  dsimp only [dats]

/-- What window 18 holds after the body. -/
theorem after_18 (c : Dev nD) (t : Fin cfg0.N) : (dats m 0 c).after 18 t = PreBody.v_block (iblk m c 0 t) (iblk m c 1 t) (iblk m c 2 t) (iblk m c 3 t) (iblk m c 6 t) (w_in (iblk m c 4 p0)) (w_v (iblk m c 8 p0)) := by
  dsimp only [dats]

/-- What window 19 holds after the body. -/
theorem after_19 (c : Dev nD) (t : Fin cfg0.N) : (dats m 0 c).after 19 t = PreBody.qs_block (iblk m c 0 t) (iblk m c 1 t) (iblk m c 2 t) (iblk m c 3 t) (w_in (iblk m c 4 p0)) := by
  dsimp only [dats]

/-- What window 20 holds after the body. -/
theorem after_20 (c : Dev nD) (t : Fin cfg0.N) : (dats m 0 c).after 20 t = PreBody.ks_block (iblk m c 0 t) (iblk m c 1 t) (iblk m c 2 t) (iblk m c 3 t) (w_in (iblk m c 4 p0)) := by
  dsimp only [dats]

/-- What window 21 holds after the body. -/
theorem after_21 (c : Dev nD) (t : Fin cfg0.N) : (dats m 0 c).after 21 t = PreBody.vs_block (iblk m c 0 t) (iblk m c 1 t) (iblk m c 2 t) (iblk m c 3 t) (w_in (iblk m c 4 p0)) := by
  dsimp only [dats]

/-- What window 22 holds after the body. -/
theorem after_22 (c : Dev nD) (t : Fin cfg0.N) : (dats m 0 c).after 22 t = PreBody.g_block (iblk m c 0 t) (iblk m c 1 t) (iblk m c 2 t) (iblk m c 3 t) (w_in (iblk m c 4 p0)) := by
  dsimp only [dats]

/-- What window 23 holds after the body. -/
theorem after_23 (c : Dev nD) (t : Fin cfg0.N) : (dats m 0 c).after 23 t = w_in (iblk m c 4 p0) := by
  dsimp only [dats]

/-- What window 24 holds after the body. -/
theorem after_24 (c : Dev nD) (t : Fin cfg0.N) : (dats m 0 c).after 24 t = w_q (iblk m c 7 p0) := by
  dsimp only [dats]

/-- What window 25 holds after the body. -/
theorem after_25 (c : Dev nD) (t : Fin cfg0.N) : (dats m 0 c).after 25 t = w_k (iblk m c 8 p0) := by
  dsimp only [dats]

/-- What window 26 holds after the body. -/
theorem after_26 (c : Dev nD) (t : Fin cfg0.N) : (dats m 0 c).after 26 t = w_v (iblk m c 8 p0) := by
  dsimp only [dats]

/-- The body finds input 0's block. -/
theorem before_0 (c : Dev nD) (t : Fin cfg0.N) (d) : (dats m 0 c).before 0 t d = iblk m c 0 t :=
  before0_0_of m (dats m 0 c) (A_eq m c 0) (after_0 m c) t d

/-- The body finds input 1's block. -/
theorem before_1 (c : Dev nD) (t : Fin cfg0.N) (d) : (dats m 0 c).before 1 t d = iblk m c 1 t :=
  before0_1_of m (dats m 0 c) (A_eq m c 1) (after_1 m c) t d

/-- The body finds input 2's block. -/
theorem before_2 (c : Dev nD) (t : Fin cfg0.N) (d) : (dats m 0 c).before 2 t d = iblk m c 2 t :=
  before0_2_of m (dats m 0 c) (A_eq m c 2) (after_2 m c) t d

/-- The body finds input 3's block. -/
theorem before_3 (c : Dev nD) (t : Fin cfg0.N) (d) : (dats m 0 c).before 3 t d = iblk m c 3 t :=
  before0_3_of m (dats m 0 c) (A_eq m c 3) (after_3 m c) t d

/-- The body finds input 4's block. -/
theorem before_4 (c : Dev nD) (t : Fin cfg0.N) (d) : (dats m 0 c).before 4 t d = iblk m c 4 t :=
  before0_4_of m (dats m 0 c) (A_eq m c 4) (after_4 m c) t d

/-- The body finds input 5's block. -/
theorem before_5 (c : Dev nD) (t : Fin cfg0.N) (d) : (dats m 0 c).before 5 t d = iblk m c 5 t :=
  before0_5_of m (dats m 0 c) (A_eq m c 5) (after_5 m c) t d

/-- The body finds input 6's block. -/
theorem before_6 (c : Dev nD) (t : Fin cfg0.N) (d) : (dats m 0 c).before 6 t d = iblk m c 6 t :=
  before0_6_of m (dats m 0 c) (A_eq m c 6) (after_6 m c) t d

/-- The body finds input 7's block. -/
theorem before_7 (c : Dev nD) (t : Fin cfg0.N) (d) : (dats m 0 c).before 7 t d = iblk m c 7 t :=
  before0_7_of m (dats m 0 c) (A_eq m c 7) (after_7 m c) t d

/-- The body finds input 8's block. -/
theorem before_8 (c : Dev nD) (t : Fin cfg0.N) (d) : (dats m 0 c).before 8 t d = iblk m c 8 t :=
  before0_8_of m (dats m 0 c) (A_eq m c 8) (after_8 m c) t d

/-- The body finds input 9's block. -/
theorem before_9 (c : Dev nD) (t : Fin cfg0.N) (d) : (dats m 0 c).before 9 t d = iblk m c 9 t :=
  before0_9_of m (dats m 0 c) (A_eq m c 9) (after_9 m c) t d

/-- The body finds input 10's block. -/
theorem before_10 (c : Dev nD) (t : Fin cfg0.N) (d) : (dats m 0 c).before 10 t d = iblk m c 10 t :=
  before0_10_of m (dats m 0 c) (A_eq m c 10) (after_10 m c) t d

/-- The first point is the one that builds. -/
theorem cond_first : k0_cond1 (grid0.coords p0) = 1#1 := by decide +kernel

/-- No other point builds. -/
theorem cond_later : ∀ t : Fin cfg0.N, t.val ≠ 0 → ¬k0_cond1 (grid0.coords t) = 1#1 := by decide +kernel

/-- Window 23 is stored at the first point, -/
theorem live_23 : cfg0.idle 23 (grid0.coords p0) = false := by decide +kernel

/-- at no other, -/
theorem idle_23 : ∀ t : Fin cfg0.N, t.val ≠ 0 → cfg0.idle 23 (grid0.coords t) = true := by decide +kernel

/-- and after the first point its buffer is never given up. -/
theorem fresh_23 : ∀ t : Fin cfg0.N, t.val ≠ 0 → cfg0.fresh 23 t.val = false := by decide +kernel

/-- After the first point the body finds the built weights in window 23. -/
theorem before_23 (c : Dev nD) (t : Fin cfg0.N) (h : t.val ≠ 0) (d) : (dats m 0 c).before 23 t d = w_in (iblk m c 4 p0) := by
  rw [(dats m 0 c).before_out_traj 23 rfl (fun _ _ => rfl) (fun t _ _ _ => by rw [after_23, after_23]) t.val t rfl d, fresh_23 t h,
    if_neg Bool.false_ne_true, after_23]

/-- At the first point the body leaves the built weights in window 23, -/
theorem leaves_23_first (c : Dev nD) :
    (dats m 0 c).leavesExact 23 p0 = owns (c : Thread nD τ) (st0_23 p0) fullShare (w_in (iblk m c 4 p0)) := by
  unfold Dat.leavesExact; rw [live_23, after_23]

/-- and at every other point it need only leave them there. -/
theorem leaves_23 (c : Dev nD) (t : Fin cfg0.N) (h : t.val ≠ 0) (d : Vec F ((cfg0.win 23).block) (cfg0.win 23).elt) :
    owns (c : Thread nD τ) (st0_23 t) fullShare (w_in (iblk m c 4 p0)) ⊢ (dats m 0 c).leavesExact 23 t := by
  by_cases hf : (cfg0.win 23).flush t = true
  · unfold Dat.leavesExact; rw [idle_23 t h, hf, after_23]
  · rw [Dat.leavesExact_idle (dats m 0 c) 23 t (idle_23 t h) (by simpa using hf)]
    iintro H
    iexists d
    rw [before_23 m c t h d]
    iexact H

/-- Window 24 is stored at the first point, -/
theorem live_24 : cfg0.idle 24 (grid0.coords p0) = false := by decide +kernel

/-- at no other, -/
theorem idle_24 : ∀ t : Fin cfg0.N, t.val ≠ 0 → cfg0.idle 24 (grid0.coords t) = true := by decide +kernel

/-- and after the first point its buffer is never given up. -/
theorem fresh_24 : ∀ t : Fin cfg0.N, t.val ≠ 0 → cfg0.fresh 24 t.val = false := by decide +kernel

/-- After the first point the body finds the built weights in window 24. -/
theorem before_24 (c : Dev nD) (t : Fin cfg0.N) (h : t.val ≠ 0) (d) : (dats m 0 c).before 24 t d = w_q (iblk m c 7 p0) := by
  rw [(dats m 0 c).before_out_traj 24 rfl (fun _ _ => rfl) (fun t _ _ _ => by rw [after_24, after_24]) t.val t rfl d, fresh_24 t h,
    if_neg Bool.false_ne_true, after_24]

/-- At the first point the body leaves the built weights in window 24, -/
theorem leaves_24_first (c : Dev nD) :
    (dats m 0 c).leavesExact 24 p0 = owns (c : Thread nD τ) (st0_24 p0) fullShare (w_q (iblk m c 7 p0)) := by
  unfold Dat.leavesExact; rw [live_24, after_24]

/-- and at every other point it need only leave them there. -/
theorem leaves_24 (c : Dev nD) (t : Fin cfg0.N) (h : t.val ≠ 0) (d : Vec F ((cfg0.win 24).block) (cfg0.win 24).elt) :
    owns (c : Thread nD τ) (st0_24 t) fullShare (w_q (iblk m c 7 p0)) ⊢ (dats m 0 c).leavesExact 24 t := by
  by_cases hf : (cfg0.win 24).flush t = true
  · unfold Dat.leavesExact; rw [idle_24 t h, hf, after_24]
  · rw [Dat.leavesExact_idle (dats m 0 c) 24 t (idle_24 t h) (by simpa using hf)]
    iintro H
    iexists d
    rw [before_24 m c t h d]
    iexact H

/-- Window 25 is stored at the first point, -/
theorem live_25 : cfg0.idle 25 (grid0.coords p0) = false := by decide +kernel

/-- at no other, -/
theorem idle_25 : ∀ t : Fin cfg0.N, t.val ≠ 0 → cfg0.idle 25 (grid0.coords t) = true := by decide +kernel

/-- and after the first point its buffer is never given up. -/
theorem fresh_25 : ∀ t : Fin cfg0.N, t.val ≠ 0 → cfg0.fresh 25 t.val = false := by decide +kernel

/-- After the first point the body finds the built weights in window 25. -/
theorem before_25 (c : Dev nD) (t : Fin cfg0.N) (h : t.val ≠ 0) (d) : (dats m 0 c).before 25 t d = w_k (iblk m c 8 p0) := by
  rw [(dats m 0 c).before_out_traj 25 rfl (fun _ _ => rfl) (fun t _ _ _ => by rw [after_25, after_25]) t.val t rfl d, fresh_25 t h,
    if_neg Bool.false_ne_true, after_25]

/-- At the first point the body leaves the built weights in window 25, -/
theorem leaves_25_first (c : Dev nD) :
    (dats m 0 c).leavesExact 25 p0 = owns (c : Thread nD τ) (st0_25 p0) fullShare (w_k (iblk m c 8 p0)) := by
  unfold Dat.leavesExact; rw [live_25, after_25]

/-- and at every other point it need only leave them there. -/
theorem leaves_25 (c : Dev nD) (t : Fin cfg0.N) (h : t.val ≠ 0) (d : Vec F ((cfg0.win 25).block) (cfg0.win 25).elt) :
    owns (c : Thread nD τ) (st0_25 t) fullShare (w_k (iblk m c 8 p0)) ⊢ (dats m 0 c).leavesExact 25 t := by
  by_cases hf : (cfg0.win 25).flush t = true
  · unfold Dat.leavesExact; rw [idle_25 t h, hf, after_25]
  · rw [Dat.leavesExact_idle (dats m 0 c) 25 t (idle_25 t h) (by simpa using hf)]
    iintro H
    iexists d
    rw [before_25 m c t h d]
    iexact H

/-- Window 26 is stored at the first point, -/
theorem live_26 : cfg0.idle 26 (grid0.coords p0) = false := by decide +kernel

/-- at no other, -/
theorem idle_26 : ∀ t : Fin cfg0.N, t.val ≠ 0 → cfg0.idle 26 (grid0.coords t) = true := by decide +kernel

/-- and after the first point its buffer is never given up. -/
theorem fresh_26 : ∀ t : Fin cfg0.N, t.val ≠ 0 → cfg0.fresh 26 t.val = false := by decide +kernel

/-- After the first point the body finds the built weights in window 26. -/
theorem before_26 (c : Dev nD) (t : Fin cfg0.N) (h : t.val ≠ 0) (d) : (dats m 0 c).before 26 t d = w_v (iblk m c 8 p0) := by
  rw [(dats m 0 c).before_out_traj 26 rfl (fun _ _ => rfl) (fun t _ _ _ => by rw [after_26, after_26]) t.val t rfl d, fresh_26 t h,
    if_neg Bool.false_ne_true, after_26]

/-- At the first point the body leaves the built weights in window 26, -/
theorem leaves_26_first (c : Dev nD) :
    (dats m 0 c).leavesExact 26 p0 = owns (c : Thread nD τ) (st0_26 p0) fullShare (w_v (iblk m c 8 p0)) := by
  unfold Dat.leavesExact; rw [live_26, after_26]

/-- and at every other point it need only leave them there. -/
theorem leaves_26 (c : Dev nD) (t : Fin cfg0.N) (h : t.val ≠ 0) (d : Vec F ((cfg0.win 26).block) (cfg0.win 26).elt) :
    owns (c : Thread nD τ) (st0_26 t) fullShare (w_v (iblk m c 8 p0)) ⊢ (dats m 0 c).leavesExact 26 t := by
  by_cases hf : (cfg0.win 26).flush t = true
  · unfold Dat.leavesExact; rw [idle_26 t h, hf, after_26]
  · rw [Dat.leavesExact_idle (dats m 0 c) 26 t (idle_26 t h) (by simpa using hf)]
    iintro H
    iexists d
    rw [before_26 m c t h d]
    iexact H

/-- What the body is called with, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t)

/-- Window 0 is live at every point. -/
theorem leaves_0 (c : Dev nD) (t : Fin cfg0.N) : (dats m 0 c).leavesExact 0 t = owns (c : Thread nD τ) (st0_0 t) fullShare (iblk m c 0 t) := by
  rw [show (dats m 0 c).leavesExact 0 t = owns (c : Thread nD τ) (st0_0 t) fullShare ((dats m 0 c).after 0 t) from rfl, after_0]

/-- Window 1 is live at every point. -/
theorem leaves_1 (c : Dev nD) (t : Fin cfg0.N) : (dats m 0 c).leavesExact 1 t = owns (c : Thread nD τ) (st0_1 t) fullShare (iblk m c 1 t) := by
  rw [show (dats m 0 c).leavesExact 1 t = owns (c : Thread nD τ) (st0_1 t) fullShare ((dats m 0 c).after 1 t) from rfl, after_1]

/-- Window 2 is live at every point. -/
theorem leaves_2 (c : Dev nD) (t : Fin cfg0.N) : (dats m 0 c).leavesExact 2 t = owns (c : Thread nD τ) (st0_2 t) fullShare (iblk m c 2 t) := by
  rw [show (dats m 0 c).leavesExact 2 t = owns (c : Thread nD τ) (st0_2 t) fullShare ((dats m 0 c).after 2 t) from rfl, after_2]

/-- Window 3 is live at every point. -/
theorem leaves_3 (c : Dev nD) (t : Fin cfg0.N) : (dats m 0 c).leavesExact 3 t = owns (c : Thread nD τ) (st0_3 t) fullShare (iblk m c 3 t) := by
  rw [show (dats m 0 c).leavesExact 3 t = owns (c : Thread nD τ) (st0_3 t) fullShare ((dats m 0 c).after 3 t) from rfl, after_3]

/-- Window 4 is live at every point. -/
theorem leaves_4 (c : Dev nD) (t : Fin cfg0.N) : (dats m 0 c).leavesExact 4 t = owns (c : Thread nD τ) (st0_4 t) fullShare (iblk m c 4 t) := by
  rw [show (dats m 0 c).leavesExact 4 t = owns (c : Thread nD τ) (st0_4 t) fullShare ((dats m 0 c).after 4 t) from rfl, after_4]

/-- Window 5 is live at every point. -/
theorem leaves_5 (c : Dev nD) (t : Fin cfg0.N) : (dats m 0 c).leavesExact 5 t = owns (c : Thread nD τ) (st0_5 t) fullShare (iblk m c 5 t) := by
  rw [show (dats m 0 c).leavesExact 5 t = owns (c : Thread nD τ) (st0_5 t) fullShare ((dats m 0 c).after 5 t) from rfl, after_5]

/-- Window 6 is live at every point. -/
theorem leaves_6 (c : Dev nD) (t : Fin cfg0.N) : (dats m 0 c).leavesExact 6 t = owns (c : Thread nD τ) (st0_6 t) fullShare (iblk m c 6 t) := by
  rw [show (dats m 0 c).leavesExact 6 t = owns (c : Thread nD τ) (st0_6 t) fullShare ((dats m 0 c).after 6 t) from rfl, after_6]

/-- Window 7 is live at every point. -/
theorem leaves_7 (c : Dev nD) (t : Fin cfg0.N) : (dats m 0 c).leavesExact 7 t = owns (c : Thread nD τ) (st0_7 t) fullShare (iblk m c 7 t) := by
  rw [show (dats m 0 c).leavesExact 7 t = owns (c : Thread nD τ) (st0_7 t) fullShare ((dats m 0 c).after 7 t) from rfl, after_7]

/-- Window 8 is live at every point. -/
theorem leaves_8 (c : Dev nD) (t : Fin cfg0.N) : (dats m 0 c).leavesExact 8 t = owns (c : Thread nD τ) (st0_8 t) fullShare (iblk m c 8 t) := by
  rw [show (dats m 0 c).leavesExact 8 t = owns (c : Thread nD τ) (st0_8 t) fullShare ((dats m 0 c).after 8 t) from rfl, after_8]

/-- Window 9 is live at every point. -/
theorem leaves_9 (c : Dev nD) (t : Fin cfg0.N) : (dats m 0 c).leavesExact 9 t = owns (c : Thread nD τ) (st0_9 t) fullShare (iblk m c 9 t) := by
  rw [show (dats m 0 c).leavesExact 9 t = owns (c : Thread nD τ) (st0_9 t) fullShare ((dats m 0 c).after 9 t) from rfl, after_9]

/-- Window 10 is live at every point. -/
theorem leaves_10 (c : Dev nD) (t : Fin cfg0.N) : (dats m 0 c).leavesExact 10 t = owns (c : Thread nD τ) (st0_10 t) fullShare (iblk m c 10 t) := by
  rw [show (dats m 0 c).leavesExact 10 t = owns (c : Thread nD τ) (st0_10 t) fullShare ((dats m 0 c).after 10 t) from rfl, after_10]

/-- Window 11 is live at every point. -/
theorem leaves_11 (c : Dev nD) (t : Fin cfg0.N) : (dats m 0 c).leavesExact 11 t = owns (c : Thread nD τ) (st0_11 t) fullShare (PreBody.h_block (iblk m c 0 t) (iblk m c 1 t) (iblk m c 2 t) (iblk m c 3 t)) := by
  rw [show (dats m 0 c).leavesExact 11 t = owns (c : Thread nD τ) (st0_11 t) fullShare ((dats m 0 c).after 11 t) from rfl, after_11]

/-- Window 12 is live at every point. -/
theorem leaves_12 (c : Dev nD) (t : Fin cfg0.N) : (dats m 0 c).leavesExact 12 t = owns (c : Thread nD τ) (st0_12 t) fullShare (PreBody.zq_block (iblk m c 0 t) (iblk m c 1 t) (iblk m c 2 t) (iblk m c 3 t) (w_in (iblk m c 4 p0))) := by
  rw [show (dats m 0 c).leavesExact 12 t = owns (c : Thread nD τ) (st0_12 t) fullShare ((dats m 0 c).after 12 t) from rfl, after_12]

/-- Window 13 is live at every point. -/
theorem leaves_13 (c : Dev nD) (t : Fin cfg0.N) : (dats m 0 c).leavesExact 13 t = owns (c : Thread nD τ) (st0_13 t) fullShare (PreBody.zkv_block (iblk m c 0 t) (iblk m c 1 t) (iblk m c 2 t) (iblk m c 3 t) (w_in (iblk m c 4 p0))) := by
  rw [show (dats m 0 c).leavesExact 13 t = owns (c : Thread nD τ) (st0_13 t) fullShare ((dats m 0 c).after 13 t) from rfl, after_13]

/-- Window 14 is live at every point. -/
theorem leaves_14 (c : Dev nD) (t : Fin cfg0.N) : (dats m 0 c).leavesExact 14 t = owns (c : Thread nD τ) (st0_14 t) fullShare (PreBody.ql_block (iblk m c 0 t) (iblk m c 1 t) (iblk m c 2 t) (iblk m c 3 t) (iblk m c 5 t) (w_in (iblk m c 4 p0))) := by
  rw [show (dats m 0 c).leavesExact 14 t = owns (c : Thread nD τ) (st0_14 t) fullShare ((dats m 0 c).after 14 t) from rfl, after_14]

/-- Window 15 is live at every point. -/
theorem leaves_15 (c : Dev nD) (t : Fin cfg0.N) : (dats m 0 c).leavesExact 15 t = owns (c : Thread nD τ) (st0_15 t) fullShare (PreBody.kvl_block (iblk m c 0 t) (iblk m c 1 t) (iblk m c 2 t) (iblk m c 3 t) (iblk m c 6 t) (w_in (iblk m c 4 p0))) := by
  rw [show (dats m 0 c).leavesExact 15 t = owns (c : Thread nD τ) (st0_15 t) fullShare ((dats m 0 c).after 15 t) from rfl, after_15]

/-- Window 16 is live at every point. -/
theorem leaves_16 (c : Dev nD) (t : Fin cfg0.N) : (dats m 0 c).leavesExact 16 t = owns (c : Thread nD τ) (st0_16 t) fullShare (PreBody.q_block (iblk m c 0 t) (iblk m c 1 t) (iblk m c 2 t) (iblk m c 3 t) (iblk m c 5 t) (iblk m c 9 t) (iblk m c 10 t) (w_in (iblk m c 4 p0)) (w_q (iblk m c 7 p0))) := by
  rw [show (dats m 0 c).leavesExact 16 t = owns (c : Thread nD τ) (st0_16 t) fullShare ((dats m 0 c).after 16 t) from rfl, after_16]

/-- Window 17 is live at every point. -/
theorem leaves_17 (c : Dev nD) (t : Fin cfg0.N) : (dats m 0 c).leavesExact 17 t = owns (c : Thread nD τ) (st0_17 t) fullShare (PreBody.k_block (iblk m c 0 t) (iblk m c 1 t) (iblk m c 2 t) (iblk m c 3 t) (iblk m c 6 t) (iblk m c 9 t) (iblk m c 10 t) (w_in (iblk m c 4 p0)) (w_k (iblk m c 8 p0))) := by
  rw [show (dats m 0 c).leavesExact 17 t = owns (c : Thread nD τ) (st0_17 t) fullShare ((dats m 0 c).after 17 t) from rfl, after_17]

/-- Window 18 is live at every point. -/
theorem leaves_18 (c : Dev nD) (t : Fin cfg0.N) : (dats m 0 c).leavesExact 18 t = owns (c : Thread nD τ) (st0_18 t) fullShare (PreBody.v_block (iblk m c 0 t) (iblk m c 1 t) (iblk m c 2 t) (iblk m c 3 t) (iblk m c 6 t) (w_in (iblk m c 4 p0)) (w_v (iblk m c 8 p0))) := by
  rw [show (dats m 0 c).leavesExact 18 t = owns (c : Thread nD τ) (st0_18 t) fullShare ((dats m 0 c).after 18 t) from rfl, after_18]

/-- Window 19 is live at every point. -/
theorem leaves_19 (c : Dev nD) (t : Fin cfg0.N) : (dats m 0 c).leavesExact 19 t = owns (c : Thread nD τ) (st0_19 t) fullShare (PreBody.qs_block (iblk m c 0 t) (iblk m c 1 t) (iblk m c 2 t) (iblk m c 3 t) (w_in (iblk m c 4 p0))) := by
  rw [show (dats m 0 c).leavesExact 19 t = owns (c : Thread nD τ) (st0_19 t) fullShare ((dats m 0 c).after 19 t) from rfl, after_19]

/-- Window 20 is live at every point. -/
theorem leaves_20 (c : Dev nD) (t : Fin cfg0.N) : (dats m 0 c).leavesExact 20 t = owns (c : Thread nD τ) (st0_20 t) fullShare (PreBody.ks_block (iblk m c 0 t) (iblk m c 1 t) (iblk m c 2 t) (iblk m c 3 t) (w_in (iblk m c 4 p0))) := by
  rw [show (dats m 0 c).leavesExact 20 t = owns (c : Thread nD τ) (st0_20 t) fullShare ((dats m 0 c).after 20 t) from rfl, after_20]

/-- Window 21 is live at every point. -/
theorem leaves_21 (c : Dev nD) (t : Fin cfg0.N) : (dats m 0 c).leavesExact 21 t = owns (c : Thread nD τ) (st0_21 t) fullShare (PreBody.vs_block (iblk m c 0 t) (iblk m c 1 t) (iblk m c 2 t) (iblk m c 3 t) (w_in (iblk m c 4 p0))) := by
  rw [show (dats m 0 c).leavesExact 21 t = owns (c : Thread nD τ) (st0_21 t) fullShare ((dats m 0 c).after 21 t) from rfl, after_21]

/-- Window 22 is live at every point. -/
theorem leaves_22 (c : Dev nD) (t : Fin cfg0.N) : (dats m 0 c).leavesExact 22 t = owns (c : Thread nD τ) (st0_22 t) fullShare (PreBody.g_block (iblk m c 0 t) (iblk m c 1 t) (iblk m c 2 t) (iblk m c 3 t) (w_in (iblk m c 4 p0))) := by
  rw [show (dats m 0 c).leavesExact 22 t = owns (c : Thread nD τ) (st0_22 t) fullShare ((dats m 0 c).after 22 t) from rfl, after_22]

set_option maxHeartbeats 6000000 in
/-- The body at the first point: it builds the weights, then computes. -/
theorem sound_first (c : Dev nD) :
    bodyPre m c p0 ⊢ wp frame (wpE (defs₀ (F := F)) Variants.none c none) Set.univ (bodyAt0 p0) (fun _ => bodyPost m c p0) := by
  unfold bodyPre bodyPost
  simp only [before_0, before_1, before_2, before_3, before_4, before_5, before_6, before_7, before_8, before_9, before_10]
  rw [show (dats m 0 c).Φ p0.succ = (dats m 0 c).Φ p0.castSucc from rfl, show (dats m 0 c).owesAt () p0.succ = (dats m 0 c).owesAt () p0.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23_first, leaves_24_first, leaves_25_first, leaves_26_first]
  unfold bodyAt0
  rw [body_eq]
  rw [if_pos cond_first]
  simp only [wp_bind]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (build_triple c Set.univ (grid0.coords p0) _ _ _ _ _ _ _ _ _ _ _ _ _ _ _ _ _ _ _ _ _ _ _ _ _ _ _ _ _ _ _ _ _ _ _ _ _ _ _ _ _ _ _ _ _ _ _ _ _ _ _ _ _ _ (iblk m c 4 p0) (iblk m c 7 p0) (iblk m c 8 p0) _)
  isplitl [H4]; · iexact H4
  isplitl [H7]; · iexact H7
  isplitl [H8]; · iexact H8
  isplitl [H23]; · iexists _; iexact H23
  isplitl [H24]; · iexists _; iexact H24
  isplitl [H25]; · iexists _; iexact H25
  isplitl [H26]; · iexists _; iexact H26
  iintro ⟨H4, H7, H8, H23, H24, H25, H26⟩
  iapply (rest_triple c Set.univ (grid0.coords p0) _ _ _ _ _ _ _ _ _ _ _ _ _ _ _ _ _ _ _ _ _ _ _ _ _ _ _ _ _ _ _ _ _ _ _ _ _ _ _ _ _ _ _ _ _ _ _ _ _ _ _ _ _ _ (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (w_in (iblk m c 4 p0)) (w_q (iblk m c 7 p0)) (w_k (iblk m c 8 p0)) (w_v (iblk m c 8 p0)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H23]; · iexact H23
  isplitl [H24]; · iexact H24
  isplitl [H25]; · iexact H25
  isplitl [H26]; · iexact H26
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H23, H24, H25, H26, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 6000000 in
/-- The body at a later point: it finds the weights and computes. -/
theorem sound_later (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10]
  rw [show (dats m 0 c).Φ t.succ = (dats m 0 c).Φ t.castSucc from rfl, show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22]
  unfold bodyAt0
  rw [body_eq]
  rw [if_neg (cond_later t h)]
  simp only [pure_bind, before_23 m c t h, before_24 m c t h, before_25 m c t h, before_26 m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (rest_triple c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (w_in (iblk m c 4 p0)) (w_q (iblk m c 7 p0)) (w_k (iblk m c 8 p0)) (w_v (iblk m c 8 p0)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H23]; · iexact H23
  isplitl [H24]; · iexact H24
  isplitl [H25]; · iexact H25
  isplitl [H26]; · iexact H26
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H23, H24, H25, H26, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iapply (leaves_23 m c t h d23); iexact H23
  isplitl [H24]; · iapply (leaves_24 m c t h d24); iexact H24
  isplitl [H25]; · iapply (leaves_25 m c t h d25); iexact H25
  iapply (leaves_26 m c t h d26); iexact H26

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · obtain rfl : t = p0 := Fin.ext h
    exact sound_first m c
  · exact sound_later m c t h

/-- The table's row at a point is the body there. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The program runs: its arrays end at what the proof data say and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the semaphores. -/
theorem run : θ_run defs (onTc (τ := τ) (main (F := F))) (s₀ m ρ) (Pipeline.FramePost cfgs (dats m) 0 (V m)) :=
  (θ_run defs _ _).mono (fun _ h => h.1) (run_quiescent m ρ)

/-- The program runs, its arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run m ρ)) ((θ_run defs _ _).mono (fun _ h => h.2) (run_quiescent m ρ))

end Cert.Proof.PreBody

end
-- ==== Proof.PreRunBits.lean ====
/- The input projections as the program has them: the run. The proof data say what each window's buffer holds after each point; the last four windows hold the weights built
   at the first point until the last point writes them back. -/
module

public import proofs.«01_k».proof.Proof.PreBodyBits
public import Idealize.ShloMosaic.Lib.Quiescent
public import Idealize.ShloMosaic.Lib.Claim
public import Idealize.ShloMosaic.Lib.Pipeline.TableIdle

@[expose] public section

set_option maxRecDepth 16384

noncomputable section

namespace Cert.Proof.PreBodyBits

open Cert.PreKernel Cert.PreKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev p0 : Fin cfg0.N := ⟨0, by decide⟩

/-- The proof data: after the body each input's buffer holds its block, each output's the block computed from the point's blocks and the built
    weights, and the last four windows' the built weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => PreBodyBits.h_block (iblk m c 0 t) (iblk m c 1 t) (iblk m c 2 t) (iblk m c 3 t)
    | ⟨12, _⟩ => PreBodyBits.zq_block (iblk m c 0 t) (iblk m c 1 t) (iblk m c 2 t) (iblk m c 3 t) (w_in (iblk m c 4 p0))
    | ⟨13, _⟩ => PreBodyBits.zkv_block (iblk m c 0 t) (iblk m c 1 t) (iblk m c 2 t) (iblk m c 3 t) (w_in (iblk m c 4 p0))
    | ⟨14, _⟩ => PreBodyBits.ql_block (iblk m c 0 t) (iblk m c 1 t) (iblk m c 2 t) (iblk m c 3 t) (iblk m c 5 t) (w_in (iblk m c 4 p0))
    | ⟨15, _⟩ => PreBodyBits.kvl_block (iblk m c 0 t) (iblk m c 1 t) (iblk m c 2 t) (iblk m c 3 t) (iblk m c 6 t) (w_in (iblk m c 4 p0))
    | ⟨16, _⟩ => PreBodyBits.q_block (iblk m c 0 t) (iblk m c 1 t) (iblk m c 2 t) (iblk m c 3 t) (iblk m c 5 t) (iblk m c 9 t) (iblk m c 10 t) (w_in (iblk m c 4 p0)) (w_q (iblk m c 7 p0))
    | ⟨17, _⟩ => PreBodyBits.k_block (iblk m c 0 t) (iblk m c 1 t) (iblk m c 2 t) (iblk m c 3 t) (iblk m c 6 t) (iblk m c 9 t) (iblk m c 10 t) (w_in (iblk m c 4 p0)) (w_k (iblk m c 8 p0))
    | ⟨18, _⟩ => PreBodyBits.v_block (iblk m c 0 t) (iblk m c 1 t) (iblk m c 2 t) (iblk m c 3 t) (iblk m c 6 t) (w_in (iblk m c 4 p0)) (w_v (iblk m c 8 p0))
    | ⟨19, _⟩ => PreBodyBits.qs_block (iblk m c 0 t) (iblk m c 1 t) (iblk m c 2 t) (iblk m c 3 t) (w_in (iblk m c 4 p0))
    | ⟨20, _⟩ => PreBodyBits.ks_block (iblk m c 0 t) (iblk m c 1 t) (iblk m c 2 t) (iblk m c 3 t) (w_in (iblk m c 4 p0))
    | ⟨21, _⟩ => PreBodyBits.vs_block (iblk m c 0 t) (iblk m c 1 t) (iblk m c 2 t) (iblk m c 3 t) (w_in (iblk m c 4 p0))
    | ⟨22, _⟩ => PreBodyBits.g_block (iblk m c 0 t) (iblk m c 1 t) (iblk m c 2 t) (iblk m c 3 t) (w_in (iblk m c 4 p0))
    | ⟨23, _⟩ => w_in (iblk m c 4 p0)
    | ⟨24, _⟩ => w_q (iblk m c 7 p0)
    | ⟨25, _⟩ => w_k (iblk m c 8 p0)
    | ⟨26, _⟩ => w_v (iblk m c 8 p0)
    | ⟨_ + 27, h⟩ => absurd h (Nat.not_lt.2 (Nat.le_add_left _ _))
  Φ _ := Pipeline.ΦA spec0 c
  q _ := fullShare
  owed _ := 0

/-- The data's arrays are what the launch finds. -/
theorem A_eq (c : Dev nD) (w : Fin cfg0.W) : (dats m 0 c).A w = V m c (Pipeline.arrRef spec0 w) := by
  dsimp only [dats]

/-- What window 0 holds after the body. -/
theorem after_0 (c : Dev nD) (t : Fin cfg0.N) : (dats m 0 c).after 0 t = iblk m c 0 t := by
  dsimp only [dats]

/-- What window 1 holds after the body. -/
theorem after_1 (c : Dev nD) (t : Fin cfg0.N) : (dats m 0 c).after 1 t = iblk m c 1 t := by
  dsimp only [dats]

/-- What window 2 holds after the body. -/
theorem after_2 (c : Dev nD) (t : Fin cfg0.N) : (dats m 0 c).after 2 t = iblk m c 2 t := by
  dsimp only [dats]

/-- What window 3 holds after the body. -/
theorem after_3 (c : Dev nD) (t : Fin cfg0.N) : (dats m 0 c).after 3 t = iblk m c 3 t := by
  dsimp only [dats]

/-- What window 4 holds after the body. -/
theorem after_4 (c : Dev nD) (t : Fin cfg0.N) : (dats m 0 c).after 4 t = iblk m c 4 t := by
  dsimp only [dats]

/-- What window 5 holds after the body. -/
theorem after_5 (c : Dev nD) (t : Fin cfg0.N) : (dats m 0 c).after 5 t = iblk m c 5 t := by
  dsimp only [dats]

/-- What window 6 holds after the body. -/
theorem after_6 (c : Dev nD) (t : Fin cfg0.N) : (dats m 0 c).after 6 t = iblk m c 6 t := by
  dsimp only [dats]

/-- What window 7 holds after the body. -/
theorem after_7 (c : Dev nD) (t : Fin cfg0.N) : (dats m 0 c).after 7 t = iblk m c 7 t := by
  dsimp only [dats]

/-- What window 8 holds after the body. -/
theorem after_8 (c : Dev nD) (t : Fin cfg0.N) : (dats m 0 c).after 8 t = iblk m c 8 t := by
  dsimp only [dats]

/-- What window 9 holds after the body. -/
theorem after_9 (c : Dev nD) (t : Fin cfg0.N) : (dats m 0 c).after 9 t = iblk m c 9 t := by
  dsimp only [dats]

/-- What window 10 holds after the body. -/
theorem after_10 (c : Dev nD) (t : Fin cfg0.N) : (dats m 0 c).after 10 t = iblk m c 10 t := by
  dsimp only [dats]

/-- What window 11 holds after the body. -/
theorem after_11 (c : Dev nD) (t : Fin cfg0.N) : (dats m 0 c).after 11 t = PreBodyBits.h_block (iblk m c 0 t) (iblk m c 1 t) (iblk m c 2 t) (iblk m c 3 t) := by
  dsimp only [dats]

/-- What window 12 holds after the body. -/
theorem after_12 (c : Dev nD) (t : Fin cfg0.N) : (dats m 0 c).after 12 t = PreBodyBits.zq_block (iblk m c 0 t) (iblk m c 1 t) (iblk m c 2 t) (iblk m c 3 t) (w_in (iblk m c 4 p0)) := by
  dsimp only [dats]

/-- What window 13 holds after the body. -/
theorem after_13 (c : Dev nD) (t : Fin cfg0.N) : (dats m 0 c).after 13 t = PreBodyBits.zkv_block (iblk m c 0 t) (iblk m c 1 t) (iblk m c 2 t) (iblk m c 3 t) (w_in (iblk m c 4 p0)) := by
  dsimp only [dats]

/-- What window 14 holds after the body. -/
theorem after_14 (c : Dev nD) (t : Fin cfg0.N) : (dats m 0 c).after 14 t = PreBodyBits.ql_block (iblk m c 0 t) (iblk m c 1 t) (iblk m c 2 t) (iblk m c 3 t) (iblk m c 5 t) (w_in (iblk m c 4 p0)) := by
  dsimp only [dats]

/-- What window 15 holds after the body. -/
theorem after_15 (c : Dev nD) (t : Fin cfg0.N) : (dats m 0 c).after 15 t = PreBodyBits.kvl_block (iblk m c 0 t) (iblk m c 1 t) (iblk m c 2 t) (iblk m c 3 t) (iblk m c 6 t) (w_in (iblk m c 4 p0)) := by
  dsimp only [dats]

/-- What window 16 holds after the body. -/
theorem after_16 (c : Dev nD) (t : Fin cfg0.N) : (dats m 0 c).after 16 t = PreBodyBits.q_block (iblk m c 0 t) (iblk m c 1 t) (iblk m c 2 t) (iblk m c 3 t) (iblk m c 5 t) (iblk m c 9 t) (iblk m c 10 t) (w_in (iblk m c 4 p0)) (w_q (iblk m c 7 p0)) := by
  dsimp only [dats]

/-- What window 17 holds after the body. -/
theorem after_17 (c : Dev nD) (t : Fin cfg0.N) : (dats m 0 c).after 17 t = PreBodyBits.k_block (iblk m c 0 t) (iblk m c 1 t) (iblk m c 2 t) (iblk m c 3 t) (iblk m c 6 t) (iblk m c 9 t) (iblk m c 10 t) (w_in (iblk m c 4 p0)) (w_k (iblk m c 8 p0)) := by
  dsimp only [dats]

/-- What window 18 holds after the body. -/
theorem after_18 (c : Dev nD) (t : Fin cfg0.N) : (dats m 0 c).after 18 t = PreBodyBits.v_block (iblk m c 0 t) (iblk m c 1 t) (iblk m c 2 t) (iblk m c 3 t) (iblk m c 6 t) (w_in (iblk m c 4 p0)) (w_v (iblk m c 8 p0)) := by
  dsimp only [dats]

/-- What window 19 holds after the body. -/
theorem after_19 (c : Dev nD) (t : Fin cfg0.N) : (dats m 0 c).after 19 t = PreBodyBits.qs_block (iblk m c 0 t) (iblk m c 1 t) (iblk m c 2 t) (iblk m c 3 t) (w_in (iblk m c 4 p0)) := by
  dsimp only [dats]

/-- What window 20 holds after the body. -/
theorem after_20 (c : Dev nD) (t : Fin cfg0.N) : (dats m 0 c).after 20 t = PreBodyBits.ks_block (iblk m c 0 t) (iblk m c 1 t) (iblk m c 2 t) (iblk m c 3 t) (w_in (iblk m c 4 p0)) := by
  dsimp only [dats]

/-- What window 21 holds after the body. -/
theorem after_21 (c : Dev nD) (t : Fin cfg0.N) : (dats m 0 c).after 21 t = PreBodyBits.vs_block (iblk m c 0 t) (iblk m c 1 t) (iblk m c 2 t) (iblk m c 3 t) (w_in (iblk m c 4 p0)) := by
  dsimp only [dats]

/-- What window 22 holds after the body. -/
theorem after_22 (c : Dev nD) (t : Fin cfg0.N) : (dats m 0 c).after 22 t = PreBodyBits.g_block (iblk m c 0 t) (iblk m c 1 t) (iblk m c 2 t) (iblk m c 3 t) (w_in (iblk m c 4 p0)) := by
  dsimp only [dats]

/-- What window 23 holds after the body. -/
theorem after_23 (c : Dev nD) (t : Fin cfg0.N) : (dats m 0 c).after 23 t = w_in (iblk m c 4 p0) := by
  dsimp only [dats]

/-- What window 24 holds after the body. -/
theorem after_24 (c : Dev nD) (t : Fin cfg0.N) : (dats m 0 c).after 24 t = w_q (iblk m c 7 p0) := by
  dsimp only [dats]

/-- What window 25 holds after the body. -/
theorem after_25 (c : Dev nD) (t : Fin cfg0.N) : (dats m 0 c).after 25 t = w_k (iblk m c 8 p0) := by
  dsimp only [dats]

/-- What window 26 holds after the body. -/
theorem after_26 (c : Dev nD) (t : Fin cfg0.N) : (dats m 0 c).after 26 t = w_v (iblk m c 8 p0) := by
  dsimp only [dats]

/-- The body finds input 0's block. -/
theorem before_0 (c : Dev nD) (t : Fin cfg0.N) (d) : (dats m 0 c).before 0 t d = iblk m c 0 t :=
  before0_0_of m (dats m 0 c) (A_eq m c 0) (after_0 m c) t d

/-- The body finds input 1's block. -/
theorem before_1 (c : Dev nD) (t : Fin cfg0.N) (d) : (dats m 0 c).before 1 t d = iblk m c 1 t :=
  before0_1_of m (dats m 0 c) (A_eq m c 1) (after_1 m c) t d

/-- The body finds input 2's block. -/
theorem before_2 (c : Dev nD) (t : Fin cfg0.N) (d) : (dats m 0 c).before 2 t d = iblk m c 2 t :=
  before0_2_of m (dats m 0 c) (A_eq m c 2) (after_2 m c) t d

/-- The body finds input 3's block. -/
theorem before_3 (c : Dev nD) (t : Fin cfg0.N) (d) : (dats m 0 c).before 3 t d = iblk m c 3 t :=
  before0_3_of m (dats m 0 c) (A_eq m c 3) (after_3 m c) t d

/-- The body finds input 4's block. -/
theorem before_4 (c : Dev nD) (t : Fin cfg0.N) (d) : (dats m 0 c).before 4 t d = iblk m c 4 t :=
  before0_4_of m (dats m 0 c) (A_eq m c 4) (after_4 m c) t d

/-- The body finds input 5's block. -/
theorem before_5 (c : Dev nD) (t : Fin cfg0.N) (d) : (dats m 0 c).before 5 t d = iblk m c 5 t :=
  before0_5_of m (dats m 0 c) (A_eq m c 5) (after_5 m c) t d

/-- The body finds input 6's block. -/
theorem before_6 (c : Dev nD) (t : Fin cfg0.N) (d) : (dats m 0 c).before 6 t d = iblk m c 6 t :=
  before0_6_of m (dats m 0 c) (A_eq m c 6) (after_6 m c) t d

/-- The body finds input 7's block. -/
theorem before_7 (c : Dev nD) (t : Fin cfg0.N) (d) : (dats m 0 c).before 7 t d = iblk m c 7 t :=
  before0_7_of m (dats m 0 c) (A_eq m c 7) (after_7 m c) t d

/-- The body finds input 8's block. -/
theorem before_8 (c : Dev nD) (t : Fin cfg0.N) (d) : (dats m 0 c).before 8 t d = iblk m c 8 t :=
  before0_8_of m (dats m 0 c) (A_eq m c 8) (after_8 m c) t d

/-- The body finds input 9's block. -/
theorem before_9 (c : Dev nD) (t : Fin cfg0.N) (d) : (dats m 0 c).before 9 t d = iblk m c 9 t :=
  before0_9_of m (dats m 0 c) (A_eq m c 9) (after_9 m c) t d

/-- The body finds input 10's block. -/
theorem before_10 (c : Dev nD) (t : Fin cfg0.N) (d) : (dats m 0 c).before 10 t d = iblk m c 10 t :=
  before0_10_of m (dats m 0 c) (A_eq m c 10) (after_10 m c) t d

/-- The first point is the one that builds. -/
theorem cond_first : k0_cond1 (grid0.coords p0) = 1#1 := by decide +kernel

/-- No other point builds. -/
theorem cond_later : ∀ t : Fin cfg0.N, t.val ≠ 0 → ¬k0_cond1 (grid0.coords t) = 1#1 := by decide +kernel

/-- Window 23 is stored at the first point, -/
theorem live_23 : cfg0.idle 23 (grid0.coords p0) = false := by decide +kernel

/-- at no other, -/
theorem idle_23 : ∀ t : Fin cfg0.N, t.val ≠ 0 → cfg0.idle 23 (grid0.coords t) = true := by decide +kernel

/-- and after the first point its buffer is never given up. -/
theorem fresh_23 : ∀ t : Fin cfg0.N, t.val ≠ 0 → cfg0.fresh 23 t.val = false := by decide +kernel

/-- After the first point the body finds the built weights in window 23. -/
theorem before_23 (c : Dev nD) (t : Fin cfg0.N) (h : t.val ≠ 0) (d) : (dats m 0 c).before 23 t d = w_in (iblk m c 4 p0) := by
  rw [(dats m 0 c).before_out_traj 23 rfl (fun _ _ => rfl) (fun t _ _ _ => by rw [after_23, after_23]) t.val t rfl d, fresh_23 t h,
    if_neg Bool.false_ne_true, after_23]

/-- At the first point the body leaves the built weights in window 23, -/
theorem leaves_23_first (c : Dev nD) :
    (dats m 0 c).leavesExact 23 p0 = owns (c : Thread nD τ) (st0_23 p0) fullShare (w_in (iblk m c 4 p0)) := by
  unfold Dat.leavesExact; rw [live_23, after_23]

/-- and at every other point it need only leave them there. -/
theorem leaves_23 (c : Dev nD) (t : Fin cfg0.N) (h : t.val ≠ 0) (d : Vec F ((cfg0.win 23).block) (cfg0.win 23).elt) :
    owns (c : Thread nD τ) (st0_23 t) fullShare (w_in (iblk m c 4 p0)) ⊢ (dats m 0 c).leavesExact 23 t := by
  by_cases hf : (cfg0.win 23).flush t = true
  · unfold Dat.leavesExact; rw [idle_23 t h, hf, after_23]
  · rw [Dat.leavesExact_idle (dats m 0 c) 23 t (idle_23 t h) (by simpa using hf)]
    iintro H
    iexists d
    rw [before_23 m c t h d]
    iexact H

/-- Window 24 is stored at the first point, -/
theorem live_24 : cfg0.idle 24 (grid0.coords p0) = false := by decide +kernel

/-- at no other, -/
theorem idle_24 : ∀ t : Fin cfg0.N, t.val ≠ 0 → cfg0.idle 24 (grid0.coords t) = true := by decide +kernel

/-- and after the first point its buffer is never given up. -/
theorem fresh_24 : ∀ t : Fin cfg0.N, t.val ≠ 0 → cfg0.fresh 24 t.val = false := by decide +kernel

/-- After the first point the body finds the built weights in window 24. -/
theorem before_24 (c : Dev nD) (t : Fin cfg0.N) (h : t.val ≠ 0) (d) : (dats m 0 c).before 24 t d = w_q (iblk m c 7 p0) := by
  rw [(dats m 0 c).before_out_traj 24 rfl (fun _ _ => rfl) (fun t _ _ _ => by rw [after_24, after_24]) t.val t rfl d, fresh_24 t h,
    if_neg Bool.false_ne_true, after_24]

/-- At the first point the body leaves the built weights in window 24, -/
theorem leaves_24_first (c : Dev nD) :
    (dats m 0 c).leavesExact 24 p0 = owns (c : Thread nD τ) (st0_24 p0) fullShare (w_q (iblk m c 7 p0)) := by
  unfold Dat.leavesExact; rw [live_24, after_24]

/-- and at every other point it need only leave them there. -/
theorem leaves_24 (c : Dev nD) (t : Fin cfg0.N) (h : t.val ≠ 0) (d : Vec F ((cfg0.win 24).block) (cfg0.win 24).elt) :
    owns (c : Thread nD τ) (st0_24 t) fullShare (w_q (iblk m c 7 p0)) ⊢ (dats m 0 c).leavesExact 24 t := by
  by_cases hf : (cfg0.win 24).flush t = true
  · unfold Dat.leavesExact; rw [idle_24 t h, hf, after_24]
  · rw [Dat.leavesExact_idle (dats m 0 c) 24 t (idle_24 t h) (by simpa using hf)]
    iintro H
    iexists d
    rw [before_24 m c t h d]
    iexact H

/-- Window 25 is stored at the first point, -/
theorem live_25 : cfg0.idle 25 (grid0.coords p0) = false := by decide +kernel

/-- at no other, -/
theorem idle_25 : ∀ t : Fin cfg0.N, t.val ≠ 0 → cfg0.idle 25 (grid0.coords t) = true := by decide +kernel

/-- and after the first point its buffer is never given up. -/
theorem fresh_25 : ∀ t : Fin cfg0.N, t.val ≠ 0 → cfg0.fresh 25 t.val = false := by decide +kernel

/-- After the first point the body finds the built weights in window 25. -/
theorem before_25 (c : Dev nD) (t : Fin cfg0.N) (h : t.val ≠ 0) (d) : (dats m 0 c).before 25 t d = w_k (iblk m c 8 p0) := by
  rw [(dats m 0 c).before_out_traj 25 rfl (fun _ _ => rfl) (fun t _ _ _ => by rw [after_25, after_25]) t.val t rfl d, fresh_25 t h,
    if_neg Bool.false_ne_true, after_25]

/-- At the first point the body leaves the built weights in window 25, -/
theorem leaves_25_first (c : Dev nD) :
    (dats m 0 c).leavesExact 25 p0 = owns (c : Thread nD τ) (st0_25 p0) fullShare (w_k (iblk m c 8 p0)) := by
  unfold Dat.leavesExact; rw [live_25, after_25]

/-- and at every other point it need only leave them there. -/
theorem leaves_25 (c : Dev nD) (t : Fin cfg0.N) (h : t.val ≠ 0) (d : Vec F ((cfg0.win 25).block) (cfg0.win 25).elt) :
    owns (c : Thread nD τ) (st0_25 t) fullShare (w_k (iblk m c 8 p0)) ⊢ (dats m 0 c).leavesExact 25 t := by
  by_cases hf : (cfg0.win 25).flush t = true
  · unfold Dat.leavesExact; rw [idle_25 t h, hf, after_25]
  · rw [Dat.leavesExact_idle (dats m 0 c) 25 t (idle_25 t h) (by simpa using hf)]
    iintro H
    iexists d
    rw [before_25 m c t h d]
    iexact H

/-- Window 26 is stored at the first point, -/
theorem live_26 : cfg0.idle 26 (grid0.coords p0) = false := by decide +kernel

/-- at no other, -/
theorem idle_26 : ∀ t : Fin cfg0.N, t.val ≠ 0 → cfg0.idle 26 (grid0.coords t) = true := by decide +kernel

/-- and after the first point its buffer is never given up. -/
theorem fresh_26 : ∀ t : Fin cfg0.N, t.val ≠ 0 → cfg0.fresh 26 t.val = false := by decide +kernel

/-- After the first point the body finds the built weights in window 26. -/
theorem before_26 (c : Dev nD) (t : Fin cfg0.N) (h : t.val ≠ 0) (d) : (dats m 0 c).before 26 t d = w_v (iblk m c 8 p0) := by
  rw [(dats m 0 c).before_out_traj 26 rfl (fun _ _ => rfl) (fun t _ _ _ => by rw [after_26, after_26]) t.val t rfl d, fresh_26 t h,
    if_neg Bool.false_ne_true, after_26]

/-- At the first point the body leaves the built weights in window 26, -/
theorem leaves_26_first (c : Dev nD) :
    (dats m 0 c).leavesExact 26 p0 = owns (c : Thread nD τ) (st0_26 p0) fullShare (w_v (iblk m c 8 p0)) := by
  unfold Dat.leavesExact; rw [live_26, after_26]

/-- and at every other point it need only leave them there. -/
theorem leaves_26 (c : Dev nD) (t : Fin cfg0.N) (h : t.val ≠ 0) (d : Vec F ((cfg0.win 26).block) (cfg0.win 26).elt) :
    owns (c : Thread nD τ) (st0_26 t) fullShare (w_v (iblk m c 8 p0)) ⊢ (dats m 0 c).leavesExact 26 t := by
  by_cases hf : (cfg0.win 26).flush t = true
  · unfold Dat.leavesExact; rw [idle_26 t h, hf, after_26]
  · rw [Dat.leavesExact_idle (dats m 0 c) 26 t (idle_26 t h) (by simpa using hf)]
    iintro H
    iexists d
    rw [before_26 m c t h d]
    iexact H

/-- What the body is called with, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t)

/-- Window 0 is live at every point. -/
theorem leaves_0 (c : Dev nD) (t : Fin cfg0.N) : (dats m 0 c).leavesExact 0 t = owns (c : Thread nD τ) (st0_0 t) fullShare (iblk m c 0 t) := by
  rw [show (dats m 0 c).leavesExact 0 t = owns (c : Thread nD τ) (st0_0 t) fullShare ((dats m 0 c).after 0 t) from rfl, after_0]

/-- Window 1 is live at every point. -/
theorem leaves_1 (c : Dev nD) (t : Fin cfg0.N) : (dats m 0 c).leavesExact 1 t = owns (c : Thread nD τ) (st0_1 t) fullShare (iblk m c 1 t) := by
  rw [show (dats m 0 c).leavesExact 1 t = owns (c : Thread nD τ) (st0_1 t) fullShare ((dats m 0 c).after 1 t) from rfl, after_1]

/-- Window 2 is live at every point. -/
theorem leaves_2 (c : Dev nD) (t : Fin cfg0.N) : (dats m 0 c).leavesExact 2 t = owns (c : Thread nD τ) (st0_2 t) fullShare (iblk m c 2 t) := by
  rw [show (dats m 0 c).leavesExact 2 t = owns (c : Thread nD τ) (st0_2 t) fullShare ((dats m 0 c).after 2 t) from rfl, after_2]

/-- Window 3 is live at every point. -/
theorem leaves_3 (c : Dev nD) (t : Fin cfg0.N) : (dats m 0 c).leavesExact 3 t = owns (c : Thread nD τ) (st0_3 t) fullShare (iblk m c 3 t) := by
  rw [show (dats m 0 c).leavesExact 3 t = owns (c : Thread nD τ) (st0_3 t) fullShare ((dats m 0 c).after 3 t) from rfl, after_3]

/-- Window 4 is live at every point. -/
theorem leaves_4 (c : Dev nD) (t : Fin cfg0.N) : (dats m 0 c).leavesExact 4 t = owns (c : Thread nD τ) (st0_4 t) fullShare (iblk m c 4 t) := by
  rw [show (dats m 0 c).leavesExact 4 t = owns (c : Thread nD τ) (st0_4 t) fullShare ((dats m 0 c).after 4 t) from rfl, after_4]

/-- Window 5 is live at every point. -/
theorem leaves_5 (c : Dev nD) (t : Fin cfg0.N) : (dats m 0 c).leavesExact 5 t = owns (c : Thread nD τ) (st0_5 t) fullShare (iblk m c 5 t) := by
  rw [show (dats m 0 c).leavesExact 5 t = owns (c : Thread nD τ) (st0_5 t) fullShare ((dats m 0 c).after 5 t) from rfl, after_5]

/-- Window 6 is live at every point. -/
theorem leaves_6 (c : Dev nD) (t : Fin cfg0.N) : (dats m 0 c).leavesExact 6 t = owns (c : Thread nD τ) (st0_6 t) fullShare (iblk m c 6 t) := by
  rw [show (dats m 0 c).leavesExact 6 t = owns (c : Thread nD τ) (st0_6 t) fullShare ((dats m 0 c).after 6 t) from rfl, after_6]

/-- Window 7 is live at every point. -/
theorem leaves_7 (c : Dev nD) (t : Fin cfg0.N) : (dats m 0 c).leavesExact 7 t = owns (c : Thread nD τ) (st0_7 t) fullShare (iblk m c 7 t) := by
  rw [show (dats m 0 c).leavesExact 7 t = owns (c : Thread nD τ) (st0_7 t) fullShare ((dats m 0 c).after 7 t) from rfl, after_7]

/-- Window 8 is live at every point. -/
theorem leaves_8 (c : Dev nD) (t : Fin cfg0.N) : (dats m 0 c).leavesExact 8 t = owns (c : Thread nD τ) (st0_8 t) fullShare (iblk m c 8 t) := by
  rw [show (dats m 0 c).leavesExact 8 t = owns (c : Thread nD τ) (st0_8 t) fullShare ((dats m 0 c).after 8 t) from rfl, after_8]

/-- Window 9 is live at every point. -/
theorem leaves_9 (c : Dev nD) (t : Fin cfg0.N) : (dats m 0 c).leavesExact 9 t = owns (c : Thread nD τ) (st0_9 t) fullShare (iblk m c 9 t) := by
  rw [show (dats m 0 c).leavesExact 9 t = owns (c : Thread nD τ) (st0_9 t) fullShare ((dats m 0 c).after 9 t) from rfl, after_9]

/-- Window 10 is live at every point. -/
theorem leaves_10 (c : Dev nD) (t : Fin cfg0.N) : (dats m 0 c).leavesExact 10 t = owns (c : Thread nD τ) (st0_10 t) fullShare (iblk m c 10 t) := by
  rw [show (dats m 0 c).leavesExact 10 t = owns (c : Thread nD τ) (st0_10 t) fullShare ((dats m 0 c).after 10 t) from rfl, after_10]

/-- Window 11 is live at every point. -/
theorem leaves_11 (c : Dev nD) (t : Fin cfg0.N) : (dats m 0 c).leavesExact 11 t = owns (c : Thread nD τ) (st0_11 t) fullShare (PreBodyBits.h_block (iblk m c 0 t) (iblk m c 1 t) (iblk m c 2 t) (iblk m c 3 t)) := by
  rw [show (dats m 0 c).leavesExact 11 t = owns (c : Thread nD τ) (st0_11 t) fullShare ((dats m 0 c).after 11 t) from rfl, after_11]

/-- Window 12 is live at every point. -/
theorem leaves_12 (c : Dev nD) (t : Fin cfg0.N) : (dats m 0 c).leavesExact 12 t = owns (c : Thread nD τ) (st0_12 t) fullShare (PreBodyBits.zq_block (iblk m c 0 t) (iblk m c 1 t) (iblk m c 2 t) (iblk m c 3 t) (w_in (iblk m c 4 p0))) := by
  rw [show (dats m 0 c).leavesExact 12 t = owns (c : Thread nD τ) (st0_12 t) fullShare ((dats m 0 c).after 12 t) from rfl, after_12]

/-- Window 13 is live at every point. -/
theorem leaves_13 (c : Dev nD) (t : Fin cfg0.N) : (dats m 0 c).leavesExact 13 t = owns (c : Thread nD τ) (st0_13 t) fullShare (PreBodyBits.zkv_block (iblk m c 0 t) (iblk m c 1 t) (iblk m c 2 t) (iblk m c 3 t) (w_in (iblk m c 4 p0))) := by
  rw [show (dats m 0 c).leavesExact 13 t = owns (c : Thread nD τ) (st0_13 t) fullShare ((dats m 0 c).after 13 t) from rfl, after_13]

/-- Window 14 is live at every point. -/
theorem leaves_14 (c : Dev nD) (t : Fin cfg0.N) : (dats m 0 c).leavesExact 14 t = owns (c : Thread nD τ) (st0_14 t) fullShare (PreBodyBits.ql_block (iblk m c 0 t) (iblk m c 1 t) (iblk m c 2 t) (iblk m c 3 t) (iblk m c 5 t) (w_in (iblk m c 4 p0))) := by
  rw [show (dats m 0 c).leavesExact 14 t = owns (c : Thread nD τ) (st0_14 t) fullShare ((dats m 0 c).after 14 t) from rfl, after_14]

/-- Window 15 is live at every point. -/
theorem leaves_15 (c : Dev nD) (t : Fin cfg0.N) : (dats m 0 c).leavesExact 15 t = owns (c : Thread nD τ) (st0_15 t) fullShare (PreBodyBits.kvl_block (iblk m c 0 t) (iblk m c 1 t) (iblk m c 2 t) (iblk m c 3 t) (iblk m c 6 t) (w_in (iblk m c 4 p0))) := by
  rw [show (dats m 0 c).leavesExact 15 t = owns (c : Thread nD τ) (st0_15 t) fullShare ((dats m 0 c).after 15 t) from rfl, after_15]

/-- Window 16 is live at every point. -/
theorem leaves_16 (c : Dev nD) (t : Fin cfg0.N) : (dats m 0 c).leavesExact 16 t = owns (c : Thread nD τ) (st0_16 t) fullShare (PreBodyBits.q_block (iblk m c 0 t) (iblk m c 1 t) (iblk m c 2 t) (iblk m c 3 t) (iblk m c 5 t) (iblk m c 9 t) (iblk m c 10 t) (w_in (iblk m c 4 p0)) (w_q (iblk m c 7 p0))) := by
  rw [show (dats m 0 c).leavesExact 16 t = owns (c : Thread nD τ) (st0_16 t) fullShare ((dats m 0 c).after 16 t) from rfl, after_16]

/-- Window 17 is live at every point. -/
theorem leaves_17 (c : Dev nD) (t : Fin cfg0.N) : (dats m 0 c).leavesExact 17 t = owns (c : Thread nD τ) (st0_17 t) fullShare (PreBodyBits.k_block (iblk m c 0 t) (iblk m c 1 t) (iblk m c 2 t) (iblk m c 3 t) (iblk m c 6 t) (iblk m c 9 t) (iblk m c 10 t) (w_in (iblk m c 4 p0)) (w_k (iblk m c 8 p0))) := by
  rw [show (dats m 0 c).leavesExact 17 t = owns (c : Thread nD τ) (st0_17 t) fullShare ((dats m 0 c).after 17 t) from rfl, after_17]

/-- Window 18 is live at every point. -/
theorem leaves_18 (c : Dev nD) (t : Fin cfg0.N) : (dats m 0 c).leavesExact 18 t = owns (c : Thread nD τ) (st0_18 t) fullShare (PreBodyBits.v_block (iblk m c 0 t) (iblk m c 1 t) (iblk m c 2 t) (iblk m c 3 t) (iblk m c 6 t) (w_in (iblk m c 4 p0)) (w_v (iblk m c 8 p0))) := by
  rw [show (dats m 0 c).leavesExact 18 t = owns (c : Thread nD τ) (st0_18 t) fullShare ((dats m 0 c).after 18 t) from rfl, after_18]

/-- Window 19 is live at every point. -/
theorem leaves_19 (c : Dev nD) (t : Fin cfg0.N) : (dats m 0 c).leavesExact 19 t = owns (c : Thread nD τ) (st0_19 t) fullShare (PreBodyBits.qs_block (iblk m c 0 t) (iblk m c 1 t) (iblk m c 2 t) (iblk m c 3 t) (w_in (iblk m c 4 p0))) := by
  rw [show (dats m 0 c).leavesExact 19 t = owns (c : Thread nD τ) (st0_19 t) fullShare ((dats m 0 c).after 19 t) from rfl, after_19]

/-- Window 20 is live at every point. -/
theorem leaves_20 (c : Dev nD) (t : Fin cfg0.N) : (dats m 0 c).leavesExact 20 t = owns (c : Thread nD τ) (st0_20 t) fullShare (PreBodyBits.ks_block (iblk m c 0 t) (iblk m c 1 t) (iblk m c 2 t) (iblk m c 3 t) (w_in (iblk m c 4 p0))) := by
  rw [show (dats m 0 c).leavesExact 20 t = owns (c : Thread nD τ) (st0_20 t) fullShare ((dats m 0 c).after 20 t) from rfl, after_20]

/-- Window 21 is live at every point. -/
theorem leaves_21 (c : Dev nD) (t : Fin cfg0.N) : (dats m 0 c).leavesExact 21 t = owns (c : Thread nD τ) (st0_21 t) fullShare (PreBodyBits.vs_block (iblk m c 0 t) (iblk m c 1 t) (iblk m c 2 t) (iblk m c 3 t) (w_in (iblk m c 4 p0))) := by
  rw [show (dats m 0 c).leavesExact 21 t = owns (c : Thread nD τ) (st0_21 t) fullShare ((dats m 0 c).after 21 t) from rfl, after_21]

/-- Window 22 is live at every point. -/
theorem leaves_22 (c : Dev nD) (t : Fin cfg0.N) : (dats m 0 c).leavesExact 22 t = owns (c : Thread nD τ) (st0_22 t) fullShare (PreBodyBits.g_block (iblk m c 0 t) (iblk m c 1 t) (iblk m c 2 t) (iblk m c 3 t) (w_in (iblk m c 4 p0))) := by
  rw [show (dats m 0 c).leavesExact 22 t = owns (c : Thread nD τ) (st0_22 t) fullShare ((dats m 0 c).after 22 t) from rfl, after_22]

set_option maxHeartbeats 6000000 in
/-- The body at the first point: it builds the weights, then computes. -/
theorem sound_first (c : Dev nD) :
    bodyPre m c p0 ⊢ wp frame (wpE (defs₀ (F := F)) Variants.none c none) Set.univ (bodyAt0 p0) (fun _ => bodyPost m c p0) := by
  unfold bodyPre bodyPost
  simp only [before_0, before_1, before_2, before_3, before_4, before_5, before_6, before_7, before_8, before_9, before_10]
  rw [show (dats m 0 c).Φ p0.succ = (dats m 0 c).Φ p0.castSucc from rfl, show (dats m 0 c).owesAt () p0.succ = (dats m 0 c).owesAt () p0.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23_first, leaves_24_first, leaves_25_first, leaves_26_first]
  unfold bodyAt0
  rw [body_eq]
  rw [if_pos cond_first]
  simp only [wp_bind]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (build_triple c Set.univ (grid0.coords p0) _ _ _ _ _ _ _ _ _ _ _ _ _ _ _ _ _ _ _ _ _ _ _ _ _ _ _ _ _ _ _ _ _ _ _ _ _ _ _ _ _ _ _ _ _ _ _ _ _ _ _ _ _ _ (iblk m c 4 p0) (iblk m c 7 p0) (iblk m c 8 p0) _)
  isplitl [H4]; · iexact H4
  isplitl [H7]; · iexact H7
  isplitl [H8]; · iexact H8
  isplitl [H23]; · iexists _; iexact H23
  isplitl [H24]; · iexists _; iexact H24
  isplitl [H25]; · iexists _; iexact H25
  isplitl [H26]; · iexists _; iexact H26
  iintro ⟨H4, H7, H8, H23, H24, H25, H26⟩
  iapply (rest_triple c Set.univ (grid0.coords p0) _ _ _ _ _ _ _ _ _ _ _ _ _ _ _ _ _ _ _ _ _ _ _ _ _ _ _ _ _ _ _ _ _ _ _ _ _ _ _ _ _ _ _ _ _ _ _ _ _ _ _ _ _ _ (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (w_in (iblk m c 4 p0)) (w_q (iblk m c 7 p0)) (w_k (iblk m c 8 p0)) (w_v (iblk m c 8 p0)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H23]; · iexact H23
  isplitl [H24]; · iexact H24
  isplitl [H25]; · iexact H25
  isplitl [H26]; · iexact H26
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H23, H24, H25, H26, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 6000000 in
/-- The body at a later point: it finds the weights and computes. -/
theorem sound_later (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10]
  rw [show (dats m 0 c).Φ t.succ = (dats m 0 c).Φ t.castSucc from rfl, show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22]
  unfold bodyAt0
  rw [body_eq]
  rw [if_neg (cond_later t h)]
  simp only [pure_bind, before_23 m c t h, before_24 m c t h, before_25 m c t h, before_26 m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (rest_triple c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (w_in (iblk m c 4 p0)) (w_q (iblk m c 7 p0)) (w_k (iblk m c 8 p0)) (w_v (iblk m c 8 p0)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H23]; · iexact H23
  isplitl [H24]; · iexact H24
  isplitl [H25]; · iexact H25
  isplitl [H26]; · iexact H26
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H23, H24, H25, H26, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iapply (leaves_23 m c t h d23); iexact H23
  isplitl [H24]; · iapply (leaves_24 m c t h d24); iexact H24
  isplitl [H25]; · iapply (leaves_25 m c t h d25); iexact H25
  iapply (leaves_26 m c t h d26); iexact H26

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · obtain rfl : t = p0 := Fin.ext h
    exact sound_first m c
  · exact sound_later m c t h

/-- The table's row at a point is the body there. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The program runs: its arrays end at what the proof data say and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the semaphores. -/
theorem run : θ_run defs (onTc (τ := τ) (main (F := F))) (s₀ m ρ) (Pipeline.FramePost cfgs (dats m) 0 (V m)) :=
  (θ_run defs _ _).mono (fun _ h => h.1) (run_quiescent m ρ)

/-- The program runs, its arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run m ρ)) ((θ_run defs _ _).mono (fun _ h => h.2) (run_quiescent m ρ))

end Cert.Proof.PreBodyBits

end
-- ==== Proof.PreFrames.lean ====
/- What the programs of the input projections do to their arguments and counters. -/
module

public import proofs.«01_k».proof.Defs
public import proofs.«01_k».proof.Proof.Gen.PreKernel.Frame
public import proofs.«01_k».proof.Proof.Gen.PreKernel.Skeleton
public import proofs.«01_k».proof.Proof.Gen.PreKernelIdeal.Frame
public import proofs.«01_k».proof.Proof.Gen.PreKernelIdeal.Skeleton
public import proofs.«01_k».proof.Proof.Gen.PreReferenceIdeal.Run
public import Idealize.ShloMosaic.Lib.Quiescent

@[expose] public section

noncomputable section

open Idealize.ShloMosaic Idealize.ShloMosaic.TcCoe Idealize.SL.Sem

namespace Cert.Proof.PreFrames

/-- The reference ends with its arguments unchanged and every counter at zero: its run, and it has no semaphore. -/
theorem reference : Cert.quiescent_PreReferenceIdeal := fun m ρ _ =>
  (θ_run Cert.PreReferenceIdeal.defs _ _).mono (fun r h => ⟨fun c => (h c).2.2.2.2.2.2.2.2.2.2.2.2.2.2.2.2,
      Idealize.ShloMosaic.sem_eq_zero_of_no_sems (by decide) r.2⟩)
    (Cert.PreReferenceIdeal.Value.run (F := Ideal) m ρ)

/-- The two constants of the body that are named: the scales of the two attentions' queries, over log 2. -/
theorem preserves : Cert.preserves_PreKernel_PreKernelIdeal :=
  ⟨IdealRules.named_const.statement Cert.PreKernelIdeal.κ "q_scale" .f32 0x3E16C740#32 (((Real.log 2)⁻¹ * (Real.sqrt 96)⁻¹ : ℝ) : EReal) rfl,
    IdealRules.named_const.statement Cert.PreKernelIdeal.κ "swa_scale" .f32 0x3E38AA3B#32 (((Real.log 2)⁻¹ * 8⁻¹ : ℝ) : EReal) rfl⟩

end Cert.Proof.PreFrames

end
-- ==== Proof.PreRows.lean ====
/- The input projections: what the arguments make of one row of the residual stream, as functions of the argument arrays. Columns are natural numbers,
   and a weight beyond its array's last column is zero. -/
module

public import proofs.«01_k».proof.PreKernelIdeal
public import proofs.«01_k».proof.Proof.PostRows
public import Idealize.ShloMosaic.Lib.Pointwise
public import Idealize.ShloMosaic.Lib.Pipeline.ValueKit

@[expose] public section

set_option maxRecDepth 16384

noncomputable section

namespace Cert.Proof.Pre

open Idealize.ShloMosaic.Tactic Idealize.ShloMosaic.View
open Cert.PreKernelIdeal Idealize.ShloMosaic Idealize.ShloMosaic.TcCoe Idealize.SL.Sem

/-- The arguments. -/
structure In where
  /-- the residual stream -/
  x : FVec Ideal S4x2048x1024 .f32
  /-- the positions -/
  pos : IVec S4x2048 32
  /-- the modulation's shift -/
  shift : FVec Ideal S4x1024 .f32
  /-- the modulation's scale -/
  scale : FVec Ideal S4x1024 .f32
  /-- the gain of the stream's norm -/
  ng : FVec Ideal S1024 .f32
  /-- the weights of the stream's projections -/
  w : FVec Ideal S1024x2464 .f32
  /-- the gain of the queries' norm -/
  gq : FVec Ideal S384 .f32
  /-- the gain of the keys' and values' norm -/
  gkv : FVec Ideal S256 .f32
  /-- the weights of the queries' heads -/
  uq : FVec Ideal S384x768 .f32
  /-- the weights of the keys' and values' heads -/
  ukv : FVec Ideal S256x1024 .f32

/-- The mean square's shift from zero. -/
abbrev epsC : EReal := Ideal.ofBits .f32 0x358637BD#32

/-- The scale of the latent queries. -/
def qScale : EReal := (((Real.log 2)⁻¹ * (Real.sqrt 96)⁻¹ : ℝ) : EReal)

/-- The scale of the window's queries. -/
def sScale : EReal := (((Real.log 2)⁻¹ * 8⁻¹ : ℝ) : EReal)

namespace In
variable (D : In)

/-- The projections' weights. -/
def wN (d : Fin 1024) (n : ℕ) : EReal := if h : n < 2464 then D.w (ix2 d ⟨n, h⟩) else 0
/-- The queries' weights. -/
def uqN (j : Fin 384) (n : ℕ) : EReal := if h : n < 768 then D.uq (ix2 j ⟨n, h⟩) else 0
/-- The keys' and values' weights. -/
def ukvN (j : Fin 256) (n : ℕ) : EReal := if h : n < 1024 then D.ukv (ix2 j ⟨n, h⟩) else 0

/-- A position's angle at the `j`-th frequency. -/
def ang (b : Fin 4) (s : Fin 2048) (j : ℕ) : EReal :=
  FloatOps.sitofp (F := Ideal) .f32 (D.pos (ix2 b s)) * Ideal.pow (Ideal.ofBits .f32 0x461C4000#32)
    (Ideal.div (-(Ideal.ofBits .f32 0x40000000#32 * FloatOps.sitofp (F := Ideal) .f32 (BitVec.ofNat 32 j))) (Ideal.ofBits .f32 0x42000000#32))
/-- Its cosine. -/
def cs (b : Fin 4) (s : Fin 2048) (j : ℕ) : EReal := Ideal.cos (D.ang b s j)
/-- Its sine. -/
def sn (b : Fin 4) (s : Fin 2048) (j : ℕ) : EReal := Ideal.sin (D.ang b s j)

/-- The normalised, modulated row. -/
def h (b : Fin 4) (s : Fin 2048) (d : Fin 1024) : EReal :=
  D.x (ix3 b s d) * Ideal.rsqrt (Ideal.div (∑ k, D.x (ix3 b s k) * D.x (ix3 b s k)) (Ideal.ofBits .f32 0x44800000#32) + epsC) * D.ng (ix1 d)
    * (1 + D.scale (ix2 b d)) + D.shift (ix2 b d)
/-- Its projections. -/
def z (b : Fin 4) (s : Fin 2048) (n : ℕ) : EReal := ∑ d, D.h b s d * D.wN d n
/-- The queries' latent. -/
def ql (b : Fin 4) (s : Fin 2048) (j : Fin 384) : EReal :=
  D.z b s j.val * Ideal.rsqrt (Ideal.div (∑ k : Fin 384, D.z b s k.val * D.z b s k.val) (Ideal.ofBits .f32 0x43C00000#32) + epsC) * D.gq (ix1 j)
/-- The keys' and values' latent. -/
def kvl (b : Fin 4) (s : Fin 2048) (j : Fin 256) : EReal :=
  D.z b s (384 + j.val) * Ideal.rsqrt (Ideal.div (∑ k : Fin 256, D.z b s (384 + k.val) * D.z b s (384 + k.val)) (Ideal.ofBits .f32 0x43800000#32) + epsC)
    * D.gkv (ix1 j)
/-- The queries before their turn. -/
def qf (b : Fin 4) (s : Fin 2048) (n : ℕ) : EReal := ∑ j, D.ql b s j * D.uqN j n
/-- The keys and values of the heads. -/
def kvf (b : Fin 4) (s : Fin 2048) (n : ℕ) : EReal := ∑ j, D.kvl b s j * D.ukvN j n

/-- Lane `l` of head `m`'s query: the first sixty-four lanes as they are, the next two sixteens turned, the rest zero. -/
def q (b : Fin 4) (s : Fin 2048) (m l : ℕ) : EReal :=
  if l < 64 then D.qf b s (m * 96 + l)
  else if l < 80 then D.qf b s (m * 96 + l) * D.cs b s (l - 64) - D.qf b s (m * 96 + l + 16) * D.sn b s (l - 64)
  else if l < 96 then D.qf b s (m * 96 + l) * D.cs b s (l - 80) + D.qf b s (m * 96 + l - 16) * D.sn b s (l - 80)
  else 0

/-- Lane `l` of head `m`'s key: the head's own lanes, the turned lanes all heads share, the rest zero. -/
def k (b : Fin 4) (s : Fin 2048) (m l : ℕ) : EReal :=
  if l < 64 then D.kvf b s (m * 128 + l)
  else if l < 80 then D.z b s (576 + l) * D.cs b s (l - 64) - D.z b s (592 + l) * D.sn b s (l - 64)
  else if l < 96 then D.z b s (576 + l) * D.cs b s (l - 80) + D.z b s (560 + l) * D.sn b s (l - 80)
  else 0

end In

/-- Column `k` of the pairs of heads: of two groups of four, one of each in turn. -/
def perm (k : ℕ) : ℕ := k / 64 % 2 * 256 + k / 128 * 64 + k % 64

/-- The projection in row `r` of the weights' layout; past the last where the row is empty. -/
def src (r : ℕ) : ℕ :=
  if r < 640 then r else if r < 704 then 2464 else if r < 736 then r - 64 else if r < 768 then 2464 else if r < 1280 then r - 96
  else if r < 1792 then 1184 + perm (r - 1280) else if r < 2048 then r - 96 else 1952 + perm (r - 2048)

/-- The query's column in lane `c`; past the last where the lane is empty. -/
def srcQ (c : ℕ) : ℕ := if c % 128 < 96 then c / 128 * 96 + c % 128 else 768

/-- The key's column in lane `c`; past the last where the lane is empty. -/
def srcK (c : ℕ) : ℕ := if c % 128 < 64 then c else 1024

/-- The value's column in lane `c`. -/
def srcV (c : ℕ) : ℕ := c / 64 * 128 + 64 + c % 64

/-- A row's sequence. -/
def bOf (t : Fin 8192) : Fin 4 := ⟨t.val / 2048, by omega⟩
/-- A row's place in its sequence. -/
def sOf (t : Fin 8192) : Fin 2048 := ⟨t.val % 2048, by omega⟩

namespace In
variable (D : In)

theorem wN_val (d : Fin 1024) (n : Fin 2464) : D.w (ix2 d n) = D.wN d n.val := by rw [wN, dif_pos n.isLt]
theorem wN_zero (d : Fin 1024) {n : ℕ} (h : 2464 ≤ n) : D.wN d n = 0 := dif_neg (by omega)
theorem uqN_val (j : Fin 384) (n : Fin 768) : D.uq (ix2 j n) = D.uqN j n.val := by rw [uqN, dif_pos n.isLt]
theorem uqN_zero (j : Fin 384) {n : ℕ} (h : 768 ≤ n) : D.uqN j n = 0 := dif_neg (by omega)
theorem ukvN_val (j : Fin 256) (n : Fin 1024) : D.ukv (ix2 j n) = D.ukvN j n.val := by rw [ukvN, dif_pos n.isLt]
theorem ukvN_zero (j : Fin 256) {n : ℕ} (h : 1024 ≤ n) : D.ukvN j n = 0 := dif_neg (by omega)

theorem z_zero (b : Fin 4) (s : Fin 2048) {n : ℕ} (h : 2464 ≤ n) : D.z b s n = 0 :=
  Finset.sum_eq_zero fun d _ => by rw [D.wN_zero d h, mul_zero]
theorem qf_zero (b : Fin 4) (s : Fin 2048) {n : ℕ} (h : 768 ≤ n) : D.qf b s n = 0 :=
  Finset.sum_eq_zero fun d _ => by rw [D.uqN_zero d h, mul_zero]
theorem kvf_zero (b : Fin 4) (s : Fin 2048) {n : ℕ} (h : 1024 ≤ n) : D.kvf b s n = 0 :=
  Finset.sum_eq_zero fun d _ => by rw [D.ukvN_zero d h, mul_zero]

end In

/-- The queries' scale as quotients. -/
theorem qScale_eq : Ideal.div (Ideal.div 1 (Ideal.log (Ideal.ofBits .f32 0x40000000#32))) (Ideal.sqrt (Ideal.ofBits .f32 0x42C00000#32)) = qScale := by
  have n : Ideal.ofBits .f32 0x42C00000#32 = ((96 : ℝ) : EReal) := by
    simp [Ideal.ofBits, Ideal.ieee]; rw [← EReal.coe_mul]; norm_num
  have s : Ideal.sqrt ((96 : ℝ) : EReal) = ((Real.sqrt 96 : ℝ) : EReal) := if_neg (by norm_num)
  rw [Post.ofBits_two, n, s, Ideal.log_coe, if_neg (by norm_num), ← EReal.coe_one, Post.div_real _ _ (Real.log_pos (by norm_num)).ne',
    Post.div_real _ _ (Real.sqrt_pos.mpr (by norm_num)).ne', qScale]
  congr 1
  rw [div_eq_mul_inv, one_div]

/-- The window's queries' scale as quotients. -/
theorem sScale_eq : Ideal.div (Ideal.div 1 (Ideal.log (Ideal.ofBits .f32 0x40000000#32))) (Ideal.ofBits .f32 0x41000000#32) = sScale := by
  have n : Ideal.ofBits .f32 0x41000000#32 = ((8 : ℝ) : EReal) := by
    simp [Ideal.ofBits, Ideal.ieee]; rw [← EReal.coe_mul]; norm_num
  rw [Post.ofBits_two, n, Ideal.log_coe, if_neg (by norm_num), ← EReal.coe_one, Post.div_real _ _ (Real.log_pos (by norm_num)).ne',
    Post.div_real _ _ (by norm_num), sScale]
  congr 1
  rw [div_eq_mul_inv, one_div]

/-! ## The results -/

section
variable (D : In)

/-- The normalised stream. -/
def gH : FVec Ideal S8192x1024 .bf16 := fun y => D.h (bOf (y 0)) (sOf (y 0)) (y 1)
/-- The queries' projection. -/
def gZq : FVec Ideal S8192x384 .f32 := fun y => D.z (bOf (y 0)) (sOf (y 0)) (y 1).val
/-- The keys' and values' projection. -/
def gZkv : FVec Ideal S8192x256 .f32 := fun y => D.z (bOf (y 0)) (sOf (y 0)) (384 + (y 1).val)
/-- The queries' latent. -/
def gQl : FVec Ideal S8192x384 .bf16 := fun y => D.ql (bOf (y 0)) (sOf (y 0)) (y 1)
/-- The keys' and values' latent. -/
def gKvl : FVec Ideal S8192x256 .bf16 := fun y => D.kvl (bOf (y 0)) (sOf (y 0)) (y 1)
/-- The queries. -/
def gQ : FVec Ideal S8192x1024 .bf16 := fun y => D.q (bOf (y 0)) (sOf (y 0)) ((y 1).val / 128) ((y 1).val % 128) * qScale
/-- The keys. -/
def gK : FVec Ideal S8192x1024 .bf16 := fun y => D.k (bOf (y 0)) (sOf (y 0)) ((y 1).val / 128) ((y 1).val % 128)
/-- The values. -/
def gV : FVec Ideal S8192x512 .bf16 := fun y => D.kvf (bOf (y 0)) (sOf (y 0)) (srcV (y 1).val)
/-- The window's queries. -/
def gQs : FVec Ideal S8192x512 .bf16 := fun y => D.z (bOf (y 0)) (sOf (y 0)) (1184 + perm (y 1).val) * sScale
/-- The window's keys. -/
def gKs : FVec Ideal S8192x128 .bf16 := fun y => D.z (bOf (y 0)) (sOf (y 0)) (1696 + (y 1).val)
/-- The window's values. -/
def gVs : FVec Ideal S8192x128 .bf16 := fun y => D.z (bOf (y 0)) (sOf (y 0)) (1824 + (y 1).val)
/-- The gates. -/
def gG : FVec Ideal S8192x1024 .f32 := fun y =>
  D.z (bOf (y 0)) (sOf (y 0)) (if (y 1).val < 512 then 672 + (y 1).val else 1952 + perm ((y 1).val - 512))
/-- The projections' weights, laid out. -/
def gWp : FVec Ideal S2560x1024 .bf16 := fun y => D.wN (y 1) (src (y 0).val)
/-- The queries' weights, laid out. -/
def gWq : FVec Ideal S384x1024 .bf16 := fun y => D.uqN (y 0) (srcQ (y 1).val)
/-- The keys' weights, laid out. -/
def gWk : FVec Ideal S256x1024 .bf16 := fun y => D.ukvN (y 0) (srcK (y 1).val)
/-- The values' weights, laid out. -/
def gWv : FVec Ideal S256x512 .bf16 := fun y => D.ukvN (y 0) (srcV (y 1).val)

end

end Cert.Proof.Pre

end
-- ==== Proof.PreWeights.lean ====
/- The input projections: the entries of the weights' layouts. -/
module

public import proofs.«01_k».proof.Proof.PreBody
public import proofs.«01_k».proof.Proof.PreRows

@[expose] public section

set_option maxRecDepth 16384

noncomputable section

namespace Cert.Proof.Pre

open Idealize.ShloMosaic.Tactic Idealize.ShloMosaic.View
open Cert.PreKernelIdeal Cert.PreKernelIdeal.Gen Idealize.ShloMosaic Idealize.ShloMosaic.TcCoe Idealize.SL.Sem

/-- An entry of two coordinates, the second of 1024. -/
theorem two {n : ℕ} (x : (⟨2, ![n, 1024]⟩ : Shape).Idx) : ∃ (a : Fin n) (l : Fin 1024), x = ix2 a l :=
  ⟨x 0, x 1, by funext i; fin_cases i <;> rfl⟩

/-- Column `c` of the values' weights. -/
theorem w_v_at {D : In} {x8 : Vec Ideal S8x256x128 .bf16} (h : ∀ e j d, x8 (ix3 e j d) = D.ukvN j (e.val * 128 + d.val)) (r : Fin 256) (c : Fin 512) :
    PreBody.w_v x8 (ix2 r c) = D.ukvN r (srcV c.val) := by
  refine View.canon_apply_of_pieces (fun y => D.ukvN (y 0) (srcV (y 1).val)) _ ?_ _ (PreBody.w_v_cover x8 _)
  unfold PreBody.w_v_pieces
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩⟩⟩⟩
  all_goals obtain ⟨a, l, rfl⟩ : ∃ (a : Fin 256) (l : Fin 64), x = ix2 a l := ⟨x 0, x 1, by funext i; fin_cases i <;> rfl⟩
  all_goals pointwise [k0_pay40, k0_pay35, k0_pay30, k0_pay25, k0_pay20, k0_pay15, k0_pay10, k0_pay5]
  all_goals
    refine (h _ _ _).trans (congrArg₂ D.ukvN (Fin.ext ?_) ?_) <;> blk_simp
    unfold srcV; (try split_ifs) <;> ((try simp only [Fin.isValue, Fin.val_mk, Fin.reduceFinMk]); omega)

/-- Column `c` of the keys' weights. -/
theorem w_k_at {D : In} {x8 : Vec Ideal S8x256x128 .bf16} (h : ∀ e j d, x8 (ix3 e j d) = D.ukvN j (e.val * 128 + d.val)) (r : Fin 256) (c : Fin 1024) :
    PreBody.w_k x8 (ix2 r c) = D.ukvN r (srcK c.val) := by
  refine View.canon_apply_of_pieces (fun y => D.ukvN (y 0) (srcK (y 1).val)) _ ?_ _ (PreBody.w_k_cover x8 _)
  unfold PreBody.w_k_pieces
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩⟩⟩⟩⟩⟩⟩⟩⟩⟩⟩⟩
  all_goals obtain ⟨a, l, rfl⟩ : ∃ (a : Fin 256) (l : Fin 64), x = ix2 a l := ⟨x 0, x 1, by funext i; fin_cases i <;> rfl⟩
  all_goals pointwise [k0_pay39, k0_pay38, k0_pay34, k0_pay33, k0_pay29, k0_pay28, k0_pay24, k0_pay23, k0_pay19, k0_pay18, k0_pay14, k0_pay13, k0_pay9, k0_pay8, k0_pay4, k0_pay3]
  all_goals first
    | refine (D.ukvN_zero _ ?_).symm; blk_simp; unfold srcK; split_ifs <;> omega
    | refine (h _ _ _).trans (congrArg₂ D.ukvN (Fin.ext ?_) ?_) <;> blk_simp
      unfold srcK; (try split_ifs) <;> ((try simp only [Fin.isValue, Fin.val_mk, Fin.reduceFinMk]); omega)

/-- Column `c` of the queries' weights. -/
theorem w_q_at {D : In} {x7 : Vec Ideal S8x384x96 .bf16} (h : ∀ e j d, x7 (ix3 e j d) = D.uqN j (e.val * 96 + d.val)) (r : Fin 384) (c : Fin 1024) :
    PreBody.w_q x7 (ix2 r c) = D.uqN r (srcQ c.val) := by
  refine View.canon_apply_of_pieces (fun y => D.uqN (y 0) (srcQ (y 1).val)) _ ?_ _ (PreBody.w_q_cover x7 _)
  unfold PreBody.w_q_pieces
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay37]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay36]
    refine (h _ _ _).trans (congrArg₂ D.uqN (Fin.ext ?_) ?_)
    · blk_simp
    · blk_simp; unfold srcQ; (try split_ifs) <;> ((try simp only [Fin.isValue, Fin.val_mk, Fin.reduceFinMk]); omega)
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay32]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay31]
    refine (h _ _ _).trans (congrArg₂ D.uqN (Fin.ext ?_) ?_)
    · blk_simp
    · blk_simp; unfold srcQ; (try split_ifs) <;> ((try simp only [Fin.isValue, Fin.val_mk, Fin.reduceFinMk]); omega)
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay27]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay26]
    refine (h _ _ _).trans (congrArg₂ D.uqN (Fin.ext ?_) ?_)
    · blk_simp
    · blk_simp; unfold srcQ; (try split_ifs) <;> ((try simp only [Fin.isValue, Fin.val_mk, Fin.reduceFinMk]); omega)
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay22]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay21]
    refine (h _ _ _).trans (congrArg₂ D.uqN (Fin.ext ?_) ?_)
    · blk_simp
    · blk_simp; unfold srcQ; (try split_ifs) <;> ((try simp only [Fin.isValue, Fin.val_mk, Fin.reduceFinMk]); omega)
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay17]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay16]
    refine (h _ _ _).trans (congrArg₂ D.uqN (Fin.ext ?_) ?_)
    · blk_simp
    · blk_simp; unfold srcQ; (try split_ifs) <;> ((try simp only [Fin.isValue, Fin.val_mk, Fin.reduceFinMk]); omega)
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay12]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay11]
    refine (h _ _ _).trans (congrArg₂ D.uqN (Fin.ext ?_) ?_)
    · blk_simp
    · blk_simp; unfold srcQ; (try split_ifs) <;> ((try simp only [Fin.isValue, Fin.val_mk, Fin.reduceFinMk]); omega)
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay7]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay6]
    refine (h _ _ _).trans (congrArg₂ D.uqN (Fin.ext ?_) ?_)
    · blk_simp
    · blk_simp; unfold srcQ; (try split_ifs) <;> ((try simp only [Fin.isValue, Fin.val_mk, Fin.reduceFinMk]); omega)
  refine List.forall_mem_cons.2 ⟨fun x => ?_, ?_⟩
  · obtain ⟨a, l, rfl⟩ : ∃ (a : Fin 384) (l : Fin 32), x = ix2 a l := ⟨x 0, x 1, by funext i; fin_cases i <;> rfl⟩
    pointwise [k0_pay2]
    refine (D.uqN_zero _ ?_).symm
    blk_simp; unfold srcQ; split_ifs <;> omega
  refine List.forall_mem_cons.2 ⟨fun x => ?_, ?_⟩
  · obtain ⟨a, l, rfl⟩ : ∃ (a : Fin 384) (l : Fin 96), x = ix2 a l := ⟨x 0, x 1, by funext i; fin_cases i <;> rfl⟩
    pointwise [k0_pay1]
    refine (h _ _ _).trans (congrArg₂ D.uqN (Fin.ext ?_) ?_)
    · blk_simp
    · blk_simp; unfold srcQ; (try split_ifs) <;> ((try simp only [Fin.isValue, Fin.val_mk, Fin.reduceFinMk]); omega)
  exact fun p hp => absurd hp List.not_mem_nil

set_option maxHeartbeats 4000000 in
/-- Row `r` of the projections' weights. -/
theorem w_in_at {D : In} {x4 : Vec Ideal S8x308x1024 .bf16} (h : ∀ e j d, x4 (ix3 e j d) = D.wN d (308 * e.val + j.val)) (r : Fin 2560) (c : Fin 1024) :
    PreBody.w_in x4 (ix2 r c) = D.wN c (src r.val) := by
  refine View.canon_apply_of_pieces (fun y => D.wN (y 1) (src (y 0).val)) _ ?_ _ (PreBody.w_in_cover x4 _)
  unfold PreBody.w_in_pieces
  refine List.forall_mem_cons.2 ⟨fun x => ?_, ?_⟩
  · obtain ⟨a, l, rfl⟩ := two (n := 64) x
    pointwise [k0_pay69]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay68]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay67]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay66]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 52) x
    pointwise [k0_pay65]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 12) x
    pointwise [k0_pay64]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay63]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay62]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay61]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 104) x
    pointwise [k0_pay60]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 152) x
    pointwise [k0_pay59]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay58]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay57]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 28) x
    pointwise [k0_pay56]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 36) x
    pointwise [k0_pay55]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay54]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay53]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay52]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 64) x
    pointwise [k0_pay51]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 16) x
    pointwise [k0_pay50]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 48) x
    pointwise [k0_pay49]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 260) x
    pointwise [k0_pay48]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 252) x
    pointwise [k0_pay47]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 32) x
    pointwise [k0_pay46]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 24) x
    pointwise [k0_pay45]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 308) x
    pointwise [k0_pay44]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 308) x
    pointwise [k0_pay43]
    refine (h _ _ _).trans (congrArg₂ D.wN (Fin.ext ?_) ?_)
    · blk_simp
    · blk_simp; unfold src perm; (try split_ifs) <;> ((try simp only [Fin.isValue, Fin.val_mk, Fin.reduceFinMk]); omega)
  refine List.forall_mem_cons.2 ⟨fun x => ?_, ?_⟩
  · obtain ⟨a, l, rfl⟩ := two (n := 32) x
    pointwise [k0_pay42]
    refine (D.wN_zero _ ?_).symm
    blk_simp; unfold src perm; split_ifs <;> omega
  refine List.forall_mem_cons.2 ⟨fun x => ?_, ?_⟩
  · obtain ⟨a, l, rfl⟩ := two (n := 64) x
    pointwise [k0_pay41]
    refine (D.wN_zero _ ?_).symm
    blk_simp; unfold src perm; split_ifs <;> omega
  exact fun p hp => absurd hp List.not_mem_nil

end Cert.Proof.Pre

end
-- ==== Proof.PreTiles.lean ====
/- The input projections: one row of each tile the body computes, of blocks that hold the arguments' row. -/
module

public import proofs.«01_k».proof.Proof.PreBody
public import proofs.«01_k».proof.Proof.PreRows

@[expose] public section

set_option maxRecDepth 16384

noncomputable section

namespace Cert.Proof.Pre

open Idealize.ShloMosaic.Tactic Idealize.ShloMosaic.View
open Cert.PreKernelIdeal Cert.PreKernelIdeal.Gen Idealize.ShloMosaic Idealize.ShloMosaic.TcCoe Idealize.SL.Sem

theorem named_q : Named.named (F := Ideal) κ "q_scale" (φ := .f32) 0x3E16C740#32 = qScale :=
  IdealRules.named_const.ideal_named_scalar _ _ _ _ rfl
theorem named_s : Named.named (F := Ideal) κ "swa_scale" (φ := .f32) 0x3E38AA3B#32 = sScale :=
  IdealRules.named_const.ideal_named_scalar _ _ _ _ rfl

/-! ## Eight copies side by side, and the lanes' masks -/

/-- Eight copies of a tile side by side. -/
def cat (f : FVec Ideal S512x128 .f32) : FVec Ideal S512x1024 .f32 :=
  concatenate S512x1024 1 [⟨S512x128, f⟩, ⟨S512x128, f⟩, ⟨S512x128, f⟩, ⟨S512x128, f⟩, ⟨S512x128, f⟩, ⟨S512x128, f⟩, ⟨S512x128, f⟩, ⟨S512x128, f⟩]
    concatenates_S512x128_S512x128_S512x128_S512x128_S512x128_S512x128_S512x128_S512x128_S512x1024_d1

theorem cat_at (f : FVec Ideal S512x128 .f32) (p : Fin 512) (l : Fin 1024) : cat f (ix2 p l) = f (ix2 p ⟨l.val % 128, by omega⟩) := by
  pointwise [cat]
  split_ifs <;> exact congrArg f (congrArg (ix2 p) (Fin.ext (by simp only []; omega)))

theorem mask0 : ∀ l : Fin 128, IntOp.cmpi .slt (BitVec.ofNat 32 l.val) 64#32 = BitVec.ofBool (decide (l.val < 64)) := by decide +kernel
theorem mask1 : ∀ l : Fin 128, IntOp.andi (IntOp.cmpi .sge (BitVec.ofNat 32 l.val) 64#32) (IntOp.cmpi .slt (BitVec.ofNat 32 l.val) 80#32)
    = BitVec.ofBool (decide (64 ≤ l.val ∧ l.val < 80)) := by decide +kernel
theorem mask2 : ∀ l : Fin 128, IntOp.andi (IntOp.cmpi .sge (BitVec.ofNat 32 l.val) 80#32) (IntOp.cmpi .slt (BitVec.ofNat 32 l.val) 96#32)
    = BitVec.ofBool (decide (80 ≤ l.val ∧ l.val < 96)) := by decide +kernel

theorem select_ofBool (P : Prop) [Decidable P] (a b : EReal) : Scalar.select (BitVec.ofBool (decide P)) a b = if P then a else b := by
  by_cases h : P <;> simp [h, Scalar.select]

/-! ## The table of the turn -/

/-- The lanes' numbers. -/
abbrev lanes : IVec S512x128 32 := iota .tc S512x128 32 [1] iota_S512x128_d1_w32

theorem turn0 (T : FVec Ideal S64x128 .f32) (p : Fin 512) (l : Fin 128) :
    k0_pay78 (F := Ideal) (k0_pay74 T) lanes k0_pay76 (ix2 p l)
      = if 64 ≤ l.val ∧ l.val < 80 then T (ix2 ⟨p.val / 8, by omega⟩ ⟨((l.val + 128 - 80) % 128 + 128 - 16 * p.val % 128) % 128, by omega⟩)
        else if 80 ≤ l.val ∧ l.val < 96 then T (ix2 ⟨p.val / 8, by omega⟩ ⟨((l.val + 128 - 96) % 128 + 128 - 16 * p.val % 128) % 128, by omega⟩) else 0 := by
  pointwise [k0_pay78, k0_pay77, k0_pay76, k0_pay74]
  rw [mask1, mask2, select_ofBool, select_ofBool]

theorem turn1 (T : FVec Ideal S64x128 .f32) (p : Fin 512) (l : Fin 128) :
    k0_pay79 (F := Ideal) (k0_pay75 T) k0_pay76 (ix2 p l)
      = if 64 ≤ l.val ∧ l.val < 80 then 0 - T (ix2 ⟨p.val / 8, by omega⟩ ⟨((l.val + 128 - 80) % 128 + 128 - 16 * p.val % 128) % 128, by omega⟩) else 0 := by
  pointwise [k0_pay79, k0_pay76, k0_pay75]
  rw [mask1, select_ofBool]

theorem turn2 (T : FVec Ideal S64x128 .f32) (p : Fin 512) (l : Fin 128) :
    k0_pay80 (F := Ideal) (k0_pay75 T) lanes (ix2 p l)
      = if 80 ≤ l.val ∧ l.val < 96 then T (ix2 ⟨p.val / 8, by omega⟩ ⟨((l.val + 128 - 96) % 128 + 128 - 16 * p.val % 128) % 128, by omega⟩) else 0 := by
  pointwise [k0_pay80, k0_pay77, k0_pay75]
  rw [mask2, select_ofBool]

/-! ## Blocks that hold a row -/

/-- The blocks hold, at row `p`, the row `s` of sequence `b`, and the weights' layouts. -/
structure Blk (D : In) (b : Fin 4) (s : Fin 2048) (p : Fin 512) (x0 : Vec Ideal S512x1024 .f32) (x1 x2 : Vec Ideal S1x1x1024 .f32)
    (x3 : Vec Ideal S1x1024 .f32) (x5 : Vec Ideal S1x384 .f32) (x6 : Vec Ideal S1x256 .f32) (x9 x10 : Vec Ideal S64x128 .f32)
    (w0 : Vec Ideal S2560x1024 .bf16) (w1 : Vec Ideal S384x1024 .bf16) (w2 : Vec Ideal S256x1024 .bf16) (w3 : Vec Ideal S256x512 .bf16) : Prop where
  x : ∀ d, x0 (ix2 p d) = D.x (ix3 b s d)
  shift : ∀ d, x1 (ix3 0 0 d) = D.shift (ix2 b d)
  scale : ∀ d, x2 (ix3 0 0 d) = D.scale (ix2 b d)
  ng : ∀ d, x3 (ix2 0 d) = D.ng (ix1 d)
  gq : ∀ d, x5 (ix2 0 d) = D.gq (ix1 d)
  gkv : ∀ d, x6 (ix2 0 d) = D.gkv (ix1 d)
  cs : ∀ l : Fin 128, l.val / 16 = 7 - p.val % 8 → x9 (ix2 ⟨p.val / 8, by omega⟩ l) = D.cs b s (l.val % 16)
  sn : ∀ l : Fin 128, l.val / 16 = 7 - p.val % 8 → x10 (ix2 ⟨p.val / 8, by omega⟩ l) = D.sn b s (l.val % 16)
  w0 : ∀ r d, w0 (ix2 r d) = D.wN d (src r.val)
  w1 : ∀ j c, w1 (ix2 j c) = D.uqN j (srcQ c.val)
  w2 : ∀ j c, w2 (ix2 j c) = D.ukvN j (srcK c.val)
  w3 : ∀ j c, w3 (ix2 j c) = D.ukvN j (srcV c.val)

section
variable {D : In} {b : Fin 4} {s : Fin 2048} {p : Fin 512} {x0 : Vec Ideal S512x1024 .f32} {x1 x2 : Vec Ideal S1x1x1024 .f32}
    {x3 : Vec Ideal S1x1024 .f32} {x5 : Vec Ideal S1x384 .f32} {x6 : Vec Ideal S1x256 .f32} {x9 x10 : Vec Ideal S64x128 .f32}
    {w0 : Vec Ideal S2560x1024 .bf16} {w1 : Vec Ideal S384x1024 .bf16} {w2 : Vec Ideal S256x1024 .bf16} {w3 : Vec Ideal S256x512 .bf16}
variable (H : Blk D b s p x0 x1 x2 x3 x5 x6 x9 x10 w0 w1 w2 w3)
include H

theorem h_at (d : Fin 1024) : PreBody.h x0 x1 x2 x3 (ix2 p d) = D.h b s d := by
  have e : PreBody.h x0 x1 x2 x3 (ix2 p d) = x0 (ix2 p d) * Ideal.rsqrt (Ideal.div (∑ k, x0 (ix2 p k) * x0 (ix2 p k)) (Ideal.ofBits .f32 0x44800000#32) + epsC)
      * x3 (ix2 0 d) * (1 + x2 (ix3 0 0 d)) + x1 (ix3 0 0 d) := by
    pointwise [PreBody.h, k0_pay70]
  rw [e]; simp only [H.x, H.shift, H.scale, H.ng]; rfl

theorem zq_at (j : Fin 384) : PreBody.zq x0 x1 x2 x3 w0 (ix2 p j) = D.z b s j.val := by
  have e : PreBody.zq x0 x1 x2 x3 w0 (ix2 p j) = ∑ d, PreBody.h x0 x1 x2 x3 (ix2 p d) * w0 (ix2 ⟨j.val, by omega⟩ d) := by
    pointwise [PreBody.zq, k0_pay71]; rfl
  rw [e]; simp only [h_at H, H.w0]
  rw [show src j.val = j.val by unfold src; rw [if_pos (by omega)]]; rfl

theorem ql_at (j : Fin 384) : PreBody.ql x0 x1 x2 x3 x5 w0 (ix2 p j) = D.ql b s j := by
  have e : PreBody.ql x0 x1 x2 x3 x5 w0 (ix2 p j) = PreBody.zq x0 x1 x2 x3 w0 (ix2 p j)
      * Ideal.rsqrt (Ideal.div (∑ k, PreBody.zq x0 x1 x2 x3 w0 (ix2 p k) * PreBody.zq x0 x1 x2 x3 w0 (ix2 p k)) (Ideal.ofBits .f32 0x43C00000#32) + epsC)
      * x5 (ix2 0 j) := by
    pointwise [PreBody.ql, k0_pay72]
  rw [e]; simp only [zq_at H, H.gq]; rfl

theorem zkv_at (j : Fin 256) : PreBody.zkv x0 x1 x2 x3 w0 (ix2 p j) = D.z b s (384 + j.val) := by
  have e : PreBody.zkv x0 x1 x2 x3 w0 (ix2 p j) = ∑ d, PreBody.h x0 x1 x2 x3 (ix2 p d) * w0 (ix2 ⟨384 + j.val, by omega⟩ d) := by
    pointwise [PreBody.zkv, k0_pay82]
  rw [e]; simp only [h_at H, H.w0]
  rw [show src (384 + j.val) = 384 + j.val by unfold src; rw [if_pos (by omega)]]; rfl

theorem kvl_at (j : Fin 256) : PreBody.kvl x0 x1 x2 x3 x6 w0 (ix2 p j) = D.kvl b s j := by
  have e : PreBody.kvl x0 x1 x2 x3 x6 w0 (ix2 p j) = PreBody.zkv x0 x1 x2 x3 w0 (ix2 p j)
      * Ideal.rsqrt (Ideal.div (∑ k, PreBody.zkv x0 x1 x2 x3 w0 (ix2 p k) * PreBody.zkv x0 x1 x2 x3 w0 (ix2 p k)) (Ideal.ofBits .f32 0x43800000#32) + epsC)
      * x6 (ix2 0 j) := by
    pointwise [PreBody.kvl, k0_pay83]
  rw [e]; simp only [zkv_at H, H.gkv]; rfl

theorem v_at (l : Fin 512) : PreBody.v x0 x1 x2 x3 x6 w0 w3 (ix2 p l) = D.kvf b s (srcV l.val) := by
  have e : PreBody.v x0 x1 x2 x3 x6 w0 w3 (ix2 p l) = ∑ j, PreBody.kvl x0 x1 x2 x3 x6 w0 (ix2 p j) * w3 (ix2 j l) := by
    pointwise [PreBody.v, k0_pay86, k0_pay85]
  rw [e]; simp only [kvl_at H, H.w3]; rfl

theorem qs_at (l : Fin 512) : PreBody.qs x0 x1 x2 x3 w0 (ix2 p l) = D.z b s (1184 + perm l.val) * sScale := by
  have e : PreBody.qs x0 x1 x2 x3 w0 (ix2 p l) = (∑ d, PreBody.h x0 x1 x2 x3 (ix2 p d) * w0 (ix2 ⟨1280 + l.val, by omega⟩ d))
      * Named.named (F := Ideal) κ "swa_scale" (φ := .f32) 0x3E38AA3B#32 := by
    pointwise [PreBody.qs, k0_pay88]
  rw [e, named_s]; simp only [h_at H, H.w0]
  rw [show src (1280 + l.val) = 1184 + perm l.val by unfold src perm; split_ifs <;> omega]; rfl

theorem ks_at (l : Fin 128) : PreBody.ks x0 x1 x2 x3 w0 (ix2 p l) = D.z b s (1696 + l.val) := by
  have e : PreBody.ks x0 x1 x2 x3 w0 (ix2 p l) = ∑ d, PreBody.h x0 x1 x2 x3 (ix2 p d) * w0 (ix2 ⟨1792 + l.val, by omega⟩ d) := by
    pointwise [PreBody.ks, k0_pay89]
  rw [e]; simp only [h_at H, H.w0]
  rw [show src (1792 + l.val) = 1696 + l.val by unfold src perm; split_ifs <;> omega]; rfl

theorem vs_at (l : Fin 128) : PreBody.vs x0 x1 x2 x3 w0 (ix2 p l) = D.z b s (1824 + l.val) := by
  have e : PreBody.vs x0 x1 x2 x3 w0 (ix2 p l) = ∑ d, PreBody.h x0 x1 x2 x3 (ix2 p d) * w0 (ix2 ⟨1920 + l.val, by omega⟩ d) := by
    pointwise [PreBody.vs, k0_pay90]
  rw [e]; simp only [h_at H, H.w0]
  rw [show src (1920 + l.val) = 1824 + l.val by unfold src perm; split_ifs <;> omega]; rfl

theorem g0_at (l : Fin 512) : PreBody.g0 x0 x1 x2 x3 w0 (ix2 p l) = D.z b s (672 + l.val) := by
  have e : PreBody.g0 x0 x1 x2 x3 w0 (ix2 p l) = ∑ d, PreBody.h x0 x1 x2 x3 (ix2 p d) * w0 (ix2 ⟨768 + l.val, by omega⟩ d) := by
    pointwise [PreBody.g0, k0_pay87]
  rw [e]; simp only [h_at H, H.w0]
  rw [show src (768 + l.val) = 672 + l.val by unfold src perm; split_ifs <;> omega]; rfl

theorem g1_at (l : Fin 512) : PreBody.g1 x0 x1 x2 x3 w0 (ix2 p l) = D.z b s (1952 + perm l.val) := by
  have e : PreBody.g1 x0 x1 x2 x3 w0 (ix2 p l) = ∑ d, PreBody.h x0 x1 x2 x3 (ix2 p d) * w0 (ix2 ⟨2048 + l.val, by omega⟩ d) := by
    pointwise [PreBody.g1, k0_pay91]
  rw [e]; simp only [h_at H, H.w0]
  rw [show src (2048 + l.val) = 1952 + perm l.val by unfold src perm; split_ifs <;> omega]; rfl

/-! ## The turned lanes -/

/-- The cosines of the row, in the lanes that are turned. -/
theorem cos_at (l : Fin 128) : k0_pay78 (F := Ideal) (k0_pay74 x9) lanes k0_pay76 (ix2 p l)
    = if 64 ≤ l.val ∧ l.val < 80 then D.cs b s (l.val - 64) else if 80 ≤ l.val ∧ l.val < 96 then D.cs b s (l.val - 80) else 0 := by
  rw [turn0]
  split_ifs with h1 h2
  · rw [H.cs _ (by simp only []; omega)]; exact congrArg _ (by simp only []; omega)
  · rw [H.cs _ (by simp only []; omega)]; exact congrArg _ (by simp only []; omega)
  · rfl

/-- The sines of the row, negated, in the first of them. -/
theorem nsin_at (l : Fin 128) : k0_pay79 (F := Ideal) (k0_pay75 x10) k0_pay76 (ix2 p l)
    = if 64 ≤ l.val ∧ l.val < 80 then -D.sn b s (l.val - 64) else 0 := by
  rw [turn1]
  split_ifs with h1
  · rw [H.sn _ (by simp only []; omega), zero_sub]; exact congrArg (fun n => -D.sn b s n) (by simp only []; omega)
  · rfl

/-- The sines of the row in the last of them. -/
theorem sin_at (l : Fin 128) : k0_pay80 (F := Ideal) (k0_pay75 x10) lanes (ix2 p l)
    = if 80 ≤ l.val ∧ l.val < 96 then D.sn b s (l.val - 80) else 0 := by
  rw [turn2]
  split_ifs with h1
  · rw [H.sn _ (by simp only []; omega)]; exact congrArg _ (by simp only []; omega)
  · rfl

/-- The queries before their turn. -/
theorem qw_at (c : Fin 1024) : k0_pay73 (F := Ideal) (PreBody.zq x0 x1 x2 x3 w0) (View.ld x5 (Rect.unit (s := S1x384) ![0, 0] S1x384.size inb_S1x384_S1x384_0_0))
      (View.ld w1 (Rect.unit (s := S384x1024) ![0, 0] S384x1024.size inb_S384x1024_S384x1024_0_0)) (ix2 p c) = D.qf b s (srcQ c.val) := by
  have e : k0_pay73 (F := Ideal) (PreBody.zq x0 x1 x2 x3 w0) (View.ld x5 (Rect.unit (s := S1x384) ![0, 0] S1x384.size inb_S1x384_S1x384_0_0))
      (View.ld w1 (Rect.unit (s := S384x1024) ![0, 0] S384x1024.size inb_S384x1024_S384x1024_0_0)) (ix2 p c)
      = ∑ j, PreBody.ql x0 x1 x2 x3 x5 w0 (ix2 p j) * w1 (ix2 j c) := by
    pointwise [k0_pay73]; rfl
  rw [e]; simp only [ql_at H, H.w1]; rfl

end

/-- The cosines of the turned lanes, and one in the lanes before them. -/
def mcos (v62 : FVec Ideal S512x128 .f32) : FVec Ideal S512x128 .f32 :=
  select (cmpi .slt lanes (broadcast S512x128 64#32)) (broadcast S512x128 (Scalar.ofBits (F := Ideal) .f32 0x3F800000#32))
    (k0_pay78 (F := Ideal) v62 lanes k0_pay76)

theorem mcos_at (v62 : FVec Ideal S512x128 .f32) (p : Fin 512) (l : Fin 128) :
    mcos v62 (ix2 p l) = if l.val < 64 then 1 else k0_pay78 (F := Ideal) v62 lanes k0_pay76 (ix2 p l) := by
  pointwise [mcos]
  rw [mask0, select_ofBool]

/-- The turn of the queries' tile, and the scale. -/
theorem pay_q (v53 : FVec Ideal S512x1024 .f32) (v62 v67 : FVec Ideal S512x128 .f32) (p : Fin 512) (c : Fin 1024) :
    k0_pay81 (F := Ideal) v53 v62 v67 lanes k0_pay76 (ix2 p c)
      = (v53 (ix2 p c) * (if c.val % 128 < 64 then 1 else k0_pay78 (F := Ideal) v62 lanes k0_pay76 (ix2 p ⟨c.val % 128, by omega⟩))
        + v53 (ix2 p ⟨(c.val + 1024 - 1008) % 1024, by omega⟩) * k0_pay79 (F := Ideal) v67 k0_pay76 (ix2 p ⟨c.val % 128, by omega⟩)
        + v53 (ix2 p ⟨(c.val + 1024 - 16) % 1024, by omega⟩) * k0_pay80 (F := Ideal) v67 lanes (ix2 p ⟨c.val % 128, by omega⟩))
        * qScale := by
  have e : k0_pay81 (F := Ideal) v53 v62 v67 lanes k0_pay76
      = truncf .bf16 (mulf (addf (addf (mulf v53 (cat (mcos v62)))
        (mulf (dynamicRotate 1 1008#32 none v53 rotates_S512x1024_d1) (cat (k0_pay79 (F := Ideal) v67 k0_pay76))))
        (mulf (dynamicRotate 1 16#32 none v53 rotates_S512x1024_d1) (cat (k0_pay80 (F := Ideal) v67 lanes))))
        (broadcast S512x1024 (Named.named (F := Ideal) κ "q_scale" (φ := .f32) 0x3E16C740#32))) bitsLt_bf16_f32 := rfl
  rw [e]
  pointwise
  rw [cat_at, cat_at, cat_at, named_q]
  rw [mcos_at]

/-- The keys' tile: the heads' own lanes, and to every head's the turned lanes. -/
theorem pay_k (v29 : FVec Ideal S512x1024 .bf16) (v83 v92 v95 : FVec Ideal S512x128 .f32) (v112 : FVec Ideal S512x256 .f32) (v124 : Vec Ideal S1x256 .f32)
    (v130 : Vec Ideal S128x1024 .bf16) (v140 : Vec Ideal S256x1024 .bf16) (p : Fin 512) (c : Fin 1024) :
    k0_pay84 (F := Ideal) v29 v83 v92 v95 v112 v124 v130 v140 (ix2 p c)
      = (∑ j, k0_pay83 (F := Ideal) v112 v124 (ix2 p j) * v140 (ix2 j c))
        + ((∑ d, v29 (ix2 p d) * v130 (ix2 ⟨c.val % 128, by omega⟩ d)) * v83 (ix2 p ⟨c.val % 128, by omega⟩)
        + (∑ d, v29 (ix2 p d) * v130 (ix2 ⟨(c.val % 128 + 128 - 112) % 128, by omega⟩ d)) * v92 (ix2 p ⟨c.val % 128, by omega⟩)
        + (∑ d, v29 (ix2 p d) * v130 (ix2 ⟨(c.val % 128 + 128 - 16) % 128, by omega⟩ d)) * v95 (ix2 p ⟨c.val % 128, by omega⟩)) := by
  have e : k0_pay84 (F := Ideal) v29 v83 v92 v95 v112 v124 v130 v140
      = truncf .bf16 (addf (matmul dot_S512x256_S256x1024_S512x1024_1_0_0_1_n_n none (k0_pay83 (F := Ideal) v112 v124)
          (shapeCast S256x1024 v140 shapeCasts_S256x1024_S256x1024) (constant S512x1024 .f32 0x00000000#32))
        (cat (addf (addf (mulf (matmul dot_S512x1024_S128x1024_S512x128_1_1_0_0_n_n none v29 (shapeCast S128x1024 v130 shapeCasts_S128x1024_S128x1024)
              (constant S512x128 .f32 0x00000000#32)) v83)
            (mulf (dynamicRotate 1 112#32 none (matmul dot_S512x1024_S128x1024_S512x128_1_1_0_0_n_n none v29
              (shapeCast S128x1024 v130 shapeCasts_S128x1024_S128x1024) (constant S512x128 .f32 0x00000000#32)) rotates_S512x128_d1) v92))
            (mulf (dynamicRotate 1 16#32 none (matmul dot_S512x1024_S128x1024_S512x128_1_1_0_0_n_n none v29
              (shapeCast S128x1024 v130 shapeCasts_S128x1024_S128x1024) (constant S512x128 .f32 0x00000000#32)) rotates_S512x128_d1) v95)))) bitsLt_bf16_f32 := rfl
  rw [e]
  pointwise
  rw [cat_at]
  pointwise

section
variable {D : In} {b : Fin 4} {s : Fin 2048} {p : Fin 512} {x0 : Vec Ideal S512x1024 .f32} {x1 x2 : Vec Ideal S1x1x1024 .f32}
    {x3 : Vec Ideal S1x1024 .f32} {x5 : Vec Ideal S1x384 .f32} {x6 : Vec Ideal S1x256 .f32} {x9 x10 : Vec Ideal S64x128 .f32}
    {w0 : Vec Ideal S2560x1024 .bf16} {w1 : Vec Ideal S384x1024 .bf16} {w2 : Vec Ideal S256x1024 .bf16} {w3 : Vec Ideal S256x512 .bf16}
variable (H : Blk D b s p x0 x1 x2 x3 x5 x6 x9 x10 w0 w1 w2 w3)
include H

theorem q_at (c : Fin 1024) : PreBody.q x0 x1 x2 x3 x5 x9 x10 w0 w1 (ix2 p c) = D.q b s (c.val / 128) (c.val % 128) * qScale := by
  have e9 : View.ld x9 (Rect.unit (s := S64x128) ![0, 0] S64x128.size inb_S64x128_S64x128_0_0) = x9 := View.ld_unit_zero (by funext a; fin_cases a <;> rfl) _ _
  have e10 : View.ld x10 (Rect.unit (s := S64x128) ![0, 0] S64x128.size inb_S64x128_S64x128_0_0) = x10 := View.ld_unit_zero (by funext a; fin_cases a <;> rfl) _ _
  unfold PreBody.q
  rw [e9, e10]
  refine (pay_q _ _ _ p c).trans (congrArg (· * qScale) ?_)
  rw [qw_at H, qw_at H, qw_at H, cos_at H, nsin_at H, sin_at H]
  simp only []
  have hc := c.isLt
  unfold In.q
  by_cases h1 : c.val % 128 < 64
  · rw [if_pos h1, if_neg (by omega), if_neg (by omega), if_pos h1, mul_one, mul_zero, mul_zero, add_zero, add_zero, srcQ, if_pos (by omega)]
  rw [if_neg h1, if_neg h1]
  by_cases h2 : c.val % 128 < 80
  · rw [if_pos (by omega), if_pos (by omega), if_neg (by omega), if_pos h2, mul_zero, add_zero, mul_neg, ← sub_eq_add_neg, srcQ, srcQ, if_pos (by omega),
      if_pos (by omega)]
    rw [show (c.val + 1024 - 1008) % 1024 / 128 * 96 + (c.val + 1024 - 1008) % 1024 % 128 = c.val / 128 * 96 + c.val % 128 + 16 by omega]
  by_cases h3 : c.val % 128 < 96
  · rw [if_neg (by omega), if_pos (by omega), if_neg (by omega), if_pos (by omega), if_neg h2, if_pos h3, mul_zero, add_zero, srcQ, srcQ, if_pos (by omega),
      if_pos (by omega)]
    rw [show (c.val + 1024 - 16) % 1024 / 128 * 96 + (c.val + 1024 - 16) % 1024 % 128 = c.val / 128 * 96 + c.val % 128 - 16 by omega]
  · rw [if_neg (by omega), if_neg (by omega), if_neg (by omega), if_neg (by omega), if_neg h2, if_neg h3, mul_zero, mul_zero, mul_zero, add_zero, add_zero]

/-- The lanes that the heads share, before their turn. -/
theorem kr_at (l : Fin 128) : ∑ d, PreBody.h x0 x1 x2 x3 (ix2 p d) * View.ld w0 (Rect.unit (s := S2560x1024) ![640, 0] S128x1024.size inb_S2560x1024_S128x1024_640_0) (ix2 l d)
    = D.z b s (src (640 + l.val)) := by
  have e : ∀ d, View.ld w0 (Rect.unit (s := S2560x1024) ![640, 0] S128x1024.size inb_S2560x1024_S128x1024_640_0) (ix2 l d) = w0 (ix2 ⟨640 + l.val, by omega⟩ d) := by
    intro d; pointwise
  simp only [h_at H, e, H.w0]; rfl

theorem k_at (c : Fin 1024) : PreBody.k x0 x1 x2 x3 x6 x9 x10 w0 w2 (ix2 p c) = D.k b s (c.val / 128) (c.val % 128) := by
  have e9 : View.ld x9 (Rect.unit (s := S64x128) ![0, 0] S64x128.size inb_S64x128_S64x128_0_0) = x9 := View.ld_unit_zero (by funext a; fin_cases a <;> rfl) _ _
  have e10 : View.ld x10 (Rect.unit (s := S64x128) ![0, 0] S64x128.size inb_S64x128_S64x128_0_0) = x10 := View.ld_unit_zero (by funext a; fin_cases a <;> rfl) _ _
  have ew : View.ld w2 (Rect.unit (s := S256x1024) ![0, 0] S256x1024.size inb_S256x1024_S256x1024_0_0) = w2 := View.ld_unit_zero (by funext a; fin_cases a <;> rfl) _ _
  unfold PreBody.k
  rw [e9, e10, ew]
  refine (pay_k _ _ _ _ _ _ _ _ p c).trans ?_
  have ek : ∑ j, k0_pay83 (F := Ideal) (PreBody.zkv x0 x1 x2 x3 w0) (View.ld x6 (Rect.unit (s := S1x256) ![0, 0] S1x256.size inb_S1x256_S1x256_0_0)) (ix2 p j)
      * w2 (ix2 j c) = D.kvf b s (srcK c.val) := by
    have := kvl_at H
    unfold PreBody.kvl at this
    simp only [this, H.w2]; rfl
  rw [ek, kr_at H, kr_at H, kr_at H, cos_at H, nsin_at H, sin_at H]
  simp only []
  have hc := c.isLt
  unfold In.k
  by_cases h1 : c.val % 128 < 64
  · rw [if_neg (by omega), if_neg (by omega), if_neg (by omega), if_neg (by omega), if_pos h1, mul_zero, mul_zero, mul_zero, add_zero, add_zero, add_zero,
      srcK, if_pos h1, show c.val / 128 * 128 + c.val % 128 = c.val by omega]
  rw [srcK, if_neg h1, D.kvf_zero b s (le_refl _), zero_add, if_neg h1]
  by_cases h2 : c.val % 128 < 80
  · rw [if_pos (by omega), if_pos (by omega), if_neg (by omega), if_pos h2, mul_zero, add_zero, mul_neg, ← sub_eq_add_neg,
      show src (640 + c.val % 128) = 576 + c.val % 128 by unfold src perm; split_ifs <;> omega,
      show src (640 + (c.val % 128 + 128 - 112) % 128) = 592 + c.val % 128 by unfold src perm; split_ifs <;> omega]
  by_cases h3 : c.val % 128 < 96
  · rw [if_neg (by omega), if_pos (by omega), if_neg (by omega), if_pos (by omega), if_neg h2, if_pos h3, mul_zero, add_zero,
      show src (640 + c.val % 128) = 576 + c.val % 128 by unfold src perm; split_ifs <;> omega,
      show src (640 + (c.val % 128 + 128 - 16) % 128) = 560 + c.val % 128 by unfold src perm; split_ifs <;> omega]
  · rw [if_neg (by omega), if_neg (by omega), if_neg (by omega), if_neg (by omega), if_neg h2, if_neg h3, mul_zero, mul_zero, mul_zero, add_zero, add_zero]

end

end Cert.Proof.Pre

end
-- ==== Proof.PreOperands.lean ====
/- The input projections: what each of the kernel's operands holds. -/
module

public import proofs.«01_k».proof.Proof.PreRun
public import proofs.«01_k».proof.Proof.PreWeights
public import proofs.«01_k».proof.Proof.PreTiles

@[expose] public section

set_option maxRecDepth 16384

noncomputable section

namespace Cert.Proof.Pre

open Idealize.ShloMosaic.Tactic Idealize.ShloMosaic.View
open Cert.PreKernelIdeal Cert.PreKernelIdeal.Gen Idealize.ShloMosaic Idealize.ShloMosaic.TcCoe Idealize.SL.Sem

/-- The frequencies. -/
def opInv : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The angles, eight positions in a row, the last first. -/
def opAng (A : IVec S4x2048 32) : FVec Ideal S1024x128 .f32 :=
  mulf (shapeCast S1024x128 (broadcastInDim S1024x8x16 ![0, 1] bcast_S1024x8_S1024x8x16_0_1
      (sitofp .f32 (Host.reverse [1] (shapeCast S1024x8 A shapeCasts_S4x2048_S1024x8)))) shapeCasts_S1024x8x16_S1024x128)
    (broadcastInDim S1024x128 ![0, 1] bcast_S1x128_S1024x128_0_1 (broadcastInDim S1x128 ![1] bcast_S128_S1x128_1
      (shapeCast S128 (broadcastInDim S8x16 ![0, 1] bcast_S1x16_S8x16_0_1 (shapeCast S1x16 opInv shapeCasts_S16_S1x16)) shapeCasts_S8x16_S128)))

/-- Rows of the full width. -/
def opX (A : FVec Ideal S4x2048x1024 .f32) : FVec Ideal S8192x1024 .f32 := shapeCast S8192x1024 A shapeCasts_S4x2048x1024_S8192x1024
/-- The projections' weights, by eighths. -/
def opW (A : FVec Ideal S1024x2464 .f32) : FVec Ideal S8x308x1024 .bf16 :=
  truncf .bf16 (shapeCast S8x308x1024 (transpose S2464x1024 [1, 0] A transposes_S1024x2464_S2464x1024_1_0) shapeCasts_S2464x1024_S8x308x1024) bitsLt_bf16_f32
/-- The queries' weights, by heads. -/
def opUq (A : FVec Ideal S384x768 .f32) : FVec Ideal S8x384x96 .bf16 :=
  truncf .bf16 (transpose S8x384x96 [1, 0, 2] (shapeCast S384x8x96 A shapeCasts_S384x768_S384x8x96) transposes_S384x8x96_S8x384x96_1_0_2) bitsLt_bf16_f32
/-- The keys' and values' weights, by heads. -/
def opUkv (A : FVec Ideal S256x1024 .f32) : FVec Ideal S8x256x128 .bf16 :=
  truncf .bf16 (transpose S8x256x128 [1, 0, 2] (shapeCast S256x8x128 A shapeCasts_S256x1024_S256x8x128) transposes_S256x8x128_S8x256x128_1_0_2) bitsLt_bf16_f32

section
variable (m : (ℓ : Loc nD τ sig) → Buf (Elt Ideal) ℓ) (c : Dev nD)

/-- The arguments the kernel's program finds. -/
def argsOf : In := ⟨m ((c.tc : Thread nD τ).loc main_arg0), m ((c.tc : Thread nD τ).loc main_arg1), m ((c.tc : Thread nD τ).loc main_arg2),
  m ((c.tc : Thread nD τ).loc main_arg3), m ((c.tc : Thread nD τ).loc main_arg4), m ((c.tc : Thread nD τ).loc main_arg5),
  m ((c.tc : Thread nD τ).loc main_arg6), m ((c.tc : Thread nD τ).loc main_arg7), m ((c.tc : Thread nD τ).loc main_arg8),
  m ((c.tc : Thread nD τ).loc main_arg9)⟩

theorem V_x : V m c main_v0 = opX (argsOf m c).x := by
  simp only [V, List.flatten_cons, List.flatten_nil, List.append_nil, hostOps0, List.cons_append, List.nil_append]
  after_results_simp
  sl_kernel_rfl

theorem V_shift : V m c main_v1 = broadcastInDim S4x1x1024 ![0, 2] bcast_S4x1024_S4x1x1024_0_2 (argsOf m c).shift := by
  simp only [V, List.flatten_cons, List.flatten_nil, List.append_nil, hostOps0, List.cons_append, List.nil_append]
  after_results_simp
  sl_kernel_rfl

theorem V_scale : V m c main_v2 = broadcastInDim S4x1x1024 ![0, 2] bcast_S4x1024_S4x1x1024_0_2 (argsOf m c).scale := by
  simp only [V, List.flatten_cons, List.flatten_nil, List.append_nil, hostOps0, List.cons_append, List.nil_append]
  after_results_simp
  sl_kernel_rfl

theorem V_ng : V m c main_v3 = shapeCast S1x1024 (argsOf m c).ng shapeCasts_S1024_S1x1024 := by
  simp only [V, List.flatten_cons, List.flatten_nil, List.append_nil, hostOps0, List.cons_append, List.nil_append]
  after_results_simp
  sl_kernel_rfl

theorem V_w : V m c main_v6 = opW (argsOf m c).w := by
  simp only [V, List.flatten_cons, List.flatten_nil, List.append_nil, hostOps0, List.cons_append, List.nil_append]
  after_results_simp
  sl_kernel_rfl

theorem V_gq : V m c main_v7 = shapeCast S1x384 (argsOf m c).gq shapeCasts_S384_S1x384 := by
  simp only [V, List.flatten_cons, List.flatten_nil, List.append_nil, hostOps0, List.cons_append, List.nil_append]
  after_results_simp
  sl_kernel_rfl

theorem V_gkv : V m c main_v8 = shapeCast S1x256 (argsOf m c).gkv shapeCasts_S256_S1x256 := by
  simp only [V, List.flatten_cons, List.flatten_nil, List.append_nil, hostOps0, List.cons_append, List.nil_append]
  after_results_simp
  sl_kernel_rfl

theorem V_uq : V m c main_v11 = opUq (argsOf m c).uq := by
  simp only [V, List.flatten_cons, List.flatten_nil, List.append_nil, hostOps0, List.cons_append, List.nil_append]
  after_results_simp
  sl_kernel_rfl

theorem V_ukv : V m c main_v14 = opUkv (argsOf m c).ukv := by
  simp only [V, List.flatten_cons, List.flatten_nil, List.append_nil, hostOps0, List.cons_append, List.nil_append]
  after_results_simp
  sl_kernel_rfl

theorem V_cos : V m c main_v36 = Host.cos (opAng (argsOf m c).pos) := by
  simp only [V, List.flatten_cons, List.flatten_nil, List.append_nil, hostOps0, List.cons_append, List.nil_append]
  after_results_simp
  sl_kernel_rfl

theorem V_sin : V m c main_v37 = Host.sin (opAng (argsOf m c).pos) := by
  simp only [V, List.flatten_cons, List.flatten_nil, List.append_nil, hostOps0, List.cons_append, List.nil_append]
  after_results_simp
  sl_kernel_rfl

end

/-! ## Their entries -/

theorem opX_at (A : FVec Ideal S4x2048x1024 .f32) (t : Fin 8192) (k : Fin 1024) : opX A (ix2 t k) = A (ix3 (bOf t) (sOf t) k) := by
  pointwise [opX]
  blk_ext [bOf, sOf]

theorem opMod_at (A : FVec Ideal S4x1024 .f32) (b : Fin 4) (n : Fin 1024) :
    broadcastInDim S4x1x1024 ![0, 2] bcast_S4x1024_S4x1x1024_0_2 A (ix3 b 0 n) = A (ix2 b n) := by
  pointwise

theorem opNg_at (A : FVec Ideal S1024 .f32) (n : Fin 1024) : shapeCast S1x1024 A shapeCasts_S1024_S1x1024 (ix2 0 n) = A (ix1 n) := by
  pointwise

theorem opGq_at (A : FVec Ideal S384 .f32) (n : Fin 384) : shapeCast S1x384 A shapeCasts_S384_S1x384 (ix2 0 n) = A (ix1 n) := by
  pointwise

theorem opGkv_at (A : FVec Ideal S256 .f32) (n : Fin 256) : shapeCast S1x256 A shapeCasts_S256_S1x256 (ix2 0 n) = A (ix1 n) := by
  pointwise

theorem opW_at (D : In) (e : Fin 8) (j : Fin 308) (d : Fin 1024) : opW D.w (ix3 e j d) = D.wN d (308 * e.val + j.val) := by
  have h : opW D.w (ix3 e j d) = D.w (ix2 d ⟨308 * e.val + j.val, by omega⟩) := by
    pointwise [opW]
    blk_ext
  rw [h, D.wN_val]

theorem opUq_at (D : In) (e : Fin 8) (j : Fin 384) (d : Fin 96) : opUq D.uq (ix3 e j d) = D.uqN j (e.val * 96 + d.val) := by
  have h : opUq D.uq (ix3 e j d) = D.uq (ix2 j ⟨e.val * 96 + d.val, by omega⟩) := by
    pointwise [opUq]
    blk_ext
  rw [h, D.uqN_val]

theorem opUkv_at (D : In) (e : Fin 8) (j : Fin 256) (d : Fin 128) : opUkv D.ukv (ix3 e j d) = D.ukvN j (e.val * 128 + d.val) := by
  have h : opUkv D.ukv (ix3 e j d) = D.ukv (ix2 j ⟨e.val * 128 + d.val, by omega⟩) := by
    pointwise [opUkv]
    blk_ext
  rw [h, D.ukvN_val]

theorem opInv_at (j : Fin 16) : opInv (ix1 j) = Ideal.pow (Ideal.ofBits .f32 0x461C4000#32)
    (Ideal.div (-(Ideal.ofBits .f32 0x40000000#32 * FloatOps.sitofp (F := Ideal) .f32 (BitVec.ofNat 32 j.val))) (Ideal.ofBits .f32 0x42000000#32)) := by
  pointwise [opInv]

theorem opAng_at (D : In) (r : Fin 1024) (l : Fin 128) (b : Fin 4) (s : Fin 2048) (h : b.val * 2048 + s.val = 8 * r.val + 7 - l.val / 16) :
    opAng D.pos (ix2 r l) = D.ang b s (l.val % 16) := by
  have e : opAng D.pos (ix2 r l) = FloatOps.sitofp (F := Ideal) .f32 (D.pos (ix2 b s)) * opInv (ix1 ⟨l.val % 16, by omega⟩) := by
    pointwise [opAng]
    refine congrArg (fun z => FloatOps.sitofp (F := Ideal) .f32 (D.pos z) * opInv (ix1 ⟨l.val % 16, by omega⟩)) (congrArg₂ ix2 (Fin.ext ?_) (Fin.ext ?_))
    · show r.val / 256 = b.val
      omega
    · show r.val % 256 * 8 + (8 - (l.val / 16 + 1)) = s.val
      omega
  rw [e, opInv_at]
  rfl

end Cert.Proof.Pre

end
-- ==== Proof.PreArrays.lean ====
/- The input projections: what the kernel's results hold after all points. -/
module

public import proofs.«01_k».proof.Proof.PreOperands

@[expose] public section

set_option maxRecDepth 16384

noncomputable section

namespace Cert.Proof.Pre

open Idealize.ShloMosaic.Tactic Idealize.ShloMosaic.View
open Cert.PreKernelIdeal Cert.PreKernelIdeal.Gen Idealize.ShloMosaic Idealize.ShloMosaic.TcCoe Idealize.SL.Sem

/-- These windows' blocks at each point. -/
theorem idx : ∀ t : Fin cfg0.N, win0_0.index t = ![t.val, 0] ∧ win0_1.index t = ![t.val / 4, 0, 0] ∧ win0_2.index t = ![t.val / 4, 0, 0] ∧ win0_3.index t = ![0, 0] ∧ win0_4.index t = ![0, 0, 0] ∧ win0_5.index t = ![0, 0] ∧ win0_6.index t = ![0, 0] ∧ win0_7.index t = ![0, 0, 0] ∧ win0_8.index t = ![0, 0, 0] ∧ win0_9.index t = ![t.val, 0] ∧ win0_10.index t = ![t.val, 0] :=
  (by decide +kernel : ∀ t : Fin grid0.N, _)

/-- These windows' blocks at each point. -/
theorem idx2 : ∀ t : Fin cfg0.N, win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

/-- These windows' blocks at each point. -/
theorem idx3 : ∀ t : Fin cfg0.N, win0_20.index t = ![t.val, 0] ∧ win0_21.index t = ![t.val, 0] ∧ win0_22.index t = ![t.val, 0] ∧ win0_23.index t = ![0, 0] ∧ win0_24.index t = ![0, 0] ∧ win0_25.index t = ![0, 0] ∧ win0_26.index t = ![0, 0] :=
  (by decide +kernel : ∀ t : Fin grid0.N, _)

/-- A row of a point's blocks among all rows. -/
def rowOf (t : Fin cfg0.N) (p : Fin 512) : Fin 8192 := ⟨t.val * 512 + p.val, by have := lt_of_lt_of_eq t.isLt N_0; omega⟩

section
variable {D : In} {b : Fin 512 → Fin 4} {s : Fin 512 → Fin 2048} {x0 : Vec Ideal S512x1024 .f32} {x1 x2 : Vec Ideal S1x1x1024 .f32}
  {x3 : Vec Ideal S1x1024 .f32} {x5 : Vec Ideal S1x384 .f32} {x6 : Vec Ideal S1x256 .f32} {x9 x10 : Vec Ideal S64x128 .f32}
  {w0 : Vec Ideal S2560x1024 .bf16} {w1 : Vec Ideal S384x1024 .bf16} {w2 : Vec Ideal S256x1024 .bf16} {w3 : Vec Ideal S256x512 .bf16}

/-- The gates' column. -/
def gSrc (n : ℕ) : ℕ := if n < 512 then 672 + n else 1952 + perm (n - 512)

/-- The gates' block: the two pieces cover it. -/
theorem g_block_at (H : ∀ p, Blk D (b p) (s p) p x0 x1 x2 x3 x5 x6 x9 x10 w0 w1 w2 w3) (p : Fin 512) (l : Fin 1024) :
    PreBody.g_block x0 x1 x2 x3 w0 (ix2 p l) = D.z (b p) (s p) (gSrc l.val) := by
  refine View.canon_apply_of_pieces (fun y => D.z (b (y 0)) (s (y 0)) (gSrc (y 1).val)) _ ?_ _ (PreBody.g_cover x0 x1 x2 x3 w0 _)
  unfold PreBody.g_pieces
  refine List.forall_mem_cons.2 ⟨fun x => ?_, List.forall_mem_cons.2 ⟨fun x => ?_, fun p hp => absurd hp List.not_mem_nil⟩⟩
  · obtain ⟨a, k, rfl⟩ : ∃ (a : Fin 512) (k : Fin 512), x = ix2 a k := ⟨x 0, x 1, by funext i; fin_cases i <;> rfl⟩
    refine (g1_at (H a) k).trans ?_
    have e : (Rect.unit (s := S512x1024) ![0, 512] S512x512.size inb_S512x1024_S512x512_0_512).emb (ix2 a k) = ix2 a ⟨512 + k.val, by omega⟩ := by blk_ext
    rw [show 1952 + perm k.val = gSrc (512 + k.val) by unfold gSrc; rw [if_neg (by omega), Nat.add_sub_cancel_left]]
    exact (congrArg (fun y : S512x1024.Idx => D.z (b (y 0)) (s (y 0)) (gSrc (y 1).val)) e).symm
  · obtain ⟨a, k, rfl⟩ : ∃ (a : Fin 512) (k : Fin 512), x = ix2 a k := ⟨x 0, x 1, by funext i; fin_cases i <;> rfl⟩
    refine (g0_at (H a) k).trans ?_
    have e : (Rect.unit (s := S512x1024) ![0, 0] S512x512.size inb_S512x1024_S512x512_0_0).emb (ix2 a k) = ix2 a ⟨k.val, by omega⟩ := by blk_ext
    rw [show 672 + k.val = gSrc k.val by unfold gSrc; rw [if_pos k.isLt]]
    exact (congrArg (fun y : S512x1024.Idx => D.z (b (y 0)) (s (y 0)) (gSrc (y 1).val)) e).symm

end

section
variable (m : (ℓ : Loc nD τ sig) → Buf (Elt Ideal) ℓ) (c : Dev nD) (t : Fin cfg0.N)

theorem blk_x (p : Fin 512) (k : Fin 1024) : iblk m c 0 t (ix2 p k) = (argsOf m c).x (ix3 (bOf (rowOf t p)) (sOf (rowOf t p)) k) := by
  have he : ((cfg0.win 0).blk t).view.emb (ix2 p k) = ix2 (rowOf t p) k := by blk_ext [idx t, rowOf, bOf]
  refine (congrArg (V m c main_v0) he).trans ?_
  refine (congrFun (V_x m c) _).trans ?_
  exact opX_at _ _ _

theorem blk_shift (p : Fin 512) (k : Fin 1024) : iblk m c 1 t (ix3 0 0 k) = (argsOf m c).shift (ix2 (bOf (rowOf t p)) k) := by
  have he : ((cfg0.win 1).blk t).view.emb (ix3 0 0 k) = ix3 (bOf (rowOf t p)) 0 k := by blk_ext [idx t, rowOf, bOf]
  refine (congrArg (V m c main_v1) he).trans ?_
  refine (congrFun (V_shift m c) _).trans ?_
  exact opMod_at _ _ _

theorem blk_scale (p : Fin 512) (k : Fin 1024) : iblk m c 2 t (ix3 0 0 k) = (argsOf m c).scale (ix2 (bOf (rowOf t p)) k) := by
  have he : ((cfg0.win 2).blk t).view.emb (ix3 0 0 k) = ix3 (bOf (rowOf t p)) 0 k := by blk_ext [idx t, rowOf, bOf]
  refine (congrArg (V m c main_v2) he).trans ?_
  refine (congrFun (V_scale m c) _).trans ?_
  exact opMod_at _ _ _

theorem blk_ng (k : Fin 1024) : iblk m c 3 t (ix2 0 k) = (argsOf m c).ng (ix1 k) := by
  have he : ((cfg0.win 3).blk t).view.emb (ix2 0 k) = ix2 0 k := by blk_ext [idx t, rowOf, bOf]
  refine (congrArg (V m c main_v3) he).trans ?_
  refine (congrFun (V_ng m c) _).trans ?_
  exact opNg_at _ _

theorem blk_gq (k : Fin 384) : iblk m c 5 t (ix2 0 k) = (argsOf m c).gq (ix1 k) := by
  have he : ((cfg0.win 5).blk t).view.emb (ix2 0 k) = ix2 0 k := by blk_ext [idx t, rowOf, bOf]
  refine (congrArg (V m c main_v7) he).trans ?_
  refine (congrFun (V_gq m c) _).trans ?_
  exact opGq_at _ _

theorem blk_gkv (k : Fin 256) : iblk m c 6 t (ix2 0 k) = (argsOf m c).gkv (ix1 k) := by
  have he : ((cfg0.win 6).blk t).view.emb (ix2 0 k) = ix2 0 k := by blk_ext [idx t, rowOf, bOf]
  refine (congrArg (V m c main_v8) he).trans ?_
  refine (congrFun (V_gkv m c) _).trans ?_
  exact opGkv_at _ _

theorem blk_w (e : Fin 8) (j : Fin 308) (d : Fin 1024) : iblk m c 4 t (ix3 e j d) = (argsOf m c).wN d (308 * e.val + j.val) := by
  have he : ((cfg0.win 4).blk t).view.emb (ix3 e j d) = ix3 e j d := by blk_ext [idx t, rowOf, bOf]
  refine (congrArg (V m c main_v6) he).trans ?_
  refine (congrFun (V_w m c) _).trans ?_
  exact opW_at _ _ _ _

theorem blk_uq (e : Fin 8) (j : Fin 384) (d : Fin 96) : iblk m c 7 t (ix3 e j d) = (argsOf m c).uqN j (e.val * 96 + d.val) := by
  have he : ((cfg0.win 7).blk t).view.emb (ix3 e j d) = ix3 e j d := by blk_ext [idx t, rowOf, bOf]
  refine (congrArg (V m c main_v11) he).trans ?_
  refine (congrFun (V_uq m c) _).trans ?_
  exact opUq_at _ _ _ _

theorem blk_ukv (e : Fin 8) (j : Fin 256) (d : Fin 128) : iblk m c 8 t (ix3 e j d) = (argsOf m c).ukvN j (e.val * 128 + d.val) := by
  have he : ((cfg0.win 8).blk t).view.emb (ix3 e j d) = ix3 e j d := by blk_ext [idx t, rowOf, bOf]
  refine (congrArg (V m c main_v14) he).trans ?_
  refine (congrFun (V_ukv m c) _).trans ?_
  exact opUkv_at _ _ _ _

theorem blk_cos (p : Fin 512) (l : Fin 128) (h : l.val / 16 = 7 - p.val % 8) :
    iblk m c 9 t (ix2 ⟨p.val / 8, by omega⟩ l) = (argsOf m c).cs (bOf (rowOf t p)) (sOf (rowOf t p)) (l.val % 16) := by
  have ht := lt_of_lt_of_eq t.isLt N_0
  have e : ((cfg0.win 9).blk t).view.emb (ix2 ⟨p.val / 8, by omega⟩ l) = ix2 ⟨t.val * 64 + p.val / 8, by omega⟩ l := by blk_ext [idx t]
  refine (congrArg (V m c main_v36) e).trans ?_
  refine (congrFun (V_cos m c) _).trans ?_
  refine congrArg Ideal.cos (opAng_at _ _ _ _ _ ?_)
  simp only [bOf, sOf, rowOf]
  omega

theorem blk_sin (p : Fin 512) (l : Fin 128) (h : l.val / 16 = 7 - p.val % 8) :
    iblk m c 10 t (ix2 ⟨p.val / 8, by omega⟩ l) = (argsOf m c).sn (bOf (rowOf t p)) (sOf (rowOf t p)) (l.val % 16) := by
  have ht := lt_of_lt_of_eq t.isLt N_0
  have e : ((cfg0.win 10).blk t).view.emb (ix2 ⟨p.val / 8, by omega⟩ l) = ix2 ⟨t.val * 64 + p.val / 8, by omega⟩ l := by blk_ext [idx t]
  refine (congrArg (V m c main_v37) e).trans ?_
  refine (congrFun (V_sin m c) _).trans ?_
  refine congrArg Ideal.sin (opAng_at _ _ _ _ _ ?_)
  simp only [bOf, sOf, rowOf]
  omega

/-- The blocks hold the rows, and the built weights their layouts. -/
theorem holds (p : Fin 512) : Blk (argsOf m c) (bOf (rowOf t p)) (sOf (rowOf t p)) p (iblk m c 0 t) (iblk m c 1 t) (iblk m c 2 t) (iblk m c 3 t) (iblk m c 5 t) (iblk m c 6 t) (iblk m c 9 t) (iblk m c 10 t)
    (PreBody.w_in (iblk m c 4 PreBody.p0)) (PreBody.w_q (iblk m c 7 PreBody.p0)) (PreBody.w_k (iblk m c 8 PreBody.p0)) (PreBody.w_v (iblk m c 8 PreBody.p0)) where
  x := blk_x m c t p
  shift := blk_shift m c t p
  scale := blk_scale m c t p
  ng := blk_ng m c t
  gq := blk_gq m c t
  gkv := blk_gkv m c t
  cs := blk_cos m c t p
  sn := blk_sin m c t p
  w0 := w_in_at (blk_w m c _)
  w1 := w_q_at (blk_uq m c _)
  w2 := w_k_at (blk_ukv m c _)
  w3 := w_v_at (blk_ukv m c _)

theorem g_at (p : Fin 512) (l : Fin 1024) : PreBody.g_block (iblk m c 0 t) (iblk m c 1 t) (iblk m c 2 t) (iblk m c 3 t) (PreBody.w_in (iblk m c 4 PreBody.p0)) (ix2 p l)
    = gG (argsOf m c) (ix2 (rowOf t p) l) :=
  g_block_at (holds m c t) p l

end

section
variable (m : (ℓ : Loc nD τ sig) → Buf (Elt Ideal) ℓ) (c : Dev nD)

theorem arr_h : (PreBody.dats m 0 c).arrAt 11 cfg0.N = gH (argsOf m c) := by
  refine (PreBody.dats m 0 c).arrAt_eq_of_covers 11 _ (by decide +kernel) fun t hf y => ?_
  obtain ⟨p, n, rfl⟩ : ∃ (p : Fin 512) (n : Fin 1024), y = ix2 p n := ⟨y 0, y 1, by funext i; fin_cases i <;> rfl⟩
  blk_simp [idx2 t]
  rw [PreBody.after_11]
  refine (congrFun (View.canon_unit_zero (by funext a; fin_cases a <;> rfl) _ _) _).trans ((h_at (holds m c t p) n).trans (Eq.trans (b := gH (argsOf m c) (ix2 (rowOf t p) n)) rfl (congrArg _ ?_)))
  blk_ext [idx2 t, rowOf]

theorem arr_zq : (PreBody.dats m 0 c).arrAt 12 cfg0.N = gZq (argsOf m c) := by
  refine (PreBody.dats m 0 c).arrAt_eq_of_covers 12 _ (by decide +kernel) fun t hf y => ?_
  obtain ⟨p, n, rfl⟩ : ∃ (p : Fin 512) (n : Fin 384), y = ix2 p n := ⟨y 0, y 1, by funext i; fin_cases i <;> rfl⟩
  blk_simp [idx2 t]
  rw [PreBody.after_12]
  refine (congrFun (View.canon_unit_zero (by funext a; fin_cases a <;> rfl) _ _) _).trans ((zq_at (holds m c t p) n).trans (Eq.trans (b := gZq (argsOf m c) (ix2 (rowOf t p) n)) rfl (congrArg _ ?_)))
  blk_ext [idx2 t, rowOf]

theorem arr_zkv : (PreBody.dats m 0 c).arrAt 13 cfg0.N = gZkv (argsOf m c) := by
  refine (PreBody.dats m 0 c).arrAt_eq_of_covers 13 _ (by decide +kernel) fun t hf y => ?_
  obtain ⟨p, n, rfl⟩ : ∃ (p : Fin 512) (n : Fin 256), y = ix2 p n := ⟨y 0, y 1, by funext i; fin_cases i <;> rfl⟩
  blk_simp [idx2 t]
  rw [PreBody.after_13]
  refine (congrFun (View.canon_unit_zero (by funext a; fin_cases a <;> rfl) _ _) _).trans ((zkv_at (holds m c t p) n).trans (Eq.trans (b := gZkv (argsOf m c) (ix2 (rowOf t p) n)) rfl (congrArg _ ?_)))
  blk_ext [idx2 t, rowOf]

theorem arr_ql : (PreBody.dats m 0 c).arrAt 14 cfg0.N = gQl (argsOf m c) := by
  refine (PreBody.dats m 0 c).arrAt_eq_of_covers 14 _ (by decide +kernel) fun t hf y => ?_
  obtain ⟨p, n, rfl⟩ : ∃ (p : Fin 512) (n : Fin 384), y = ix2 p n := ⟨y 0, y 1, by funext i; fin_cases i <;> rfl⟩
  blk_simp [idx2 t]
  rw [PreBody.after_14]
  refine (congrFun (View.canon_unit_zero (by funext a; fin_cases a <;> rfl) _ _) _).trans ((ql_at (holds m c t p) n).trans (Eq.trans (b := gQl (argsOf m c) (ix2 (rowOf t p) n)) rfl (congrArg _ ?_)))
  blk_ext [idx2 t, rowOf]

theorem arr_kvl : (PreBody.dats m 0 c).arrAt 15 cfg0.N = gKvl (argsOf m c) := by
  refine (PreBody.dats m 0 c).arrAt_eq_of_covers 15 _ (by decide +kernel) fun t hf y => ?_
  obtain ⟨p, n, rfl⟩ : ∃ (p : Fin 512) (n : Fin 256), y = ix2 p n := ⟨y 0, y 1, by funext i; fin_cases i <;> rfl⟩
  blk_simp [idx2 t]
  rw [PreBody.after_15]
  refine (congrFun (View.canon_unit_zero (by funext a; fin_cases a <;> rfl) _ _) _).trans ((kvl_at (holds m c t p) n).trans (Eq.trans (b := gKvl (argsOf m c) (ix2 (rowOf t p) n)) rfl (congrArg _ ?_)))
  blk_ext [idx2 t, rowOf]

theorem arr_q : (PreBody.dats m 0 c).arrAt 16 cfg0.N = gQ (argsOf m c) := by
  refine (PreBody.dats m 0 c).arrAt_eq_of_covers 16 _ (by decide +kernel) fun t hf y => ?_
  obtain ⟨p, n, rfl⟩ : ∃ (p : Fin 512) (n : Fin 1024), y = ix2 p n := ⟨y 0, y 1, by funext i; fin_cases i <;> rfl⟩
  blk_simp [idx2 t]
  rw [PreBody.after_16]
  refine (congrFun (View.canon_unit_zero (by funext a; fin_cases a <;> rfl) _ _) _).trans ((q_at (holds m c t p) n).trans (Eq.trans (b := gQ (argsOf m c) (ix2 (rowOf t p) n)) rfl (congrArg _ ?_)))
  blk_ext [idx2 t, rowOf]

theorem arr_k : (PreBody.dats m 0 c).arrAt 17 cfg0.N = gK (argsOf m c) := by
  refine (PreBody.dats m 0 c).arrAt_eq_of_covers 17 _ (by decide +kernel) fun t hf y => ?_
  obtain ⟨p, n, rfl⟩ : ∃ (p : Fin 512) (n : Fin 1024), y = ix2 p n := ⟨y 0, y 1, by funext i; fin_cases i <;> rfl⟩
  blk_simp [idx2 t]
  rw [PreBody.after_17]
  refine (congrFun (View.canon_unit_zero (by funext a; fin_cases a <;> rfl) _ _) _).trans ((k_at (holds m c t p) n).trans (Eq.trans (b := gK (argsOf m c) (ix2 (rowOf t p) n)) rfl (congrArg _ ?_)))
  blk_ext [idx2 t, rowOf]

theorem arr_v : (PreBody.dats m 0 c).arrAt 18 cfg0.N = gV (argsOf m c) := by
  refine (PreBody.dats m 0 c).arrAt_eq_of_covers 18 _ (by decide +kernel) fun t hf y => ?_
  obtain ⟨p, n, rfl⟩ : ∃ (p : Fin 512) (n : Fin 512), y = ix2 p n := ⟨y 0, y 1, by funext i; fin_cases i <;> rfl⟩
  blk_simp [idx2 t]
  rw [PreBody.after_18]
  refine (congrFun (View.canon_unit_zero (by funext a; fin_cases a <;> rfl) _ _) _).trans ((v_at (holds m c t p) n).trans (Eq.trans (b := gV (argsOf m c) (ix2 (rowOf t p) n)) rfl (congrArg _ ?_)))
  blk_ext [idx2 t, rowOf]

theorem arr_qs : (PreBody.dats m 0 c).arrAt 19 cfg0.N = gQs (argsOf m c) := by
  refine (PreBody.dats m 0 c).arrAt_eq_of_covers 19 _ (by decide +kernel) fun t hf y => ?_
  obtain ⟨p, n, rfl⟩ : ∃ (p : Fin 512) (n : Fin 512), y = ix2 p n := ⟨y 0, y 1, by funext i; fin_cases i <;> rfl⟩
  blk_simp [idx2 t]
  rw [PreBody.after_19]
  refine (congrFun (View.canon_unit_zero (by funext a; fin_cases a <;> rfl) _ _) _).trans ((qs_at (holds m c t p) n).trans (Eq.trans (b := gQs (argsOf m c) (ix2 (rowOf t p) n)) rfl (congrArg _ ?_)))
  blk_ext [idx2 t, rowOf]

theorem arr_ks : (PreBody.dats m 0 c).arrAt 20 cfg0.N = gKs (argsOf m c) := by
  refine (PreBody.dats m 0 c).arrAt_eq_of_covers 20 _ (by decide +kernel) fun t hf y => ?_
  obtain ⟨p, n, rfl⟩ : ∃ (p : Fin 512) (n : Fin 128), y = ix2 p n := ⟨y 0, y 1, by funext i; fin_cases i <;> rfl⟩
  blk_simp [idx3 t]
  rw [PreBody.after_20]
  refine (congrFun (View.canon_unit_zero (by funext a; fin_cases a <;> rfl) _ _) _).trans ((ks_at (holds m c t p) n).trans (Eq.trans (b := gKs (argsOf m c) (ix2 (rowOf t p) n)) rfl (congrArg _ ?_)))
  blk_ext [idx3 t, rowOf]

theorem arr_vs : (PreBody.dats m 0 c).arrAt 21 cfg0.N = gVs (argsOf m c) := by
  refine (PreBody.dats m 0 c).arrAt_eq_of_covers 21 _ (by decide +kernel) fun t hf y => ?_
  obtain ⟨p, n, rfl⟩ : ∃ (p : Fin 512) (n : Fin 128), y = ix2 p n := ⟨y 0, y 1, by funext i; fin_cases i <;> rfl⟩
  blk_simp [idx3 t]
  rw [PreBody.after_21]
  refine (congrFun (View.canon_unit_zero (by funext a; fin_cases a <;> rfl) _ _) _).trans ((vs_at (holds m c t p) n).trans (Eq.trans (b := gVs (argsOf m c) (ix2 (rowOf t p) n)) rfl (congrArg _ ?_)))
  blk_ext [idx3 t, rowOf]

theorem arr_g : (PreBody.dats m 0 c).arrAt 22 cfg0.N = gG (argsOf m c) := by
  refine (PreBody.dats m 0 c).arrAt_eq_of_covers 22 _ (by decide +kernel) fun t hf y => ?_
  obtain ⟨p, n, rfl⟩ : ∃ (p : Fin 512) (n : Fin 1024), y = ix2 p n := ⟨y 0, y 1, by funext i; fin_cases i <;> rfl⟩
  blk_simp [idx3 t]
  rw [PreBody.after_22]
  refine (g_at m c t p n).trans (congrArg _ ?_)
  blk_ext [idx3 t, rowOf]

theorem arr_w_in : (PreBody.dats m 0 c).arrAt 23 cfg0.N = gWp (argsOf m c) := by
  refine (PreBody.dats m 0 c).arrAt_eq_of_covers 23 _ (by decide +kernel) fun t hf y => ?_
  obtain ⟨p, n, rfl⟩ : ∃ (p : Fin 2560) (n : Fin 1024), y = ix2 p n := ⟨y 0, y 1, by funext i; fin_cases i <;> rfl⟩
  blk_simp [idx3 t]
  rw [PreBody.after_23]
  refine (w_in_at (blk_w m c _) p n).trans (Eq.trans (b := gWp (argsOf m c) (ix2 p n)) rfl (congrArg _ ?_))
  blk_ext [idx3 t]

theorem arr_w_q : (PreBody.dats m 0 c).arrAt 24 cfg0.N = gWq (argsOf m c) := by
  refine (PreBody.dats m 0 c).arrAt_eq_of_covers 24 _ (by decide +kernel) fun t hf y => ?_
  obtain ⟨p, n, rfl⟩ : ∃ (p : Fin 384) (n : Fin 1024), y = ix2 p n := ⟨y 0, y 1, by funext i; fin_cases i <;> rfl⟩
  blk_simp [idx3 t]
  rw [PreBody.after_24]
  refine (w_q_at (blk_uq m c _) p n).trans (Eq.trans (b := gWq (argsOf m c) (ix2 p n)) rfl (congrArg _ ?_))
  blk_ext [idx3 t]

theorem arr_w_k : (PreBody.dats m 0 c).arrAt 25 cfg0.N = gWk (argsOf m c) := by
  refine (PreBody.dats m 0 c).arrAt_eq_of_covers 25 _ (by decide +kernel) fun t hf y => ?_
  obtain ⟨p, n, rfl⟩ : ∃ (p : Fin 256) (n : Fin 1024), y = ix2 p n := ⟨y 0, y 1, by funext i; fin_cases i <;> rfl⟩
  blk_simp [idx3 t]
  rw [PreBody.after_25]
  refine (w_k_at (blk_ukv m c _) p n).trans (Eq.trans (b := gWk (argsOf m c) (ix2 p n)) rfl (congrArg _ ?_))
  blk_ext [idx3 t]

theorem arr_w_v : (PreBody.dats m 0 c).arrAt 26 cfg0.N = gWv (argsOf m c) := by
  refine (PreBody.dats m 0 c).arrAt_eq_of_covers 26 _ (by decide +kernel) fun t hf y => ?_
  obtain ⟨p, n, rfl⟩ : ∃ (p : Fin 256) (n : Fin 512), y = ix2 p n := ⟨y 0, y 1, by funext i; fin_cases i <;> rfl⟩
  blk_simp [idx3 t]
  rw [PreBody.after_26]
  refine (w_v_at (blk_ukv m c _) p n).trans (Eq.trans (b := gWv (argsOf m c) (ix2 p n)) rfl (congrArg _ ?_))
  blk_ext [idx3 t]

end

end Cert.Proof.Pre

end
-- ==== Proof.PreStages.lean ====
/- The input projections: what the results of the reference hold. -/
module

public import proofs.«01_k».proof.Proof.Gen.PreReferenceIdeal.Run
public import proofs.«01_k».proof.Proof.PreRows

@[expose] public section

set_option maxRecDepth 16384

noncomputable section

namespace Cert.Proof.Pre.Ref

open Idealize.ShloMosaic.Tactic Idealize.ShloMosaic.View
open Cert.PreReferenceIdeal Cert.PreReferenceIdeal.Gen Cert.PreReferenceIdeal.Value Idealize.ShloMosaic Idealize.ShloMosaic.TcCoe Idealize.SL.Sem
open Idealize.ShloMosaic.StableHlo

variable (V0 : Valuation τ sig (Elt Ideal))

/-- The arguments the reference finds. -/
def args : In := ⟨V0 (Proc.devRef .tc main_arg0), V0 (Proc.devRef .tc main_arg1), V0 (Proc.devRef .tc main_arg2), V0 (Proc.devRef .tc main_arg3),
  V0 (Proc.devRef .tc main_arg4), V0 (Proc.devRef .tc main_arg5), V0 (Proc.devRef .tc main_arg6), V0 (Proc.devRef .tc main_arg7),
  V0 (Proc.devRef .tc main_arg8), V0 (Proc.devRef .tc main_arg9)⟩

/-! ## The stages -/

theorem h_at (b : Fin 4) (s : Fin 2048) (d : Fin 1024) : res_main_v40 V0 (ix3 b s d) = (args V0).h b s d := by
  pointwise [res_main_v40]
  rfl

theorem cs_at (b : Fin 4) (s : Fin 2048) (j : Fin 16) : res_main_v18 V0 (ix3 b s j) = (args V0).cs b s j.val := by
  pointwise [res_main_v18, res_main_v17]
  rfl

theorem sn_at (b : Fin 4) (s : Fin 2048) (j : Fin 16) : res_main_v19 V0 (ix3 b s j) = (args V0).sn b s j.val := by
  pointwise [res_main_v19, res_main_v17]
  rfl

theorem z_at (b : Fin 4) (s : Fin 2048) (n : Fin 2464) : res_main_v41 V0 (ix3 b s n) = (args V0).z b s n.val := by
  pointwise [res_main_v41]
  show _ = ∑ d, (args V0).h b s d * (args V0).wN d n.val
  exact Finset.sum_congr rfl fun j _ => congrArg₂ (fun p q : EReal => p * q) (h_at V0 _ _ _) ((args V0).wN_val j n)

theorem ql_at (b : Fin 4) (s : Fin 2048) (j : Fin 384) : res_main_v62 V0 (ix3 b s j) = (args V0).ql b s j := by
  pointwise [res_main_v62, res_main_v42]
  simp only [z_at]
  rfl

theorem kvl_at (b : Fin 4) (s : Fin 2048) (j : Fin 256) : res_main_v95 V0 (ix3 b s j) = (args V0).kvl b s j := by
  pointwise [res_main_v95, res_main_v43]
  simp only [z_at]
  rfl

theorem qf_at (b : Fin 4) (s : Fin 2048) (h : Fin 8) (d : Fin 96) : res_main_v64 V0 (ix4 b s h d) = (args V0).qf b s (h.val * 96 + d.val) := by
  pointwise [res_main_v64]
  show _ = ∑ j, (args V0).ql b s j * (args V0).uqN j (h.val * 96 + d.val)
  exact Finset.sum_congr rfl fun j _ => congrArg₂ (fun p q : EReal => p * q) (ql_at V0 _ _ _) ((args V0).uqN_val j ⟨h.val * 96 + d.val, by omega⟩)

theorem kvf_at (b : Fin 4) (s : Fin 2048) (h : Fin 8) (d : Fin 128) : res_main_v97 V0 (ix4 b s h d) = (args V0).kvf b s (h.val * 128 + d.val) := by
  pointwise [res_main_v97]
  show _ = ∑ j, (args V0).kvl b s j * (args V0).ukvN j (h.val * 128 + d.val)
  exact Finset.sum_congr rfl fun j _ => congrArg₂ (fun p q : EReal => p * q) (kvl_at V0 _ _ _) ((args V0).ukvN_val j ⟨h.val * 128 + d.val, by omega⟩)

/-! ## The results -/

theorem zero_entry : FloatOps.sitofp (F := Ideal) .f32 0#32 = (0 : EReal) := by
  show (((0#32 : BitVec 32).toInt : ℝ) : EReal) = 0
  simp

theorem latScale : Ideal.div (res_main_v1 V0 ix0) (Ideal.sqrt (Ideal.ofBits FTy.f32 0x42C00000#32)) = qScale := by
  rw [← qScale_eq]
  pointwise [res_main_v1]

theorem swaScale : Ideal.div (res_main_v1 V0 ix0) (Ideal.ofBits FTy.f32 0x41000000#32) = sScale := by
  rw [← sScale_eq]
  pointwise [res_main_v1]

/-- The normalised stream. -/
def outH : FVec Ideal S8192x1024 .bf16 :=
  truncf .bf16 (shapeCast _ (res_main_v40 V0) shapeCasts_S4x2048x1024_S8192x1024) bitsLt_bf16_f32

theorem ref_H : outH V0 = gH (args V0) := by
  funext y
  obtain ⟨t, n, rfl⟩ : ∃ (t : Fin 8192) (n : Fin 1024), y = ix2 t n := ⟨y 0, y 1, by funext i; fin_cases i <;> rfl⟩
  pointwise [outH]
  exact h_at V0 _ _ _

/-- The queries' projection. -/
def outZq : FVec Ideal S8192x384 .f32 :=
  shapeCast _ (res_main_v42 V0) shapeCasts_S4x2048x384_S8192x384

theorem ref_Zq : outZq V0 = gZq (args V0) := by
  funext y
  obtain ⟨t, n, rfl⟩ : ∃ (t : Fin 8192) (n : Fin 384), y = ix2 t n := ⟨y 0, y 1, by funext i; fin_cases i <;> rfl⟩
  pointwise [outZq, res_main_v42]
  exact z_at V0 _ _ _

/-- The keys' and values' projection. -/
def outZkv : FVec Ideal S8192x256 .f32 :=
  shapeCast _ (res_main_v43 V0) shapeCasts_S4x2048x256_S8192x256

theorem ref_Zkv : outZkv V0 = gZkv (args V0) := by
  funext y
  obtain ⟨t, n, rfl⟩ : ∃ (t : Fin 8192) (n : Fin 256), y = ix2 t n := ⟨y 0, y 1, by funext i; fin_cases i <;> rfl⟩
  pointwise [outZkv, res_main_v43]
  exact z_at V0 _ _ _

/-- The queries' latent. -/
def outQl : FVec Ideal S8192x384 .bf16 :=
  truncf .bf16 (shapeCast _ (res_main_v62 V0) shapeCasts_S4x2048x384_S8192x384) bitsLt_bf16_f32

theorem ref_Ql : outQl V0 = gQl (args V0) := by
  funext y
  obtain ⟨t, n, rfl⟩ : ∃ (t : Fin 8192) (n : Fin 384), y = ix2 t n := ⟨y 0, y 1, by funext i; fin_cases i <;> rfl⟩
  pointwise [outQl]
  exact ql_at V0 _ _ _

/-- The keys' and values' latent. -/
def outKvl : FVec Ideal S8192x256 .bf16 :=
  truncf .bf16 (shapeCast _ (res_main_v95 V0) shapeCasts_S4x2048x256_S8192x256) bitsLt_bf16_f32

theorem ref_Kvl : outKvl V0 = gKvl (args V0) := by
  funext y
  obtain ⟨t, n, rfl⟩ : ∃ (t : Fin 8192) (n : Fin 256), y = ix2 t n := ⟨y 0, y 1, by funext i; fin_cases i <;> rfl⟩
  pointwise [outKvl]
  exact kvl_at V0 _ _ _

/-- The queries. -/
def outQ : FVec Ideal S8192x1024 .bf16 :=
  truncf .bf16 (shapeCast _ (pad S4x2048x8x128 ![0, 0, 0, 0] ![0, 0, 0, 32] ![0, 0, 0, 0] (mulf (concatenate S4x2048x8x96 3 [⟨S4x2048x8x64, (extractStridedSlice S4x2048x8x64 ![0, 0, 0, 0] (res_main_v64 V0) slices_S4x2048x8x96_S4x2048x8x64_0_0_0_0)⟩, ⟨S4x2048x8x32, (concatenate S4x2048x8x32 3 [⟨S4x2048x8x16, (subf (mulf (res_main_v69 V0) (broadcastInDim S4x2048x8x16 ![0, 1, 2, 3] bcast_S4x2048x1x16_S4x2048x8x16_0_1_2_3 (res_main_v67 V0))) (mulf (res_main_v70 V0) (broadcastInDim S4x2048x8x16 ![0, 1, 2, 3] bcast_S4x2048x1x16_S4x2048x8x16_0_1_2_3 (res_main_v68 V0))))⟩, ⟨S4x2048x8x16, (addf (mulf (res_main_v70 V0) (broadcastInDim S4x2048x8x16 ![0, 1, 2, 3] bcast_S4x2048x1x16_S4x2048x8x16_0_1_2_3 (res_main_v67 V0))) (mulf (res_main_v69 V0) (broadcastInDim S4x2048x8x16 ![0, 1, 2, 3] bcast_S4x2048x1x16_S4x2048x8x16_0_1_2_3 (res_main_v68 V0))))⟩] concatenates_S4x2048x8x16_S4x2048x8x16_S4x2048x8x32_d3)⟩] concatenates_S4x2048x8x64_S4x2048x8x32_S4x2048x8x96_d3) (broadcastInDim S4x2048x8x96 ![] bcast_S_S4x2048x8x96 (Host.divf (res_main_v1 V0) (Host.sqrt (constant S_ .f32 0x42C00000#32))))) (sitofp .f32 (constantI S_ 32 0#32)) pads_S4x2048x8x96_S4x2048x8x128_000_000_000_0320 h_S_) shapeCasts_S4x2048x8x128_S8192x1024) bitsLt_bf16_f32

set_option maxHeartbeats 4000000 in
theorem ref_Q : outQ V0 = gQ (args V0) := by
  funext y
  obtain ⟨t, n, rfl⟩ : ∃ (t : Fin 8192) (n : Fin 1024), y = ix2 t n := ⟨y 0, y 1, by funext i; fin_cases i <;> rfl⟩
  pointwise [outQ, res_main_v44, res_main_v66, res_main_v67, res_main_v68, res_main_v69, res_main_v70, res_main_v98, res_main_v99]
  simp only [qf_at, cs_at, sn_at, latScale, zero_entry]
  show _ = (args V0).q (bOf t) (sOf t) (n.val / 128) (n.val % 128) * qScale
  unfold In.q
  by_cases h3 : n.val % 128 < 96
  · refine (dif_pos ⟨by omega, by omega, by omega, h3⟩).trans (congrArg (fun p : EReal => p * qScale) ?_)
    by_cases h1 : n.val % 128 < 64
    · exact (dif_pos h1).trans (if_pos h1).symm
    refine (dif_neg h1).trans (Eq.trans ?_ (if_neg h1).symm)
    have e0 : n.val / 128 * 96 + (64 + (n.val % 128 - 64)) = n.val / 128 * 96 + n.val % 128 := by omega
    by_cases h2 : n.val % 128 - 64 < 16
    · refine (dif_pos h2).trans (Eq.trans ?_ (if_pos (by omega : n.val % 128 < 80)).symm)
      have e1 : n.val / 128 * 96 + (64 + (16 + (n.val % 128 - 64))) = n.val / 128 * 96 + n.val % 128 + 16 := by omega
      exact congrArg₂ (fun p q => (args V0).qf (bOf t) (sOf t) p * (args V0).cs (bOf t) (sOf t) (n.val % 128 - 64) - (args V0).qf (bOf t) (sOf t) q * (args V0).sn (bOf t) (sOf t) (n.val % 128 - 64)) e0 e1
    · refine (dif_neg h2).trans (Eq.trans ?_ ((if_neg (by omega : ¬ n.val % 128 < 80)).trans (if_pos h3)).symm)
      have e1 : n.val / 128 * 96 + (64 + (16 + (n.val % 128 - 64 - 16))) = n.val / 128 * 96 + n.val % 128 := by omega
      have e2 : n.val / 128 * 96 + (64 + (n.val % 128 - 64 - 16)) = n.val / 128 * 96 + n.val % 128 - 16 := by omega
      have e3 : n.val % 128 - 64 - 16 = n.val % 128 - 80 := by omega
      refine (congrArg₂ (fun p q => (args V0).qf (bOf t) (sOf t) p * (args V0).cs (bOf t) (sOf t) (n.val % 128 - 64 - 16) + (args V0).qf (bOf t) (sOf t) q * (args V0).sn (bOf t) (sOf t) (n.val % 128 - 64 - 16)) e1 e2).trans ?_
      rw [e3]
  · refine (dif_neg fun k => h3 k.2.2.2).trans (zero_mul qScale).symm |>.trans (congrArg (fun p : EReal => p * qScale) ?_)
    exact ((if_neg (by omega : ¬ n.val % 128 < 64)).trans ((if_neg (by omega : ¬ n.val % 128 < 80)).trans (if_neg h3))).symm

/-- The keys. -/
def outK : FVec Ideal S8192x1024 .bf16 :=
  truncf .bf16 (shapeCast _ (pad S4x2048x8x128 ![0, 0, 0, 0] ![0, 0, 0, 32] ![0, 0, 0, 0] (concatenate S4x2048x8x96 3 [⟨S4x2048x8x64, (extractStridedSlice S4x2048x8x64 ![0, 0, 0, 0] (res_main_v97 V0) slices_S4x2048x8x128_S4x2048x8x64_0_0_0_0)⟩, ⟨S4x2048x8x32, (broadcastInDim S4x2048x8x32 ![0, 1, 2, 3] bcast_S4x2048x1x32_S4x2048x8x32_0_1_2_3 (broadcastInDim S4x2048x1x32 ![0, 1, 3] bcast_S4x2048x32_S4x2048x1x32_0_1_3 (concatenate S4x2048x32 2 [⟨S4x2048x16, (subf (mulf (res_main_v98 V0) (res_main_v18 V0)) (mulf (res_main_v99 V0) (res_main_v19 V0)))⟩, ⟨S4x2048x16, (addf (mulf (res_main_v99 V0) (res_main_v18 V0)) (mulf (res_main_v98 V0) (res_main_v19 V0)))⟩] concatenates_S4x2048x16_S4x2048x16_S4x2048x32_d2)))⟩] concatenates_S4x2048x8x64_S4x2048x8x32_S4x2048x8x96_d3) (sitofp .f32 (constantI S_ 32 0#32)) pads_S4x2048x8x96_S4x2048x8x128_000_000_000_0320 h_S_) shapeCasts_S4x2048x8x128_S8192x1024) bitsLt_bf16_f32

set_option maxHeartbeats 4000000 in
theorem ref_K : outK V0 = gK (args V0) := by
  funext y
  obtain ⟨t, n, rfl⟩ : ∃ (t : Fin 8192) (n : Fin 1024), y = ix2 t n := ⟨y 0, y 1, by funext i; fin_cases i <;> rfl⟩
  pointwise [outK, res_main_v44, res_main_v66, res_main_v67, res_main_v68, res_main_v69, res_main_v70, res_main_v98, res_main_v99]
  simp only [kvf_at, z_at, cs_at, sn_at, zero_entry]
  show _ = (args V0).k (bOf t) (sOf t) (n.val / 128) (n.val % 128)
  unfold In.k
  by_cases h3 : n.val % 128 < 96
  · refine (dif_pos ⟨by omega, by omega, by omega, h3⟩).trans ?_
    by_cases h1 : n.val % 128 < 64
    · exact (dif_pos h1).trans (if_pos h1).symm
    refine (dif_neg h1).trans (Eq.trans ?_ (if_neg h1).symm)
    have e0 : 640 + (n.val % 128 - 64) = 576 + n.val % 128 := by omega
    by_cases h2 : n.val % 128 - 64 < 16
    · refine (dif_pos h2).trans (Eq.trans ?_ (if_pos (by omega : n.val % 128 < 80)).symm)
      have e1 : 640 + (16 + (n.val % 128 - 64)) = 592 + n.val % 128 := by omega
      exact congrArg₂ (fun p q => (args V0).z (bOf t) (sOf t) p * (args V0).cs (bOf t) (sOf t) (n.val % 128 - 64) - (args V0).z (bOf t) (sOf t) q * (args V0).sn (bOf t) (sOf t) (n.val % 128 - 64)) e0 e1
    · refine (dif_neg h2).trans (Eq.trans ?_ ((if_neg (by omega : ¬ n.val % 128 < 80)).trans (if_pos h3)).symm)
      have e1 : 640 + (16 + (n.val % 128 - 64 - 16)) = 576 + n.val % 128 := by omega
      have e2 : 640 + (n.val % 128 - 64 - 16) = 560 + n.val % 128 := by omega
      have e3 : n.val % 128 - 64 - 16 = n.val % 128 - 80 := by omega
      refine (congrArg₂ (fun p q => (args V0).z (bOf t) (sOf t) p * (args V0).cs (bOf t) (sOf t) (n.val % 128 - 64 - 16) + (args V0).z (bOf t) (sOf t) q * (args V0).sn (bOf t) (sOf t) (n.val % 128 - 64 - 16)) e1 e2).trans ?_
      rw [e3]
  · refine (dif_neg fun k => h3 k.2.2.2).trans ?_
    exact ((if_neg (by omega : ¬ n.val % 128 < 64)).trans ((if_neg (by omega : ¬ n.val % 128 < 80)).trans (if_neg h3))).symm

/-- The values. -/
def outV : FVec Ideal S8192x512 .bf16 :=
  truncf .bf16 (shapeCast _ (extractStridedSlice S4x2048x8x64 ![0, 0, 0, 64] (res_main_v97 V0) slices_S4x2048x8x128_S4x2048x8x64_0_0_0_64) shapeCasts_S4x2048x8x64_S8192x512) bitsLt_bf16_f32

theorem ref_V : outV V0 = gV (args V0) := by
  funext y
  obtain ⟨t, n, rfl⟩ : ∃ (t : Fin 8192) (n : Fin 512), y = ix2 t n := ⟨y 0, y 1, by funext i; fin_cases i <;> rfl⟩
  pointwise [outV]
  exact (kvf_at V0 _ _ _ _).trans (congrArg ((args V0).kvf _ _) (Nat.add_assoc _ _ _).symm)

/-- The window's queries. -/
def outQs : FVec Ideal S8192x512 .bf16 :=
  truncf .bf16 (mulf (shapeCast _ (transpose S8192x4x2x64 [0, 2, 1, 3] (shapeCast _ (extractStridedSlice S4x2048x512 ![0, 0, 1184] (res_main_v41 V0) slices_S4x2048x2464_S4x2048x512_0_0_1184) shapeCasts_S4x2048x512_S8192x2x4x64) transposes_S8192x2x4x64_S8192x4x2x64_0_2_1_3) shapeCasts_S8192x4x2x64_S8192x512) (broadcastInDim S8192x512 ![] bcast_S_S8192x512 (Host.divf (res_main_v1 V0) (constant S_ .f32 0x41000000#32)))) bitsLt_bf16_f32

theorem ref_Qs : outQs V0 = gQs (args V0) := by
  funext y
  obtain ⟨t, n, rfl⟩ : ∃ (t : Fin 8192) (n : Fin 512), y = ix2 t n := ⟨y 0, y 1, by funext i; fin_cases i <;> rfl⟩
  pointwise [outQs]
  rw [z_at, swaScale]
  rfl

/-- The window's keys. -/
def outKs : FVec Ideal S8192x128 .bf16 :=
  truncf .bf16 (shapeCast _ (extractStridedSlice S4x2048x128 ![0, 0, 1696] (res_main_v41 V0) slices_S4x2048x2464_S4x2048x128_0_0_1696) shapeCasts_S4x2048x128_S8192x128) bitsLt_bf16_f32

theorem ref_Ks : outKs V0 = gKs (args V0) := by
  funext y
  obtain ⟨t, n, rfl⟩ : ∃ (t : Fin 8192) (n : Fin 128), y = ix2 t n := ⟨y 0, y 1, by funext i; fin_cases i <;> rfl⟩
  pointwise [outKs]
  exact z_at V0 _ _ _

/-- The window's values. -/
def outVs : FVec Ideal S8192x128 .bf16 :=
  truncf .bf16 (shapeCast _ (extractStridedSlice S4x2048x128 ![0, 0, 1824] (res_main_v41 V0) slices_S4x2048x2464_S4x2048x128_0_0_1824) shapeCasts_S4x2048x128_S8192x128) bitsLt_bf16_f32

theorem ref_Vs : outVs V0 = gVs (args V0) := by
  funext y
  obtain ⟨t, n, rfl⟩ : ∃ (t : Fin 8192) (n : Fin 128), y = ix2 t n := ⟨y 0, y 1, by funext i; fin_cases i <;> rfl⟩
  pointwise [outVs]
  exact z_at V0 _ _ _

/-- The gates. -/
def outG : FVec Ideal S8192x1024 .f32 :=
  concatenate S8192x1024 1 [⟨S8192x512, (shapeCast _ (extractStridedSlice S4x2048x512 ![0, 0, 672] (res_main_v41 V0) slices_S4x2048x2464_S4x2048x512_0_0_672) shapeCasts_S4x2048x512_S8192x512)⟩, ⟨S8192x512, (shapeCast _ (transpose S8192x4x2x64 [0, 2, 1, 3] (shapeCast _ (extractStridedSlice S4x2048x512 ![0, 0, 1952] (res_main_v41 V0) slices_S4x2048x2464_S4x2048x512_0_0_1952) shapeCasts_S4x2048x512_S8192x2x4x64) transposes_S8192x2x4x64_S8192x4x2x64_0_2_1_3) shapeCasts_S8192x4x2x64_S8192x512)⟩] concatenates_S8192x512_S8192x512_S8192x1024_d1

theorem ref_G : outG V0 = gG (args V0) := by
  funext y
  obtain ⟨t, n, rfl⟩ : ∃ (t : Fin 8192) (n : Fin 1024), y = ix2 t n := ⟨y 0, y 1, by funext i; fin_cases i <;> rfl⟩
  pointwise [outG]
  show _ = (args V0).z (bOf t) (sOf t) (if n.val < 512 then 672 + n.val else 1952 + perm (n.val - 512))
  by_cases h : n.val < 512
  · rw [dif_pos h, if_pos h]
    exact z_at V0 _ _ _
  · rw [dif_neg h, if_neg h]
    exact z_at V0 _ _ _

/-- The projections' weights. -/
def outWp : FVec Ideal S2560x1024 .bf16 :=
  truncf .bf16 ((concatenate S2560x1024 0 [⟨S640x1024, ((extractStridedSlice S640x1024 ![0, 0] (res_main_v111 V0) slices_S2464x1024_S640x1024_0_0))⟩, ⟨S64x1024, ((broadcastInDim S64x1024 ![] bcast_S_S64x1024 (constant S_ .f32 0x00000000#32)))⟩, ⟨S32x1024, ((extractStridedSlice S32x1024 ![640, 0] (res_main_v111 V0) slices_S2464x1024_S32x1024_640_0))⟩, ⟨S32x1024, ((broadcastInDim S32x1024 ![] bcast_S_S32x1024 (constant S_ .f32 0x00000000#32)))⟩, ⟨S512x1024, ((extractStridedSlice S512x1024 ![672, 0] (res_main_v111 V0) slices_S2464x1024_S512x1024_672_0))⟩, ⟨S512x1024, ((shapeCast _ (transpose S4x2x64x1024 [1, 0, 2, 3] (shapeCast _ (extractStridedSlice S512x1024 ![1184, 0] (res_main_v111 V0) slices_S2464x1024_S512x1024_1184_0) shapeCasts_S512x1024_S2x4x64x1024) transposes_S2x4x64x1024_S4x2x64x1024_1_0_2_3) shapeCasts_S4x2x64x1024_S512x1024))⟩, ⟨S256x1024, ((extractStridedSlice S256x1024 ![1696, 0] (res_main_v111 V0) slices_S2464x1024_S256x1024_1696_0))⟩, ⟨S512x1024, ((shapeCast _ (transpose S4x2x64x1024 [1, 0, 2, 3] (shapeCast _ (extractStridedSlice S512x1024 ![1952, 0] (res_main_v111 V0) slices_S2464x1024_S512x1024_1952_0) shapeCasts_S512x1024_S2x4x64x1024) transposes_S2x4x64x1024_S4x2x64x1024_1_0_2_3) shapeCasts_S4x2x64x1024_S512x1024))⟩] concatenates_S640x1024_S64x1024_S32x1024_S32x1024_S512x1024_S512x1024_S256x1024_S512x1024_S2560x1024_d0)) bitsLt_bf16_f32

set_option maxHeartbeats 4000000 in
theorem ref_Wp : outWp V0 = gWp (args V0) := by
  funext y
  obtain ⟨t, n, rfl⟩ : ∃ (t : Fin 2560) (n : Fin 1024), y = ix2 t n := ⟨y 0, y 1, by funext i; fin_cases i <;> rfl⟩
  pointwise [outWp, res_main_v111]
  show _ = (args V0).wN n (src t.val)
  by_cases h0 : t.val < 640
  · refine (dif_pos h0).trans (((args V0).wN_val n _).trans (congrArg ((args V0).wN n) ?_))
    simp only []
    unfold src; split_ifs <;> omega
  refine (dif_neg h0).trans ?_
  by_cases h1 : t.val - 640 < 64
  · exact (dif_pos h1).trans ((args V0).wN_zero _ (by unfold src; split_ifs <;> omega)).symm
  refine (dif_neg h1).trans ?_
  by_cases h2 : t.val - 640 - 64 < 32
  · refine (dif_pos h2).trans (((args V0).wN_val n _).trans (congrArg ((args V0).wN n) ?_))
    simp only []
    unfold src; split_ifs <;> omega
  refine (dif_neg h2).trans ?_
  by_cases h3 : t.val - 640 - 64 - 32 < 32
  · exact (dif_pos h3).trans ((args V0).wN_zero _ (by unfold src; split_ifs <;> omega)).symm
  refine (dif_neg h3).trans ?_
  by_cases h4 : t.val - 640 - 64 - 32 - 32 < 512
  · refine (dif_pos h4).trans (((args V0).wN_val n _).trans (congrArg ((args V0).wN n) ?_))
    simp only []
    unfold src; split_ifs <;> omega
  refine (dif_neg h4).trans ?_
  by_cases h5 : t.val - 640 - 64 - 32 - 32 - 512 < 512
  · refine (dif_pos h5).trans (((args V0).wN_val n _).trans (congrArg ((args V0).wN n) ?_))
    exact (congrArg (fun k => 1184 + perm k) (by omega : t.val - 640 - 64 - 32 - 32 - 512 = t.val - 1280)).trans (by unfold src; split_ifs <;> omega : src t.val = 1184 + perm (t.val - 1280)).symm
  refine (dif_neg h5).trans ?_
  by_cases h6 : t.val - 640 - 64 - 32 - 32 - 512 - 512 < 256
  · refine (dif_pos h6).trans (((args V0).wN_val n _).trans (congrArg ((args V0).wN n) ?_))
    simp only []
    unfold src; split_ifs <;> omega
  refine (dif_neg h6).trans ?_
  refine ((args V0).wN_val n _).trans (congrArg ((args V0).wN n) ?_)
  exact (congrArg (fun k => 1952 + perm k) (by omega : t.val - 640 - 64 - 32 - 32 - 512 - 512 - 256 = t.val - 2048)).trans (by unfold src; split_ifs <;> omega : src t.val = 1952 + perm (t.val - 2048)).symm

/-- The queries' weights. -/
def outWq : FVec Ideal S384x1024 .bf16 :=
  truncf .bf16 (shapeCast _ (pad S384x8x128 ![0, 0, 0] ![0, 0, 32] ![0, 0, 0] (shapeCast _ (V0 (Proc.devRef .tc main_arg8)) shapeCasts_S384x768_S384x8x96) (sitofp .f32 (constantI S_ 32 0#32)) pads_S384x8x96_S384x8x128_000_000_0320 h_S_) shapeCasts_S384x8x128_S384x1024) bitsLt_bf16_f32

theorem ref_Wq : outWq V0 = gWq (args V0) := by
  funext y
  obtain ⟨t, n, rfl⟩ : ∃ (t : Fin 384) (n : Fin 1024), y = ix2 t n := ⟨y 0, y 1, by funext i; fin_cases i <;> rfl⟩
  pointwise [outWq]
  show _ = (args V0).uqN t (srcQ n.val)
  unfold srcQ
  by_cases h : n.val % 128 < 96
  · rw [dif_pos ⟨by omega, h⟩, if_pos h]
    exact (args V0).uqN_val _ _
  · rw [dif_neg fun k => h k.2, if_neg h, zero_entry, (args V0).uqN_zero _ (le_refl _)]

/-- The keys' weights. -/
def outWk : FVec Ideal S256x1024 .bf16 :=
  truncf .bf16 (shapeCast _ (pad S256x8x128 ![0, 0, 0] ![0, 0, 64] ![0, 0, 0] (extractStridedSlice S256x8x64 ![0, 0, 0] (res_main_v127 V0) slices_S256x8x128_S256x8x64_0_0_0) (sitofp .f32 (constantI S_ 32 0#32)) pads_S256x8x64_S256x8x128_000_000_0640 h_S_) shapeCasts_S256x8x128_S256x1024) bitsLt_bf16_f32

theorem ref_Wk : outWk V0 = gWk (args V0) := by
  funext y
  obtain ⟨t, n, rfl⟩ : ∃ (t : Fin 256) (n : Fin 1024), y = ix2 t n := ⟨y 0, y 1, by funext i; fin_cases i <;> rfl⟩
  pointwise [outWk, res_main_v127]
  show _ = (args V0).ukvN t (srcK n.val)
  unfold srcK
  by_cases h : n.val % 128 < 64
  · rw [dif_pos ⟨by omega, h⟩, if_pos h]
    exact (args V0).ukvN_val _ _
  · rw [dif_neg fun k => h k.2, if_neg h, zero_entry, (args V0).ukvN_zero _ (le_refl _)]

/-- The values' weights. -/
def outWv : FVec Ideal S256x512 .bf16 :=
  truncf .bf16 (shapeCast _ (extractStridedSlice S256x8x64 ![0, 0, 64] (res_main_v127 V0) slices_S256x8x128_S256x8x64_0_0_64) shapeCasts_S256x8x64_S256x512) bitsLt_bf16_f32

theorem ref_Wv : outWv V0 = gWv (args V0) := by
  funext y
  obtain ⟨t, n, rfl⟩ : ∃ (t : Fin 256) (n : Fin 512), y = ix2 t n := ⟨y 0, y 1, by funext i; fin_cases i <;> rfl⟩
  pointwise [outWv, res_main_v127]
  exact ((args V0).ukvN_val _ _).trans (congrArg ((args V0).ukvN _) (Nat.add_assoc _ _ _).symm)

end Cert.Proof.Pre.Ref

end
-- ==== Proof.PreValues.lean ====
/- The input projections: the kernel's results and the reference's hold the same values. -/
module

public import proofs.«01_k».proof.Defs
public import proofs.«01_k».proof.Proof.PreArrays
public import proofs.«01_k».proof.Proof.PreStages

@[expose] public section

set_option maxRecDepth 16384

noncomputable section

namespace Cert.Proof.PreValues

open Cert.Proof.Pre Idealize.ShloMosaic Idealize.ShloMosaic.TcCoe Idealize.ShloMosaic.StableHlo Idealize.SL.Sem

/-- The arguments of the two programs agree: so do the data read from them. -/
theorem args_eq (m : (ℓ : Loc Cert.PreKernelIdeal.nD Cert.PreKernelIdeal.τ Cert.PreKernelIdeal.sig) → Buf (Elt Ideal) ℓ)
    (m' : (ℓ : Loc Cert.PreReferenceIdeal.nD Cert.PreReferenceIdeal.τ Cert.PreReferenceIdeal.sig) → Buf (Elt Ideal) ℓ)
    (c : Dev Cert.PreKernelIdeal.nD)
    (a0 : m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0))
    (a1 : m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1))
    (a2 : m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2))
    (a3 : m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3))
    (a4 : m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4))
    (a5 : m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5))
    (a6 : m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6))
    (a7 : m' ((c.tc : Thread Cert.PreReferenceIdeal.nD Cert.PreReferenceIdeal.τ).loc Cert.PreReferenceIdeal.main_arg7) = m ((c.tc : Thread Cert.PreKernelIdeal.nD Cert.PreKernelIdeal.τ).loc Cert.PreKernelIdeal.main_arg7))
    (a8 : m' ((c.tc : Thread Cert.PreReferenceIdeal.nD Cert.PreReferenceIdeal.τ).loc Cert.PreReferenceIdeal.main_arg8) = m ((c.tc : Thread Cert.PreKernelIdeal.nD Cert.PreKernelIdeal.τ).loc Cert.PreKernelIdeal.main_arg8))
    (a9 : m' ((c.tc : Thread Cert.PreReferenceIdeal.nD Cert.PreReferenceIdeal.τ).loc Cert.PreReferenceIdeal.main_arg9) = m ((c.tc : Thread Cert.PreKernelIdeal.nD Cert.PreKernelIdeal.τ).loc Cert.PreKernelIdeal.main_arg9)) :
    Ref.args (launchContents m' c) = argsOf m c := by
  unfold argsOf
  rw [← a0, ← a1, ← a2, ← a3, ← a4, ← a5, ← a6, ← a7, ← a8, ← a9]
  rfl

set_option maxHeartbeats 1600000 in
/-- The kernel's sixteen results are the reference's. -/
theorem algebraic : Cert.algebraic_PreKernelIdeal_PreReferenceIdeal := by
  intro m g m' g' _ hag
  refine ⟨fun c => gH (argsOf m c), fun c => gZq (argsOf m c), fun c => gZkv (argsOf m c), fun c => gQl (argsOf m c), fun c => gKvl (argsOf m c), fun c => gQ (argsOf m c), fun c => gK (argsOf m c), fun c => gV (argsOf m c), fun c => gQs (argsOf m c), fun c => gKs (argsOf m c), fun c => gVs (argsOf m c), fun c => gG (argsOf m c), fun c => gWp (argsOf m c), fun c => gWq (argsOf m c), fun c => gWk (argsOf m c), fun c => gWv (argsOf m c), ?_, ?_⟩
  · refine (θ_run Cert.PreKernelIdeal.defs _ _).mono (fun r h c => ?_) (PreBody.run m g)
    exact ⟨((h c).1 11).trans (arr_h m c),
      ((h c).1 12).trans (arr_zq m c),
      ((h c).1 13).trans (arr_zkv m c),
      ((h c).1 14).trans (arr_ql m c),
      ((h c).1 15).trans (arr_kvl m c),
      ((h c).1 16).trans (arr_q m c),
      ((h c).1 17).trans (arr_k m c),
      ((h c).1 18).trans (arr_v m c),
      ((h c).1 19).trans (arr_qs m c),
      ((h c).1 20).trans (arr_ks m c),
      ((h c).1 21).trans (arr_vs m c),
      ((h c).1 22).trans (arr_g m c),
      ((h c).1 23).trans (arr_w_in m c),
      ((h c).1 24).trans (arr_w_q m c),
      ((h c).1 25).trans (arr_w_k m c),
      ((h c).1 26).trans (arr_w_v m c),
      ((h c).2 Cert.PreKernelIdeal.main_arg0 (Pipeline.mem_restRefs_of Cert.PreKernelIdeal.main_arg0 (by decide) (by decide))).trans (Cert.PreKernelIdeal.Gen.V_main_arg0 m c),
      ((h c).2 Cert.PreKernelIdeal.main_arg1 (Pipeline.mem_restRefs_of Cert.PreKernelIdeal.main_arg1 (by decide) (by decide))).trans (Cert.PreKernelIdeal.Gen.V_main_arg1 m c),
      ((h c).2 Cert.PreKernelIdeal.main_arg2 (Pipeline.mem_restRefs_of Cert.PreKernelIdeal.main_arg2 (by decide) (by decide))).trans (Cert.PreKernelIdeal.Gen.V_main_arg2 m c),
      ((h c).2 Cert.PreKernelIdeal.main_arg3 (Pipeline.mem_restRefs_of Cert.PreKernelIdeal.main_arg3 (by decide) (by decide))).trans (Cert.PreKernelIdeal.Gen.V_main_arg3 m c),
      ((h c).2 Cert.PreKernelIdeal.main_arg4 (Pipeline.mem_restRefs_of Cert.PreKernelIdeal.main_arg4 (by decide) (by decide))).trans (Cert.PreKernelIdeal.Gen.V_main_arg4 m c),
      ((h c).2 Cert.PreKernelIdeal.main_arg5 (Pipeline.mem_restRefs_of Cert.PreKernelIdeal.main_arg5 (by decide) (by decide))).trans (Cert.PreKernelIdeal.Gen.V_main_arg5 m c),
      ((h c).2 Cert.PreKernelIdeal.main_arg6 (Pipeline.mem_restRefs_of Cert.PreKernelIdeal.main_arg6 (by decide) (by decide))).trans (Cert.PreKernelIdeal.Gen.V_main_arg6 m c),
      ((h c).2 Cert.PreKernelIdeal.main_arg7 (Pipeline.mem_restRefs_of Cert.PreKernelIdeal.main_arg7 (by decide) (by decide))).trans (Cert.PreKernelIdeal.Gen.V_main_arg7 m c),
      ((h c).2 Cert.PreKernelIdeal.main_arg8 (Pipeline.mem_restRefs_of Cert.PreKernelIdeal.main_arg8 (by decide) (by decide))).trans (Cert.PreKernelIdeal.Gen.V_main_arg8 m c),
      ((h c).2 Cert.PreKernelIdeal.main_arg9 (Pipeline.mem_restRefs_of Cert.PreKernelIdeal.main_arg9 (by decide) (by decide))).trans (Cert.PreKernelIdeal.Gen.V_main_arg9 m c)⟩
  · refine (θ_run Cert.PreReferenceIdeal.defs _ _).mono (fun r h c => ?_) (Cert.PreReferenceIdeal.Value.run (F := Ideal) m' g')
    obtain ⟨a0, a1, a2, a3, a4, a5, a6, a7, a8, a9⟩ := hag c
    have e := args_eq m m' c a0 a1 a2 a3 a4 a5 a6 a7 a8 a9
    obtain ⟨r0, r1, r2, r3, r4, r5, r6, r7, r8, r9, r10, r11, r12, r13, r14, r15, ra⟩ := h c
    exact ⟨r0.trans ((Ref.ref_H _).trans (congrArg gH e)),
      r1.trans ((Ref.ref_Zq _).trans (congrArg gZq e)),
      r2.trans ((Ref.ref_Zkv _).trans (congrArg gZkv e)),
      r3.trans ((Ref.ref_Ql _).trans (congrArg gQl e)),
      r4.trans ((Ref.ref_Kvl _).trans (congrArg gKvl e)),
      r5.trans ((Ref.ref_Q _).trans (congrArg gQ e)),
      r6.trans ((Ref.ref_K _).trans (congrArg gK e)),
      r7.trans ((Ref.ref_V _).trans (congrArg gV e)),
      r8.trans ((Ref.ref_Qs _).trans (congrArg gQs e)),
      r9.trans ((Ref.ref_Ks _).trans (congrArg gKs e)),
      r10.trans ((Ref.ref_Vs _).trans (congrArg gVs e)),
      r11.trans ((Ref.ref_G _).trans (congrArg gG e)),
      r12.trans ((Ref.ref_Wp _).trans (congrArg gWp e)),
      r13.trans ((Ref.ref_Wq _).trans (congrArg gWq e)),
      r14.trans ((Ref.ref_Wk _).trans (congrArg gWk e)),
      r15.trans ((Ref.ref_Wv _).trans (congrArg gWv e)), ra⟩

end Cert.Proof.PreValues

end
-- ==== Proof.lean ====
module

public import proofs.«01_k».proof.Defs
public import proofs.«01_k».proof.Proof.Frames
public import proofs.«01_k».proof.Proof.Values
public import proofs.«01_k».proof.Proof.InFrames
public import proofs.«01_k».proof.Proof.InValues
public import proofs.«01_k».proof.Proof.PostFrames
public import proofs.«01_k».proof.Proof.PostValues
public import proofs.«01_k».proof.Proof.FwdFrames
public import proofs.«01_k».proof.Proof.FwdValues
public import proofs.«01_k».proof.Proof.PreRun
public import proofs.«01_k».proof.Proof.PreRunBits
public import proofs.«01_k».proof.Proof.PreFrames
public import proofs.«01_k».proof.Proof.PreValues

@[expose] public section

theorem Cert.Proof.claim : Cert.Claim :=
  ⟨Cert.Kernel.Gen.facts, Cert.KernelIdeal.Gen.facts, Cert.ReferenceIdeal.Gen.facts,
    Cert.InKernel.Gen.facts, Cert.InKernelIdeal.Gen.facts, Cert.InReferenceIdeal.Gen.facts,
    Cert.PostKernel.Gen.facts, Cert.PostKernelIdeal.Gen.facts, Cert.PostReferenceIdeal.Gen.facts,
    Cert.FwdKernel.Gen.facts, Cert.FwdKernelIdeal.Gen.facts, Cert.FwdReferenceIdeal.Gen.facts,
    Cert.PreKernel.Gen.facts, Cert.PreKernelIdeal.Gen.facts, Cert.PreReferenceIdeal.Gen.facts,
    Cert.Pre_finite.Gen.facts, Cert.Pre_finite_post.Gen.facts, Cert.Pre_finite_fwd.Gen.facts,
    fun m ρ _ => Cert.Kernel.Gen.frame m ρ, fun m ρ _ => Cert.KernelIdeal.Gen.frame m ρ, fun m ρ _ => Cert.KernelIdeal.Gen.frame m ρ,
    Cert.Proof.Frames.reference, fun m ρ _ => Cert.Proof.Frames.reference m ρ trivial,
    fun m ρ _ => Cert.InKernel.Gen.frame m ρ, fun m ρ _ => Cert.InKernelIdeal.Gen.frame m ρ, Cert.Proof.InFrames.reference,
    fun m ρ _ => Cert.PostKernel.Gen.frame m ρ, fun m ρ _ => Cert.PostKernelIdeal.Gen.frame m ρ, fun m ρ _ => Cert.PostKernelIdeal.Gen.frame m ρ,
    Cert.Proof.PostFrames.reference, fun m ρ _ => Cert.Proof.PostFrames.reference m ρ trivial,
    fun m ρ _ => Cert.FwdKernel.Gen.frame m ρ, fun m ρ _ => Cert.FwdKernelIdeal.Gen.frame m ρ, fun m ρ _ => Cert.FwdKernelIdeal.Gen.frame m ρ,
    Cert.Proof.FwdFrames.reference, fun m ρ _ => Cert.Proof.FwdFrames.reference m ρ trivial,
    fun m ρ _ => Cert.Proof.PreBodyBits.frame m ρ, fun m ρ _ => Cert.Proof.PreBody.frame m ρ, Cert.Proof.PreFrames.reference,
    Cert.Proof.Frames.preserves, Cert.Proof.Values.algebraic, trivial, Cert.Proof.InValues.algebraic, trivial, Cert.Proof.PostValues.algebraic,
    Cert.Proof.FwdFrames.preserves, Cert.Proof.FwdValues.algebraic, Cert.Proof.PreFrames.preserves, Cert.Proof.PreValues.algebraic⟩
